-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v9_3)) (v4 : (c : Dev Cert.KernelIdeal.nD) → Buf (Elt Ideal) ((c.tc : Thread Cert.KernelIdeal.nD Cert.KernelIdeal.τ).loc Cert.KernelIdeal.main_v9_4)) (v5 : (c : Dev Cert.KernelIdeal.nD) → Buf (Elt Ideal) ((c.tc : Thread Cert.KernelIdeal.nD Cert.KernelIdeal.τ).loc Cert.KernelIdeal.main_v9_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v9_3) = v3 c
          ∧ r.2.mem ((c.tc : Thread Cert.KernelIdeal.nD Cert.KernelIdeal.τ).loc Cert.KernelIdeal.main_v9_4) = v4 c
          ∧ r.2.mem ((c.tc : Thread Cert.KernelIdeal.nD Cert.KernelIdeal.τ).loc Cert.KernelIdeal.main_v9_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_v36) = v3 c
          ∧ r.2.mem ((c.tc : Thread Cert.ReferenceIdeal.nD Cert.ReferenceIdeal.τ).loc Cert.ReferenceIdeal.main_v38) = v4 c
          ∧ r.2.mem ((c.tc : Thread Cert.ReferenceIdeal.nD Cert.ReferenceIdeal.τ).loc Cert.ReferenceIdeal.main_v40) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v21_0)) (v1 : (c : Dev Cert.Kernel2Ideal.nD) → Buf (Elt Ideal) ((c.tc : Thread Cert.Kernel2Ideal.nD Cert.Kernel2Ideal.τ).loc Cert.Kernel2Ideal.main_v21_1)) (v2 : (c : Dev Cert.Kernel2Ideal.nD) → Buf (Elt Ideal) ((c.tc : Thread Cert.Kernel2Ideal.nD Cert.Kernel2Ideal.τ).loc Cert.Kernel2Ideal.main_v21_2)) (v3 : (c : Dev Cert.Kernel2Ideal.nD) → Buf (Elt Ideal) ((c.tc : Thread Cert.Kernel2Ideal.nD Cert.Kernel2Ideal.τ).loc Cert.Kernel2Ideal.main_v21_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v21_0) = v0 c
          ∧ r.2.mem ((c.tc : Thread Cert.Kernel2Ideal.nD Cert.Kernel2Ideal.τ).loc Cert.Kernel2Ideal.main_v21_1) = v1 c
          ∧ r.2.mem ((c.tc : Thread Cert.Kernel2Ideal.nD Cert.Kernel2Ideal.τ).loc Cert.Kernel2Ideal.main_v21_2) = v2 c
          ∧ r.2.mem ((c.tc : Thread Cert.Kernel2Ideal.nD Cert.Kernel2Ideal.τ).loc Cert.Kernel2Ideal.main_v21_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v63) = v0 c
          ∧ r.2.mem ((c.tc : Thread Cert.Reference2Ideal.nD Cert.Reference2Ideal.τ).loc Cert.Reference2Ideal.main_v59) = v1 c
          ∧ r.2.mem ((c.tc : Thread Cert.Reference2Ideal.nD Cert.Reference2Ideal.τ).loc Cert.Reference2Ideal.main_v65) = v2 c
          ∧ r.2.mem ((c.tc : Thread Cert.Reference2Ideal.nD Cert.Reference2Ideal.τ).loc Cert.Reference2Ideal.main_v67) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v18)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v18) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v23)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v23) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v31) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v6_1)) (v2 : (c : Dev Cert.Kernel5Ideal.nD) → Buf (Elt Ideal) ((c.tc : Thread Cert.Kernel5Ideal.nD Cert.Kernel5Ideal.τ).loc Cert.Kernel5Ideal.main_v6_2)) (v3 : (c : Dev Cert.Kernel5Ideal.nD) → Buf (Elt Ideal) ((c.tc : Thread Cert.Kernel5Ideal.nD Cert.Kernel5Ideal.τ).loc Cert.Kernel5Ideal.main_v6_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v6_1) = v1 c
          ∧ r.2.mem ((c.tc : Thread Cert.Kernel5Ideal.nD Cert.Kernel5Ideal.τ).loc Cert.Kernel5Ideal.main_v6_2) = v2 c
          ∧ r.2.mem ((c.tc : Thread Cert.Kernel5Ideal.nD Cert.Kernel5Ideal.τ).loc Cert.Kernel5Ideal.main_v6_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_v17) = v1 c
          ∧ r.2.mem ((c.tc : Thread Cert.Reference5Ideal.nD Cert.Reference5Ideal.τ).loc Cert.Reference5Ideal.main_v18) = v2 c
          ∧ r.2.mem ((c.tc : Thread Cert.Reference5Ideal.nD Cert.Reference5Ideal.τ).loc Cert.Reference5Ideal.main_v20) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v14)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v14) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v14)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v14) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v16) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v48) = v0 c
          ∧ r.2.mem ((c.tc : Thread Cert.Reference9Ideal.nD Cert.Reference9Ideal.τ).loc Cert.Reference9Ideal.main_v50) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S8192x1024 : Shape := ⟨2, ![8192, 1024]⟩
abbrev S8192x3072 : Shape := ⟨2, ![8192, 3072]⟩
abbrev S16x4096x128 : Shape := ⟨3, ![16, 4096, 128]⟩
abbrev S8192x128 : Shape := ⟨2, ![8192, 128]⟩
abbrev S16x16x1x256 : Shape := ⟨4, ![16, 16, 1, 256]⟩
abbrev S16x2048x128 : Shape := ⟨3, ![16, 2048, 128]⟩
abbrev S_ : Shape := ⟨0, ![]⟩

class Facts : Prop where
  bcast_S_S8192x1024 : S_.BroadcastsInDim S8192x1024 (![] : Fin 0 → Fin S8192x1024.rank)
  bcast_S_S8192x3072 : S_.BroadcastsInDim S8192x3072 (![] : Fin 0 → Fin S8192x3072.rank)
  bcast_S_S16x4096x128 : S_.BroadcastsInDim S16x4096x128 (![] : Fin 0 → Fin S16x4096x128.rank)
  bcast_S_S8192x128 : S_.BroadcastsInDim S8192x128 (![] : Fin 0 → Fin S8192x128.rank)
  bcast_S_S16x16x1x256 : S_.BroadcastsInDim S16x16x1x256 (![] : Fin 0 → Fin S16x16x1x256.rank)
  bcast_S_S16x2048x128 : S_.BroadcastsInDim S16x2048x128 (![] : Fin 0 → Fin S16x2048x128.rank)

variable [Facts]

def fn_part1 {F : FTy → Type} [FloatOps F] (main_arg6 : FVec F S16x2048x128 .bf16) (main_v2 : IVec S8192x1024 1) (main_v5 : IVec S8192x3072 1) (main_v8 : IVec S16x4096x128 1) (main_v11 : IVec S16x4096x128 1) (main_v14 : IVec S8192x128 1) (main_v17 : IVec S16x16x1x256 1) : IVec S8192x1024 1 × IVec S8192x3072 1 × IVec S16x4096x128 1 × IVec S16x4096x128 1 × IVec S8192x128 1 × IVec S16x16x1x256 1 × IVec S16x2048x128 1 :=
  let main_v18 : FVec F S16x2048x128 .bf16 := Host.absf main_arg6
  let main_cst_5 : FVec F S_ .bf16 := constant S_ .bf16 0x7F80#16
  let main_v19 : FVec F S16x2048x128 .bf16 := broadcastInDim S16x2048x128 ![] bcast_S_S16x2048x128 main_cst_5
  let main_v20 : IVec S16x2048x128 1 := cmpf .olt main_v18 main_v19
  (main_v2, main_v5, main_v8, main_v11, main_v14, main_v17, main_v20)

def fn {F : FTy → Type} [FloatOps F] (main_arg0 : FVec F S8192x1024 .f32) (main_arg1 : FVec F S8192x3072 .f32) (main_arg2 : FVec F S16x4096x128 .f32) (main_arg3 : FVec F S16x4096x128 .bf16) (main_arg4 : FVec F S8192x128 .f32) (main_arg5 : FVec F S16x16x1x256 .f32) (main_arg6 : FVec F S16x2048x128 .bf16) : IVec S8192x1024 1 × IVec S8192x3072 1 × IVec S16x4096x128 1 × IVec S16x4096x128 1 × IVec S8192x128 1 × IVec S16x16x1x256 1 × IVec S16x2048x128 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x3072 .f32 := Host.absf main_arg1
  let main_cst_0 : FVec F S_ .f32 := constant S_ .f32 0x7F800000#32
  let main_v4 : FVec F S8192x3072 .f32 := broadcastInDim S8192x3072 ![] bcast_S_S8192x3072 main_cst_0
  let main_v5 : IVec S8192x3072 1 := cmpf .olt main_v3 main_v4
  let main_v6 : FVec F S16x4096x128 .f32 := Host.absf main_arg2
  let main_cst_1 : FVec F S_ .f32 := constant S_ .f32 0x7F800000#32
  let main_v7 : FVec F S16x4096x128 .f32 := broadcastInDim S16x4096x128 ![] bcast_S_S16x4096x128 main_cst_1
  let main_v8 : IVec S16x4096x128 1 := cmpf .olt main_v6 main_v7
  let main_v9 : FVec F S16x4096x128 .bf16 := Host.absf main_arg3
  let main_cst_2 : FVec F S_ .bf16 := constant S_ .bf16 0x7F80#16
  let main_v10 : FVec F S16x4096x128 .bf16 := broadcastInDim S16x4096x128 ![] bcast_S_S16x4096x128 main_cst_2
  let main_v11 : IVec S16x4096x128 1 := cmpf .olt main_v9 main_v10
  let main_v12 : FVec F S8192x128 .f32 := Host.absf main_arg4
  let main_cst_3 : FVec F S_ .f32 := constant S_ .f32 0x7F800000#32
  let main_v13 : FVec F S8192x128 .f32 := broadcastInDim S8192x128 ![] bcast_S_S8192x128 main_cst_3
  let main_v14 : IVec S8192x128 1 := cmpf .olt main_v12 main_v13
  let main_v15 : FVec F S16x16x1x256 .f32 := Host.absf main_arg5
  let main_cst_4 : FVec F S_ .f32 := constant S_ .f32 0x7F800000#32
  let main_v16 : FVec F S16x16x1x256 .f32 := broadcastInDim S16x16x1x256 ![] bcast_S_S16x16x1x256 main_cst_4
  let main_v17 : IVec S16x16x1x256 1 := cmpf .olt main_v15 main_v16
  fn_part1 (F := F) main_arg6 main_v2 main_v5 main_v8 main_v11 main_v14 main_v17
-- ==== Kernel.lean ====
abbrev S8192x1024 : Shape := ⟨2, ![8192, 1024]⟩
abbrev S8192x3072 : Shape := ⟨2, ![8192, 3072]⟩
abbrev S16x4096x128 : Shape := ⟨3, ![16, 4096, 128]⟩
abbrev S8192x128 : Shape := ⟨2, ![8192, 128]⟩
abbrev S16x16x1x256 : Shape := ⟨4, ![16, 16, 1, 256]⟩
abbrev S16x2048x128 : Shape := ⟨3, ![16, 2048, 128]⟩
abbrev S256x256x128 : Shape := ⟨3, ![256, 256, 128]⟩
abbrev S256x128x128 : Shape := ⟨3, ![256, 128, 128]⟩
abbrev S16x4096x1 : Shape := ⟨3, ![16, 4096, 1]⟩
abbrev S256x1024 : Shape := ⟨2, ![256, 1024]⟩
abbrev S8x256x128 : Shape := ⟨3, ![8, 256, 128]⟩
abbrev S256x128 : Shape := ⟨2, ![256, 128]⟩
abbrev S8x1x1x256 : Shape := ⟨4, ![8, 1, 1, 256]⟩
abbrev S8x128x128 : Shape := ⟨3, ![8, 128, 128]⟩
abbrev S8x256x1 : Shape := ⟨3, ![8, 256, 1]⟩
abbrev S256x256 : Shape := ⟨2, ![256, 256]⟩
abbrev S256x1 : Shape := ⟨2, ![256, 1]⟩
abbrev S1x256x128 : Shape := ⟨3, ![1, 256, 128]⟩
abbrev S1x128x128 : Shape := ⟨3, ![1, 128, 128]⟩
abbrev S128x128 : Shape := ⟨2, ![128, 128]⟩
abbrev S1x1x1x256 : Shape := ⟨4, ![1, 1, 1, 256]⟩
abbrev S1x256 : Shape := ⟨2, ![1, 256]⟩
abbrev S1x1 : Shape := ⟨2, ![1, 1]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 22
  | .vmem => 29
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S16x4096x128, .f32⟩
  | .hbm, ⟨3, _⟩ => ⟨S16x4096x128, .bf16⟩
  | .hbm, ⟨4, _⟩ => ⟨S8192x128, .f32⟩
  | .hbm, ⟨5, _⟩ => ⟨S16x16x1x256, .f32⟩
  | .hbm, ⟨6, _⟩ => ⟨S16x2048x128, .bf16⟩
  | .hbm, ⟨7, _⟩ => ⟨S256x256x128, .f32⟩
  | .hbm, ⟨8, _⟩ => ⟨S16x4096x128, .f32⟩
  | .hbm, ⟨9, _⟩ => ⟨S256x256x128, .f32⟩
  | .hbm, ⟨10, _⟩ => ⟨S16x2048x128, .f32⟩
  | .hbm, ⟨11, _⟩ => ⟨S256x128x128, .f32⟩
  | .hbm, ⟨12, _⟩ => ⟨S256x256x128, .f32⟩
  | .hbm, ⟨13, _⟩ => ⟨S256x256x128, .f32⟩
  | .hbm, ⟨14, _⟩ => ⟨S16x4096x128, .f32⟩
  | .hbm, ⟨15, _⟩ => ⟨S16x4096x128, .bf16⟩
  | .hbm, ⟨16, _⟩ => ⟨S16x4096x128, .f32⟩
  | .hbm, ⟨17, _⟩ => ⟨S16x4096x128, .f32⟩
  | .hbm, ⟨18, _⟩ => ⟨S16x4096x128, .f32⟩
  | .hbm, ⟨19, _⟩ => ⟨S16x4096x128, .f32⟩
  | .hbm, ⟨20, _⟩ => ⟨S16x4096x1, .f32⟩
  | .hbm, ⟨21, _⟩ => ⟨S16x16x1x256, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S8x256x128, .bf16⟩
  | .local _ .vmem, ⟨7, _⟩ => ⟨S8x256x128, .bf16⟩
  | .local _ .vmem, ⟨8, _⟩ => ⟨S8x256x128, .bf16⟩
  | .local _ .vmem, ⟨9, _⟩ => ⟨S8x256x128, .bf16⟩
  | .local _ .vmem, ⟨10, _⟩ => ⟨S256x128, .f32⟩
  | .local _ .vmem, ⟨11, _⟩ => ⟨S256x128, .f32⟩
  | .local _ .vmem, ⟨12, _⟩ => ⟨S8x1x1x256, .f32⟩
  | .local _ .vmem, ⟨13, _⟩ => ⟨S8x1x1x256, .f32⟩
  | .local _ .vmem, ⟨14, _⟩ => ⟨S8x128x128, .bf16⟩
  | .local _ .vmem, ⟨15, _⟩ => ⟨S8x128x128, .bf16⟩
  | .local _ .vmem, ⟨16, _⟩ => ⟨S8x256x128, .f32⟩
  | .local _ .vmem, ⟨17, _⟩ => ⟨S8x256x128, .f32⟩
  | .local _ .vmem, ⟨18, _⟩ => ⟨S8x256x128, .f32⟩
  | .local _ .vmem, ⟨19, _⟩ => ⟨S8x256x128, .f32⟩
  | .local _ .vmem, ⟨20, _⟩ => ⟨S8x256x128, .f32⟩
  | .local _ .vmem, ⟨21, _⟩ => ⟨S8x256x128, .f32⟩
  | .local _ .vmem, ⟨22, _⟩ => ⟨S8x256x128, .f32⟩
  | .local _ .vmem, ⟨23, _⟩ => ⟨S8x256x128, .f32⟩
  | .local _ .vmem, ⟨24, _⟩ => ⟨S8x256x1, .f32⟩
  | .local _ .vmem, ⟨25, _⟩ => ⟨S8x256x1, .f32⟩
  | .local _ .vmem, ⟨26, _⟩ => ⟨S8x1x1x256, .f32⟩
  | .local _ .vmem, ⟨27, _⟩ => ⟨S8x1x1x256, .f32⟩
  | .local _ .vmem, ⟨28, _⟩ => ⟨S8x128x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev main_v9_5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.divsi v0 c8_i32_0
  let c16_i32 : BitVec 32 := 16#32
  let v2 : BitVec 32 := Scalar.muli v1 c16_i32
  let c15_i32 : BitVec 32 := 15#32
  let v3 : BitVec 32 := Scalar.subi c15_i32 arg1
  let v4 : BitVec 32 := Scalar.addi v2 v3
  let c8_i32_1 : BitVec 32 := 8#32
  let v5 : BitVec 32 := Scalar.muli arg0 c8_i32_1
  let c8_i32_2 : BitVec 32 := 8#32
  let v6 : BitVec 32 := Scalar.remsi v5 c8_i32_2
  let c0_i32 : BitVec 32 := 0#32
  let v7 : BitVec 32 := Scalar.addi c0_i32 v6
  let c8_i32_3 : BitVec 32 := 8#32
  let v8 : BitVec 32 := Scalar.divsi v7 c8_i32_3
  let c0_i32_4 : BitVec 32 := 0#32
  ![v4.toNat, v8.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.divsi v0 c8_i32_0
  let c16_i32 : BitVec 32 := 16#32
  let v2 : BitVec 32 := Scalar.muli v1 c16_i32
  let c15_i32 : BitVec 32 := 15#32
  let v3 : BitVec 32 := Scalar.subi c15_i32 arg1
  let v4 : BitVec 32 := Scalar.addi v2 v3
  let c8_i32_1 : BitVec 32 := 8#32
  let v5 : BitVec 32 := Scalar.muli arg0 c8_i32_1
  let c8_i32_2 : BitVec 32 := 8#32
  let v6 : BitVec 32 := Scalar.remsi v5 c8_i32_2
  let c0_i32 : BitVec 32 := 0#32
  let v7 : BitVec 32 := Scalar.addi c0_i32 v6
  let c8_i32_3 : BitVec 32 := 8#32
  let v8 : BitVec 32 := Scalar.divsi v7 c8_i32_3
  let c0_i32_4 : BitVec 32 := 0#32
  ![v4.toNat, v8.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.divsi v0 c8_i32_0
  let c16_i32 : BitVec 32 := 16#32
  let v2 : BitVec 32 := Scalar.muli v1 c16_i32
  let c15_i32 : BitVec 32 := 15#32
  let v3 : BitVec 32 := Scalar.subi c15_i32 arg1
  let v4 : BitVec 32 := Scalar.addi v2 v3
  let c8_i32_1 : BitVec 32 := 8#32
  let v5 : BitVec 32 := Scalar.muli arg0 c8_i32_1
  let c8_i32_2 : BitVec 32 := 8#32
  let v6 : BitVec 32 := Scalar.remsi v5 c8_i32_2
  let c8_i32_3 : BitVec 32 := 8#32
  let v7 : BitVec 32 := Scalar.addi c8_i32_3 v6
  let c8_i32_4 : BitVec 32 := 8#32
  let v8 : BitVec 32 := Scalar.divsi v7 c8_i32_4
  let c0_i32 : BitVec 32 := 0#32
  ![v4.toNat, v8.toNat]

def cc0_transform_3 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.subi c15_i32 arg1
  let v2 : BitVec 32 := Scalar.addi v0 v1
  let c0_i32 : BitVec 32 := 0#32
  let c0_i32_0 : BitVec 32 := 0#32
  ![v2.toNat, c0_i32.toNat]

def cc0_transform_6 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_9 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_10 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_11 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_12 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_13 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![arg0.toNat, v0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x256x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S8x1x1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x1024 : Shape := ⟨2, ![8192, 1024]⟩
abbrev S8192x3072 : Shape := ⟨2, ![8192, 3072]⟩
abbrev S16x4096x128 : Shape := ⟨3, ![16, 4096, 128]⟩
abbrev S8192x128 : Shape := ⟨2, ![8192, 128]⟩
abbrev S16x16x1x256 : Shape := ⟨4, ![16, 16, 1, 256]⟩
abbrev S16x2048x128 : Shape := ⟨3, ![16, 2048, 128]⟩
abbrev S8192x8 : Shape := ⟨2, ![8192, 8]⟩
abbrev S2x16x256x8 : Shape := ⟨4, ![2, 16, 256, 8]⟩
abbrev S16x2x8x256 : Shape := ⟨4, ![16, 2, 8, 256]⟩
abbrev S2x8x16x256 : Shape := ⟨4, ![2, 8, 16, 256]⟩
abbrev S2x16x256x8x128 : Shape := ⟨5, ![2, 16, 256, 8, 128]⟩
abbrev S16x2x8x256x128 : Shape := ⟨5, ![16, 2, 8, 256, 128]⟩
abbrev S2x8x16x128x128 : Shape := ⟨5, ![2, 8, 16, 128, 128]⟩
abbrev S16x2x8x128x128 : Shape := ⟨5, ![16, 2, 8, 128, 128]⟩
abbrev S2x8x16x256x128 : Shape := ⟨5, ![2, 8, 16, 256, 128]⟩
abbrev S_ : Shape := ⟨0, ![]⟩
abbrev S2x8x128x128 : Shape := ⟨4, ![2, 8, 128, 128]⟩
abbrev S1x2x8x256x128 : Shape := ⟨5, ![1, 2, 8, 256, 128]⟩
abbrev S2x8x256x128 : Shape := ⟨4, ![2, 8, 256, 128]⟩
abbrev S1x2x8x128x128 : Shape := ⟨5, ![1, 2, 8, 128, 128]⟩
abbrev S1x2x8x256 : Shape := ⟨4, ![1, 2, 8, 256]⟩
abbrev S2x8x256 : Shape := ⟨3, ![2, 8, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S2x8x256x1 : Shape := ⟨4, ![2, 8, 256, 1]⟩
abbrev S2x8x1x256 : Shape := ⟨4, ![2, 8, 1, 256]⟩
abbrev S2x8x256x256 : Shape := ⟨4, ![2, 8, 256, 256]⟩
abbrev S2x8x1 : Shape := ⟨3, ![2, 8, 1]⟩
abbrev S2x8 : Shape := ⟨2, ![2, 8]⟩
abbrev S2x8x1x1 : Shape := ⟨4, ![2, 8, 1, 1]⟩
abbrev S2x8x128x256 : Shape := ⟨4, ![2, 8, 128, 256]⟩
abbrev S16x4096x1 : Shape := ⟨3, ![16, 4096, 1]⟩

abbrev nBuf : Space → Nat
  | .hbm => 282
  | .vmem => 0
  | .smem => 0
  | _ => 0

abbrev hbmTy0_0 (i : Nat) : BufTy := match i % 128 with
  | 0 => ⟨S8192x1024, .f32⟩
  | 1 => ⟨S8192x3072, .f32⟩
  | 2 => ⟨S16x4096x128, .f32⟩
  | 3 => ⟨S16x4096x128, .bf16⟩
  | 4 => ⟨S8192x128, .f32⟩
  | 5 => ⟨S16x16x1x256, .f32⟩
  | 6 => ⟨S16x2048x128, .bf16⟩
  | 7 => ⟨S8192x8, .f32⟩
  | 8 => ⟨S2x16x256x8, .f32⟩
  | 9 => ⟨S16x2x8x256, .f32⟩
  | 10 => ⟨S2x8x16x256, .f32⟩
  | 11 => ⟨S16x2x8x256, .f32⟩
  | 12 => ⟨S2x16x256x8x128, .f32⟩
  | 13 => ⟨S16x2x8x256x128, .f32⟩
  | 14 => ⟨S16x2048x128, .f32⟩
  | 15 => ⟨S2x8x16x128x128, .f32⟩
  | 16 => ⟨S16x2x8x128x128, .f32⟩
  | 17 => ⟨S8192x1024, .f32⟩
  | 18 => ⟨S2x16x256x8x128, .f32⟩
  | 19 => ⟨S16x2x8x256x128, .f32⟩
  | 20 => ⟨S8192x1024, .f32⟩
  | 21 => ⟨S2x16x256x8x128, .f32⟩
  | 22 => ⟨S16x2x8x256x128, .f32⟩
  | 23 => ⟨S2x8x16x256x128, .f32⟩
  | 24 => ⟨S16x2x8x256x128, .f32⟩
  | 25 => ⟨S16x4096x128, .f32⟩
  | 26 => ⟨S2x8x16x256x128, .f32⟩
  | 27 => ⟨S16x2x8x256x128, .f32⟩
  | 28 => ⟨S_, .f32⟩
  | 29 => ⟨S2x8x128x128, .f32⟩
  | 30 => ⟨S_, .f32⟩
  | 31 => ⟨S16x2x8x256x128, .f32⟩
  | 32 => ⟨S_, .f32⟩
  | 33 => ⟨S16x2x8x256x128, .f32⟩
  | 34 => ⟨S_, .f32⟩
  | 35 => ⟨S16x2x8x256x128, .f32⟩
  | 36 => ⟨S_, .f32⟩
  | 37 => ⟨S16x2x8x256x128, .f32⟩
  | 38 => ⟨S_, .f32⟩
  | 39 => ⟨S16x2x8x256, .f32⟩
  | 40 => ⟨S_, .f32⟩
  | 41 => ⟨S16x2x8x256, .f32⟩
  | 42 => ⟨S_, .i32⟩
  | 43 => ⟨S16x2x8x256x128, .f32⟩
  | 44 => ⟨S16x2x8x128x128, .f32⟩
  | 45 => ⟨S16x2x8x256x128, .f32⟩
  | 46 => ⟨S16x2x8x256x128, .f32⟩
  | 47 => ⟨S16x2x8x256x128, .f32⟩
  | 48 => ⟨S16x2x8x256x128, .f32⟩
  | 49 => ⟨S16x2x8x256, .f32⟩
  | 50 => ⟨S16x2x8x256, .f32⟩
  | 51 => ⟨S_, .i32⟩
  | 52 => ⟨S2x8x128x128, .f32⟩
  | 53 => ⟨S16x2x8x256x128, .f32⟩
  | 54 => ⟨S16x2x8x256x128, .f32⟩
  | 55 => ⟨S16x2x8x256x128, .f32⟩
  | 56 => ⟨S16x2x8x256x128, .f32⟩
  | 57 => ⟨S16x2x8x256, .f32⟩
  | 58 => ⟨S16x2x8x256, .f32⟩
  | 59 => ⟨S_, .i32⟩
  | 60 => ⟨S_, .i1⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S_, .i32⟩
  | 69 => ⟨S1x2x8x256x128, .f32⟩
  | 70 => ⟨S2x8x256x128, .f32⟩
  | 71 => ⟨S_, .i32⟩
  | 72 => ⟨S_, .i32⟩
  | 73 => ⟨S_, .i32⟩
  | 74 => ⟨S_, .i32⟩
  | 75 => ⟨S1x2x8x128x128, .f32⟩
  | 76 => ⟨S2x8x128x128, .f32⟩
  | 77 => ⟨S_, .i32⟩
  | 78 => ⟨S_, .i32⟩
  | 79 => ⟨S_, .i32⟩
  | 80 => ⟨S_, .i32⟩
  | 81 => ⟨S1x2x8x256x128, .f32⟩
  | 82 => ⟨S2x8x256x128, .f32⟩
  | 83 => ⟨S_, .i32⟩
  | 84 => ⟨S_, .i32⟩
  | 85 => ⟨S_, .i32⟩
  | 86 => ⟨S_, .i32⟩
  | 87 => ⟨S1x2x8x256x128, .f32⟩
  | 88 => ⟨S2x8x256x128, .f32⟩
  | 89 => ⟨S_, .i32⟩
  | 90 => ⟨S_, .i32⟩
  | 91 => ⟨S_, .i32⟩
  | 92 => ⟨S_, .i32⟩
  | 93 => ⟨S1x2x8x256x128, .f32⟩
  | 94 => ⟨S2x8x256x128, .f32⟩
  | 95 => ⟨S_, .i32⟩
  | 96 => ⟨S_, .i32⟩
  | 97 => ⟨S_, .i32⟩
  | 98 => ⟨S_, .i32⟩
  | 99 => ⟨S1x2x8x256x128, .f32⟩
  | 100 => ⟨S2x8x256x128, .f32⟩
  | 101 => ⟨S_, .i32⟩
  | 102 => ⟨S_, .i32⟩
  | 103 => ⟨S_, .i32⟩
  | 104 => ⟨S1x2x8x256, .f32⟩
  | 105 => ⟨S2x8x256, .f32⟩
  | 106 => ⟨S_, .i32⟩
  | 107 => ⟨S_, .i32⟩
  | 108 => ⟨S_, .i32⟩
  | 109 => ⟨S1x2x8x256, .f32⟩
  | 110 => ⟨S2x8x256, .f32⟩
  | 111 => ⟨S256, .i32⟩
  | 112 => ⟨S256x1, .i32⟩
  | 113 => ⟨S1x256, .i32⟩
  | 114 => ⟨S256x256, .i32⟩
  | 115 => ⟨S256x256, .i32⟩
  | 116 => ⟨S256x256, .i1⟩
  | 117 => ⟨S2x8x256x1, .f32⟩
  | 118 => ⟨S2x8x1x256, .f32⟩
  | 119 => ⟨S2x8x256x256, .f32⟩
  | 120 => ⟨S2x8x256x256, .f32⟩
  | 121 => ⟨S2x8x256x256, .f32⟩
  | 122 => ⟨S_, .f32⟩
  | 123 => ⟨S_, .f32⟩
  | 124 => ⟨S2x8x256x256, .i1⟩
  | 125 => ⟨S2x8x256x256, .f32⟩
  | 126 => ⟨S2x8x256x256, .f32⟩
  | 127 => ⟨S_, .f32⟩
  | _ => ⟨S8192x1024, .f32⟩

abbrev hbmTy0_1 (i : Nat) : BufTy := match i % 128 with
  | 0 => ⟨S2x8x256x256, .f32⟩
  | 1 => ⟨S2x8x256x256, .f32⟩
  | 2 => ⟨S2x8x256x256, .f32⟩
  | 3 => ⟨S2x8x256x256, .f32⟩
  | 4 => ⟨S2x8x256x128, .f32⟩
  | 5 => ⟨S2x8x256x128, .f32⟩
  | 6 => ⟨S2x8x256, .f32⟩
  | 7 => ⟨S2x8x256x1, .f32⟩
  | 8 => ⟨S2x8x256x128, .f32⟩
  | 9 => ⟨S2x8x256x128, .f32⟩
  | 10 => ⟨S2x8x256x128, .f32⟩
  | 11 => ⟨S2x8x256x128, .f32⟩
  | 12 => ⟨S2x8x256x128, .f32⟩
  | 13 => ⟨S2x8x1, .f32⟩
  | 14 => ⟨S2x8, .f32⟩
  | 15 => ⟨S2x8, .f32⟩
  | 16 => ⟨S2x8x1x1, .f32⟩
  | 17 => ⟨S2x8x128x128, .f32⟩
  | 18 => ⟨S2x8x128x128, .f32⟩
  | 19 => ⟨S2x8x1, .f32⟩
  | 20 => ⟨S2x8x256, .f32⟩
  | 21 => ⟨S2x8x256, .f32⟩
  | 22 => ⟨S2x8x256, .f32⟩
  | 23 => ⟨S2x8x256x1, .f32⟩
  | 24 => ⟨S2x8x256x128, .f32⟩
  | 25 => ⟨S2x8x256x128, .f32⟩
  | 26 => ⟨S2x8x128x128, .f32⟩
  | 27 => ⟨S2x8x128x128, .f32⟩
  | 28 => ⟨S2x8x128x256, .f32⟩
  | 29 => ⟨S2x8x256x128, .f32⟩
  | 30 => ⟨S2x8x128x256, .f32⟩
  | 31 => ⟨S2x8x256x128, .f32⟩
  | 32 => ⟨S2x8x256x128, .f32⟩
  | 33 => ⟨S_, .f32⟩
  | 34 => ⟨S2x8x256, .f32⟩
  | 35 => ⟨S2x8x256x1, .f32⟩
  | 36 => ⟨S2x8x256x128, .f32⟩
  | 37 => ⟨S2x8x256x128, .f32⟩
  | 38 => ⟨S_, .f32⟩
  | 39 => ⟨S2x8x256, .f32⟩
  | 40 => ⟨S2x8x256, .f32⟩
  | 41 => ⟨S_, .f32⟩
  | 42 => ⟨S2x8, .f32⟩
  | 43 => ⟨S2x8x1, .f32⟩
  | 44 => ⟨S2x8x256, .f32⟩
  | 45 => ⟨S_, .f32⟩
  | 46 => ⟨S2x8, .f32⟩
  | 47 => ⟨S2x8x128x128, .f32⟩
  | 48 => ⟨S_, .f32⟩
  | 49 => ⟨S2x8, .f32⟩
  | 50 => ⟨S2x8x1x1, .f32⟩
  | 51 => ⟨S2x8x128x128, .f32⟩
  | 52 => ⟨S2x8x128x128, .f32⟩
  | 53 => ⟨S_, .f32⟩
  | 54 => ⟨S2x8, .f32⟩
  | 55 => ⟨S2x8, .f32⟩
  | 56 => ⟨S2x8, .f32⟩
  | 57 => ⟨S2x8x1, .f32⟩
  | 58 => ⟨S_, .f32⟩
  | 59 => ⟨S2x8x256, .f32⟩
  | 60 => ⟨S2x8x256, .f32⟩
  | 61 => ⟨S2x8x128x256, .f32⟩
  | 62 => ⟨S2x8x256x128, .f32⟩
  | 63 => ⟨S2x8x256x128, .f32⟩
  | 64 => ⟨S2x8x256x256, .f32⟩
  | 65 => ⟨S2x8x128x128, .f32⟩
  | 66 => ⟨S2x8x128x128, .f32⟩
  | 67 => ⟨S2x8x128x128, .f32⟩
  | 68 => ⟨S2x8x256x128, .f32⟩
  | 69 => ⟨S2x8x256x128, .f32⟩
  | 70 => ⟨S_, .f32⟩
  | 71 => ⟨S2x8x256, .f32⟩
  | 72 => ⟨S2x8x256x1, .f32⟩
  | 73 => ⟨S2x8x256x128, .f32⟩
  | 74 => ⟨S2x8x256x128, .f32⟩
  | 75 => ⟨S_, .f32⟩
  | 76 => ⟨S2x8x256, .f32⟩
  | 77 => ⟨S2x8x256, .f32⟩
  | 78 => ⟨S2x8x256, .f32⟩
  | 79 => ⟨S2x8x256x128, .f32⟩
  | 80 => ⟨S2x8x128x128, .f32⟩
  | 81 => ⟨S2x8x128x128, .f32⟩
  | 82 => ⟨S2x8x128x128, .f32⟩
  | 83 => ⟨S2x8x256x128, .f32⟩
  | 84 => ⟨S2x8x256x256, .f32⟩
  | 85 => ⟨S2x8x256x256, .f32⟩
  | 86 => ⟨S2x8x256x128, .f32⟩
  | 87 => ⟨S2x8x256x128, .f32⟩
  | 88 => ⟨S2x8x256x128, .f32⟩
  | 89 => ⟨S2x8x256x128, .f32⟩
  | 90 => ⟨S2x8x256x256, .f32⟩
  | 91 => ⟨S_, .f32⟩
  | 92 => ⟨S2x8x256x256, .f32⟩
  | 93 => ⟨S2x8x256x256, .f32⟩
  | 94 => ⟨S_, .f32⟩
  | 95 => ⟨S2x8x256, .f32⟩
  | 96 => ⟨S2x8x256x1, .f32⟩
  | 97 => ⟨S2x8x256x256, .f32⟩
  | 98 => ⟨S_, .f32⟩
  | 99 => ⟨S2x8x256, .f32⟩
  | 100 => ⟨S2x8x1x256, .f32⟩
  | 101 => ⟨S_, .f32⟩
  | 102 => ⟨S2x8x256, .f32⟩
  | 103 => ⟨S_, .f32⟩
  | 104 => ⟨S2x8x256, .f32⟩
  | 105 => ⟨S2x8x256, .f32⟩
  | 106 => ⟨S1x2x8x256x128, .f32⟩
  | 107 => ⟨S_, .i32⟩
  | 108 => ⟨S_, .i32⟩
  | 109 => ⟨S_, .i32⟩
  | 110 => ⟨S_, .i32⟩
  | 111 => ⟨S16x2x8x256x128, .f32⟩
  | 112 => ⟨S1x2x8x256x128, .f32⟩
  | 113 => ⟨S_, .i32⟩
  | 114 => ⟨S_, .i32⟩
  | 115 => ⟨S_, .i32⟩
  | 116 => ⟨S_, .i32⟩
  | 117 => ⟨S16x2x8x256x128, .f32⟩
  | 118 => ⟨S1x2x8x256x128, .f32⟩
  | 119 => ⟨S_, .i32⟩
  | 120 => ⟨S_, .i32⟩
  | 121 => ⟨S_, .i32⟩
  | 122 => ⟨S_, .i32⟩
  | 123 => ⟨S16x2x8x256x128, .f32⟩
  | 124 => ⟨S1x2x8x256x128, .f32⟩
  | 125 => ⟨S_, .i32⟩
  | 126 => ⟨S_, .i32⟩
  | 127 => ⟨S_, .i32⟩
  | _ => ⟨S8192x1024, .f32⟩

abbrev hbmTy0_2 (i : Nat) : BufTy := match i % 128 with
  | 0 => ⟨S_, .i32⟩
  | 1 => ⟨S16x2x8x256x128, .f32⟩
  | 2 => ⟨S1x2x8x256, .f32⟩
  | 3 => ⟨S_, .i32⟩
  | 4 => ⟨S_, .i32⟩
  | 5 => ⟨S_, .i32⟩
  | 6 => ⟨S16x2x8x256, .f32⟩
  | 7 => ⟨S1x2x8x256, .f32⟩
  | 8 => ⟨S_, .i32⟩
  | 9 => ⟨S_, .i32⟩
  | 10 => ⟨S_, .i32⟩
  | 11 => ⟨S16x2x8x256, .f32⟩
  | 12 => ⟨S_, .i32⟩
  | 13 => ⟨S_, .i32⟩
  | 14 => ⟨S2x8x16x256x128, .f32⟩
  | 15 => ⟨S16x4096x128, .f32⟩
  | 16 => ⟨S2x8x16x256x128, .f32⟩
  | 17 => ⟨S16x4096x128, .f32⟩
  | 18 => ⟨S2x8x16x256x128, .f32⟩
  | 19 => ⟨S16x4096x128, .f32⟩
  | 20 => ⟨S2x8x16x256x128, .f32⟩
  | 21 => ⟨S16x4096x128, .f32⟩
  | 22 => ⟨S2x8x16x256, .f32⟩
  | 23 => ⟨S16x4096x1, .f32⟩
  | 24 => ⟨S2x8x16x256, .f32⟩
  | 25 => ⟨S16x16x1x256, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_c : Ref sig .tc := ⟨.hbm, 42, rfl⟩
abbrev main_v28_0 : Ref sig .tc := ⟨.hbm, 43, rfl⟩
abbrev main_v28_1 : Ref sig .tc := ⟨.hbm, 44, rfl⟩
abbrev main_v28_2 : Ref sig .tc := ⟨.hbm, 45, rfl⟩
abbrev main_v28_3 : Ref sig .tc := ⟨.hbm, 46, rfl⟩
abbrev main_v28_4 : Ref sig .tc := ⟨.hbm, 47, rfl⟩
abbrev main_v28_5 : Ref sig .tc := ⟨.hbm, 48, rfl⟩
abbrev main_v28_6 : Ref sig .tc := ⟨.hbm, 49, rfl⟩
abbrev main_v28_7 : Ref sig .tc := ⟨.hbm, 50, rfl⟩
abbrev main_v28_8 : Ref sig .tc := ⟨.hbm, 51, rfl⟩
abbrev main_v28_9 : Ref sig .tc := ⟨.hbm, 52, rfl⟩
abbrev main_v28_10 : Ref sig .tc := ⟨.hbm, 53, rfl⟩
abbrev main_v28_11 : Ref sig .tc := ⟨.hbm, 54, rfl⟩
abbrev main_v28_12 : Ref sig .tc := ⟨.hbm, 55, rfl⟩
abbrev main_v28_13 : Ref sig .tc := ⟨.hbm, 56, rfl⟩
abbrev main_v28_14 : Ref sig .tc := ⟨.hbm, 57, rfl⟩
abbrev main_v28_15 : Ref sig .tc := ⟨.hbm, 58, rfl⟩
abbrev main_while0c_c_21 : Ref sig .tc := ⟨.hbm, 59, rfl⟩
abbrev main_while0c_v41 : Ref sig .tc := ⟨.hbm, 60, rfl⟩
abbrev main_while0b_c_21 : Ref sig .tc := ⟨.hbm, 61, rfl⟩
abbrev main_while0b_v41 : Ref sig .tc := ⟨.hbm, 62, rfl⟩
abbrev main_while0b_c_22 : Ref sig .tc := ⟨.hbm, 63, rfl⟩
abbrev main_while0b_v42 : Ref sig .tc := ⟨.hbm, 64, rfl⟩
abbrev main_while0b_call0_c : Ref sig .tc := ⟨.hbm, 65, rfl⟩
abbrev main_while0b_call0_c_0 : Ref sig .tc := ⟨.hbm, 66, rfl⟩
abbrev main_while0b_call0_c_1 : Ref sig .tc := ⟨.hbm, 67, rfl⟩
abbrev main_while0b_call0_c_2 : Ref sig .tc := ⟨.hbm, 68, rfl⟩
abbrev main_while0b_call0_v0 : Ref sig .tc := ⟨.hbm, 69, rfl⟩
abbrev main_while0b_v43 : Ref sig .tc := ⟨.hbm, 70, rfl⟩
abbrev main_while0b_call1_c : Ref sig .tc := ⟨.hbm, 71, rfl⟩
abbrev main_while0b_call1_c_0 : Ref sig .tc := ⟨.hbm, 72, rfl⟩
abbrev main_while0b_call1_c_1 : Ref sig .tc := ⟨.hbm, 73, rfl⟩
abbrev main_while0b_call1_c_2 : Ref sig .tc := ⟨.hbm, 74, rfl⟩
abbrev main_while0b_call1_v0 : Ref sig .tc := ⟨.hbm, 75, rfl⟩
abbrev main_while0b_v44 : Ref sig .tc := ⟨.hbm, 76, rfl⟩
abbrev main_while0b_call2_c : Ref sig .tc := ⟨.hbm, 77, rfl⟩
abbrev main_while0b_call2_c_0 : Ref sig .tc := ⟨.hbm, 78, rfl⟩
abbrev main_while0b_call2_c_1 : Ref sig .tc := ⟨.hbm, 79, rfl⟩
abbrev main_while0b_call2_c_2 : Ref sig .tc := ⟨.hbm, 80, rfl⟩
abbrev main_while0b_call2_v0 : Ref sig .tc := ⟨.hbm, 81, rfl⟩
abbrev main_while0b_v45 : Ref sig .tc := ⟨.hbm, 82, rfl⟩
abbrev main_while0b_call3_c : Ref sig .tc := ⟨.hbm, 83, rfl⟩
abbrev main_while0b_call3_c_0 : Ref sig .tc := ⟨.hbm, 84, rfl⟩
abbrev main_while0b_call3_c_1 : Ref sig .tc := ⟨.hbm, 85, rfl⟩
abbrev main_while0b_call3_c_2 : Ref sig .tc := ⟨.hbm, 86, rfl⟩
abbrev main_while0b_call3_v0 : Ref sig .tc := ⟨.hbm, 87, rfl⟩
abbrev main_while0b_v46 : Ref sig .tc := ⟨.hbm, 88, rfl⟩
abbrev main_while0b_call4_c : Ref sig .tc := ⟨.hbm, 89, rfl⟩
abbrev main_while0b_call4_c_0 : Ref sig .tc := ⟨.hbm, 90, rfl⟩
abbrev main_while0b_call4_c_1 : Ref sig .tc := ⟨.hbm, 91, rfl⟩
abbrev main_while0b_call4_c_2 : Ref sig .tc := ⟨.hbm, 92, rfl⟩
abbrev main_while0b_call4_v0 : Ref sig .tc := ⟨.hbm, 93, rfl⟩
abbrev main_while0b_v47 : Ref sig .tc := ⟨.hbm, 94, rfl⟩
abbrev main_while0b_call5_c : Ref sig .tc := ⟨.hbm, 95, rfl⟩
abbrev main_while0b_call5_c_0 : Ref sig .tc := ⟨.hbm, 96, rfl⟩
abbrev main_while0b_call5_c_1 : Ref sig .tc := ⟨.hbm, 97, rfl⟩
abbrev main_while0b_call5_c_2 : Ref sig .tc := ⟨.hbm, 98, rfl⟩
abbrev main_while0b_call5_v0 : Ref sig .tc := ⟨.hbm, 99, rfl⟩
abbrev main_while0b_v48 : Ref sig .tc := ⟨.hbm, 100, rfl⟩
abbrev main_while0b_call6_c : Ref sig .tc := ⟨.hbm, 101, rfl⟩
abbrev main_while0b_call6_c_0 : Ref sig .tc := ⟨.hbm, 102, rfl⟩
abbrev main_while0b_call6_c_1 : Ref sig .tc := ⟨.hbm, 103, rfl⟩
abbrev main_while0b_call6_v0 : Ref sig .tc := ⟨.hbm, 104, rfl⟩
abbrev main_while0b_v49 : Ref sig .tc := ⟨.hbm, 105, rfl⟩
abbrev main_while0b_call7_c : Ref sig .tc := ⟨.hbm, 106, rfl⟩
abbrev main_while0b_call7_c_0 : Ref sig .tc := ⟨.hbm, 107, rfl⟩
abbrev main_while0b_call7_c_1 : Ref sig .tc := ⟨.hbm, 108, rfl⟩
abbrev main_while0b_call7_v0 : Ref sig .tc := ⟨.hbm, 109, rfl⟩
abbrev main_while0b_v50 : Ref sig .tc := ⟨.hbm, 110, rfl⟩
abbrev main_while0b_v51 : Ref sig .tc := ⟨.hbm, 111, rfl⟩
abbrev main_while0b_v52 : Ref sig .tc := ⟨.hbm, 112, rfl⟩
abbrev main_while0b_v53 : Ref sig .tc := ⟨.hbm, 113, rfl⟩
abbrev main_while0b_v54 : Ref sig .tc := ⟨.hbm, 114, rfl⟩
abbrev main_while0b_v55 : Ref sig .tc := ⟨.hbm, 115, rfl⟩
abbrev main_while0b_v56 : Ref sig .tc := ⟨.hbm, 116, rfl⟩
abbrev main_while0b_v57 : Ref sig .tc := ⟨.hbm, 117, rfl⟩
abbrev main_while0b_v58 : Ref sig .tc := ⟨.hbm, 118, rfl⟩
abbrev main_while0b_v59 : Ref sig .tc := ⟨.hbm, 119, rfl⟩
abbrev main_while0b_v60 : Ref sig .tc := ⟨.hbm, 120, rfl⟩
abbrev main_while0b_v61 : Ref sig .tc := ⟨.hbm, 121, rfl⟩
abbrev main_while0b_cst_23 : Ref sig .tc := ⟨.hbm, 122, rfl⟩
abbrev main_while0b_call8_v0 : Ref sig .tc := ⟨.hbm, 123, rfl⟩
abbrev main_while0b_v62_1 : Ref sig .tc := ⟨.hbm, 124, rfl⟩
abbrev main_while0b_call8_v2 : Ref sig .tc := ⟨.hbm, 125, rfl⟩
abbrev main_while0b_v62_0 : Ref sig .tc := ⟨.hbm, 126, rfl⟩
abbrev main_while0b_call8_cst : Ref sig .tc := ⟨.hbm, 127, rfl⟩
abbrev main_while0b_v62_2 : Ref sig .tc := ⟨.hbm, 128, rfl⟩
abbrev main_while0b_v63 : Ref sig .tc := ⟨.hbm, 129, rfl⟩
abbrev main_while0b_v64 : Ref sig .tc := ⟨.hbm, 130, rfl⟩
abbrev main_while0b_v65 : Ref sig .tc := ⟨.hbm, 131, rfl⟩
abbrev main_while0b_v66 : Ref sig .tc := ⟨.hbm, 132, rfl⟩
abbrev main_while0b_v67 : Ref sig .tc := ⟨.hbm, 133, rfl⟩
abbrev main_while0b_v68 : Ref sig .tc := ⟨.hbm, 134, rfl⟩
abbrev main_while0b_v69 : Ref sig .tc := ⟨.hbm, 135, rfl⟩
abbrev main_while0b_v70 : Ref sig .tc := ⟨.hbm, 136, rfl⟩
abbrev main_while0b_v71 : Ref sig .tc := ⟨.hbm, 137, rfl⟩
abbrev main_while0b_v72 : Ref sig .tc := ⟨.hbm, 138, rfl⟩
abbrev main_while0b_v73 : Ref sig .tc := ⟨.hbm, 139, rfl⟩
abbrev main_while0b_v74 : Ref sig .tc := ⟨.hbm, 140, rfl⟩
abbrev main_while0b_v75 : Ref sig .tc := ⟨.hbm, 141, rfl⟩
abbrev main_while0b_v76 : Ref sig .tc := ⟨.hbm, 142, rfl⟩
abbrev main_while0b_v77 : Ref sig .tc := ⟨.hbm, 143, rfl⟩
abbrev main_while0b_v78 : Ref sig .tc := ⟨.hbm, 144, rfl⟩
abbrev main_while0b_v79 : Ref sig .tc := ⟨.hbm, 145, rfl⟩
abbrev main_while0b_v80 : Ref sig .tc := ⟨.hbm, 146, rfl⟩
abbrev main_while0b_v81 : Ref sig .tc := ⟨.hbm, 147, rfl⟩
abbrev main_while0b_v82 : Ref sig .tc := ⟨.hbm, 148, rfl⟩
abbrev main_while0b_v83 : Ref sig .tc := ⟨.hbm, 149, rfl⟩
abbrev main_while0b_v84 : Ref sig .tc := ⟨.hbm, 150, rfl⟩
abbrev main_while0b_v85 : Ref sig .tc := ⟨.hbm, 151, rfl⟩
abbrev main_while0b_v86 : Ref sig .tc := ⟨.hbm, 152, rfl⟩
abbrev main_while0b_v87 : Ref sig .tc := ⟨.hbm, 153, rfl⟩
abbrev main_while0b_v88 : Ref sig .tc := ⟨.hbm, 154, rfl⟩
abbrev main_while0b_v89 : Ref sig .tc := ⟨.hbm, 155, rfl⟩
abbrev main_while0b_v90 : Ref sig .tc := ⟨.hbm, 156, rfl⟩
abbrev main_while0b_v91 : Ref sig .tc := ⟨.hbm, 157, rfl⟩
abbrev main_while0b_v92 : Ref sig .tc := ⟨.hbm, 158, rfl⟩
abbrev main_while0b_v93 : Ref sig .tc := ⟨.hbm, 159, rfl⟩
abbrev main_while0b_v94 : Ref sig .tc := ⟨.hbm, 160, rfl⟩
abbrev main_while0b_cst_24 : Ref sig .tc := ⟨.hbm, 161, rfl⟩
abbrev main_while0b_v95 : Ref sig .tc := ⟨.hbm, 162, rfl⟩
abbrev main_while0b_v96 : Ref sig .tc := ⟨.hbm, 163, rfl⟩
abbrev main_while0b_v97 : Ref sig .tc := ⟨.hbm, 164, rfl⟩
abbrev main_while0b_v98 : Ref sig .tc := ⟨.hbm, 165, rfl⟩
abbrev main_while0b_cst_25 : Ref sig .tc := ⟨.hbm, 166, rfl⟩
abbrev main_while0b_v99 : Ref sig .tc := ⟨.hbm, 167, rfl⟩
abbrev main_while0b_v100 : Ref sig .tc := ⟨.hbm, 168, rfl⟩
abbrev main_while0b_cst_26 : Ref sig .tc := ⟨.hbm, 169, rfl⟩
abbrev main_while0b_v101 : Ref sig .tc := ⟨.hbm, 170, rfl⟩
abbrev main_while0b_v102 : Ref sig .tc := ⟨.hbm, 171, rfl⟩
abbrev main_while0b_v103 : Ref sig .tc := ⟨.hbm, 172, rfl⟩
abbrev main_while0b_cst_27 : Ref sig .tc := ⟨.hbm, 173, rfl⟩
abbrev main_while0b_v104 : Ref sig .tc := ⟨.hbm, 174, rfl⟩
abbrev main_while0b_v105 : Ref sig .tc := ⟨.hbm, 175, rfl⟩
abbrev main_while0b_cst_28 : Ref sig .tc := ⟨.hbm, 176, rfl⟩
abbrev main_while0b_v106 : Ref sig .tc := ⟨.hbm, 177, rfl⟩
abbrev main_while0b_v107 : Ref sig .tc := ⟨.hbm, 178, rfl⟩
abbrev main_while0b_v108 : Ref sig .tc := ⟨.hbm, 179, rfl⟩
abbrev main_while0b_v109 : Ref sig .tc := ⟨.hbm, 180, rfl⟩
abbrev main_while0b_cst_29 : Ref sig .tc := ⟨.hbm, 181, rfl⟩
abbrev main_while0b_v110 : Ref sig .tc := ⟨.hbm, 182, rfl⟩
abbrev main_while0b_v111 : Ref sig .tc := ⟨.hbm, 183, rfl⟩
abbrev main_while0b_v112 : Ref sig .tc := ⟨.hbm, 184, rfl⟩
abbrev main_while0b_v113 : Ref sig .tc := ⟨.hbm, 185, rfl⟩
abbrev main_while0b_cst_30 : Ref sig .tc := ⟨.hbm, 186, rfl⟩
abbrev main_while0b_v114 : Ref sig .tc := ⟨.hbm, 187, rfl⟩
abbrev main_while0b_v115 : Ref sig .tc := ⟨.hbm, 188, rfl⟩
abbrev main_while0b_v116 : Ref sig .tc := ⟨.hbm, 189, rfl⟩
abbrev main_while0b_v117 : Ref sig .tc := ⟨.hbm, 190, rfl⟩
abbrev main_while0b_v118 : Ref sig .tc := ⟨.hbm, 191, rfl⟩
abbrev main_while0b_v119 : Ref sig .tc := ⟨.hbm, 192, rfl⟩
abbrev main_while0b_v120 : Ref sig .tc := ⟨.hbm, 193, rfl⟩
abbrev main_while0b_v121 : Ref sig .tc := ⟨.hbm, 194, rfl⟩
abbrev main_while0b_v122 : Ref sig .tc := ⟨.hbm, 195, rfl⟩
abbrev main_while0b_v123 : Ref sig .tc := ⟨.hbm, 196, rfl⟩
abbrev main_while0b_v124 : Ref sig .tc := ⟨.hbm, 197, rfl⟩
abbrev main_while0b_cst_31 : Ref sig .tc := ⟨.hbm, 198, rfl⟩
abbrev main_while0b_v125 : Ref sig .tc := ⟨.hbm, 199, rfl⟩
abbrev main_while0b_v126 : Ref sig .tc := ⟨.hbm, 200, rfl⟩
abbrev main_while0b_v127 : Ref sig .tc := ⟨.hbm, 201, rfl⟩
abbrev main_while0b_v128 : Ref sig .tc := ⟨.hbm, 202, rfl⟩
abbrev main_while0b_cst_32 : Ref sig .tc := ⟨.hbm, 203, rfl⟩
abbrev main_while0b_v129 : Ref sig .tc := ⟨.hbm, 204, rfl⟩
abbrev main_while0b_v130 : Ref sig .tc := ⟨.hbm, 205, rfl⟩
abbrev main_while0b_v131 : Ref sig .tc := ⟨.hbm, 206, rfl⟩
abbrev main_while0b_v132 : Ref sig .tc := ⟨.hbm, 207, rfl⟩
abbrev main_while0b_v133 : Ref sig .tc := ⟨.hbm, 208, rfl⟩
abbrev main_while0b_v134 : Ref sig .tc := ⟨.hbm, 209, rfl⟩
abbrev main_while0b_v135 : Ref sig .tc := ⟨.hbm, 210, rfl⟩
abbrev main_while0b_v136 : Ref sig .tc := ⟨.hbm, 211, rfl⟩
abbrev main_while0b_v137 : Ref sig .tc := ⟨.hbm, 212, rfl⟩
abbrev main_while0b_v138 : Ref sig .tc := ⟨.hbm, 213, rfl⟩
abbrev main_while0b_v139 : Ref sig .tc := ⟨.hbm, 214, rfl⟩
abbrev main_while0b_v140 : Ref sig .tc := ⟨.hbm, 215, rfl⟩
abbrev main_while0b_v141 : Ref sig .tc := ⟨.hbm, 216, rfl⟩
abbrev main_while0b_v142 : Ref sig .tc := ⟨.hbm, 217, rfl⟩
abbrev main_while0b_v143 : Ref sig .tc := ⟨.hbm, 218, rfl⟩
abbrev main_while0b_call9_cst : Ref sig .tc := ⟨.hbm, 219, rfl⟩
abbrev main_while0b_call9_v0 : Ref sig .tc := ⟨.hbm, 220, rfl⟩
abbrev main_while0b_v144 : Ref sig .tc := ⟨.hbm, 221, rfl⟩
abbrev main_while0b_cst_33 : Ref sig .tc := ⟨.hbm, 222, rfl⟩
abbrev main_while0b_v145 : Ref sig .tc := ⟨.hbm, 223, rfl⟩
abbrev main_while0b_v146 : Ref sig .tc := ⟨.hbm, 224, rfl⟩
abbrev main_while0b_v147 : Ref sig .tc := ⟨.hbm, 225, rfl⟩
abbrev main_while0b_cst_34 : Ref sig .tc := ⟨.hbm, 226, rfl⟩
abbrev main_while0b_v148 : Ref sig .tc := ⟨.hbm, 227, rfl⟩
abbrev main_while0b_v149 : Ref sig .tc := ⟨.hbm, 228, rfl⟩
abbrev main_while0b_cst_35 : Ref sig .tc := ⟨.hbm, 229, rfl⟩
abbrev main_while0b_v150 : Ref sig .tc := ⟨.hbm, 230, rfl⟩
abbrev main_while0b_cst_36 : Ref sig .tc := ⟨.hbm, 231, rfl⟩
abbrev main_while0b_v151 : Ref sig .tc := ⟨.hbm, 232, rfl⟩
abbrev main_while0b_v152 : Ref sig .tc := ⟨.hbm, 233, rfl⟩
abbrev main_while0b_call10_v0 : Ref sig .tc := ⟨.hbm, 234, rfl⟩
abbrev main_while0b_call10_c : Ref sig .tc := ⟨.hbm, 235, rfl⟩
abbrev main_while0b_call10_c_0 : Ref sig .tc := ⟨.hbm, 236, rfl⟩
abbrev main_while0b_call10_c_1 : Ref sig .tc := ⟨.hbm, 237, rfl⟩
abbrev main_while0b_call10_c_2 : Ref sig .tc := ⟨.hbm, 238, rfl⟩
abbrev main_while0b_v153 : Ref sig .tc := ⟨.hbm, 239, rfl⟩
abbrev main_while0b_call11_v0 : Ref sig .tc := ⟨.hbm, 240, rfl⟩
abbrev main_while0b_call11_c : Ref sig .tc := ⟨.hbm, 241, rfl⟩
abbrev main_while0b_call11_c_0 : Ref sig .tc := ⟨.hbm, 242, rfl⟩
abbrev main_while0b_call11_c_1 : Ref sig .tc := ⟨.hbm, 243, rfl⟩
abbrev main_while0b_call11_c_2 : Ref sig .tc := ⟨.hbm, 244, rfl⟩
abbrev main_while0b_v154 : Ref sig .tc := ⟨.hbm, 245, rfl⟩
abbrev main_while0b_call12_v0 : Ref sig .tc := ⟨.hbm, 246, rfl⟩
abbrev main_while0b_call12_c : Ref sig .tc := ⟨.hbm, 247, rfl⟩
abbrev main_while0b_call12_c_0 : Ref sig .tc := ⟨.hbm, 248, rfl⟩
abbrev main_while0b_call12_c_1 : Ref sig .tc := ⟨.hbm, 249, rfl⟩
abbrev main_while0b_call12_c_2 : Ref sig .tc := ⟨.hbm, 250, rfl⟩
abbrev main_while0b_v155 : Ref sig .tc := ⟨.hbm, 251, rfl⟩
abbrev main_while0b_call13_v0 : Ref sig .tc := ⟨.hbm, 252, rfl⟩
abbrev main_while0b_call13_c : Ref sig .tc := ⟨.hbm, 253, rfl⟩
abbrev main_while0b_call13_c_0 : Ref sig .tc := ⟨.hbm, 254, rfl⟩
abbrev main_while0b_call13_c_1 : Ref sig .tc := ⟨.hbm, 255, rfl⟩
abbrev main_while0b_call13_c_2 : Ref sig .tc := ⟨.hbm, 256, rfl⟩
abbrev main_while0b_v156 : Ref sig .tc := ⟨.hbm, 257, rfl⟩
abbrev main_while0b_call14_v0 : Ref sig .tc := ⟨.hbm, 258, rfl⟩
abbrev main_while0b_call14_c : Ref sig .tc := ⟨.hbm, 259, rfl⟩
abbrev main_while0b_call14_c_0 : Ref sig .tc := ⟨.hbm, 260, rfl⟩
abbrev main_while0b_call14_c_1 : Ref sig .tc := ⟨.hbm, 261, rfl⟩
abbrev main_while0b_v157 : Ref sig .tc := ⟨.hbm, 262, rfl⟩
abbrev main_while0b_call15_v0 : Ref sig .tc := ⟨.hbm, 263, rfl⟩
abbrev main_while0b_call15_c : Ref sig .tc := ⟨.hbm, 264, rfl⟩
abbrev main_while0b_call15_c_0 : Ref sig .tc := ⟨.hbm, 265, rfl⟩
abbrev main_while0b_call15_c_1 : Ref sig .tc := ⟨.hbm, 266, rfl⟩
abbrev main_while0b_v158 : Ref sig .tc := ⟨.hbm, 267, rfl⟩
abbrev main_while0b_c_37 : Ref sig .tc := ⟨.hbm, 268, rfl⟩
abbrev main_while0b_v159 : Ref sig .tc := ⟨.hbm, 269, rfl⟩
abbrev main_v29 : Ref sig .tc := ⟨.hbm, 270, rfl⟩
abbrev main_v30 : Ref sig .tc := ⟨.hbm, 271, rfl⟩
abbrev main_v31 : Ref sig .tc := ⟨.hbm, 272, rfl⟩
abbrev main_v32 : Ref sig .tc := ⟨.hbm, 273, rfl⟩
abbrev main_v33 : Ref sig .tc := ⟨.hbm, 274, rfl⟩
abbrev main_v34 : Ref sig .tc := ⟨.hbm, 275, rfl⟩
abbrev main_v35 : Ref sig .tc := ⟨.hbm, 276, rfl⟩
abbrev main_v36 : Ref sig .tc := ⟨.hbm, 277, rfl⟩
abbrev main_v37 : Ref sig .tc := ⟨.hbm, 278, rfl⟩
abbrev main_v38 : Ref sig .tc := ⟨.hbm, 279, rfl⟩
abbrev main_v39 : Ref sig .tc := ⟨.hbm, 280, rfl⟩
abbrev main_v40 : Ref sig .tc := ⟨.hbm, 281, rfl⟩

abbrev nD : Nat := 1
abbrev τ : Topo := Topo.v7x

variable {F : FTy → Type} [FloatOps F]

abbrev main_while0_count : Scf.Loop 32 := ⟨0#32, 16#32, 1#32⟩
-- ==== Kernel2.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S1024x8x512 : Shape := ⟨3, ![1024, 8, 512]⟩
abbrev S8x1024x512 : Shape := ⟨3, ![8, 1024, 512]⟩
abbrev S8x512x1024 : Shape := ⟨3, ![8, 512, 1024]⟩
abbrev S8x1024 : Shape := ⟨2, ![8, 1024]⟩
abbrev S256x1024 : Shape := ⟨2, ![256, 1024]⟩
abbrev S256x4096 : Shape := ⟨2, ![256, 4096]⟩
abbrev S8 : Shape := ⟨1, ![8]⟩
abbrev S1 : Shape := ⟨1, ![1]⟩
abbrev S1024x512 : Shape := ⟨2, ![1024, 512]⟩
abbrev S1x1024x512 : Shape := ⟨3, ![1, 1024, 512]⟩
abbrev S512x1024 : Shape := ⟨2, ![512, 1024]⟩
abbrev S1x512x1024 : Shape := ⟨3, ![1, 512, 1024]⟩
abbrev S256 : Shape := ⟨1, ![256]⟩
abbrev S256x1 : Shape := ⟨2, ![256, 1]⟩

abbrev nBuf : Space → Nat
  | .hbm => 33
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x4096, .f32⟩
  | .hbm, ⟨22, _⟩ => ⟨S8192x4096, .bf16⟩
  | .hbm, ⟨23, _⟩ => ⟨S1x1024, .f32⟩
  | .hbm, ⟨24, _⟩ => ⟨S1024x8x512, .f32⟩
  | .hbm, ⟨25, _⟩ => ⟨S8x1024x512, .f32⟩
  | .hbm, ⟨26, _⟩ => ⟨S8x1024x512, .bf16⟩
  | .hbm, ⟨27, _⟩ => ⟨S8x512x1024, .f32⟩
  | .hbm, ⟨28, _⟩ => ⟨S8x512x1024, .bf16⟩
  | .hbm, ⟨29, _⟩ => ⟨S8192x4096, .bf16⟩
  | .hbm, ⟨30, _⟩ => ⟨S8192x1024, .f32⟩
  | .hbm, ⟨31, _⟩ => ⟨S8x1024, .f32⟩
  | .hbm, ⟨32, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x4096, .bf16⟩
  | .local _ .vmem, ⟨6, _⟩ => ⟨S256x4096, .bf16⟩
  | .local _ .vmem, ⟨7, _⟩ => ⟨S256x4096, .bf16⟩
  | .local _ .vmem, ⟨8, _⟩ => ⟨S256x4096, .bf16⟩
  | .local _ .vmem, ⟨9, _⟩ => ⟨S256x1024, .f32⟩
  | .local _ .vmem, ⟨10, _⟩ => ⟨S256x1024, .f32⟩
  | .local _ .vmem, ⟨11, _⟩ => ⟨S8x1024, .f32⟩
  | .local _ .vmem, ⟨12, _⟩ => ⟨S8x1024, .f32⟩
  | .local _ .vmem, ⟨13, _⟩ => ⟨S1024x4096, .bf16⟩
  | .local _ .vmem, ⟨14, _⟩ => ⟨S4096x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21_0 : Ref sig .tc := ⟨.hbm, 29, rfl⟩
abbrev main_v21_1 : Ref sig .tc := ⟨.hbm, 30, rfl⟩
abbrev main_v21_2 : Ref sig .tc := ⟨.hbm, 31, rfl⟩
abbrev main_v21_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference2Ideal.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192x4096 : Shape := ⟨2, ![8192, 4096]⟩
abbrev S1x1024 : Shape := ⟨2, ![1, 1024]⟩
abbrev S8192 : Shape := ⟨1, ![8192]⟩
abbrev S8192x1 : Shape := ⟨2, ![8192, 1]⟩
abbrev S8x1024 : Shape := ⟨2, ![8, 1024]⟩

abbrev nBuf : Space → Nat
  | .hbm => 96
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S_, .f32⟩
  | .hbm, ⟨6, _⟩ => ⟨S1024, .f32⟩
  | .hbm, ⟨7, _⟩ => ⟨S_, .f32⟩
  | .hbm, ⟨8, _⟩ => ⟨S8192x4096, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x4096, .f32⟩
  | .hbm, ⟨33, _⟩ => ⟨S8192x4096, .f32⟩
  | .hbm, ⟨34, _⟩ => ⟨S_, .f32⟩
  | .hbm, ⟨35, _⟩ => ⟨S8192x4096, .f32⟩
  | .hbm, ⟨36, _⟩ => ⟨S8192x4096, .f32⟩
  | .hbm, ⟨37, _⟩ => ⟨S_, .f32⟩
  | .hbm, ⟨38, _⟩ => ⟨S8192x4096, .f32⟩
  | .hbm, ⟨39, _⟩ => ⟨S8192x4096, .i1⟩
  | .hbm, ⟨40, _⟩ => ⟨S_, .f32⟩
  | .hbm, ⟨41, _⟩ => ⟨S8192x4096, .f32⟩
  | .hbm, ⟨42, _⟩ => ⟨S8192x4096, .f32⟩
  | .hbm, ⟨43, _⟩ => ⟨S_, .f32⟩
  | .hbm, ⟨44, _⟩ => ⟨S8192x4096, .f32⟩
  | .hbm, ⟨45, _⟩ => ⟨S8192x4096, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x4096, .f32⟩
  | .hbm, ⟨51, _⟩ => ⟨S8192x4096, .f32⟩
  | .hbm, ⟨52, _⟩ => ⟨S_, .f32⟩
  | .hbm, ⟨53, _⟩ => ⟨S8192x4096, .f32⟩
  | .hbm, ⟨54, _⟩ => ⟨S8192x4096, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S1024, .f32⟩
  | .hbm, ⟨64, _⟩ => ⟨S8192x1024, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S_, .f32⟩
  | .hbm, ⟨76, _⟩ => ⟨S8192, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S_, .f32⟩
  | .hbm, ⟨86, _⟩ => ⟨S1024, .f32⟩
  | .hbm, ⟨87, _⟩ => ⟨S8192x4096, .bf16⟩
  | .hbm, ⟨88, _⟩ => ⟨S1x1024, .f32⟩
  | .hbm, ⟨89, _⟩ => ⟨S_, .i32⟩
  | .hbm, ⟨90, _⟩ => ⟨S_, .f32⟩
  | .hbm, ⟨91, _⟩ => ⟨S8x1024, .f32⟩
  | .hbm, ⟨92, _⟩ => ⟨S1x1024, .f32⟩
  | .hbm, ⟨93, _⟩ => ⟨S_, .i32⟩
  | .hbm, ⟨94, _⟩ => ⟨S_, .f32⟩
  | .hbm, ⟨95, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_v45 : Ref sig .tc := ⟨.hbm, 64, rfl⟩
abbrev main_cst_11 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_12 : Ref sig .tc := ⟨.hbm, 72, rfl⟩
abbrev main_v52 : Ref sig .tc := ⟨.hbm, 73, rfl⟩
abbrev main_v53 : Ref sig .tc := ⟨.hbm, 74, rfl⟩
abbrev main_cst_13 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_14 : Ref sig .tc := ⟨.hbm, 82, rfl⟩
abbrev main_v60 : Ref sig .tc := ⟨.hbm, 83, rfl⟩
abbrev main_v61 : Ref sig .tc := ⟨.hbm, 84, rfl⟩
abbrev main_cst_15 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c : Ref sig .tc := ⟨.hbm, 89, rfl⟩
abbrev main_call1_v0 : Ref sig .tc := ⟨.hbm, 90, rfl⟩
abbrev main_v65 : Ref sig .tc := ⟨.hbm, 91, rfl⟩
abbrev main_v66 : Ref sig .tc := ⟨.hbm, 92, rfl⟩
abbrev main_c_16 : Ref sig .tc := ⟨.hbm, 93, rfl⟩
abbrev main_call2_v0 : Ref sig .tc := ⟨.hbm, 94, rfl⟩
abbrev main_v67 : Ref sig .tc := ⟨.hbm, 95, rfl⟩

abbrev nD : Nat := 1
abbrev τ : Topo := Topo.v7x

variable {F : FTy → Type} [FloatOps F]
-- ==== Kernel3.lean ====
abbrev S8192x1024 : Shape := ⟨2, ![8192, 1024]⟩
abbrev S1024 : Shape := ⟨1, ![1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S4096x1024 : Shape := ⟨2, ![4096, 1024]⟩
abbrev S1024x512 : Shape := ⟨2, ![1024, 512]⟩
abbrev S4096x512 : Shape := ⟨2, ![4096, 512]⟩

abbrev nBuf : Space → Nat
  | .hbm => 27
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x4096, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S8192x4096, .bf16⟩
  | .hbm, ⟨26, _⟩ => ⟨S4096x1024, .bf16⟩
  | .local _ .vmem, ⟨0, _⟩ => ⟨S1024x4096, .bf16⟩
  | .local _ .vmem, ⟨1, _⟩ => ⟨S1024x4096, .bf16⟩
  | .local _ .vmem, ⟨2, _⟩ => ⟨S1024x512, .f32⟩
  | .local _ .vmem, ⟨3, _⟩ => ⟨S1024x512, .f32⟩
  | .local _ .vmem, ⟨4, _⟩ => ⟨S4096x512, .bf16⟩
  | .local _ .vmem, ⟨5, _⟩ => ⟨S4096x512, .bf16⟩
  | .local _ .vmem, ⟨6, _⟩ => ⟨S4096x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8192x1024 : Shape := ⟨2, ![8192, 1024]⟩
abbrev S1024 : Shape := ⟨1, ![1024]⟩
abbrev S1024x4096 : Shape := ⟨2, ![1024, 4096]⟩
abbrev S_ : Shape := ⟨0, ![]⟩
abbrev S4096x1024 : Shape := ⟨2, ![4096, 1024]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x4096, .f32⟩
  | .hbm, ⟨4, _⟩ => ⟨S_, .f32⟩
  | .hbm, ⟨5, _⟩ => ⟨S4096x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x4096, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S8192x1024, .f32⟩
  | .hbm, ⟨28, _⟩ => ⟨S8192x1024, .f32⟩
  | .hbm, ⟨29, _⟩ => ⟨S1024x4096, .f32⟩
  | .hbm, ⟨30, _⟩ => ⟨S4096x1024, .f32⟩
  | .hbm, ⟨31, _⟩ => ⟨S4096x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Kernel4.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S8x1024x512 : Shape := ⟨3, ![8, 1024, 512]⟩
abbrev S2048x1024 : Shape := ⟨2, ![2048, 1024]⟩
abbrev S2048x2048 : Shape := ⟨2, ![2048, 2048]⟩
abbrev S4x1024x512 : Shape := ⟨3, ![4, 1024, 512]⟩
abbrev S1024x2048 : Shape := ⟨2, ![1024, 2048]⟩
abbrev S1x1024x512 : Shape := ⟨3, ![1, 1024, 512]⟩
abbrev S1024x512 : Shape := ⟨2, ![1024, 512]⟩
abbrev S2048x512 : Shape := ⟨2, ![2048, 512]⟩

abbrev nBuf : Space → Nat
  | .hbm => 34
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S1024x4096, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S8192x4096, .f32⟩
  | .hbm, ⟨26, _⟩ => ⟨S8192x4096, .f32⟩
  | .hbm, ⟨27, _⟩ => ⟨S_, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S8192x4096, .bf16⟩
  | .hbm, ⟨32, _⟩ => ⟨S8192x1024, .bf16⟩
  | .hbm, ⟨33, _⟩ => ⟨S8x1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S4x1024x512, .bf16⟩
  | .local _ .vmem, ⟨5, _⟩ => ⟨S4x1024x512, .bf16⟩
  | .local _ .vmem, ⟨6, _⟩ => ⟨S4x1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v42 : BitVec 1 := Scalar.cmpi .eq arg1 c3_i32
  let v43 : BitVec 32 := Scalar.extui v42
  let c0_i32_31 : BitVec 32 := 0#32
  let v44 : BitVec 1 := Scalar.cmpi .ne v43 c0_i32_31
  v44

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S1024x8x512 : Shape := ⟨3, ![1024, 8, 512]⟩
abbrev S8x1024x512 : Shape := ⟨3, ![8, 1024, 512]⟩

abbrev nBuf : Space → Nat
  | .hbm => 46
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S_, .f32⟩
  | .hbm, ⟨26, _⟩ => ⟨S8192x4096, .f32⟩
  | .hbm, ⟨27, _⟩ => ⟨S8192x4096, .i1⟩
  | .hbm, ⟨28, _⟩ => ⟨S_, .f32⟩
  | .hbm, ⟨29, _⟩ => ⟨S8192x4096, .f32⟩
  | .hbm, ⟨30, _⟩ => ⟨S8192x4096, .f32⟩
  | .hbm, ⟨31, _⟩ => ⟨S_, .f32⟩
  | .hbm, ⟨32, _⟩ => ⟨S8192x4096, .f32⟩
  | .hbm, ⟨33, _⟩ => ⟨S8192x4096, .f32⟩
  | .hbm, ⟨34, _⟩ => ⟨S8192x1024, .f32⟩
  | .hbm, ⟨35, _⟩ => ⟨S8192x1024, .f32⟩
  | .hbm, ⟨36, _⟩ => ⟨S8192x4096, .f32⟩
  | .hbm, ⟨37, _⟩ => ⟨S8192x4096, .f32⟩
  | .hbm, ⟨38, _⟩ => ⟨S_, .f32⟩
  | .hbm, ⟨39, _⟩ => ⟨S8192x4096, .f32⟩
  | .hbm, ⟨40, _⟩ => ⟨S8192x4096, .f32⟩
  | .hbm, ⟨41, _⟩ => ⟨S4096x1024, .f32⟩
  | .hbm, ⟨42, _⟩ => ⟨S1024x4096, .f32⟩
  | .hbm, ⟨43, _⟩ => ⟨S1024x4096, .bf16⟩
  | .hbm, ⟨44, _⟩ => ⟨S1024x8x512, .bf16⟩
  | .hbm, ⟨45, _⟩ => ⟨S8x1024x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== Kernel5.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x8x512 : Shape := ⟨3, ![1024, 8, 512]⟩
abbrev S8x1024x512 : Shape := ⟨3, ![8, 1024, 512]⟩
abbrev S8x512x1024 : Shape := ⟨3, ![8, 512, 1024]⟩
abbrev S8192x4096 : Shape := ⟨2, ![8192, 4096]⟩
abbrev S256x1024 : Shape := ⟨2, ![256, 1024]⟩
abbrev S256x4096 : Shape := ⟨2, ![256, 4096]⟩
abbrev S8 : Shape := ⟨1, ![8]⟩
abbrev S1 : Shape := ⟨1, ![1]⟩
abbrev S_ : Shape := ⟨0, ![]⟩
abbrev S1024x512 : Shape := ⟨2, ![1024, 512]⟩
abbrev S1x1024x512 : Shape := ⟨3, ![1, 1024, 512]⟩
abbrev S512x1024 : Shape := ⟨2, ![512, 1024]⟩
abbrev S1x512x1024 : Shape := ⟨3, ![1, 512, 1024]⟩
abbrev S256 : Shape := ⟨1, ![256]⟩
abbrev S256x1 : Shape := ⟨2, ![256, 1]⟩

abbrev nBuf : Space → Nat
  | .hbm => 14
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S1024x8x512, .f32⟩
  | .hbm, ⟨6, _⟩ => ⟨S8x1024x512, .f32⟩
  | .hbm, ⟨7, _⟩ => ⟨S8x1024x512, .bf16⟩
  | .hbm, ⟨8, _⟩ => ⟨S8x512x1024, .f32⟩
  | .hbm, ⟨9, _⟩ => ⟨S8x512x1024, .bf16⟩
  | .hbm, ⟨10, _⟩ => ⟨S8192x1024, .bf16⟩
  | .hbm, ⟨11, _⟩ => ⟨S8192x4096, .bf16⟩
  | .hbm, ⟨12, _⟩ => ⟨S8192x4096, .bf16⟩
  | .hbm, ⟨13, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | .local _ .vmem, ⟨5, _⟩ => ⟨S256x4096, .bf16⟩
  | .local _ .vmem, ⟨6, _⟩ => ⟨S256x4096, .bf16⟩
  | .local _ .vmem, ⟨7, _⟩ => ⟨S256x4096, .bf16⟩
  | .local _ .vmem, ⟨8, _⟩ => ⟨S256x4096, .bf16⟩
  | .local _ .vmem, ⟨9, _⟩ => ⟨S256x1024, .f32⟩
  | .local _ .vmem, ⟨10, _⟩ => ⟨S256x1024, .f32⟩
  | .local _ .vmem, ⟨11, _⟩ => ⟨S1024x4096, .bf16⟩
  | .local _ .vmem, ⟨12, _⟩ => ⟨S4096x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S8192x1024, .bf16⟩
  | .hbm, ⟨26, _⟩ => ⟨S8192x4096, .bf16⟩
  | .hbm, ⟨27, _⟩ => ⟨S8192x4096, .bf16⟩
  | .hbm, ⟨28, _⟩ => ⟨S8192x1024, .f32⟩
  | .hbm, ⟨29, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel6.lean ====
abbrev S8192x3072 : Shape := ⟨2, ![8192, 3072]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x3072 : Shape := ⟨2, ![1024, 3072]⟩
abbrev S2048x1024 : Shape := ⟨2, ![2048, 1024]⟩
abbrev S2048x1536 : Shape := ⟨2, ![2048, 1536]⟩
abbrev S1024x1536 : Shape := ⟨2, ![1024, 1536]⟩

abbrev nBuf : Space → Nat
  | .hbm => 21
  | .vmem => 6
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S1024x3072, .f32⟩
  | .local _ .vmem, ⟨0, _⟩ => ⟨S2048x1024, .bf16⟩
  | .local _ .vmem, ⟨1, _⟩ => ⟨S2048x1024, .bf16⟩
  | .local _ .vmem, ⟨2, _⟩ => ⟨S2048x1536, .f32⟩
  | .local _ .vmem, ⟨3, _⟩ => ⟨S2048x1536, .f32⟩
  | .local _ .vmem, ⟨4, _⟩ => ⟨S1024x1536, .f32⟩
  | .local _ .vmem, ⟨5, _⟩ => ⟨S1024x1536, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S8192x3072 : Shape := ⟨2, ![8192, 3072]⟩
abbrev S8192x1024 : Shape := ⟨2, ![8192, 1024]⟩
abbrev S1024 : Shape := ⟨1, ![1024]⟩
abbrev S_ : Shape := ⟨0, ![]⟩
abbrev S1024x3072 : Shape := ⟨2, ![1024, 3072]⟩
abbrev S8192 : Shape := ⟨1, ![8192]⟩
abbrev S8192x1 : Shape := ⟨2, ![8192, 1]⟩
abbrev S1x1024 : Shape := ⟨2, ![1, 1024]⟩
abbrev S3072x1024 : Shape := ⟨2, ![3072, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S1024, .f32⟩
  | .hbm, ⟨3, _⟩ => ⟨S_, .f32⟩
  | .hbm, ⟨4, _⟩ => ⟨S1024x3072, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x3072, .f32⟩
  | .hbm, ⟨22, _⟩ => ⟨S3072x1024, .f32⟩
  | .hbm, ⟨23, _⟩ => ⟨S1024x3072, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel7.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference7Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x1024 : Shape := ⟨2, ![1024, 1024]⟩
abbrev S2048x1024 : Shape := ⟨2, ![2048, 1024]⟩

abbrev nBuf : Space → Nat
  | .hbm => 21
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference8Ideal.lean ====
abbrev S8192x1024 : Shape := ⟨2, ![8192, 1024]⟩
abbrev S1024 : Shape := ⟨1, ![1024]⟩
abbrev S_ : Shape := ⟨0, ![]⟩
abbrev S1024x1024 : Shape := ⟨2, ![1024, 1024]⟩
abbrev S8192 : Shape := ⟨1, ![8192]⟩
abbrev S8192x1 : Shape := ⟨2, ![8192, 1]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S1024x1024, .f32⟩
  | .hbm, ⟨23, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel9.lean ====
abbrev S8192x3072 : Shape := ⟨2, ![8192, 3072]⟩
abbrev S8192x1024 : Shape := ⟨2, ![8192, 1024]⟩
abbrev S8192x128 : Shape := ⟨2, ![8192, 128]⟩
abbrev S1024 : Shape := ⟨1, ![1024]⟩
abbrev S1024x4112 : Shape := ⟨2, ![1024, 4112]⟩
abbrev S1024x16 : Shape := ⟨2, ![1024, 16]⟩
abbrev S_ : Shape := ⟨0, ![]⟩
abbrev S1024x128 : Shape := ⟨2, ![1024, 128]⟩
abbrev S1x1024 : Shape := ⟨2, ![1, 1024]⟩
abbrev S8x1024 : Shape := ⟨2, ![8, 1024]⟩
abbrev S512x3072 : Shape := ⟨2, ![512, 3072]⟩
abbrev S1024x3072 : Shape := ⟨2, ![1024, 3072]⟩
abbrev S512x1024 : Shape := ⟨2, ![512, 1024]⟩
abbrev S1024x1024 : Shape := ⟨2, ![1024, 1024]⟩
abbrev S512x128 : Shape := ⟨2, ![512, 128]⟩
abbrev S512 : Shape := ⟨1, ![512]⟩
abbrev S512x1 : Shape := ⟨2, ![512, 1]⟩

abbrev nBuf : Space → Nat
  | .hbm => 15
  | .vmem => 17
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S8192x128, .f32⟩
  | .hbm, ⟨3, _⟩ => ⟨S8192x1024, .f32⟩
  | .hbm, ⟨4, _⟩ => ⟨S8192x1024, .f32⟩
  | .hbm, ⟨5, _⟩ => ⟨S1024, .f32⟩
  | .hbm, ⟨6, _⟩ => ⟨S1024x4112, .f32⟩
  | .hbm, ⟨7, _⟩ => ⟨S1024x4112, .bf16⟩
  | .hbm, ⟨8, _⟩ => ⟨S1024x16, .bf16⟩
  | .hbm, ⟨9, _⟩ => ⟨S_, .i32⟩
  | .hbm, ⟨10, _⟩ => ⟨S_, .bf16⟩
  | .hbm, ⟨11, _⟩ => ⟨S1024x128, .bf16⟩
  | .hbm, ⟨12, _⟩ => ⟨S1x1024, .f32⟩
  | .hbm, ⟨13, _⟩ => ⟨S8192x1024, .f32⟩
  | .hbm, ⟨14, _⟩ => ⟨S8x1024, .f32⟩
  | .local _ .vmem, ⟨0, _⟩ => ⟨S512x3072, .f32⟩
  | .local _ .vmem, ⟨1, _⟩ => ⟨S512x3072, .f32⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S1024x1024, .bf16⟩
  | .local _ .vmem, ⟨6, _⟩ => ⟨S512x128, .f32⟩
  | .local _ .vmem, ⟨7, _⟩ => ⟨S512x128, .f32⟩
  | .local _ .vmem, ⟨8, _⟩ => ⟨S1024x128, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S8x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference9Ideal.lean ====
abbrev S8192x3072 : Shape := ⟨2, ![8192, 3072]⟩
abbrev S8192x1024 : Shape := ⟨2, ![8192, 1024]⟩
abbrev S8192x128 : Shape := ⟨2, ![8192, 128]⟩
abbrev S1024 : Shape := ⟨1, ![1024]⟩
abbrev S1024x4112 : Shape := ⟨2, ![1024, 4112]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x3072 : Shape := ⟨2, ![1024, 3072]⟩
abbrev S1024x1024 : Shape := ⟨2, ![1024, 1024]⟩
abbrev S1024x16 : Shape := ⟨2, ![1024, 16]⟩
abbrev S8192x16 : Shape := ⟨2, ![8192, 16]⟩
abbrev S8x1024 : Shape := ⟨2, ![8, 1024]⟩

abbrev nBuf : Space → Nat
  | .hbm => 69
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S8192x128, .f32⟩
  | .hbm, ⟨3, _⟩ => ⟨S8192x1024, .f32⟩
  | .hbm, ⟨4, _⟩ => ⟨S8192x1024, .f32⟩
  | .hbm, ⟨5, _⟩ => ⟨S1024, .f32⟩
  | .hbm, ⟨6, _⟩ => ⟨S1024x4112, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S1024x3072, .f32⟩
  | .hbm, ⟨28, _⟩ => ⟨S8192x3072, .f32⟩
  | .hbm, ⟨29, _⟩ => ⟨S1024x1024, .f32⟩
  | .hbm, ⟨30, _⟩ => ⟨S8192x1024, .f32⟩
  | .hbm, ⟨31, _⟩ => ⟨S1024x16, .f32⟩
  | .hbm, ⟨32, _⟩ => ⟨S8192x16, .f32⟩
  | .hbm, ⟨33, _⟩ => ⟨S8192x16, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S8192x1024, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S_, .f32⟩
  | .hbm, ⟨59, _⟩ => ⟨S8192, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S1x1024, .f32⟩
  | .hbm, ⟨66, _⟩ => ⟨S_, .i32⟩
  | .hbm, ⟨67, _⟩ => ⟨S_, .f32⟩
  | .hbm, ⟨68, _⟩ => ⟨S8x1024, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_c : Ref sig .tc := ⟨.hbm, 66, rfl⟩
abbrev main_call0_v0 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== Proof.MlpBackFirst.lean ====
module

public import proofs.«01_k».proof.Proof.Gen.Kernel2Ideal.Frame.Runs

@[expose] public section

-- membership in a rectangle of production extents (`View.cover_of_tiled`): the elaborator's structural look
-- recurses once per coordinate of the long axes
set_option maxRecDepth 16384

/-! # The first grid point of the perceptron's backward pass

The run of the body where the weights are copied into the scratch. Several copies into parts of one scratch are under way at once. -/

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 taken, `scf.if` 2 taken: points 0), WITH the
    proof that on whole staging memrefs — the inputs' at their contents, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x4096 .bf16) (harg4 : arg4.IsWhole) (arg7 : Memref sig .tc .vmem S256x4096 .bf16) (harg7 : arg7.IsWhole) (arg8 : Memref sig .tc .vmem S256x1024 .f32) (harg8 : arg8.IsWhole) (arg9 : Memref sig .tc .vmem S8x1024 .f32) (harg9 : arg9.IsWhole) (arg10 : Memref sig .tc .vmem S8x1024 .f32) (harg10 : arg10.IsWhole) (arg11 : Memref sig .tc .vmem S1024x4096 .bf16) (harg11 : arg11.IsWhole) (arg12 : Memref sig .tc .vmem S4096x1024 .bf16) (harg12 : arg12.IsWhole) (hc0 : cond0_0 i) (hc1 : cond0_1 i) (hc2 : cond0_2 i)
    (x0 : Vec F S256x1024 .f32) (x1 : Vec F S256x1024 .f32) (x2 : Vec F S1x1024 .f32) (x3 : Vec F S256x4096 .bf16) (fh0 : HbBuf0 (F := F) c hbM0_0) (fh1 : HbBuf0 (F := F) c hbM0_1) :
    Σ' (L4 : List (View.Piece (Elt F) S256x4096 .bf16)), Σ' (L5 : List (View.Piece (Elt F) S256x1024 .f32)), Σ' (L6 : List (View.Piece (Elt F) S8x1024 .f32)), Σ' (L7 : List (View.Piece (Elt F) S8x1024 .f32)), Σ' (LS0 : List (View.Piece (Elt F) S1024x4096 .bf16)), { LS1 : List (View.Piece (Elt F) S4096x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_mlp_bwd0 i arg1 harg1 arg2 harg2 arg3 harg3 arg4 harg4 (Memref.whole main_v18) (Memref.isWhole_whole _) (Memref.whole main_v20) (Memref.isWhole_whole _) arg7 harg7 arg8 harg8 arg9 harg9 arg10 harg10 arg11 harg11 arg12 harg12 cc0_scratch2 cc0_scratch3) K } := by
  refine ⟨?_, ?_, ?_, ?_, ?_, ?_, fun W K => ?run⟩
  case run =>
    simp only [cc0_mlp_bwd0_eq_skeleton]; unfold cc0_mlp_bwd0_skel
    simp only [k0_part7_eq_skeleton, k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, Hq0, Hq1, Hq2, Hq3, Hq4, Hq5, Hq6, Hq7, Hq8, Hq9, Hq10, Hq11, Hq12, Hq13, Hq14, Hq15, Hh0, Hh1, HW, Hk⟩
    obtain rfl := harg1.eq_unread hf0; obtain rfl := harg2.eq_unread hf1; obtain rfl := harg3.eq_unread hf2; obtain rfl := harg4.eq_unread hf3
    set_option sl_exec.dmaWindow true in set_option sl_exec.dmaWindowSet true in
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [HS0]; · iexists _; iexact HS0
    isplitl [HS1]; · iexists _; iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hh0]; · iexact Hh0
    isplitl [Hh1]; · iexact Hh1
    iexists _; iexact HW

end Cert.Kernel2Ideal.Gen

end
-- ==== Proof.MlpBackLater.lean ====
module

public import proofs.«01_k».proof.Proof.MlpBackFirst

@[expose] public section

-- membership in a rectangle of production extents (`View.cover_of_tiled`): the elaborator's structural look
-- recurses once per coordinate of the long axes
set_option maxRecDepth 16384

/-! # A later grid point of the perceptron's backward pass

The run of the body where the scratch holds the weights already. -/

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken, `scf.if` 2 not taken: points 1, 2, … 31: 31 of 32), WITH the
    proof that on whole staging memrefs — the inputs' at their contents, the outputs it reads before covering (6, 7) at their running contents `xo·`, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x4096 .bf16) (harg4 : arg4.IsWhole) (arg7 : Memref sig .tc .vmem S256x4096 .bf16) (harg7 : arg7.IsWhole) (arg8 : Memref sig .tc .vmem S256x1024 .f32) (harg8 : arg8.IsWhole) (arg9 : Memref sig .tc .vmem S8x1024 .f32) (harg9 : arg9.IsWhole) (arg10 : Memref sig .tc .vmem S8x1024 .f32) (harg10 : arg10.IsWhole) (arg11 : Memref sig .tc .vmem S1024x4096 .bf16) (harg11 : arg11.IsWhole) (arg12 : Memref sig .tc .vmem S4096x1024 .bf16) (harg12 : arg12.IsWhole) (hc0 : ¬cond0_0 i) (hc1 : ¬cond0_1 i) (hc2 : ¬cond0_2 i)
    (x0 : Vec F S256x1024 .f32) (x1 : Vec F S256x1024 .f32) (x2 : Vec F S1x1024 .f32) (x3 : Vec F S256x4096 .bf16) (xo6 : Vec F S8x1024 .f32) (xo7 : Vec F S8x1024 .f32) (xs0 : Vec F S1024x4096 .bf16) (xs1 : Vec F S4096x1024 .bf16) (fh0 : HbBuf0 (F := F) c hbM0_0) (fh1 : HbBuf0 (F := F) c hbM0_1) :
    Σ' (L4 : List (View.Piece (Elt F) S256x4096 .bf16)), Σ' (L5 : List (View.Piece (Elt F) S256x1024 .f32)), Σ' (L6 : List (View.Piece (Elt F) S8x1024 .f32)), Σ' (L7 : List (View.Piece (Elt F) S8x1024 .f32)), Σ' (LS0 : List (View.Piece (Elt F) S1024x4096 .bf16)), { LS1 : List (View.Piece (Elt F) S4096x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg7 fullShare d) ∗ (∃ d, owns (c : Thread nD τ) arg8 fullShare d) ∗ owns (c : Thread nD τ) arg9 fullShare xo6 ∗ owns (c : Thread nD τ) arg10 fullShare xo7 ∗ owns (c : Thread nD τ) arg11 fullShare xs0 ∗ owns (c : Thread nD τ) arg12 fullShare xs1 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (arg9.view.loc (c : Thread nD τ) ↦[arg9.view.set]{fullShare} arg9.view.writes (Elt F) (harg9.unread xo6) L6) ∗ (arg10.view.loc (c : Thread nD τ) ↦[arg10.view.set]{fullShare} arg10.view.writes (Elt F) (harg10.unread xo7) L7) ∗ owns (c : Thread nD τ) arg11 fullShare xs0 ∗ owns (c : Thread nD τ) arg12 fullShare xs1 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_mlp_bwd0 i arg1 harg1 arg2 harg2 arg3 harg3 arg4 harg4 (Memref.whole main_v18) (Memref.isWhole_whole _) (Memref.whole main_v20) (Memref.isWhole_whole _) arg7 harg7 arg8 harg8 arg9 harg9 arg10 harg10 arg11 harg11 arg12 harg12 cc0_scratch2 cc0_scratch3) K } := by
  refine ⟨?_, ?_, ?_, ?_, [], [], fun W K => ?run⟩
  case run =>
    simp only [cc0_mlp_bwd0_eq_skeleton]; unfold cc0_mlp_bwd0_skel
    simp only [k0_part7_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, ⟨%fs0, %hfs0, HS0⟩, ⟨%fs1, %hfs1, HS1⟩, Hq0, Hq1, Hq2, Hq3, Hq4, Hq5, Hq6, Hq7, Hq8, Hq9, Hq10, Hq11, Hq12, Hq13, Hq14, Hq15, Hh0, Hh1, HW, Hk⟩
    obtain rfl := harg1.eq_unread hf0; obtain rfl := harg2.eq_unread hf1; obtain rfl := harg3.eq_unread hf2; obtain rfl := harg4.eq_unread hf3; obtain rfl := harg9.eq_unread hf6; obtain rfl := harg10.eq_unread hf7; obtain rfl := harg11.eq_unread hfs0; obtain rfl := harg12.eq_unread hfs1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexact H6
    isplitl [H7]; · iexact H7
    isplitl [HS0]
    · iexists _; isplitr; · ipureintro; exact harg11.read_unread _
      iexact HS0
    isplitl [HS1]
    · iexists _; isplitr; · ipureintro; exact harg12.read_unread _
      iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hh0]; · iexact Hh0
    isplitl [Hh1]; · iexact Hh1
    iexists _; iexact HW

end Cert.Kernel2Ideal.Gen

end
-- ==== Proof.MlpBackFrame.lean ====
module

public import proofs.«01_k».proof.Proof.MlpBackLater
public import Idealize.ShloMosaic.Lib.Claim

@[expose] public section

-- membership in a rectangle of production extents (`View.cover_of_tiled`): the elaborator's structural look
-- recurses once per coordinate of the long axes
set_option maxRecDepth 16384

/-! # The run of the perceptron's backward pass

What the outputs and the scratch hold after each grid point, and that the program leaves its arguments. -/

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- Case A's pieces for output 4 tile its block (1 store of `S256x4096`, checked by the kernel's evaluation: Lib/Ring.lean `Piece.tiledL`, linear in the pieces, through a loop's `@[irreducible]` trip theorem too), so they cover it. -/
theorem cover0_A_4 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x4096 .bf16) (harg4 : arg4.IsWhole) (arg7 : Memref sig .tc .vmem S256x4096 .bf16) (harg7 : arg7.IsWhole) (arg8 : Memref sig .tc .vmem S256x1024 .f32) (harg8 : arg8.IsWhole) (arg9 : Memref sig .tc .vmem S8x1024 .f32) (harg9 : arg9.IsWhole) (arg10 : Memref sig .tc .vmem S8x1024 .f32) (harg10 : arg10.IsWhole) (arg11 : Memref sig .tc .vmem S1024x4096 .bf16) (harg11 : arg11.IsWhole) (arg12 : Memref sig .tc .vmem S4096x1024 .bf16) (harg12 : arg12.IsWhole) (hc0 : cond0_0 i) (hc1 : cond0_1 i) (hc2 : cond0_2 i)
    (x0 : Vec F S256x1024 .f32) (x1 : Vec F S256x1024 .f32) (x2 : Vec F S1x1024 .f32) (x3 : Vec F S256x4096 .bf16) (fh0 : HbBuf0 (F := F) c hbM0_0) (fh1 : HbBuf0 (F := F) c hbM0_1) (y : S256x4096.Idx) :
    ∃ pc ∈ (kernelRun0_A c i arg1 harg1 arg2 harg2 arg3 harg3 arg4 harg4 arg7 harg7 arg8 harg8 arg9 harg9 arg10 harg10 arg11 harg11 arg12 harg12 hc0 hc1 hc2 x0 x1 x2 x3 fh0 fh1).1, y ∈ pc.1.set :=
  View.cover_of_tiledL (kernelRun0_A c i arg1 harg1 arg2 harg2 arg3 harg3 arg4 harg4 arg7 harg7 arg8 harg8 arg9 harg9 arg10 harg10 arg11 harg11 arg12 harg12 hc0 hc1 hc2 x0 x1 x2 x3 fh0 fh1).1 S256x4096.size (by sl_kernel_rfl) y

/-- What case A leaves in output 4's staging buffer: its pieces read back over junk. -/
def out0_A_4 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x4096 .bf16) (harg4 : arg4.IsWhole) (arg7 : Memref sig .tc .vmem S256x4096 .bf16) (harg7 : arg7.IsWhole) (arg8 : Memref sig .tc .vmem S256x1024 .f32) (harg8 : arg8.IsWhole) (arg9 : Memref sig .tc .vmem S8x1024 .f32) (harg9 : arg9.IsWhole) (arg10 : Memref sig .tc .vmem S8x1024 .f32) (harg10 : arg10.IsWhole) (arg11 : Memref sig .tc .vmem S1024x4096 .bf16) (harg11 : arg11.IsWhole) (arg12 : Memref sig .tc .vmem S4096x1024 .bf16) (harg12 : arg12.IsWhole) (hc0 : cond0_0 i) (hc1 : cond0_1 i) (hc2 : cond0_2 i)
    (x0 : Vec F S256x1024 .f32) (x1 : Vec F S256x1024 .f32) (x2 : Vec F S1x1024 .f32) (x3 : Vec F S256x4096 .bf16) (fh0 : HbBuf0 (F := F) c hbM0_0) (fh1 : HbBuf0 (F := F) c hbM0_1) : Vec F S256x4096 .bf16 :=
  VO0_4.read (Elt F) (VO0_4.writes (Elt F) VO0_4.junk (kernelRun0_A c i arg1 harg1 arg2 harg2 arg3 harg3 arg4 harg4 arg7 harg7 arg8 harg8 arg9 harg9 arg10 harg10 arg11 harg11 arg12 harg12 hc0 hc1 hc2 x0 x1 x2 x3 fh0 fh1).1)

/-- Case A's pieces for output 5 tile its block (1 store of `S256x1024`, checked by the kernel's evaluation: Lib/Ring.lean `Piece.tiledL`, linear in the pieces, through a loop's `@[irreducible]` trip theorem too), so they cover it. -/
theorem cover0_A_5 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x4096 .bf16) (harg4 : arg4.IsWhole) (arg7 : Memref sig .tc .vmem S256x4096 .bf16) (harg7 : arg7.IsWhole) (arg8 : Memref sig .tc .vmem S256x1024 .f32) (harg8 : arg8.IsWhole) (arg9 : Memref sig .tc .vmem S8x1024 .f32) (harg9 : arg9.IsWhole) (arg10 : Memref sig .tc .vmem S8x1024 .f32) (harg10 : arg10.IsWhole) (arg11 : Memref sig .tc .vmem S1024x4096 .bf16) (harg11 : arg11.IsWhole) (arg12 : Memref sig .tc .vmem S4096x1024 .bf16) (harg12 : arg12.IsWhole) (hc0 : cond0_0 i) (hc1 : cond0_1 i) (hc2 : cond0_2 i)
    (x0 : Vec F S256x1024 .f32) (x1 : Vec F S256x1024 .f32) (x2 : Vec F S1x1024 .f32) (x3 : Vec F S256x4096 .bf16) (fh0 : HbBuf0 (F := F) c hbM0_0) (fh1 : HbBuf0 (F := F) c hbM0_1) (y : S256x1024.Idx) :
    ∃ pc ∈ (kernelRun0_A c i arg1 harg1 arg2 harg2 arg3 harg3 arg4 harg4 arg7 harg7 arg8 harg8 arg9 harg9 arg10 harg10 arg11 harg11 arg12 harg12 hc0 hc1 hc2 x0 x1 x2 x3 fh0 fh1).2.1, y ∈ pc.1.set :=
  View.cover_of_tiledL (kernelRun0_A c i arg1 harg1 arg2 harg2 arg3 harg3 arg4 harg4 arg7 harg7 arg8 harg8 arg9 harg9 arg10 harg10 arg11 harg11 arg12 harg12 hc0 hc1 hc2 x0 x1 x2 x3 fh0 fh1).2.1 S256x1024.size (by sl_kernel_rfl) y

/-- What case A leaves in output 5's staging buffer: its pieces read back over junk. -/
def out0_A_5 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x4096 .bf16) (harg4 : arg4.IsWhole) (arg7 : Memref sig .tc .vmem S256x4096 .bf16) (harg7 : arg7.IsWhole) (arg8 : Memref sig .tc .vmem S256x1024 .f32) (harg8 : arg8.IsWhole) (arg9 : Memref sig .tc .vmem S8x1024 .f32) (harg9 : arg9.IsWhole) (arg10 : Memref sig .tc .vmem S8x1024 .f32) (harg10 : arg10.IsWhole) (arg11 : Memref sig .tc .vmem S1024x4096 .bf16) (harg11 : arg11.IsWhole) (arg12 : Memref sig .tc .vmem S4096x1024 .bf16) (harg12 : arg12.IsWhole) (hc0 : cond0_0 i) (hc1 : cond0_1 i) (hc2 : cond0_2 i)
    (x0 : Vec F S256x1024 .f32) (x1 : Vec F S256x1024 .f32) (x2 : Vec F S1x1024 .f32) (x3 : Vec F S256x4096 .bf16) (fh0 : HbBuf0 (F := F) c hbM0_0) (fh1 : HbBuf0 (F := F) c hbM0_1) : Vec F S256x1024 .f32 :=
  VO0_5.read (Elt F) (VO0_5.writes (Elt F) VO0_5.junk (kernelRun0_A c i arg1 harg1 arg2 harg2 arg3 harg3 arg4 harg4 arg7 harg7 arg8 harg8 arg9 harg9 arg10 harg10 arg11 harg11 arg12 harg12 hc0 hc1 hc2 x0 x1 x2 x3 fh0 fh1).2.1)

/-- Case A's pieces for output 6 are of SEVERAL sizes (2 stores of `S1x1024`, `S8x1024`): cut into blocks of `![1, 1024]` they tile its block (checked by the kernel's evaluation: Lib/Ring.lean `Piece.tiledBy`), so they cover it. -/
theorem cover0_A_6 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x4096 .bf16) (harg4 : arg4.IsWhole) (arg7 : Memref sig .tc .vmem S256x4096 .bf16) (harg7 : arg7.IsWhole) (arg8 : Memref sig .tc .vmem S256x1024 .f32) (harg8 : arg8.IsWhole) (arg9 : Memref sig .tc .vmem S8x1024 .f32) (harg9 : arg9.IsWhole) (arg10 : Memref sig .tc .vmem S8x1024 .f32) (harg10 : arg10.IsWhole) (arg11 : Memref sig .tc .vmem S1024x4096 .bf16) (harg11 : arg11.IsWhole) (arg12 : Memref sig .tc .vmem S4096x1024 .bf16) (harg12 : arg12.IsWhole) (hc0 : cond0_0 i) (hc1 : cond0_1 i) (hc2 : cond0_2 i)
    (x0 : Vec F S256x1024 .f32) (x1 : Vec F S256x1024 .f32) (x2 : Vec F S1x1024 .f32) (x3 : Vec F S256x4096 .bf16) (fh0 : HbBuf0 (F := F) c hbM0_0) (fh1 : HbBuf0 (F := F) c hbM0_1) (y : S8x1024.Idx) :
    ∃ pc ∈ (kernelRun0_A c i arg1 harg1 arg2 harg2 arg3 harg3 arg4 harg4 arg7 harg7 arg8 harg8 arg9 harg9 arg10 harg10 arg11 harg11 arg12 harg12 hc0 hc1 hc2 x0 x1 x2 x3 fh0 fh1).2.2.1, y ∈ pc.1.set :=
  View.cover_of_tiledBy (kernelRun0_A c i arg1 harg1 arg2 harg2 arg3 harg3 arg4 harg4 arg7 harg7 arg8 harg8 arg9 harg9 arg10 harg10 arg11 harg11 arg12 harg12 hc0 hc1 hc2 x0 x1 x2 x3 fh0 fh1).2.2.1 ![1, 1024] (by sl_kernel_rfl) y

/-- What case A leaves in output 6's staging buffer: its pieces read back over junk. -/
def out0_A_6 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x4096 .bf16) (harg4 : arg4.IsWhole) (arg7 : Memref sig .tc .vmem S256x4096 .bf16) (harg7 : arg7.IsWhole) (arg8 : Memref sig .tc .vmem S256x1024 .f32) (harg8 : arg8.IsWhole) (arg9 : Memref sig .tc .vmem S8x1024 .f32) (harg9 : arg9.IsWhole) (arg10 : Memref sig .tc .vmem S8x1024 .f32) (harg10 : arg10.IsWhole) (arg11 : Memref sig .tc .vmem S1024x4096 .bf16) (harg11 : arg11.IsWhole) (arg12 : Memref sig .tc .vmem S4096x1024 .bf16) (harg12 : arg12.IsWhole) (hc0 : cond0_0 i) (hc1 : cond0_1 i) (hc2 : cond0_2 i)
    (x0 : Vec F S256x1024 .f32) (x1 : Vec F S256x1024 .f32) (x2 : Vec F S1x1024 .f32) (x3 : Vec F S256x4096 .bf16) (fh0 : HbBuf0 (F := F) c hbM0_0) (fh1 : HbBuf0 (F := F) c hbM0_1) : Vec F S8x1024 .f32 :=
  VO0_6.read (Elt F) (VO0_6.writes (Elt F) VO0_6.junk (kernelRun0_A c i arg1 harg1 arg2 harg2 arg3 harg3 arg4 harg4 arg7 harg7 arg8 harg8 arg9 harg9 arg10 harg10 arg11 harg11 arg12 harg12 hc0 hc1 hc2 x0 x1 x2 x3 fh0 fh1).2.2.1)

/-- Case A's pieces for output 7 are of SEVERAL sizes (2 stores of `S1x1024`, `S8x1024`): cut into blocks of `![1, 1024]` they tile its block (checked by the kernel's evaluation: Lib/Ring.lean `Piece.tiledBy`), so they cover it. -/
theorem cover0_A_7 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x4096 .bf16) (harg4 : arg4.IsWhole) (arg7 : Memref sig .tc .vmem S256x4096 .bf16) (harg7 : arg7.IsWhole) (arg8 : Memref sig .tc .vmem S256x1024 .f32) (harg8 : arg8.IsWhole) (arg9 : Memref sig .tc .vmem S8x1024 .f32) (harg9 : arg9.IsWhole) (arg10 : Memref sig .tc .vmem S8x1024 .f32) (harg10 : arg10.IsWhole) (arg11 : Memref sig .tc .vmem S1024x4096 .bf16) (harg11 : arg11.IsWhole) (arg12 : Memref sig .tc .vmem S4096x1024 .bf16) (harg12 : arg12.IsWhole) (hc0 : cond0_0 i) (hc1 : cond0_1 i) (hc2 : cond0_2 i)
    (x0 : Vec F S256x1024 .f32) (x1 : Vec F S256x1024 .f32) (x2 : Vec F S1x1024 .f32) (x3 : Vec F S256x4096 .bf16) (fh0 : HbBuf0 (F := F) c hbM0_0) (fh1 : HbBuf0 (F := F) c hbM0_1) (y : S8x1024.Idx) :
    ∃ pc ∈ (kernelRun0_A c i arg1 harg1 arg2 harg2 arg3 harg3 arg4 harg4 arg7 harg7 arg8 harg8 arg9 harg9 arg10 harg10 arg11 harg11 arg12 harg12 hc0 hc1 hc2 x0 x1 x2 x3 fh0 fh1).2.2.2.1, y ∈ pc.1.set :=
  View.cover_of_tiledBy (kernelRun0_A c i arg1 harg1 arg2 harg2 arg3 harg3 arg4 harg4 arg7 harg7 arg8 harg8 arg9 harg9 arg10 harg10 arg11 harg11 arg12 harg12 hc0 hc1 hc2 x0 x1 x2 x3 fh0 fh1).2.2.2.1 ![1, 1024] (by sl_kernel_rfl) y

/-- What case A leaves in output 7's staging buffer: its pieces read back over junk. -/
def out0_A_7 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x4096 .bf16) (harg4 : arg4.IsWhole) (arg7 : Memref sig .tc .vmem S256x4096 .bf16) (harg7 : arg7.IsWhole) (arg8 : Memref sig .tc .vmem S256x1024 .f32) (harg8 : arg8.IsWhole) (arg9 : Memref sig .tc .vmem S8x1024 .f32) (harg9 : arg9.IsWhole) (arg10 : Memref sig .tc .vmem S8x1024 .f32) (harg10 : arg10.IsWhole) (arg11 : Memref sig .tc .vmem S1024x4096 .bf16) (harg11 : arg11.IsWhole) (arg12 : Memref sig .tc .vmem S4096x1024 .bf16) (harg12 : arg12.IsWhole) (hc0 : cond0_0 i) (hc1 : cond0_1 i) (hc2 : cond0_2 i)
    (x0 : Vec F S256x1024 .f32) (x1 : Vec F S256x1024 .f32) (x2 : Vec F S1x1024 .f32) (x3 : Vec F S256x4096 .bf16) (fh0 : HbBuf0 (F := F) c hbM0_0) (fh1 : HbBuf0 (F := F) c hbM0_1) : Vec F S8x1024 .f32 :=
  VO0_7.read (Elt F) (VO0_7.writes (Elt F) VO0_7.junk (kernelRun0_A c i arg1 harg1 arg2 harg2 arg3 harg3 arg4 harg4 arg7 harg7 arg8 harg8 arg9 harg9 arg10 harg10 arg11 harg11 arg12 harg12 hc0 hc1 hc2 x0 x1 x2 x3 fh0 fh1).2.2.2.1)

/-- Case A's pieces for scratch `arg11`, which the kernel carries between points, cover it: 8 pieces of `S1024x512` tiling it (Lib/Ring.lean `Piece.tiledL`). -/
theorem scover0_A_0 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x4096 .bf16) (harg4 : arg4.IsWhole) (arg7 : Memref sig .tc .vmem S256x4096 .bf16) (harg7 : arg7.IsWhole) (arg8 : Memref sig .tc .vmem S256x1024 .f32) (harg8 : arg8.IsWhole) (arg9 : Memref sig .tc .vmem S8x1024 .f32) (harg9 : arg9.IsWhole) (arg10 : Memref sig .tc .vmem S8x1024 .f32) (harg10 : arg10.IsWhole) (arg11 : Memref sig .tc .vmem S1024x4096 .bf16) (harg11 : arg11.IsWhole) (arg12 : Memref sig .tc .vmem S4096x1024 .bf16) (harg12 : arg12.IsWhole) (hc0 : cond0_0 i) (hc1 : cond0_1 i) (hc2 : cond0_2 i)
    (x0 : Vec F S256x1024 .f32) (x1 : Vec F S256x1024 .f32) (x2 : Vec F S1x1024 .f32) (x3 : Vec F S256x4096 .bf16) (fh0 : HbBuf0 (F := F) c hbM0_0) (fh1 : HbBuf0 (F := F) c hbM0_1) (y : S1024x4096.Idx) :
    ∃ pc ∈ (kernelRun0_A c i arg1 harg1 arg2 harg2 arg3 harg3 arg4 harg4 arg7 harg7 arg8 harg8 arg9 harg9 arg10 harg10 arg11 harg11 arg12 harg12 hc0 hc1 hc2 x0 x1 x2 x3 fh0 fh1).2.2.2.2.1, y ∈ pc.1.set :=
  View.cover_of_tiledL (kernelRun0_A c i arg1 harg1 arg2 harg2 arg3 harg3 arg4 harg4 arg7 harg7 arg8 harg8 arg9 harg9 arg10 harg10 arg11 harg11 arg12 harg12 hc0 hc1 hc2 x0 x1 x2 x3 fh0 fh1).2.2.2.2.1 S1024x512.size (by sl_kernel_rfl) y

/-- What case A leaves in scratch `arg11`: its pieces read back over junk. -/
def sout0_A_0 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x4096 .bf16) (harg4 : arg4.IsWhole) (arg7 : Memref sig .tc .vmem S256x4096 .bf16) (harg7 : arg7.IsWhole) (arg8 : Memref sig .tc .vmem S256x1024 .f32) (harg8 : arg8.IsWhole) (arg9 : Memref sig .tc .vmem S8x1024 .f32) (harg9 : arg9.IsWhole) (arg10 : Memref sig .tc .vmem S8x1024 .f32) (harg10 : arg10.IsWhole) (arg11 : Memref sig .tc .vmem S1024x4096 .bf16) (harg11 : arg11.IsWhole) (arg12 : Memref sig .tc .vmem S4096x1024 .bf16) (harg12 : arg12.IsWhole) (hc0 : cond0_0 i) (hc1 : cond0_1 i) (hc2 : cond0_2 i)
    (x0 : Vec F S256x1024 .f32) (x1 : Vec F S256x1024 .f32) (x2 : Vec F S1x1024 .f32) (x3 : Vec F S256x4096 .bf16) (fh0 : HbBuf0 (F := F) c hbM0_0) (fh1 : HbBuf0 (F := F) c hbM0_1) : Vec F S1024x4096 .bf16 :=
  VS0_0.read (Elt F) (VS0_0.writes (Elt F) VS0_0.junk (kernelRun0_A c i arg1 harg1 arg2 harg2 arg3 harg3 arg4 harg4 arg7 harg7 arg8 harg8 arg9 harg9 arg10 harg10 arg11 harg11 arg12 harg12 hc0 hc1 hc2 x0 x1 x2 x3 fh0 fh1).2.2.2.2.1)

/-- Case A's pieces for scratch `arg12`, which the kernel carries between points, cover it: 8 pieces of `S512x1024` tiling it (Lib/Ring.lean `Piece.tiledL`). -/
theorem scover0_A_1 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x4096 .bf16) (harg4 : arg4.IsWhole) (arg7 : Memref sig .tc .vmem S256x4096 .bf16) (harg7 : arg7.IsWhole) (arg8 : Memref sig .tc .vmem S256x1024 .f32) (harg8 : arg8.IsWhole) (arg9 : Memref sig .tc .vmem S8x1024 .f32) (harg9 : arg9.IsWhole) (arg10 : Memref sig .tc .vmem S8x1024 .f32) (harg10 : arg10.IsWhole) (arg11 : Memref sig .tc .vmem S1024x4096 .bf16) (harg11 : arg11.IsWhole) (arg12 : Memref sig .tc .vmem S4096x1024 .bf16) (harg12 : arg12.IsWhole) (hc0 : cond0_0 i) (hc1 : cond0_1 i) (hc2 : cond0_2 i)
    (x0 : Vec F S256x1024 .f32) (x1 : Vec F S256x1024 .f32) (x2 : Vec F S1x1024 .f32) (x3 : Vec F S256x4096 .bf16) (fh0 : HbBuf0 (F := F) c hbM0_0) (fh1 : HbBuf0 (F := F) c hbM0_1) (y : S4096x1024.Idx) :
    ∃ pc ∈ (kernelRun0_A c i arg1 harg1 arg2 harg2 arg3 harg3 arg4 harg4 arg7 harg7 arg8 harg8 arg9 harg9 arg10 harg10 arg11 harg11 arg12 harg12 hc0 hc1 hc2 x0 x1 x2 x3 fh0 fh1).2.2.2.2.2.1, y ∈ pc.1.set :=
  View.cover_of_tiledL (kernelRun0_A c i arg1 harg1 arg2 harg2 arg3 harg3 arg4 harg4 arg7 harg7 arg8 harg8 arg9 harg9 arg10 harg10 arg11 harg11 arg12 harg12 hc0 hc1 hc2 x0 x1 x2 x3 fh0 fh1).2.2.2.2.2.1 S512x1024.size (by sl_kernel_rfl) y

/-- What case A leaves in scratch `arg12`: its pieces read back over junk. -/
def sout0_A_1 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x4096 .bf16) (harg4 : arg4.IsWhole) (arg7 : Memref sig .tc .vmem S256x4096 .bf16) (harg7 : arg7.IsWhole) (arg8 : Memref sig .tc .vmem S256x1024 .f32) (harg8 : arg8.IsWhole) (arg9 : Memref sig .tc .vmem S8x1024 .f32) (harg9 : arg9.IsWhole) (arg10 : Memref sig .tc .vmem S8x1024 .f32) (harg10 : arg10.IsWhole) (arg11 : Memref sig .tc .vmem S1024x4096 .bf16) (harg11 : arg11.IsWhole) (arg12 : Memref sig .tc .vmem S4096x1024 .bf16) (harg12 : arg12.IsWhole) (hc0 : cond0_0 i) (hc1 : cond0_1 i) (hc2 : cond0_2 i)
    (x0 : Vec F S256x1024 .f32) (x1 : Vec F S256x1024 .f32) (x2 : Vec F S1x1024 .f32) (x3 : Vec F S256x4096 .bf16) (fh0 : HbBuf0 (F := F) c hbM0_0) (fh1 : HbBuf0 (F := F) c hbM0_1) : Vec F S4096x1024 .bf16 :=
  VS0_1.read (Elt F) (VS0_1.writes (Elt F) VS0_1.junk (kernelRun0_A c i arg1 harg1 arg2 harg2 arg3 harg3 arg4 harg4 arg7 harg7 arg8 harg8 arg9 harg9 arg10 harg10 arg11 harg11 arg12 harg12 hc0 hc1 hc2 x0 x1 x2 x3 fh0 fh1).2.2.2.2.2.1)

/-- Case B's pieces for output 4 tile its block (1 store of `S256x4096`, checked by the kernel's evaluation: Lib/Ring.lean `Piece.tiledL`, linear in the pieces, through a loop's `@[irreducible]` trip theorem too), so they cover it. -/
theorem cover0_B_4 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x4096 .bf16) (harg4 : arg4.IsWhole) (arg7 : Memref sig .tc .vmem S256x4096 .bf16) (harg7 : arg7.IsWhole) (arg8 : Memref sig .tc .vmem S256x1024 .f32) (harg8 : arg8.IsWhole) (arg9 : Memref sig .tc .vmem S8x1024 .f32) (harg9 : arg9.IsWhole) (arg10 : Memref sig .tc .vmem S8x1024 .f32) (harg10 : arg10.IsWhole) (arg11 : Memref sig .tc .vmem S1024x4096 .bf16) (harg11 : arg11.IsWhole) (arg12 : Memref sig .tc .vmem S4096x1024 .bf16) (harg12 : arg12.IsWhole) (hc0 : ¬cond0_0 i) (hc1 : ¬cond0_1 i) (hc2 : ¬cond0_2 i)
    (x0 : Vec F S256x1024 .f32) (x1 : Vec F S256x1024 .f32) (x2 : Vec F S1x1024 .f32) (x3 : Vec F S256x4096 .bf16) (xo6 : Vec F S8x1024 .f32) (xo7 : Vec F S8x1024 .f32) (xs0 : Vec F S1024x4096 .bf16) (xs1 : Vec F S4096x1024 .bf16) (fh0 : HbBuf0 (F := F) c hbM0_0) (fh1 : HbBuf0 (F := F) c hbM0_1) (y : S256x4096.Idx) :
    ∃ pc ∈ (kernelRun0_B c i arg1 harg1 arg2 harg2 arg3 harg3 arg4 harg4 arg7 harg7 arg8 harg8 arg9 harg9 arg10 harg10 arg11 harg11 arg12 harg12 hc0 hc1 hc2 x0 x1 x2 x3 xo6 xo7 xs0 xs1 fh0 fh1).1, y ∈ pc.1.set :=
  View.cover_of_tiledL (kernelRun0_B c i arg1 harg1 arg2 harg2 arg3 harg3 arg4 harg4 arg7 harg7 arg8 harg8 arg9 harg9 arg10 harg10 arg11 harg11 arg12 harg12 hc0 hc1 hc2 x0 x1 x2 x3 xo6 xo7 xs0 xs1 fh0 fh1).1 S256x4096.size (by sl_kernel_rfl) y

/-- What case B leaves in output 4's staging buffer: its pieces read back over junk. -/
def out0_B_4 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x4096 .bf16) (harg4 : arg4.IsWhole) (arg7 : Memref sig .tc .vmem S256x4096 .bf16) (harg7 : arg7.IsWhole) (arg8 : Memref sig .tc .vmem S256x1024 .f32) (harg8 : arg8.IsWhole) (arg9 : Memref sig .tc .vmem S8x1024 .f32) (harg9 : arg9.IsWhole) (arg10 : Memref sig .tc .vmem S8x1024 .f32) (harg10 : arg10.IsWhole) (arg11 : Memref sig .tc .vmem S1024x4096 .bf16) (harg11 : arg11.IsWhole) (arg12 : Memref sig .tc .vmem S4096x1024 .bf16) (harg12 : arg12.IsWhole) (hc0 : ¬cond0_0 i) (hc1 : ¬cond0_1 i) (hc2 : ¬cond0_2 i)
    (x0 : Vec F S256x1024 .f32) (x1 : Vec F S256x1024 .f32) (x2 : Vec F S1x1024 .f32) (x3 : Vec F S256x4096 .bf16) (xo6 : Vec F S8x1024 .f32) (xo7 : Vec F S8x1024 .f32) (xs0 : Vec F S1024x4096 .bf16) (xs1 : Vec F S4096x1024 .bf16) (fh0 : HbBuf0 (F := F) c hbM0_0) (fh1 : HbBuf0 (F := F) c hbM0_1) : Vec F S256x4096 .bf16 :=
  VO0_4.read (Elt F) (VO0_4.writes (Elt F) VO0_4.junk (kernelRun0_B c i arg1 harg1 arg2 harg2 arg3 harg3 arg4 harg4 arg7 harg7 arg8 harg8 arg9 harg9 arg10 harg10 arg11 harg11 arg12 harg12 hc0 hc1 hc2 x0 x1 x2 x3 xo6 xo7 xs0 xs1 fh0 fh1).1)

/-- Case B's pieces for output 5 tile its block (1 store of `S256x1024`, checked by the kernel's evaluation: Lib/Ring.lean `Piece.tiledL`, linear in the pieces, through a loop's `@[irreducible]` trip theorem too), so they cover it. -/
theorem cover0_B_5 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x4096 .bf16) (harg4 : arg4.IsWhole) (arg7 : Memref sig .tc .vmem S256x4096 .bf16) (harg7 : arg7.IsWhole) (arg8 : Memref sig .tc .vmem S256x1024 .f32) (harg8 : arg8.IsWhole) (arg9 : Memref sig .tc .vmem S8x1024 .f32) (harg9 : arg9.IsWhole) (arg10 : Memref sig .tc .vmem S8x1024 .f32) (harg10 : arg10.IsWhole) (arg11 : Memref sig .tc .vmem S1024x4096 .bf16) (harg11 : arg11.IsWhole) (arg12 : Memref sig .tc .vmem S4096x1024 .bf16) (harg12 : arg12.IsWhole) (hc0 : ¬cond0_0 i) (hc1 : ¬cond0_1 i) (hc2 : ¬cond0_2 i)
    (x0 : Vec F S256x1024 .f32) (x1 : Vec F S256x1024 .f32) (x2 : Vec F S1x1024 .f32) (x3 : Vec F S256x4096 .bf16) (xo6 : Vec F S8x1024 .f32) (xo7 : Vec F S8x1024 .f32) (xs0 : Vec F S1024x4096 .bf16) (xs1 : Vec F S4096x1024 .bf16) (fh0 : HbBuf0 (F := F) c hbM0_0) (fh1 : HbBuf0 (F := F) c hbM0_1) (y : S256x1024.Idx) :
    ∃ pc ∈ (kernelRun0_B c i arg1 harg1 arg2 harg2 arg3 harg3 arg4 harg4 arg7 harg7 arg8 harg8 arg9 harg9 arg10 harg10 arg11 harg11 arg12 harg12 hc0 hc1 hc2 x0 x1 x2 x3 xo6 xo7 xs0 xs1 fh0 fh1).2.1, y ∈ pc.1.set :=
  View.cover_of_tiledL (kernelRun0_B c i arg1 harg1 arg2 harg2 arg3 harg3 arg4 harg4 arg7 harg7 arg8 harg8 arg9 harg9 arg10 harg10 arg11 harg11 arg12 harg12 hc0 hc1 hc2 x0 x1 x2 x3 xo6 xo7 xs0 xs1 fh0 fh1).2.1 S256x1024.size (by sl_kernel_rfl) y

/-- What case B leaves in output 5's staging buffer: its pieces read back over junk. -/
def out0_B_5 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x4096 .bf16) (harg4 : arg4.IsWhole) (arg7 : Memref sig .tc .vmem S256x4096 .bf16) (harg7 : arg7.IsWhole) (arg8 : Memref sig .tc .vmem S256x1024 .f32) (harg8 : arg8.IsWhole) (arg9 : Memref sig .tc .vmem S8x1024 .f32) (harg9 : arg9.IsWhole) (arg10 : Memref sig .tc .vmem S8x1024 .f32) (harg10 : arg10.IsWhole) (arg11 : Memref sig .tc .vmem S1024x4096 .bf16) (harg11 : arg11.IsWhole) (arg12 : Memref sig .tc .vmem S4096x1024 .bf16) (harg12 : arg12.IsWhole) (hc0 : ¬cond0_0 i) (hc1 : ¬cond0_1 i) (hc2 : ¬cond0_2 i)
    (x0 : Vec F S256x1024 .f32) (x1 : Vec F S256x1024 .f32) (x2 : Vec F S1x1024 .f32) (x3 : Vec F S256x4096 .bf16) (xo6 : Vec F S8x1024 .f32) (xo7 : Vec F S8x1024 .f32) (xs0 : Vec F S1024x4096 .bf16) (xs1 : Vec F S4096x1024 .bf16) (fh0 : HbBuf0 (F := F) c hbM0_0) (fh1 : HbBuf0 (F := F) c hbM0_1) : Vec F S256x1024 .f32 :=
  VO0_5.read (Elt F) (VO0_5.writes (Elt F) VO0_5.junk (kernelRun0_B c i arg1 harg1 arg2 harg2 arg3 harg3 arg4 harg4 arg7 harg7 arg8 harg8 arg9 harg9 arg10 harg10 arg11 harg11 arg12 harg12 hc0 hc1 hc2 x0 x1 x2 x3 xo6 xo7 xs0 xs1 fh0 fh1).2.1)

/-- What case B leaves in output 6's staging buffer: its stores read back over what the point before left there (they do not cover the block). -/
def out0_B_6 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x4096 .bf16) (harg4 : arg4.IsWhole) (arg7 : Memref sig .tc .vmem S256x4096 .bf16) (harg7 : arg7.IsWhole) (arg8 : Memref sig .tc .vmem S256x1024 .f32) (harg8 : arg8.IsWhole) (arg9 : Memref sig .tc .vmem S8x1024 .f32) (harg9 : arg9.IsWhole) (arg10 : Memref sig .tc .vmem S8x1024 .f32) (harg10 : arg10.IsWhole) (arg11 : Memref sig .tc .vmem S1024x4096 .bf16) (harg11 : arg11.IsWhole) (arg12 : Memref sig .tc .vmem S4096x1024 .bf16) (harg12 : arg12.IsWhole) (hc0 : ¬cond0_0 i) (hc1 : ¬cond0_1 i) (hc2 : ¬cond0_2 i)
    (x0 : Vec F S256x1024 .f32) (x1 : Vec F S256x1024 .f32) (x2 : Vec F S1x1024 .f32) (x3 : Vec F S256x4096 .bf16) (xo6 : Vec F S8x1024 .f32) (xo7 : Vec F S8x1024 .f32) (xs0 : Vec F S1024x4096 .bf16) (xs1 : Vec F S4096x1024 .bf16) (fh0 : HbBuf0 (F := F) c hbM0_0) (fh1 : HbBuf0 (F := F) c hbM0_1) : Vec F S8x1024 .f32 :=
  arg9.view.read (Elt F) (arg9.view.writes (Elt F) (harg9.unread xo6) (kernelRun0_B c i arg1 harg1 arg2 harg2 arg3 harg3 arg4 harg4 arg7 harg7 arg8 harg8 arg9 harg9 arg10 harg10 arg11 harg11 arg12 harg12 hc0 hc1 hc2 x0 x1 x2 x3 xo6 xo7 xs0 xs1 fh0 fh1).2.2.1)

/-- What case B leaves in output 7's staging buffer: its stores read back over what the point before left there (they do not cover the block). -/
def out0_B_7 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x4096 .bf16) (harg4 : arg4.IsWhole) (arg7 : Memref sig .tc .vmem S256x4096 .bf16) (harg7 : arg7.IsWhole) (arg8 : Memref sig .tc .vmem S256x1024 .f32) (harg8 : arg8.IsWhole) (arg9 : Memref sig .tc .vmem S8x1024 .f32) (harg9 : arg9.IsWhole) (arg10 : Memref sig .tc .vmem S8x1024 .f32) (harg10 : arg10.IsWhole) (arg11 : Memref sig .tc .vmem S1024x4096 .bf16) (harg11 : arg11.IsWhole) (arg12 : Memref sig .tc .vmem S4096x1024 .bf16) (harg12 : arg12.IsWhole) (hc0 : ¬cond0_0 i) (hc1 : ¬cond0_1 i) (hc2 : ¬cond0_2 i)
    (x0 : Vec F S256x1024 .f32) (x1 : Vec F S256x1024 .f32) (x2 : Vec F S1x1024 .f32) (x3 : Vec F S256x4096 .bf16) (xo6 : Vec F S8x1024 .f32) (xo7 : Vec F S8x1024 .f32) (xs0 : Vec F S1024x4096 .bf16) (xs1 : Vec F S4096x1024 .bf16) (fh0 : HbBuf0 (F := F) c hbM0_0) (fh1 : HbBuf0 (F := F) c hbM0_1) : Vec F S8x1024 .f32 :=
  arg10.view.read (Elt F) (arg10.view.writes (Elt F) (harg10.unread xo7) (kernelRun0_B c i arg1 harg1 arg2 harg2 arg3 harg3 arg4 harg4 arg7 harg7 arg8 harg8 arg9 harg9 arg10 harg10 arg11 harg11 arg12 harg12 hc0 hc1 hc2 x0 x1 x2 x3 xo6 xo7 xs0 xs1 fh0 fh1).2.2.2.1)

/-- Case B stores nothing into scratch `arg11`: it holds what the point before left. -/
def sout0_B_0 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x4096 .bf16) (harg4 : arg4.IsWhole) (arg7 : Memref sig .tc .vmem S256x4096 .bf16) (harg7 : arg7.IsWhole) (arg8 : Memref sig .tc .vmem S256x1024 .f32) (harg8 : arg8.IsWhole) (arg9 : Memref sig .tc .vmem S8x1024 .f32) (harg9 : arg9.IsWhole) (arg10 : Memref sig .tc .vmem S8x1024 .f32) (harg10 : arg10.IsWhole) (arg11 : Memref sig .tc .vmem S1024x4096 .bf16) (harg11 : arg11.IsWhole) (arg12 : Memref sig .tc .vmem S4096x1024 .bf16) (harg12 : arg12.IsWhole) (hc0 : ¬cond0_0 i) (hc1 : ¬cond0_1 i) (hc2 : ¬cond0_2 i)
    (x0 : Vec F S256x1024 .f32) (x1 : Vec F S256x1024 .f32) (x2 : Vec F S1x1024 .f32) (x3 : Vec F S256x4096 .bf16) (xo6 : Vec F S8x1024 .f32) (xo7 : Vec F S8x1024 .f32) (xs0 : Vec F S1024x4096 .bf16) (xs1 : Vec F S4096x1024 .bf16) (fh0 : HbBuf0 (F := F) c hbM0_0) (fh1 : HbBuf0 (F := F) c hbM0_1) : Vec F S1024x4096 .bf16 := xs0

/-- Case B stores nothing into scratch `arg12`: it holds what the point before left. -/
def sout0_B_1 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x4096 .bf16) (harg4 : arg4.IsWhole) (arg7 : Memref sig .tc .vmem S256x4096 .bf16) (harg7 : arg7.IsWhole) (arg8 : Memref sig .tc .vmem S256x1024 .f32) (harg8 : arg8.IsWhole) (arg9 : Memref sig .tc .vmem S8x1024 .f32) (harg9 : arg9.IsWhole) (arg10 : Memref sig .tc .vmem S8x1024 .f32) (harg10 : arg10.IsWhole) (arg11 : Memref sig .tc .vmem S1024x4096 .bf16) (harg11 : arg11.IsWhole) (arg12 : Memref sig .tc .vmem S4096x1024 .bf16) (harg12 : arg12.IsWhole) (hc0 : ¬cond0_0 i) (hc1 : ¬cond0_1 i) (hc2 : ¬cond0_2 i)
    (x0 : Vec F S256x1024 .f32) (x1 : Vec F S256x1024 .f32) (x2 : Vec F S1x1024 .f32) (x3 : Vec F S256x4096 .bf16) (xo6 : Vec F S8x1024 .f32) (xo7 : Vec F S8x1024 .f32) (xs0 : Vec F S1024x4096 .bf16) (xs1 : Vec F S4096x1024 .bf16) (fh0 : HbBuf0 (F := F) c hbM0_0) (fh1 : HbBuf0 (F := F) c hbM0_1) : Vec F S4096x1024 .bf16 := xs1

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x4096 .bf16 × Vec F S256x1024 .f32 × Vec F S8x1024 .f32 × Vec F S8x1024 .f32 × Vec F S1024x4096 .bf16 × Vec F S4096x1024 .bf16
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) ((hcond0_2 ⟨0, hn⟩).mpr (Nat.zero_mod _)) (iblk m c 0 ⟨0, hn⟩) (iblk m c 1 ⟨0, hn⟩) (iblk m c 2 ⟨0, hn⟩) (iblk m c 3 ⟨0, hn⟩) (V m c main_v18) (V m c main_v20), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) ((hcond0_2 ⟨0, hn⟩).mpr (Nat.zero_mod _)) (iblk m c 0 ⟨0, hn⟩) (iblk m c 1 ⟨0, hn⟩) (iblk m c 2 ⟨0, hn⟩) (iblk m c 3 ⟨0, hn⟩) (V m c main_v18) (V m c main_v20), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) ((hcond0_2 ⟨0, hn⟩).mpr (Nat.zero_mod _)) (iblk m c 0 ⟨0, hn⟩) (iblk m c 1 ⟨0, hn⟩) (iblk m c 2 ⟨0, hn⟩) (iblk m c 3 ⟨0, hn⟩) (V m c main_v18) (V m c main_v20), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) ((hcond0_2 ⟨0, hn⟩).mpr (Nat.zero_mod _)) (iblk m c 0 ⟨0, hn⟩) (iblk m c 1 ⟨0, hn⟩) (iblk m c 2 ⟨0, hn⟩) (iblk m c 3 ⟨0, hn⟩) (V m c main_v18) (V m c main_v20), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) ((hcond0_2 ⟨0, hn⟩).mpr (Nat.zero_mod _)) (iblk m c 0 ⟨0, hn⟩) (iblk m c 1 ⟨0, hn⟩) (iblk m c 2 ⟨0, hn⟩) (iblk m c 3 ⟨0, hn⟩) (V m c main_v18) (V m c main_v20), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) ((hcond0_2 ⟨0, hn⟩).mpr (Nat.zero_mod _)) (iblk m c 0 ⟨0, hn⟩) (iblk m c 1 ⟨0, hn⟩) (iblk m c 2 ⟨0, hn⟩) (iblk m c 3 ⟨0, hn⟩) (V m c main_v18) (V m c main_v20))
  | n + 1, hn =>
    if h0 : (n + 1) % 32 = 0 then
      if h1 : (n + 1) % 32 = 0 then
        if h2 : (n + 1) % 32 = 0 then
          (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (V m c main_v18) (V m c main_v20), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (V m c main_v18) (V m c main_v20), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (V m c main_v18) (V m c main_v20), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (V m c main_v18) (V m c main_v20), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (V m c main_v18) (V m c main_v20), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (V m c main_v18) (V m c main_v20))
        else
          False.elim (by have hN : n + 1 < 32 := lt_of_lt_of_eq hn (show cfg0.N = 32 from N_0); omega)
      else
        False.elim (by have hN : n + 1 < 32 := lt_of_lt_of_eq hn (show cfg0.N = 32 from N_0); omega)
    else
      if h1 : (n + 1) % 32 = 0 then
        False.elim (by have hN : n + 1 < 32 := lt_of_lt_of_eq hn (show cfg0.N = 32 from N_0); omega)
      else
        if h2 : (n + 1) % 32 = 0 then
          False.elim (by have hN : n + 1 < 32 := lt_of_lt_of_eq hn (show cfg0.N = 32 from N_0); omega)
        else
          (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2 (V m c main_v18) (V m c main_v20), out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2 (V m c main_v18) (V m c main_v20), out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2 (V m c main_v18) (V m c main_v20), out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2 (V m c main_v18) (V m c main_v20), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2 (V m c main_v18) (V m c main_v20), sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2 (V m c main_v18) (V m c main_v20))

/-- `outsAt0` at a point of case A: that case's contents. -/
theorem outsAt0_A (c : Dev nD) (t : Fin cfg0.N) (h0 : t.val % 32 = 0) (h1 : t.val % 32 = 0) (h2 : t.val % 32 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) ((hcond0_1 t).mpr h1) ((hcond0_2 t).mpr h2) (iblk m c 0 t) (iblk m c 1 t) (iblk m c 2 t) (iblk m c 3 t) (V m c main_v18) (V m c main_v20), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) ((hcond0_1 t).mpr h1) ((hcond0_2 t).mpr h2) (iblk m c 0 t) (iblk m c 1 t) (iblk m c 2 t) (iblk m c 3 t) (V m c main_v18) (V m c main_v20), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) ((hcond0_1 t).mpr h1) ((hcond0_2 t).mpr h2) (iblk m c 0 t) (iblk m c 1 t) (iblk m c 2 t) (iblk m c 3 t) (V m c main_v18) (V m c main_v20), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) ((hcond0_1 t).mpr h1) ((hcond0_2 t).mpr h2) (iblk m c 0 t) (iblk m c 1 t) (iblk m c 2 t) (iblk m c 3 t) (V m c main_v18) (V m c main_v20), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) ((hcond0_1 t).mpr h1) ((hcond0_2 t).mpr h2) (iblk m c 0 t) (iblk m c 1 t) (iblk m c 2 t) (iblk m c 3 t) (V m c main_v18) (V m c main_v20), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) ((hcond0_1 t).mpr h1) ((hcond0_2 t).mpr h2) (iblk m c 0 t) (iblk m c 1 t) (iblk m c 2 t) (iblk m c 3 t) (V m c main_v18) (V m c main_v20)) := by
  obtain ⟨n, hn⟩ := t
  cases n with
  | zero => exact rfl
  | succ n => exact (dif_pos h0).trans ((dif_pos h1).trans ((dif_pos h2).trans rfl))

/-- `outsAt0` at a point of case B: that case's contents, over what the point before left. -/
theorem outsAt0_B (c : Dev nD) (t : Fin cfg0.N) (h0 : ¬t.val % 32 = 0) (h1 : ¬t.val % 32 = 0) (h2 : ¬t.val % 32 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v18) (V m c main_v20), out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v18) (V m c main_v20), out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v18) (V m c main_v20), out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v18) (V m c main_v20), sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v18) (V m c main_v20), sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v18) (V m c main_v20)) := by
  obtain ⟨n, hn⟩ := t
  cases n with
  | zero => exact (by exfalso; (try dsimp only at h0); exact absurd (Nat.zero_mod _) h0)
  | succ n => exact (dif_neg h0).trans ((dif_neg h1).trans ((dif_neg h2).trans rfl))

/-- The region invariant before position `n` with a scratch the kernel CARRIES between points: before the first point the
    launch's invariant (Lib/Pipeline/Frame.lean `ΦD`: every scratch at anything, the own cells at zero, the HBM operands, the generator register); afterwards the same with each carried
    scratch at what the point before left in it (`outsAt0`'s scratch components), the others at anything. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.2.2.1) ∗ owns (c : Thread nD τ) scM0_1 fullShare ((outsAt0 m c n hn).2.2.2.2.2)) ∗ (∃ r, prngReg c r) ∗ iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0) ∗ iprop(hbPt0 c hbM0_0 (V m c main_v18) ∗ hbPt0 c hbM0_1 (V m c main_v20)))

theorem PhiS_zero (c : Dev nD) (n : ℕ) (h : n ≤ cfg0.N) (hz : n = 0) : PhiS m c n h = Pipeline.ΦD osem0 spec0 H0 (V m) c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.1) ∗ owns (c : Thread nD τ) scM0_1 fullShare ((outsAt0 m c n hn).2.2.2.2.2)) ∗ (∃ r, prngReg c r) ∗ iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0) ∗ iprop(hbPt0 c hbM0_0 (V m c main_v18) ∗ hbPt0 c hbM0_1 (V m c main_v20))) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.1) ∗ owns (c : Thread nD τ) scM0_1 fullShare ((outsAt0 m c (n - 1) (by omega)).2.2.2.2.2)) ∗ (∃ r, prngReg c r) ∗ iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0) ∗ iprop(hbPt0 c hbM0_0 (V m c main_v18) ∗ hbPt0 c hbM0_1 (V m c main_v20))) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2.1
    | ⟨7, _⟩ => (outsAt0 m c t.val t.isLt).2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]
theorem after0_6 (c : Dev nD) (t : Fin cfg0.N) : (dats m 0 c).after 6 t = (outsAt0 m c t.val t.isLt).2.2.1 := by dsimp only [dats]
theorem after0_7 (c : Dev nD) (t : Fin cfg0.N) : (dats m 0 c).after 7 t = (outsAt0 m c t.val t.isLt).2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- At a point of case B output 6's current staging buffer holds what the body left at the point before: the point is
    not the first, the buffer was not written back between (`flush0_6`), the window is live and uncut (Lib/Pipeline/Frame.lean
    `Dat.before_out_kept`). -/
theorem before0_6_B (c : Dev nD) (t : Fin cfg0.N) (h0 : ¬t.val % 32 = 0) (h1 : ¬t.val % 32 = 0) (h2 : ¬t.val % 32 = 0) (d) :
    (dats m 0 c).before 6 t d = (outsAt0 m c (t.val - 1) (Nat.lt_of_le_of_lt (Nat.sub_le _ _) t.isLt)).2.2.1 := by
  have hN : t.val < 32 := lt_of_lt_of_eq t.isLt (show cfg0.N = 32 from N_0)
  rw [Dat.before_out_kept _ 6 rfl t (by omega) (Bool.eq_false_iff.mpr fun h => by have := (flush0_6 _).mp h; dsimp only at this; omega)
    (fun _ => rfl) (fun _ _ => rfl)]
  dsimp only [dats]
/-- At a point of case B output 7's current staging buffer holds what the body left at the point before: the point is
    not the first, the buffer was not written back between (`flush0_7`), the window is live and uncut (Lib/Pipeline/Frame.lean
    `Dat.before_out_kept`). -/
theorem before0_7_B (c : Dev nD) (t : Fin cfg0.N) (h0 : ¬t.val % 32 = 0) (h1 : ¬t.val % 32 = 0) (h2 : ¬t.val % 32 = 0) (d) :
    (dats m 0 c).before 7 t d = (outsAt0 m c (t.val - 1) (Nat.lt_of_le_of_lt (Nat.sub_le _ _) t.isLt)).2.2.2.1 := by
  have hN : t.val < 32 := lt_of_lt_of_eq t.isLt (show cfg0.N = 32 from N_0)
  rw [Dat.before_out_kept _ 7 rfl t (by omega) (Bool.eq_false_iff.mpr fun h => by have := (flush0_7 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`, the rest of `ΦD` opened by `PhiD0_eq`), the other scratch at anything, the register, its DMA cells at zero and the HBM operands, and takes the carried scratch back at this point's contents (`PhiS_succ`, by `scoverK_κ_N`), the cells and operands as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = PhiS m c (t.val + 1) t.isLt from rfl, PhiS_succ,
    after0_0, after0_1, after0_2, after0_3, after0_4, after0_5, after0_6, after0_7]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  by_cases h0 : t.val % 32 = 0
  · by_cases h1 : t.val % 32 = 0
    · by_cases h2 : t.val % 32 = 0
      · by_cases hz : t.val = 0
        · rw [PhiS_castSucc m c t, PhiS_zero m c _ _ hz, PhiD0_eq]
          rw [outsAt0_A m c t h0 h1 h2]
          unfold out0_A_4 out0_A_5 out0_A_6 out0_A_7 sout0_A_0 sout0_A_1; (try dsimp only)
          iintro ⟨⟨⟨HS0, HS1⟩, Hg, ⟨Hq0, Hq1, Hq2, Hq3, Hq4, Hq5, Hq6, Hq7, Hq8, Hq9, Hq10, Hq11, Hq12, Hq13, Hq14, Hq15⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
          iapply ((kernelRun0_A c (grid0.coords t) _ _ _ _ _ _ _ _ _ _ _ _ _ _ _ _ _ _ _ _ ((hcond0_0 t).mpr h0) ((hcond0_1 t).mpr h1) ((hcond0_2 t).mpr h2) (iblk m c 0 t) (iblk m c 1 t) (iblk m c 2 t) (iblk m c 3 t) (V m c main_v18) (V m c main_v20)).2.2.2.2.2.2 W _)
          isplitl [H0]; · iexact H0
          isplitl [H1]; · iexact H1
          isplitl [H2]; · iexact H2
          isplitl [H3]; · iexact H3
          isplitl [H4]; · iexists _; iexact H4
          isplitl [H5]; · iexists _; iexact H5
          isplitl [H6]; · iexists _; iexact H6
          isplitl [H7]; · iexists _; iexact H7
          isplitl [HS0]; · iexact HS0
          isplitl [HS1]; · iexact HS1
          isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          isplitl [Hq10]; · iexact Hq10
          isplitl [Hq11]; · iexact Hq11
          isplitl [Hq12]; · iexact Hq12
          isplitl [Hq13]; · iexact Hq13
          isplitl [Hq14]; · iexact Hq14
          isplitl [Hq15]; · iexact Hq15
          isplitl [Hh0]; · iexact Hh0
          isplitl [Hh1]; · iexact Hh1
          isplitl [HW]; · iexact HW
          iintro ⟨H0, H1, H2, H3, ⟨%e4, H4⟩, ⟨%e5, H5⟩, ⟨%e6, H6⟩, ⟨%e7, H7⟩, ⟨%es0, HS0⟩, ⟨%es1, HS1⟩, Hq0, Hq1, Hq2, Hq3, Hq4, Hq5, Hq6, Hq7, Hq8, Hq9, Hq10, Hq11, Hq12, Hq13, Hq14, Hq15, Hh0, Hh1, ⟨%W', HW'⟩⟩
          isplitl [HS0 HS1 Hg Hq0 Hq1 Hq2 Hq3 Hq4 Hq5 Hq6 Hq7 Hq8 Hq9 Hq10 Hq11 Hq12 Hq13 Hq14 Hq15 Hh0 Hh1]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _)
              unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _)
            isplitl [Hg]
            · iexact Hg
            isplitl [Hq0 Hq1 Hq2 Hq3 Hq4 Hq5 Hq6 Hq7 Hq8 Hq9 Hq10 Hq11 Hq12 Hq13 Hq14 Hq15]
            · isplitl [Hq0]; · iexact Hq0
              isplitl [Hq1]; · iexact Hq1
              isplitl [Hq2]; · iexact Hq2
              isplitl [Hq3]; · iexact Hq3
              isplitl [Hq4]; · iexact Hq4
              isplitl [Hq5]; · iexact Hq5
              isplitl [Hq6]; · iexact Hq6
              isplitl [Hq7]; · iexact Hq7
              isplitl [Hq8]; · iexact Hq8
              isplitl [Hq9]; · iexact Hq9
              isplitl [Hq10]; · iexact Hq10
              isplitl [Hq11]; · iexact Hq11
              isplitl [Hq12]; · iexact Hq12
              isplitl [Hq13]; · iexact Hq13
              isplitl [Hq14]; · iexact Hq14
              iexact Hq15
            isplitl [Hh0]; · iexact Hh0
            iexact Hh1
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          isplitl [H4]
          · unfold owns; iexists _; isplitr
            swap; · iexact H4
            ipureintro; exact View.read_writes_of_cover _ _ _ _ _ (cover0_A_4 c _ _ _ _ _ _ _ _ _ _ _ _ _ _ _ _ _ _ _ _ _ _ _ _ _ _ _ _ _ _)
          isplitl [H5]
          · unfold owns; iexists _; isplitr
            swap; · iexact H5
            ipureintro; exact View.read_writes_of_cover _ _ _ _ _ (cover0_A_5 c _ _ _ _ _ _ _ _ _ _ _ _ _ _ _ _ _ _ _ _ _ _ _ _ _ _ _ _ _ _)
          isplitl [H6]
          · unfold owns; iexists _; isplitr
            swap; · iexact H6
            ipureintro; exact View.read_writes_of_cover _ _ _ _ _ (cover0_A_6 c _ _ _ _ _ _ _ _ _ _ _ _ _ _ _ _ _ _ _ _ _ _ _ _ _ _ _ _ _ _)
          unfold owns; iexists _; isplitr
          swap; · iexact H7
          ipureintro; exact View.read_writes_of_cover _ _ _ _ _ (cover0_A_7 c _ _ _ _ _ _ _ _ _ _ _ _ _ _ _ _ _ _ _ _ _ _ _ _ _ _ _ _ _ _)
        · exfalso; have hN : t.val < 32 := lt_of_lt_of_eq t.isLt (show cfg0.N = 32 from N_0); omega
      · exfalso; omega
    · exfalso; omega
  · by_cases h1 : t.val % 32 = 0
    · exfalso; omega
    · by_cases h2 : t.val % 32 = 0
      · exfalso; omega
      · by_cases hz : t.val = 0
        · exfalso; have hN : t.val < 32 := lt_of_lt_of_eq t.isLt (show cfg0.N = 32 from N_0); omega
        · rw [PhiS_castSucc m c t, PhiS_pos m c _ _ hz]
          rw [outsAt0_B m c t h0 h1 h2]
          simp only [before0_6_B m c t h0 h1 h2, before0_7_B m c t h0 h1 h2]
          unfold out0_B_4 out0_B_5 out0_B_6 out0_B_7 sout0_B_0 sout0_B_1; (try dsimp only)
          iintro ⟨⟨⟨HS0, HS1⟩, Hg, ⟨Hq0, Hq1, Hq2, Hq3, Hq4, Hq5, Hq6, Hq7, Hq8, Hq9, Hq10, Hq11, Hq12, Hq13, Hq14, Hq15⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
          iapply ((kernelRun0_B c (grid0.coords t) _ _ _ _ _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) (iblk m c 3 t) _ _ _ _ (V m c main_v18) (V m c main_v20)).2.2.2.2.2.2 W _)
          isplitl [H0]; · iexact H0
          isplitl [H1]; · iexact H1
          isplitl [H2]; · iexact H2
          isplitl [H3]; · iexact H3
          isplitl [H4]; · iexists _; iexact H4
          isplitl [H5]; · iexists _; iexact H5
          isplitl [H6]; · iexact H6
          isplitl [H7]; · iexact H7
          isplitl [HS0]; · iexact HS0
          isplitl [HS1]; · iexact HS1
          isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          isplitl [Hq10]; · iexact Hq10
          isplitl [Hq11]; · iexact Hq11
          isplitl [Hq12]; · iexact Hq12
          isplitl [Hq13]; · iexact Hq13
          isplitl [Hq14]; · iexact Hq14
          isplitl [Hq15]; · iexact Hq15
          isplitl [Hh0]; · iexact Hh0
          isplitl [Hh1]; · iexact Hh1
          isplitl [HW]; · iexact HW
          iintro ⟨H0, H1, H2, H3, ⟨%e4, H4⟩, ⟨%e5, H5⟩, H6, H7, HS0, HS1, Hq0, Hq1, Hq2, Hq3, Hq4, Hq5, Hq6, Hq7, Hq8, Hq9, Hq10, Hq11, Hq12, Hq13, Hq14, Hq15, Hh0, Hh1, ⟨%W', HW'⟩⟩
          isplitl [HS0 HS1 Hg Hq0 Hq1 Hq2 Hq3 Hq4 Hq5 Hq6 Hq7 Hq8 Hq9 Hq10 Hq11 Hq12 Hq13 Hq14 Hq15 Hh0 Hh1]
          · isplitl [HS0 HS1]
            · isplitl [HS0]; · iexact HS0
              iexact HS1
            isplitl [Hg]
            · iexact Hg
            isplitl [Hq0 Hq1 Hq2 Hq3 Hq4 Hq5 Hq6 Hq7 Hq8 Hq9 Hq10 Hq11 Hq12 Hq13 Hq14 Hq15]
            · isplitl [Hq0]; · iexact Hq0
              isplitl [Hq1]; · iexact Hq1
              isplitl [Hq2]; · iexact Hq2
              isplitl [Hq3]; · iexact Hq3
              isplitl [Hq4]; · iexact Hq4
              isplitl [Hq5]; · iexact Hq5
              isplitl [Hq6]; · iexact Hq6
              isplitl [Hq7]; · iexact Hq7
              isplitl [Hq8]; · iexact Hq8
              isplitl [Hq9]; · iexact Hq9
              isplitl [Hq10]; · iexact Hq10
              isplitl [Hq11]; · iexact Hq11
              isplitl [Hq12]; · iexact Hq12
              isplitl [Hq13]; · iexact Hq13
              isplitl [Hq14]; · iexact Hq14
              iexact Hq15
            isplitl [Hh0]; · iexact Hh0
            iexact Hh1
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          isplitl [H4]
          · unfold owns; iexists _; isplitr
            swap; · iexact H4
            ipureintro; exact View.read_writes_of_cover _ _ _ _ _ (cover0_B_4 c _ _ _ _ _ _ _ _ _ _ _ _ _ _ _ _ _ _ _ _ _ _ _ _ _ _ _ _ _ _ _ _ _ _)
          isplitl [H5]
          · unfold owns; iexists _; isplitr
            swap; · iexact H5
            ipureintro; exact View.read_writes_of_cover _ _ _ _ _ (cover0_B_5 c _ _ _ _ _ _ _ _ _ _ _ _ _ _ _ _ _ _ _ _ _ _ _ _ _ _ _ _ _ _ _ _ _ _)
          isplitl [H6]
          · unfold owns; iexists _; isplitr
            swap; · iexact H6
            ipureintro; rfl
          unfold owns; iexists _; isplitr
          swap; · iexact H7
          ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`) is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦD` back: the carried scratch's named contents are forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1⟩, Hg, ⟨Hq0, Hq1, Hq2, Hq3, Hq4, Hq5, Hq6, Hq7, Hq8, Hq9, Hq10, Hq11, Hq12, Hq13, Hq14, Hq15⟩, ⟨Hh0, Hh1⟩⟩
  isplitl [HS0 HS1]
  · isplitl [HS0]
    · iexists _; iexact HS0
    iexists _; iexact HS1
  isplitl [Hg]; · iexact Hg
  isplitl [Hq0 Hq1 Hq2 Hq3 Hq4 Hq5 Hq6 Hq7 Hq8 Hq9 Hq10 Hq11 Hq12 Hq13 Hq14 Hq15]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    iexact Hq15
  isplitl [Hh0]; · iexact Hh0
  iexact Hh1

/-- The same after the last point. -/
theorem hout (c : Dev nD) : (dats m 0 c).Φ (Fin.last cfg0.N) ⊢ Pipeline.ΦD osem0 spec0 H0 (V m) c :=
  Phi_out m c _ (by rw [Fin.val_last]; have : cfg0.N = 32 := N_0; omega)

/-! ## The run and the frame -/

-- `θ_run_frame_dma`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_Kernel2Ideal`'s statement (Defs.lean) at any `F` — Proof.lean cites it at `Bits`:
    `theorem Cert.Proof.claim : Cert.Claim := ⟨Cert.Kernel2Ideal.Gen.facts, fun m ρ _ => Cert.Kernel2Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel2Ideal.Gen

end
-- ==== Proof.MlpBackBlocks.lean ====
module

public import proofs.«01_k».proof.Proof.MlpBackFrame
public import Idealize.ShloMosaic.Lib.Pipeline.Value

@[expose] public section

/-! # The blocks of the perceptron's backward pass

What each grid point writes back to the outputs. -/

noncomputable section

namespace Cert.Kernel2Ideal.Value

open Cert.Kernel2Ideal Cert.Kernel2Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 4's array: the run's contents for that window after the body (`Gen.outsAt0`: its component 0), read through the window's block. -/
theorem flushed4 (c : Dev nD) (t : Fin cfg0.N) :
    (dats m 0 c).flushed 4 t = (cfg0.win 4).cut (grid0.coords t) ((outsAt0 m c t.val t.isLt).1) := by
  show (cfg0.win 4).cut (grid0.coords t) ((dats m 0 c).after 4 t) = _
  rw [after0_4]

/-- … so at a point where case A runs, what its write-back would write is that case's NAMED TERM for the window (`Gen.out0_A_4`: the pieces
    its run found, read back) at the point's memrefs and input blocks, and for an output the case reads back what the point before left (`Gen.outsAt0` at `t - 1`) — by the frame's rewriting lemma for the case. -/
theorem flushed4_A (c : Dev nD) (t : Fin cfg0.N) (h0 : t.val % 32 = 0) (h1 : t.val % 32 = 0) (h2 : t.val % 32 = 0) :
    (dats m 0 c).flushed 4 t = (cfg0.win 4).cut (grid0.coords t) (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) ((hcond0_1 t).mpr h1) ((hcond0_2 t).mpr h2) (iblk m c 0 t) (iblk m c 1 t) (iblk m c 2 t) (iblk m c 3 t) (V m c main_v18) (V m c main_v20)) := by
  simp only [flushed4, outsAt0_A m c t h0 h1 h2]

/-- … so at a point where case B runs, what its write-back would write is that case's NAMED TERM for the window (`Gen.out0_B_4`: the pieces
    its run found, read back) at the point's memrefs and input blocks, and for an output the case reads back what the point before left (`Gen.outsAt0` at `t - 1`) — by the frame's rewriting lemma for the case. -/
theorem flushed4_B (c : Dev nD) (t : Fin cfg0.N) (h0 : ¬t.val % 32 = 0) (h1 : ¬t.val % 32 = 0) (h2 : ¬t.val % 32 = 0) :
    (dats m 0 c).flushed 4 t = (cfg0.win 4).cut (grid0.coords t) (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v18) (V m c main_v20)) := by
  simp only [flushed4, outsAt0_B m c t h0 h1 h2]

/-- The index map sends distinct grid points to distinct block indices (decided over the 32 points). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S8192x4096.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- WHAT POINT `t` WRITES BACK to output window 5's array: the run's contents for that window after the body (`Gen.outsAt0`: its component 1), read through the window's block. -/
theorem flushed5 (c : Dev nD) (t : Fin cfg0.N) :
    (dats m 0 c).flushed 5 t = (cfg0.win 5).cut (grid0.coords t) ((outsAt0 m c t.val t.isLt).2.1) := by
  show (cfg0.win 5).cut (grid0.coords t) ((dats m 0 c).after 5 t) = _
  rw [after0_5]

/-- … so at a point where case A runs, what its write-back would write is that case's NAMED TERM for the window (`Gen.out0_A_5`: the pieces
    its run found, read back) at the point's memrefs and input blocks, and for an output the case reads back what the point before left (`Gen.outsAt0` at `t - 1`) — by the frame's rewriting lemma for the case. -/
theorem flushed5_A (c : Dev nD) (t : Fin cfg0.N) (h0 : t.val % 32 = 0) (h1 : t.val % 32 = 0) (h2 : t.val % 32 = 0) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) ((hcond0_1 t).mpr h1) ((hcond0_2 t).mpr h2) (iblk m c 0 t) (iblk m c 1 t) (iblk m c 2 t) (iblk m c 3 t) (V m c main_v18) (V m c main_v20)) := by
  simp only [flushed5, outsAt0_A m c t h0 h1 h2]

/-- … so at a point where case B runs, what its write-back would write is that case's NAMED TERM for the window (`Gen.out0_B_5`: the pieces
    its run found, read back) at the point's memrefs and input blocks, and for an output the case reads back what the point before left (`Gen.outsAt0` at `t - 1`) — by the frame's rewriting lemma for the case. -/
theorem flushed5_B (c : Dev nD) (t : Fin cfg0.N) (h0 : ¬t.val % 32 = 0) (h1 : ¬t.val % 32 = 0) (h2 : ¬t.val % 32 = 0) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v18) (V m c main_v20)) := by
  simp only [flushed5, outsAt0_B m c t h0 h1 h2]

/-- The index map sends distinct grid points to distinct block indices (decided over the 32 points). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S8192x1024.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the run's contents for that window after the body (`Gen.outsAt0`: its component 2), read through the window's block. -/
theorem flushed6 (c : Dev nD) (t : Fin cfg0.N) :
    (dats m 0 c).flushed 6 t = (cfg0.win 6).cut (grid0.coords t) ((outsAt0 m c t.val t.isLt).2.2.1) := by
  show (cfg0.win 6).cut (grid0.coords t) ((dats m 0 c).after 6 t) = _
  rw [after0_6]

/-- … so at a point where case A runs, what its write-back would write is that case's NAMED TERM for the window (`Gen.out0_A_6`: the pieces
    its run found, read back) at the point's memrefs and input blocks, and for an output the case reads back what the point before left (`Gen.outsAt0` at `t - 1`) — by the frame's rewriting lemma for the case. -/
theorem flushed6_A (c : Dev nD) (t : Fin cfg0.N) (h0 : t.val % 32 = 0) (h1 : t.val % 32 = 0) (h2 : t.val % 32 = 0) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) ((hcond0_1 t).mpr h1) ((hcond0_2 t).mpr h2) (iblk m c 0 t) (iblk m c 1 t) (iblk m c 2 t) (iblk m c 3 t) (V m c main_v18) (V m c main_v20)) := by
  simp only [flushed6, outsAt0_A m c t h0 h1 h2]

/-- … so at a point where case B runs, what its write-back would write is that case's NAMED TERM for the window (`Gen.out0_B_6`: the pieces
    its run found, read back) at the point's memrefs and input blocks, and for an output the case reads back what the point before left (`Gen.outsAt0` at `t - 1`) — by the frame's rewriting lemma for the case. -/
theorem flushed6_B (c : Dev nD) (t : Fin cfg0.N) (h0 : ¬t.val % 32 = 0) (h1 : ¬t.val % 32 = 0) (h2 : ¬t.val % 32 = 0) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v18) (V m c main_v20)) := by
  simp only [flushed6, outsAt0_B m c t h0 h1 h2]

-- no `blocks6`: window 6's index map revisits a block index, or its points could not be enumerated here;
-- the final array is still the frame's `arrAt`, to read with Lib/Pipeline/Value.lean's lemmas by hand

/-- An index that no flushing point's block covers keeps output window 6's array contents at region entry. -/
theorem entry6 (c : Dev nD) (i : S8x1024.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the run's contents for that window after the body (`Gen.outsAt0`: its component 3), read through the window's block. -/
theorem flushed7 (c : Dev nD) (t : Fin cfg0.N) :
    (dats m 0 c).flushed 7 t = (cfg0.win 7).cut (grid0.coords t) ((outsAt0 m c t.val t.isLt).2.2.2.1) := by
  show (cfg0.win 7).cut (grid0.coords t) ((dats m 0 c).after 7 t) = _
  rw [after0_7]

/-- … so at a point where case A runs, what its write-back would write is that case's NAMED TERM for the window (`Gen.out0_A_7`: the pieces
    its run found, read back) at the point's memrefs and input blocks, and for an output the case reads back what the point before left (`Gen.outsAt0` at `t - 1`) — by the frame's rewriting lemma for the case. -/
theorem flushed7_A (c : Dev nD) (t : Fin cfg0.N) (h0 : t.val % 32 = 0) (h1 : t.val % 32 = 0) (h2 : t.val % 32 = 0) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) ((hcond0_1 t).mpr h1) ((hcond0_2 t).mpr h2) (iblk m c 0 t) (iblk m c 1 t) (iblk m c 2 t) (iblk m c 3 t) (V m c main_v18) (V m c main_v20)) := by
  simp only [flushed7, outsAt0_A m c t h0 h1 h2]

/-- … so at a point where case B runs, what its write-back would write is that case's NAMED TERM for the window (`Gen.out0_B_7`: the pieces
    its run found, read back) at the point's memrefs and input blocks, and for an output the case reads back what the point before left (`Gen.outsAt0` at `t - 1`) — by the frame's rewriting lemma for the case. -/
theorem flushed7_B (c : Dev nD) (t : Fin cfg0.N) (h0 : ¬t.val % 32 = 0) (h1 : ¬t.val % 32 = 0) (h2 : ¬t.val % 32 = 0) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v18) (V m c main_v20)) := by
  simp only [flushed7, outsAt0_B m c t h0 h1 h2]

-- no `blocks7`: window 7's index map revisits a block index, or its points could not be enumerated here;
-- the final array is still the frame's `arrAt`, to read with Lib/Pipeline/Value.lean's lemmas by hand

/-- An index that no flushing point's block covers keeps output window 7's array contents at region entry. -/
theorem entry7 (c : Dev nD) (i : S8x1024.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v21_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v21_1) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v21_2) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v21_3) = (dats m 0 c).arrAt 7 cfg0.N :=
  (h c).1 7

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v21_0) = (dats m 0 c).arrAt 4 cfg0.N
      ∧ r.2.mem ((c : Thread nD τ).loc main_v21_1) = (dats m 0 c).arrAt 5 cfg0.N
      ∧ r.2.mem ((c : Thread nD τ).loc main_v21_2) = (dats m 0 c).arrAt 6 cfg0.N
      ∧ r.2.mem ((c : Thread nD τ).loc main_v21_3) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post4 m r h c,
      post5 m r h c,
      post6 m r h c,
      post7 m r h c,
      kept_main_arg0 m r h c,
      kept_main_arg1 m r h c,
      kept_main_arg2 m r h c,
      kept_main_arg3 m r h c,
      kept_main_arg4 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S1024x4096 .bf16) : Vec F S1024x4096 .bf16 :=
  if h0 : n % 32 = 0 then
    if h1 : n % 32 = 0 then
      if h2 : n % 32 = 0 then
        sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) ((hcond0_0 (⟨n, hb⟩ : Fin cfg0.N)).mpr h0) ((hcond0_1 (⟨n, hb⟩ : Fin cfg0.N)).mpr h1) ((hcond0_2 (⟨n, hb⟩ : Fin cfg0.N)).mpr h2) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (V m c main_v18) (V m c main_v20)
      else
        acc
    else
      acc
  else
    if h1 : n % 32 = 0 then
      acc
    else
      if h2 : n % 32 = 0 then
        acc
      else
        sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2.1 acc (outsAt0 m c ((⟨n, hb⟩ : Fin cfg0.N).val - 1) (Nat.lt_of_le_of_lt (Nat.sub_le _ _) (⟨n, hb⟩ : Fin cfg0.N).isLt)).2.2.2.2.2 (V m c main_v18) (V m c main_v20)

/-- WHAT CARRIED SCRATCH 0 HOLDS after point `t`: the fold of its run up to `t`, from the reset at the run's first point
    `32·(t / 32)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2.2.2.1 = Pipeline.accAt (fun n h => scAt0_0 m c n h (VS0_0.read (Elt F) VS0_0.junk)) (scAt0_0 m c) (32 * (t.val / 32)) (t.val % 32)
      (by have h1 := t.isLt; have h2 := Nat.div_add_mod t.val 32; omega) :=
  Pipeline.eq_accAt_of_mod (fun n h => (outsAt0 m c n h).2.2.2.2.1) 32 (fun n h => scAt0_0 m c n h (VS0_0.read (Elt F) VS0_0.junk)) (scAt0_0 m c)
    (fun n h hn => by
      have hN := lt_of_lt_of_eq h (show cfg0.N = 32 from N_0)
      by_cases h0 : n % 32 = 0 <;> by_cases h1 : n % 32 = 0 <;> by_cases h2 : n % 32 = 0
      all_goals first | (exfalso; omega) | (rw [outsAt0_A m c ⟨n, h⟩ h0 h1 h2]; dsimp only; unfold scAt0_0; rw [dif_pos h0, dif_pos h1, dif_pos h2] <;> try rfl) | (rw [outsAt0_B m c ⟨n, h⟩ h0 h1 h2]; dsimp only; unfold scAt0_0; rw [dif_neg h0, dif_neg h1, dif_neg h2] <;> try rfl))
    (fun n h hn => by
      have hN := lt_of_lt_of_eq h (show cfg0.N = 32 from N_0)
      by_cases h0 : (n + 1) % 32 = 0 <;> by_cases h1 : (n + 1) % 32 = 0 <;> by_cases h2 : (n + 1) % 32 = 0
      all_goals first | (exfalso; omega) | (rw [outsAt0_A m c ⟨n + 1, h⟩ h0 h1 h2]; dsimp only; unfold scAt0_0; rw [dif_pos h0, dif_pos h1, dif_pos h2] <;> try rfl) | (rw [outsAt0_B m c ⟨n + 1, h⟩ h0 h1 h2]; dsimp only; unfold scAt0_0; rw [dif_neg h0, dif_neg h1, dif_neg h2] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2.2.2.2.1 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 32 from N_0)
  have hd : n / 32 = 0 := Nat.div_eq_of_lt hN
  have hm : n % 32 = n := Nat.mod_eq_of_lt hN
  simpa only [hd, hm, Nat.mul_zero] using e

/-! ## Carried scratch 1: what each point leaves in it, and its fold -/

/-- What point `n` leaves in carried scratch 1, over what the point before left in it (`acc`): the case the conditions'
    closed forms select at `n`, the frame's own term for it (`Gen.sout0_κ_1`; anything else the case takes of the point
    before, another carried scratch or an output it reads back, stays `Gen.outsAt0`'s at `n - 1`); a case at the first point
    stores the scratch whole without reading what it held, and `acc` does not enter there (nor where no point meets the
    conditions: `acc`, never read). -/
def scAt0_1 (c : Dev nD) (n : ℕ) (hb : n < cfg0.N) (acc : Vec F S4096x1024 .bf16) : Vec F S4096x1024 .bf16 :=
  if h0 : n % 32 = 0 then
    if h1 : n % 32 = 0 then
      if h2 : n % 32 = 0 then
        sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) ((hcond0_0 (⟨n, hb⟩ : Fin cfg0.N)).mpr h0) ((hcond0_1 (⟨n, hb⟩ : Fin cfg0.N)).mpr h1) ((hcond0_2 (⟨n, hb⟩ : Fin cfg0.N)).mpr h2) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (V m c main_v18) (V m c main_v20)
      else
        acc
    else
      acc
  else
    if h1 : n % 32 = 0 then
      acc
    else
      if h2 : n % 32 = 0 then
        acc
      else
        sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2.1 acc (V m c main_v18) (V m c main_v20)

/-- WHAT CARRIED SCRATCH 1 HOLDS after point `t`: the fold of its run up to `t`, from the reset at the run's first point
    `32·(t / 32)` (Lib/Pipeline/Value.lean `Pipeline.eq_accAt_of_mod`, by the frame's `outsAt0_κ`; without enumerating the points). -/
theorem soutsAt0_1_eq (c : Dev nD) (t : Fin cfg0.N) :
    (outsAt0 m c t.val t.isLt).2.2.2.2.2 = Pipeline.accAt (fun n h => scAt0_1 m c n h (VS0_1.read (Elt F) VS0_1.junk)) (scAt0_1 m c) (32 * (t.val / 32)) (t.val % 32)
      (by have h1 := t.isLt; have h2 := Nat.div_add_mod t.val 32; omega) :=
  Pipeline.eq_accAt_of_mod (fun n h => (outsAt0 m c n h).2.2.2.2.2) 32 (fun n h => scAt0_1 m c n h (VS0_1.read (Elt F) VS0_1.junk)) (scAt0_1 m c)
    (fun n h hn => by
      have hN := lt_of_lt_of_eq h (show cfg0.N = 32 from N_0)
      by_cases h0 : n % 32 = 0 <;> by_cases h1 : n % 32 = 0 <;> by_cases h2 : n % 32 = 0
      all_goals first | (exfalso; omega) | (rw [outsAt0_A m c ⟨n, h⟩ h0 h1 h2]; dsimp only; unfold scAt0_1; rw [dif_pos h0, dif_pos h1, dif_pos h2] <;> try rfl) | (rw [outsAt0_B m c ⟨n, h⟩ h0 h1 h2]; dsimp only; unfold scAt0_1; rw [dif_neg h0, dif_neg h1, dif_neg h2] <;> try rfl))
    (fun n h hn => by
      have hN := lt_of_lt_of_eq h (show cfg0.N = 32 from N_0)
      by_cases h0 : (n + 1) % 32 = 0 <;> by_cases h1 : (n + 1) % 32 = 0 <;> by_cases h2 : (n + 1) % 32 = 0
      all_goals first | (exfalso; omega) | (rw [outsAt0_A m c ⟨n + 1, h⟩ h0 h1 h2]; dsimp only; unfold scAt0_1; rw [dif_pos h0, dif_pos h1, dif_pos h2] <;> try rfl) | (rw [outsAt0_B m c ⟨n + 1, h⟩ h0 h1 h2]; dsimp only; unfold scAt0_1; rw [dif_neg h0, dif_neg h1, dif_neg h2] <;> try rfl))
    (by decide) t.val t.isLt _

/-- One run spans the grid (the only reset is at point 0): after point `n` the scratch is the fold from 0 to `n`. -/
theorem soutsAt0_1_sweep (c : Dev nD) (n : ℕ) (hn : n < cfg0.N) :
    (outsAt0 m c n hn).2.2.2.2.2 = Pipeline.accAt (fun n h => scAt0_1 m c n h (VS0_1.read (Elt F) VS0_1.junk)) (scAt0_1 m c) 0 n (by omega) := by
  have e := soutsAt0_1_eq m c ⟨n, hn⟩
  have hN := lt_of_lt_of_eq hn (show cfg0.N = 32 from N_0)
  have hd : n / 32 = 0 := Nat.div_eq_of_lt hN
  have hm : n % 32 = n := Nat.mod_eq_of_lt hN
  simpa only [hd, hm, Nat.mul_zero] using e

end Cert.Kernel2Ideal.Value

end
-- ==== Proof.Mlp.lean ====
module
public import Idealize.ShloMosaic.PureOps.Ideal
public import Mathlib.Algebra.BigOperators.Fin
@[expose] public section

/-! # The perceptron of a layer, in plain numbers

The norm, the two products with the squared positive part between them, and the gradients that a product of the
backward pass is made of. -/

noncomputable section
open Idealize.ShloMosaic
namespace Cert.Mlp

/-- The arrays that a layer's perceptron works on: the gradient of its result, its input, the norm's gains and the two weights. -/
@[ext] structure In where
  dO : Fin 8192 → Fin 1024 → EReal
  h : Fin 8192 → Fin 1024 → EReal
  g : Fin 1024 → EReal
  w1 : Fin 1024 → Fin 4096 → EReal
  w2 : Fin 4096 → Fin 1024 → EReal

/-- The column of a weight that a device's share holds. -/
def col (d : Fin 8) (q : Fin 512) : Fin 4096 := ⟨(d : ℕ) * 512 + q, by omega⟩

/-- A row of a block of 256 rows. -/
def row (s : Fin 32) (y : Fin 256) : Fin 8192 := ⟨(s : ℕ) * 256 + y, by omega⟩

namespace In
variable (I : In)

/-- One over the root of a row's mean square. -/
def rstd (t : Fin 8192) : EReal :=
  Ideal.rsqrt (Ideal.div (∑ x, I.h t x * I.h t x) (Ideal.ofBits .f32 0x44800000#32) + Ideal.ofBits .f32 0x358637BD#32)

/-- The normalised row. -/
def nrm (t : Fin 8192) (k : Fin 1024) : EReal := I.h t k * I.rstd t * I.g k

/-- The first product. -/
def up (t : Fin 8192) (j : Fin 4096) : EReal := ∑ k, I.nrm t k * I.w1 k j

/-- The square of the first product's positive part. -/
def act (t : Fin 8192) (j : Fin 4096) : EReal := max (I.up t j) 0 * max (I.up t j) 0

/-- The result: the second product added to the input. -/
def out (t : Fin 8192) (k : Fin 1024) : EReal := I.h t k + ∑ j, I.act t j * I.w2 j k

/-- The gradient of the square. -/
def dr (t : Fin 8192) (j : Fin 4096) : EReal := ∑ k, I.dO t k * I.w2 j k

/-- The gradient of the first product. -/
def dup (t : Fin 8192) (j : Fin 4096) : EReal := I.dr t j * (Ideal.ofBits .f32 0x40000000#32 * max (I.up t j) 0)

/-- The gradient of the first weight. -/
def dw1 (k : Fin 1024) (j : Fin 4096) : EReal := ∑ t, I.nrm t k * I.dup t j

/-- The gradient of the second weight. -/
def dw2 (j : Fin 4096) (k : Fin 1024) : EReal := ∑ t, I.act t j * I.dO t k

/-- The row divided by its root mean square. -/
def xh (t : Fin 8192) (k : Fin 1024) : EReal := I.h t k * I.rstd t

/-- The gradient of the normalised row. -/
def dn (t : Fin 8192) (k : Fin 1024) : EReal := ∑ j, I.dup t j * I.w1 k j

/-- The gradient of the input, as the kernel computes it. -/
def dh (t : Fin 8192) (k : Fin 1024) : EReal :=
  I.dO t k + I.rstd t * (I.dn t k * I.g k - I.xh t k * Ideal.div (∑ x, I.dn t x * I.g x * I.xh t x) (Ideal.ofBits .f32 0x44800000#32))

/-- The gradient of the gains. -/
def dg (k : Fin 1024) : EReal := ∑ t, I.dn t k * I.xh t k

/-- The gradient of what every row gets: the sum of the input's gradient over the rows. -/
def cs (k : Fin 1024) : EReal := ∑ t, I.dh t k

/-- Where the first product is not positive its gradient is zero, chosen or computed. -/
theorem dup_select (t : Fin 8192) (j : Fin 4096) [Decidable (0 < I.up t j)] :
    (if 0 < I.up t j then I.dr t j * (Ideal.ofBits .f32 0x40000000#32 * max (I.up t j) 0) else 0) = I.dup t j := by
  unfold dup
  split
  · rfl
  · rename_i h
    rw [max_eq_right (not_lt.mp h), mul_zero, mul_zero]

end In
end Cert.Mlp
end
-- ==== Proof.Pieces.lean ====
module
public import Idealize.ShloMosaic.Lib.Pipeline.ValueKit
public import Idealize.ShloMosaic.Lib.WritesUnit
@[expose] public section

/-! # Stores of rectangles -/

noncomputable section
open Idealize.ShloMosaic
namespace Cert.Pieces

/-- A store of a rectangle, read off the coordinates it places. -/
theorem unit_piece {S : Shape} {α : Type} (G : S.Idx → α) (off size : Fin S.rank → ℕ) (inb : ∀ a, off a + size a ≤ S.size a)
    (w : (Rect.unit off size inb).shape.Idx → α)
    (h : ∀ (y : S.Idx) (x : (Rect.unit off size inb).shape.Idx), (∀ a, (y a : ℕ) = off a + (x a : ℕ)) → w x = G y)
    (x : (Rect.unit off size inb).shape.Idx) : w x = G ((Rect.unit off size inb).emb x) :=
  h _ x fun a => by rw [Rect.emb_apply]; show off a + 1 * (x a : ℕ) = _; omega

/-- Stores below a store of an array's first row. -/
theorem row_over {Val : EltTy → Type} [∀ e, Nonempty (Val e)] {e : EltTy} (inb) (w : (⟨2, ![1, 1024]⟩ : Shape).Idx → Val e)
    (L : List (View.Piece Val (⟨2, ![8, 1024]⟩ : Shape) e)) {sig : RefSig} {κ : Kind} {sp : Space} (v : View sig κ sp (⟨2, ![8, 1024]⟩ : Shape) e)
    (f : v.ty.Contents Val) (j : (⟨2, ![8, 1024]⟩ : Shape).Idx) :
    v.read Val (v.writes Val f (⟨Rect.unit (s := ⟨2, ![8, 1024]⟩) ![0, 0] ![1, 1024] inb, w⟩ :: L)) j
      = if (j 0 : ℕ) = 0 then w (ix2 (0 : Fin 1) (j 1)) else v.read Val (v.writes Val f L) j := by
  split
  · rename_i h
    refine View.read_writes_cons_unit_of_mem v f inb w L j (ix2 (0 : Fin 1) (j 1)) rfl fun a => ?_
    fin_cases a
    · exact h
    · exact (Nat.zero_add _).symm
  · rename_i h
    exact View.read_writes_cons_unit_of_not_mem v f inb w L j rfl 0 (Or.inr (by show 0 + 1 ≤ (j 0 : ℕ); omega))

/-- The same of what the stores leave. -/
theorem row_canon {Val : EltTy → Type} [∀ e, Nonempty (Val e)] {e : EltTy} (inb) (w : (⟨2, ![1, 1024]⟩ : Shape).Idx → Val e)
    (L : List (View.Piece Val (⟨2, ![8, 1024]⟩ : Shape) e)) {sig : RefSig} {κ : Kind} {sp : Space} (v : View sig κ sp (⟨2, ![8, 1024]⟩ : Shape) e)
    (j : (⟨2, ![8, 1024]⟩ : Shape).Idx) :
    View.canon (⟨Rect.unit (s := ⟨2, ![8, 1024]⟩) ![0, 0] ![1, 1024] inb, w⟩ :: L) j
      = if (j 0 : ℕ) = 0 then w (ix2 (0 : Fin 1) (j 1)) else View.canon L j := by
  rw [← View.read_writes_junk_apply_eq_canon v, row_over, View.read_writes_junk_apply_eq_canon]

end Cert.Pieces
end
-- ==== Proof.MlpBack.lean ====
module
public import proofs.«01_k».proof.Proof.MlpBackBlocks
public import proofs.«01_k».proof.Proof.Gen.Reference2Ideal.Run
public import proofs.«01_k».proof.Proof.Mlp
public import proofs.«01_k».proof.Proof.Pieces
public import Idealize.ShloMosaic.Lib.Pipeline.ValueKit
public import Idealize.ShloMosaic.Lib.Pipeline.ReadBack
public import Idealize.ShloMosaic.Lib.Pointwise
public import Idealize.ShloMosaic.Lib.ValueLayout
public import Idealize.ShloMosaic.Lib.Claim
@[expose] public section
set_option maxRecDepth 16384

/-! # The backward pass of the perceptron -/

noncomputable section
open Idealize.ShloMosaic Idealize.ShloMosaic.TcCoe Idealize.SL.Sem
open Idealize.ShloMosaic.Pipeline (Dat)
open Idealize.ShloMosaic.Tactic
open Cert.Mlp

namespace Cert.Kernel2Ideal.Tile
open Cert.Kernel2Ideal Cert.Kernel2Ideal.Gen
variable (m : (ℓ : Loc nD τ sig) → Buf (Elt Ideal) ℓ) (c : Dev nD)

/-- The arguments as plain numbers. -/
def inp : In where
  dO t k := (m ((c : Thread nD τ).loc main_arg0) : FVec Ideal S8192x1024 .f32) (ix2 t k)
  h t k := (m ((c : Thread nD τ).loc main_arg1) : FVec Ideal S8192x1024 .f32) (ix2 t k)
  g k := (m ((c : Thread nD τ).loc main_arg2) : FVec Ideal S1024 .f32) (ix1 k)
  w1 k j := (m ((c : Thread nD τ).loc main_arg3) : FVec Ideal S1024x4096 .f32) (ix2 k j)
  w2 j k := (m ((c : Thread nD τ).loc main_arg4) : FVec Ideal S4096x1024 .f32) (ix2 j k)

/-- Blocks of the arguments and whole weights, as plain numbers. -/
structure Holds (I : In) (s : Fin 32) (X0 X1 : FVec Ideal S256x1024 .f32) (X2 : FVec Ideal S1x1024 .f32) (X3 : FVec Ideal S256x4096 .bf16)
    (W1 : FVec Ideal S1024x4096 .bf16) (W2 : FVec Ideal S4096x1024 .bf16) : Prop where
  dO : ∀ y k, X0 (ix2 y k) = I.dO (row s y) k
  h : ∀ y k, X1 (ix2 y k) = I.h (row s y) k
  g : ∀ k, X2 (ix2 0 k) = I.g k
  f : ∀ y j, X3 (ix2 y j) = I.up (row s y) j
  w1 : ∀ k j, W1 (ix2 k j) = I.w1 k j
  w2 : ∀ j k, W2 (ix2 j k) = I.w2 j k

section payloads
variable {I : In} {s : Fin 32} {X0 X1 : FVec Ideal S256x1024 .f32} {X2 : FVec Ideal S1x1024 .f32} {X3 : FVec Ideal S256x4096 .bf16}
  {W1 : FVec Ideal S1024x4096 .bf16} {W2 : FVec Ideal S4096x1024 .bf16}

/-- The gradient of the first product, of a block of rows. -/
theorem pay_dup (H : Holds I s X0 X1 X2 X3 W1 W2) (y : Fin 256) (j : Fin 4096) : k0_pay8 (F := Ideal) X0 W2 X3 (ix2 y j) = I.dup (row s y) j := by
  pointwise [k0_pay8]
  simp only [H.dO, H.f, H.w2]
  rfl

/-- The gradient of the normalised rows. -/
theorem pay_dn (H : Holds I s X0 X1 X2 X3 W1 W2) (y : Fin 256) (k : Fin 1024) : k0_pay9 (F := Ideal) X0 W2 X3 W1 (ix2 y k) = I.dn (row s y) k := by
  pointwise [k0_pay9]
  simp only [pay_dup H, H.w1]
  rfl

/-- One over the rows' root mean square. -/
theorem pay_rstd (H : Holds I s X0 X1 X2 X3 W1 W2) (y : Fin 256) : k0_pay1 (F := Ideal) (k0_pay11 X1) (ix2 y 0) = I.rstd (row s y) := by
  pointwise [k0_pay1, k0_pay11]
  simp only [H.h]
  rfl

/-- The rows divided by it. -/
theorem pay_xh (H : Holds I s X0 X1 X2 X3 W1 W2) (y : Fin 256) (k : Fin 1024) : k0_pay2 (F := Ideal) X1 (k0_pay11 X1) (ix2 y k) = I.xh (row s y) k := by
  pointwise [k0_pay2]
  rw [pay_rstd H, H.h]
  rfl

/-- What a block adds to the gains' gradient. -/
theorem pay_dg (H : Holds I s X0 X1 X2 X3 W1 W2) (A : FVec Ideal S1x1024 .f32) (k : Fin 1024) :
    k0_pay3 (F := Ideal) (k0_pay9 X0 W2 X3 W1) X1 (k0_pay11 X1) A (ix2 0 k) = A (ix2 0 k) + ∑ y, I.dn (row s y) k * I.xh (row s y) k := by
  pointwise [k0_pay3]
  simp only [pay_dn H, pay_xh H]

/-- The gradient of the input, of a block of rows. -/
theorem pay_dh (H : Holds I s X0 X1 X2 X3 W1 W2) (y : Fin 256) (k : Fin 1024) :
    k0_pay4 (F := Ideal) X0 (k0_pay9 X0 W2 X3 W1) (k0_pay10 X2) X1 (k0_pay11 X1) (ix2 y k) = I.dh (row s y) k := by
  pointwise [k0_pay4, k0_pay10]
  simp only [pay_dn H, pay_xh H, pay_rstd H, H.g, H.dO]
  rfl

/-- What a block adds to the sum over the rows. -/
theorem pay_cs (H : Holds I s X0 X1 X2 X3 W1 W2) (A : FVec Ideal S1x1024 .f32) (k : Fin 1024) :
    k0_pay5 (F := Ideal) X0 (k0_pay9 X0 W2 X3 W1) (k0_pay10 X2) X1 (k0_pay11 X1) A (ix2 0 k) = A (ix2 0 k) + ∑ y, I.dh (row s y) k := by
  pointwise [k0_pay5]
  simp only [pay_dh H]

end payloads

/-- The eight copies that put the first weight together. -/
def loads1 (W : FVec Ideal S8x1024x512 .bf16) : List (View.Piece (Elt Ideal) S1024x4096 .bf16) :=
  [⟨Rect.unit ![0, 3584] ![1024, 512] (by decide), ReadAs.same.apply (View.read (Elt Ideal) (((View.whole main_v18).slice (Rect.unit ![7, 0, 0] ![1, 1024, 512] (by decide))).reshape S1024x512 (by decide)) W)⟩,
   ⟨Rect.unit ![0, 3072] ![1024, 512] (by decide), ReadAs.same.apply (View.read (Elt Ideal) (((View.whole main_v18).slice (Rect.unit ![6, 0, 0] ![1, 1024, 512] (by decide))).reshape S1024x512 (by decide)) W)⟩,
   ⟨Rect.unit ![0, 2560] ![1024, 512] (by decide), ReadAs.same.apply (View.read (Elt Ideal) (((View.whole main_v18).slice (Rect.unit ![5, 0, 0] ![1, 1024, 512] (by decide))).reshape S1024x512 (by decide)) W)⟩,
   ⟨Rect.unit ![0, 2048] ![1024, 512] (by decide), ReadAs.same.apply (View.read (Elt Ideal) (((View.whole main_v18).slice (Rect.unit ![4, 0, 0] ![1, 1024, 512] (by decide))).reshape S1024x512 (by decide)) W)⟩,
   ⟨Rect.unit ![0, 1536] ![1024, 512] (by decide), ReadAs.same.apply (View.read (Elt Ideal) (((View.whole main_v18).slice (Rect.unit ![3, 0, 0] ![1, 1024, 512] (by decide))).reshape S1024x512 (by decide)) W)⟩,
   ⟨Rect.unit ![0, 1024] ![1024, 512] (by decide), ReadAs.same.apply (View.read (Elt Ideal) (((View.whole main_v18).slice (Rect.unit ![2, 0, 0] ![1, 1024, 512] (by decide))).reshape S1024x512 (by decide)) W)⟩,
   ⟨Rect.unit ![0, 512] ![1024, 512] (by decide), ReadAs.same.apply (View.read (Elt Ideal) (((View.whole main_v18).slice (Rect.unit ![1, 0, 0] ![1, 1024, 512] (by decide))).reshape S1024x512 (by decide)) W)⟩,
   ⟨Rect.unit ![0, 0] ![1024, 512] (by decide), ReadAs.same.apply (View.read (Elt Ideal) (((View.whole main_v18).slice (Rect.unit ![0, 0, 0] ![1, 1024, 512] (by decide))).reshape S1024x512 (by decide)) W)⟩]

/-- The eight copies that put the second weight together. -/
def loads2 (W : FVec Ideal S8x512x1024 .bf16) : List (View.Piece (Elt Ideal) S4096x1024 .bf16) :=
  [⟨Rect.unit ![3584, 0] ![512, 1024] (by decide), ReadAs.same.apply (View.read (Elt Ideal) (((View.whole main_v20).slice (Rect.unit ![7, 0, 0] ![1, 512, 1024] (by decide))).reshape S512x1024 (by decide)) W)⟩,
   ⟨Rect.unit ![3072, 0] ![512, 1024] (by decide), ReadAs.same.apply (View.read (Elt Ideal) (((View.whole main_v20).slice (Rect.unit ![6, 0, 0] ![1, 512, 1024] (by decide))).reshape S512x1024 (by decide)) W)⟩,
   ⟨Rect.unit ![2560, 0] ![512, 1024] (by decide), ReadAs.same.apply (View.read (Elt Ideal) (((View.whole main_v20).slice (Rect.unit ![5, 0, 0] ![1, 512, 1024] (by decide))).reshape S512x1024 (by decide)) W)⟩,
   ⟨Rect.unit ![2048, 0] ![512, 1024] (by decide), ReadAs.same.apply (View.read (Elt Ideal) (((View.whole main_v20).slice (Rect.unit ![4, 0, 0] ![1, 512, 1024] (by decide))).reshape S512x1024 (by decide)) W)⟩,
   ⟨Rect.unit ![1536, 0] ![512, 1024] (by decide), ReadAs.same.apply (View.read (Elt Ideal) (((View.whole main_v20).slice (Rect.unit ![3, 0, 0] ![1, 512, 1024] (by decide))).reshape S512x1024 (by decide)) W)⟩,
   ⟨Rect.unit ![1024, 0] ![512, 1024] (by decide), ReadAs.same.apply (View.read (Elt Ideal) (((View.whole main_v20).slice (Rect.unit ![2, 0, 0] ![1, 512, 1024] (by decide))).reshape S512x1024 (by decide)) W)⟩,
   ⟨Rect.unit ![512, 0] ![512, 1024] (by decide), ReadAs.same.apply (View.read (Elt Ideal) (((View.whole main_v20).slice (Rect.unit ![1, 0, 0] ![1, 512, 1024] (by decide))).reshape S512x1024 (by decide)) W)⟩,
   ⟨Rect.unit ![0, 0] ![512, 1024] (by decide), ReadAs.same.apply (View.read (Elt Ideal) (((View.whole main_v20).slice (Rect.unit ![0, 0, 0] ![1, 512, 1024] (by decide))).reshape S512x1024 (by decide)) W)⟩]

/-- A slab of the first weight's blocks, read as a matrix. -/
theorem slab1 (W : FVec Ideal S8x1024x512 .bf16) (o : ℕ) (d : Fin 8) (ho : (d : ℕ) = o) (inb) (hn) (x : S1024x512.Idx) :
    View.read (Elt Ideal) (((View.whole main_v18).slice (Rect.unit (s := S8x1024x512) ![o, 0, 0] ![1, 1024, 512] inb)).reshape S1024x512 hn) W x
      = W (ix3 d (x 0) (x 1)) := by
  subst ho
  idx_vars x
  refine congrArg W ?_
  show (Rect.unit (s := S8x1024x512) ![(d : ℕ), 0, 0] ![1, 1024, 512] inb).emb (Shape.reshapeEquiv hn (ix2 x0 x1)) = _
  refine (congrArg _ (Idealize.ShloMosaic.ValueIdx.reshapeEquiv_ix2_1ab hn x0 x1)).trans ?_
  funext a
  fin_cases a <;> exact Fin.ext (by rw [Rect.emb_apply]; simp)

/-- A slab of the second weight's blocks, read as a matrix. -/
theorem slab2 (W : FVec Ideal S8x512x1024 .bf16) (o : ℕ) (d : Fin 8) (ho : (d : ℕ) = o) (inb) (hn) (x : S512x1024.Idx) :
    View.read (Elt Ideal) (((View.whole main_v20).slice (Rect.unit (s := S8x512x1024) ![o, 0, 0] ![1, 512, 1024] inb)).reshape S512x1024 hn) W x
      = W (ix3 d (x 0) (x 1)) := by
  subst ho
  idx_vars x
  refine congrArg W ?_
  show (Rect.unit (s := S8x512x1024) ![(d : ℕ), 0, 0] ![1, 512, 1024] inb).emb (Shape.reshapeEquiv hn (ix2 x0 x1)) = _
  refine (congrArg _ (Idealize.ShloMosaic.ValueIdx.reshapeEquiv_ix2_1ab hn x0 x1)).trans ?_
  funext a
  fin_cases a <;> exact Fin.ext (by rw [Rect.emb_apply]; simp)

/-- The first weight as the copies leave it in the scratch. -/
theorem canon1 (W : FVec Ideal S8x1024x512 .bf16) (j : S1024x4096.Idx) : View.canon (loads1 W) j
    = W (ix3 ⟨(j 1 : ℕ) / 512, by have h : (j 1 : ℕ) < 4096 := (j 1).isLt; omega⟩ (j 0) ⟨(j 1 : ℕ) % 512, by omega⟩) := by
  unfold loads1
  canon_tiles x h
  all_goals
    refine (slab1 W _ ⟨(j 1 : ℕ) / 512, by have h : (j 1 : ℕ) < 4096 := (j 1).isLt; omega⟩ (by dsimp only; omega) _ _ x).trans ?_
    refine congrArg W (congrArg₂ (fun a b => ix3 _ a b) (Fin.ext (by omega)) (Fin.ext (by dsimp only; omega)))

/-- The second weight as the copies leave it in the scratch. -/
theorem canon2 (W : FVec Ideal S8x512x1024 .bf16) (j : S4096x1024.Idx) : View.canon (loads2 W) j
    = W (ix3 ⟨(j 0 : ℕ) / 512, by have h : (j 0 : ℕ) < 4096 := (j 0).isLt; omega⟩ ⟨(j 0 : ℕ) % 512, by omega⟩ (j 1)) := by
  unfold loads2
  canon_tiles x h
  all_goals
    refine (slab2 W _ ⟨(j 0 : ℕ) / 512, by have h : (j 0 : ℕ) < 4096 := (j 0).isLt; omega⟩ (by dsimp only; omega) _ _ x).trans ?_
    refine congrArg W (congrArg₂ (fun a b => ix3 _ a b) (Fin.ext (by dsimp only; omega)) (Fin.ext (by omega)))

/-- The whole first scratch read back. -/
theorem whole1 (L : List (View.Piece (Elt Ideal) S1024x4096 .bf16)) :
    (View.whole cc0_scratch0).readCov L (Rect.unit (s := S1024x4096) ![0, 0] ![1024, 4096] inb_S1024x4096_S1024x4096_0_0).toLoadRect = View.canon L := by
  rw [View.readCov_eq_canon']
  exact View.ld_unit_lit inb_S1024x4096_S1024x4096_0_0 (View.canon L) (by decide)

/-- The whole second scratch read back. -/
theorem whole2 (L : List (View.Piece (Elt Ideal) S4096x1024 .bf16)) :
    (View.whole cc0_scratch1).readCov L (Rect.unit (s := S4096x1024) ![0, 0] ![4096, 1024] inb_S4096x1024_S4096x1024_0_0).toLoadRect = View.canon L := by
  rw [View.readCov_eq_canon']
  exact View.ld_unit_lit inb_S4096x1024_S4096x1024_0_0 (View.canon L) (by decide)

/-- The saved product that the host hands the kernel. -/
theorem entry_f (t : Fin 8192) (j : Fin 4096) : (V m c main_v14 : FVec Ideal S8192x4096 .bf16) (ix2 t j) = (inp m c).up t j := by
  entry_read
  pointwise
  rfl

/-- The gains as the host hands them over. -/
theorem entry_g (k : Fin 1024) : (V m c main_v15 : FVec Ideal S1x1024 .f32) (ix2 0 k) = (inp m c).g k := by
  entry_read
  pointwise
  rfl

/-- The first weight, in blocks of columns. -/
theorem entry_w1 (d : Fin 8) (k : Fin 1024) (q : Fin 512) : (V m c main_v18 : FVec Ideal S8x1024x512 .bf16) (ix3 d k q) = (inp m c).w1 k (col d q) := by
  entry_read
  pointwise
  rfl

/-- The second weight, in blocks of rows. -/
theorem entry_w2 (d : Fin 8) (q : Fin 512) (k : Fin 1024) : (V m c main_v20 : FVec Ideal S8x512x1024 .bf16) (ix3 d q k) = (inp m c).w2 (col d q) k := by
  entry_read
  pointwise
  rfl

/-- The first weight in the scratch. -/
theorem load1 (k : Fin 1024) (j : Fin 4096) : View.canon (loads1 (V m c main_v18)) (ix2 k j) = (inp m c).w1 k j := by
  rw [canon1]
  refine (entry_w1 m c _ _ _).trans (congrArg ((inp m c).w1 k) (Fin.ext ?_))
  exact Nat.div_add_mod' (j : ℕ) 512

/-- The second weight in the scratch. -/
theorem load2 (j : Fin 4096) (k : Fin 1024) : View.canon (loads2 (V m c main_v20)) (ix2 j k) = (inp m c).w2 j k := by
  rw [canon2]
  refine (entry_w2 m c _ _ _).trans (congrArg (fun x => (inp m c).w2 x k) (Fin.ext ?_))
  exact Nat.div_add_mod' (j : ℕ) 512

/-- The blocks that each grid point works on. -/
theorem idx : ∀ t : Fin cfg0.N, win0_0.index t = ![t.val, 0] ∧ win0_1.index t = ![t.val, 0] ∧ win0_2.index t = ![0, 0] ∧ win0_3.index t = ![t.val, 0]
    ∧ win0_4.index t = ![t.val, 0] ∧ win0_5.index t = ![t.val, 0] ∧ win0_6.index t = ![0, 0] ∧ win0_7.index t = ![0, 0] :=
  (by decide +kernel : ∀ t : Fin grid0.N, _)

/-- The number of a grid point. -/
def num (t : Fin cfg0.N) : Fin 32 := ⟨t.val, lt_of_lt_of_eq t.isLt N_0⟩

/-- A point's blocks hold the arguments' rows, whatever holds the weights. -/
theorem holds (t : Fin cfg0.N) (W1 : FVec Ideal S1024x4096 .bf16) (W2 : FVec Ideal S4096x1024 .bf16)
    (h1 : ∀ k j, W1 (ix2 k j) = (inp m c).w1 k j) (h2 : ∀ j k, W2 (ix2 j k) = (inp m c).w2 j k) :
    Holds (inp m c) (num t) (iblk m c 0 t) (iblk m c 1 t) (iblk m c 2 t) (iblk m c 3 t) W1 W2 := by
  refine ⟨fun y k => ?_, fun y k => ?_, fun k => ?_, fun y j => ?_, h1, h2⟩
  · refine Eq.trans ?_ (congrFun (V_main_arg0 m c) (ix2 (row (num t) y) k))
    blk_ext [iblk, idx t]
    rfl
  · refine Eq.trans ?_ (congrFun (V_main_arg1 m c) (ix2 (row (num t) y) k))
    blk_ext [iblk, idx t]
    rfl
  · refine Eq.trans ?_ (entry_g m c k)
    blk_ext [iblk, idx t]
  · refine Eq.trans ?_ (entry_f m c (row (num t) y) j)
    blk_ext [iblk, idx t]
    rfl

/-- At the first point the scratch is loaded. -/
theorem scratch_first (t : Fin cfg0.N) (h : t.val % 32 = 0) :
    (outsAt0 m c t.val t.isLt).2.2.2.2.1 = View.canon (loads1 (V m c main_v18)) ∧ (outsAt0 m c t.val t.isLt).2.2.2.2.2 = View.canon (loads2 (V m c main_v20)) := by
  constructor
  · rw [outsAt0_A m c t h h h]
    dsimp only
    unfold sout0_A_0
    frame_out
    rfl
  · rw [outsAt0_A m c t h h h]
    dsimp only
    unfold sout0_A_1
    frame_out
    rfl

/-- A later point keeps the scratch. -/
theorem scratch_later (t : Fin cfg0.N) (h : ¬t.val % 32 = 0) :
    (outsAt0 m c t.val t.isLt).2.2.2.2.1 = (outsAt0 m c (t.val - 1) (lt_of_le_of_lt (Nat.sub_le _ _) t.isLt)).2.2.2.2.1
    ∧ (outsAt0 m c t.val t.isLt).2.2.2.2.2 = (outsAt0 m c (t.val - 1) (lt_of_le_of_lt (Nat.sub_le _ _) t.isLt)).2.2.2.2.2 := by
  constructor
  · rw [outsAt0_B m c t h h h]
    unfold sout0_B_0
    rfl
  · rw [outsAt0_B m c t h h h]
    unfold sout0_B_1
    rfl

/-- After every point the scratch holds the weights. -/
theorem scratch (n : ℕ) (hn : n < cfg0.N) : (outsAt0 m c n hn).2.2.2.2.1 = View.canon (loads1 (V m c main_v18))
    ∧ (outsAt0 m c n hn).2.2.2.2.2 = View.canon (loads2 (V m c main_v20)) := by
  have hN := lt_of_lt_of_eq hn N_0
  induction n with
  | zero => exact scratch_first m c ⟨0, hn⟩ rfl
  | succ n ih =>
    have s := scratch_later m c ⟨n + 1, hn⟩ (by show ¬(n + 1) % 32 = 0; omega)
    have i := ih (Nat.lt_of_succ_lt hn) (by omega)
    exact ⟨s.1.trans i.1, s.2.trans i.2⟩

/-- A point's blocks, with the loaded weights. -/
theorem held (t : Fin cfg0.N) : Holds (inp m c) (num t) (iblk m c 0 t) (iblk m c 1 t) (iblk m c 2 t) (iblk m c 3 t)
    (View.canon (loads1 (V m c main_v18))) (View.canon (loads2 (V m c main_v20))) :=
  holds m c t _ _ (load1 m c) (load2 m c)

/-- What a point leaves for the gradient of the first product. -/
theorem out_dup (t : Fin cfg0.N) (j : S256x4096.Idx) : (outsAt0 m c t.val t.isLt).1 j = (inp m c).dup (row (num t) (j 0)) (j 1) := by
  idx_vars j
  by_cases h : t.val % 32 = 0
  · rw [outsAt0_A m c t h h h]; frame_out
    rw [whole2]
    exact pay_dup (held m c t) j0 j1
  · rw [outsAt0_B m c t h h h]; frame_out
    rw [read_unread_whole, (scratch m c _ _).2]
    exact pay_dup (held m c t) j0 j1

/-- What a point leaves for the gradient of the input. -/
theorem out_dh (t : Fin cfg0.N) (j : S256x1024.Idx) : (outsAt0 m c t.val t.isLt).2.1 j = (inp m c).dh (row (num t) (j 0)) (j 1) := by
  idx_vars j
  by_cases h : t.val % 32 = 0
  · rw [outsAt0_A m c t h h h]; frame_out
    rw [whole1, whole2]
    exact pay_dh (held m c t) j0 j1
  · rw [outsAt0_B m c t h h h]; frame_out
    rw [read_unread_whole, read_unread_whole, (scratch m c _ _).2, (scratch m c _ _).1]
    exact pay_dh (held m c t) j0 j1

/-- What a point adds to an array of which only the first row is used. -/
def add (G : Fin 8192 → Fin 1024 → EReal) (s : Fin 32) (j : S8x1024.Idx) : EReal := if (j 0 : ℕ) = 0 then ∑ y, G (row s y) (j 1) else 0

/-- The first point starts the gains' gradient from zero. -/
theorem fill6 (j) : k0_pay6 (F := Ideal) j = 0 := by pointwise [k0_pay6]
/-- The first point starts the sum over the rows from zero. -/
theorem fill7 (j) : k0_pay7 (F := Ideal) j = 0 := by pointwise [k0_pay7]

/-- The gains' gradient after the first point. -/
theorem first6 (t : Fin cfg0.N) (h : t.val % 32 = 0) (j : S8x1024.Idx) :
    (outsAt0 m c t.val t.isLt).2.2.1 j = 0 + add (fun t k => (inp m c).dn t k * (inp m c).xh t k) (num t) j := by
  rw [outsAt0_A m c t h h h]; frame_out
  rw [whole1, whole2, Cert.Pieces.row_canon _ _ _ (ms0_6 t).view]
  unfold add
  split
  · refine (pay_dg (held m c t) _ (j 1)).trans ?_
    refine congrArg (fun a : EReal => a + _) ?_
    rw [View.readCov_fill (h := by decide)]
    exact fill6 _
  · rw [add_zero]
    refine Eq.trans ?_ (fill6 j)
    exact congrFun (View.canon_cons_unit_lit (Val := Elt Ideal) inb_S8x1024_S8x1024_0_0 _ [] (by decide)) j

/-- A later point adds to it. -/
theorem later6 (t : Fin cfg0.N) (h : ¬t.val % 32 = 0) (j : S8x1024.Idx) : (outsAt0 m c t.val t.isLt).2.2.1 j
    = (outsAt0 m c (t.val - 1) (lt_of_le_of_lt (Nat.sub_le _ _) t.isLt)).2.2.1 j + add (fun t k => (inp m c).dn t k * (inp m c).xh t k) (num t) j := by
  rw [outsAt0_B m c t h h h]; frame_out
  rw [Cert.Pieces.row_over]
  unfold add
  split
  · rename_i h0
    rw [read_unread_whole, read_unread_whole, (scratch m c _ _).2, (scratch m c _ _).1]
    refine (pay_dg (held m c t) _ (j 1)).trans ?_
    refine congrArg (fun a : EReal => a + _) ?_
    refine View.ld_unit_apply_of _ _ _ _ _ _ fun a => ?_
    fin_cases a
    · exact h0
    · exact (Nat.zero_add _).symm
  · rw [add_zero, View.writes_nil, Memref.IsWhole.read_unread]

/-- The sum over the rows after the first point. -/
theorem first7 (t : Fin cfg0.N) (h : t.val % 32 = 0) (j : S8x1024.Idx) :
    (outsAt0 m c t.val t.isLt).2.2.2.1 j = 0 + add (inp m c).dh (num t) j := by
  rw [outsAt0_A m c t h h h]; frame_out
  rw [whole1, whole2, Cert.Pieces.row_canon _ _ _ (ms0_7 t).view]
  unfold add
  split
  · refine (pay_cs (held m c t) _ (j 1)).trans ?_
    refine congrArg (fun a : EReal => a + _) ?_
    rw [View.readCov_fill (h := by decide)]
    exact fill7 _
  · rw [add_zero]
    refine Eq.trans ?_ (fill7 j)
    exact congrFun (View.canon_cons_unit_lit (Val := Elt Ideal) inb_S8x1024_S8x1024_0_0 _ [] (by decide)) j

/-- A later point adds to it. -/
theorem later7 (t : Fin cfg0.N) (h : ¬t.val % 32 = 0) (j : S8x1024.Idx) : (outsAt0 m c t.val t.isLt).2.2.2.1 j
    = (outsAt0 m c (t.val - 1) (lt_of_le_of_lt (Nat.sub_le _ _) t.isLt)).2.2.2.1 j + add (inp m c).dh (num t) j := by
  rw [outsAt0_B m c t h h h]; frame_out
  rw [Cert.Pieces.row_over]
  unfold add
  split
  · rename_i h0
    rw [read_unread_whole, read_unread_whole, (scratch m c _ _).2, (scratch m c _ _).1]
    refine (pay_cs (held m c t) _ (j 1)).trans ?_
    refine congrArg (fun a : EReal => a + _) ?_
    refine View.ld_unit_apply_of _ _ _ _ _ _ fun a => ?_
    fin_cases a
    · exact h0
    · exact (Nat.zero_add _).symm
  · rw [add_zero, View.writes_nil, Memref.IsWhole.read_unread]

/-- The gradient of the first product, put together. -/
theorem final_dup : (dats m 0 c).arrAt 4 cfg0.N = (fun i : S8192x4096.Idx => (inp m c).dup (i 0) (i 1)) := by
  refine (dats m 0 c).arrAt_eq_of_covers 4 _ (by decide +kernel) fun t hf y => ?_
  blk_simp
  rw [after0_4]
  refine (out_dup m c t y).trans ?_
  refine congrArg₂ (inp m c).dup (Fin.ext ?_) (Fin.ext ?_)
  · show (t : ℕ) * 256 + (y 0 : ℕ) = _
    blk_simp [idx t]
  · blk_simp [idx t]

/-- The gradient of the input, put together. -/
theorem final_dh : (dats m 0 c).arrAt 5 cfg0.N = (fun i : S8192x1024.Idx => (inp m c).dh (i 0) (i 1)) := by
  refine (dats m 0 c).arrAt_eq_of_covers 5 _ (by decide +kernel) fun t hf y => ?_
  blk_simp
  rw [after0_5]
  refine (out_dh m c t y).trans ?_
  refine congrArg₂ (inp m c).dh (Fin.ext ?_) (Fin.ext ?_)
  · show (t : ℕ) * 256 + (y 0 : ℕ) = _
    blk_simp [idx t]
  · blk_simp [idx t]

/-- The contributions of all points, in the first row, are the sum over all rows. -/
theorem all_rows (G : Fin 8192 → Fin 1024 → EReal) (j : S8x1024.Idx) :
    (∑ s : Fin 32, add G s j) = if (j 0 : ℕ) = 0 then ∑ t, G t (j 1) else 0 := by
  unfold add
  split
  · show (_ : EReal) = ∑ t : Fin 8192, _
    exact Fin.sum_mul_add_congr fun s k hl => congrArg (fun x => G x (j 1)) (Fin.ext rfl)
  · exact Finset.sum_const_zero

/-- The gradient of the gains, put together. -/
theorem final_dg : (dats m 0 c).arrAt 6 cfg0.N = (fun i : S8x1024.Idx => if (i 0 : ℕ) = 0 then (inp m c).dg (i 1) else 0) := by
  refine (dats m 0 c).arrAt_eq_of_covers 6 _ (by decide +kernel) fun t hf y => ?_
  have hN := lt_of_lt_of_eq t.isLt N_0
  have e : (win0_6.blk t).view.emb y = y := by
    funext a
    fin_cases a <;> exact Fin.ext (by blk_simp [idx t])
  rw [e]
  blk_simp
  have h31 : t.val % 32 = 31 := (flush0_6 t).mp hf
  rw [after0_6]
  rw [Pipeline.eq_sum_fin_of_reset_step_apply_of_flush (fun n h => (outsAt0 m c n h).2.2.1) 32 (fun _ => 0) (fun n j => add (fun t k => (inp m c).dn t k * (inp m c).xh t k) (num n) j)
    (fun t h j => first6 m c t h j) (fun t h j => later6 m c t h j) t h31 _, zero_add]
  exact (Fin.sum_fin_congr fun s => congrArg (fun x => add (fun t k => (inp m c).dn t k * (inp m c).xh t k) x y) (Fin.ext (by dsimp only [num]; omega))).trans (all_rows (fun t k => (inp m c).dn t k * (inp m c).xh t k) y)

/-- The sum of the input's gradient over the rows, put together. -/
theorem final_cs : (dats m 0 c).arrAt 7 cfg0.N = (fun i : S8x1024.Idx => if (i 0 : ℕ) = 0 then (inp m c).cs (i 1) else 0) := by
  refine (dats m 0 c).arrAt_eq_of_covers 7 _ (by decide +kernel) fun t hf y => ?_
  have hN := lt_of_lt_of_eq t.isLt N_0
  have e : (win0_7.blk t).view.emb y = y := by
    funext a
    fin_cases a <;> exact Fin.ext (by blk_simp [idx t])
  rw [e]
  blk_simp
  have h31 : t.val % 32 = 31 := (flush0_7 t).mp hf
  rw [after0_7]
  rw [Pipeline.eq_sum_fin_of_reset_step_apply_of_flush (fun n h => (outsAt0 m c n h).2.2.2.1) 32 (fun _ => 0) (fun n j => add (inp m c).dh (num n) j)
    (fun t h j => first7 m c t h j) (fun t h j => later7 m c t h j) t h31 _, zero_add]
  exact (Fin.sum_fin_congr fun s => congrArg (fun x => add (inp m c).dh x y) (Fin.ext (by dsimp only [num]; omega))).trans (all_rows (inp m c).dh y)

/-- The kernel leaves the four gradients in its results and its arguments as they were. -/
theorem run (g : Dev nD → PrngReg) : θ_run defs (onTc (τ := τ) (main (F := Ideal))) ⟨m, fun _ => 0, g⟩ fun r => ∀ c : Dev nD,
    r.2.mem ((c : Thread nD τ).loc main_v21_0) = (fun i : S8192x4096.Idx => (inp m c).dup (i 0) (i 1))
    ∧ r.2.mem ((c : Thread nD τ).loc main_v21_1) = (fun i : S8192x1024.Idx => (inp m c).dh (i 0) (i 1))
    ∧ r.2.mem ((c : Thread nD τ).loc main_v21_2) = (fun i : S8x1024.Idx => if (i 0 : ℕ) = 0 then (inp m c).dg (i 1) else 0)
    ∧ r.2.mem ((c : Thread nD τ).loc main_v21_3) = (fun i : S8x1024.Idx => if (i 0 : ℕ) = 0 then (inp m c).cs (i 1) else 0)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun _ h c => ⟨(h c).1.trans (final_dup m c), (h c).2.1.trans (final_dh m c), (h c).2.2.1.trans (final_dg m c),
    (h c).2.2.2.1.trans (final_cs m c), (h c).2.2.2.2⟩) (Value.run_blocks m g)

end Cert.Kernel2Ideal.Tile
-- ==== Proof.MlpDown.lean ====
module
public import proofs.«01_k».proof.Proof.Gen.Kernel3Ideal.Value
public import proofs.«01_k».proof.Proof.Gen.Reference3Ideal.Run
public import proofs.«01_k».proof.Proof.Mlp
public import Idealize.ShloMosaic.Lib.Pipeline.ValueKit
public import Idealize.ShloMosaic.Lib.Pipeline.ReadBack
public import Idealize.ShloMosaic.Lib.Pointwise
public import Idealize.ShloMosaic.Lib.Claim
@[expose] public section
set_option maxRecDepth 16384

/-! # The gradient of the second weight -/

noncomputable section
open Idealize.ShloMosaic Idealize.ShloMosaic.TcCoe Idealize.SL.Sem
open Idealize.ShloMosaic.Pipeline (Dat)
open Idealize.ShloMosaic.Tactic
open Cert.Mlp

namespace Cert.Kernel3Ideal.Tile
open Cert.Kernel3Ideal Cert.Kernel3Ideal.Gen
variable (m : (ℓ : Loc nD τ sig) → Buf (Elt Ideal) ℓ) (c : Dev nD)

/-- The arguments as plain numbers; the second weight does not enter. -/
def inp : In where
  dO t k := (m ((c : Thread nD τ).loc main_arg0) : FVec Ideal S8192x1024 .f32) (ix2 t k)
  h t k := (m ((c : Thread nD τ).loc main_arg1) : FVec Ideal S8192x1024 .f32) (ix2 t k)
  g k := (m ((c : Thread nD τ).loc main_arg2) : FVec Ideal S1024 .f32) (ix1 k)
  w1 k j := (m ((c : Thread nD τ).loc main_arg3) : FVec Ideal S1024x4096 .f32) (ix2 k j)
  w2 _ _ := 0

/-- What the host hands the kernel. -/
theorem entry_act (t : Fin 8192) (j : Fin 4096) :
    (V m c main_v16 : FVec Ideal S8192x4096 .bf16) (ix2 t j) = (inp m c).act t j := by
  entry_read
  pointwise
  rfl

theorem hzero (j) : k0_pay1 (F := Ideal) j = 0 := by pointwise [k0_pay1]

theorem hpay (acc : FVec Ideal S4096x512 .f32) (x : FVec Ideal S1024x4096 .bf16) (y : FVec Ideal S1024x512 .f32) (j : S4096x512.Idx) :
    k0_pay2 (F := Ideal) acc x y j = acc j + ∑ k : Fin 1024, x (ix2 k (j 0)) * y (ix2 k (j 1)) := by
  pointwise [k0_pay2]

theorem idx : ∀ t : Fin cfg0.N, win0_0.index t = ![t.val % 8, 0] ∧ win0_1.index t = ![t.val % 8, t.val / 8]
    ∧ win0_2.index t = ![0, t.val / 8] := (by decide +kernel : ∀ t : Fin grid0.N, _)

/-- The block of the kernel's first operand. -/
theorem blk_act (t : Fin cfg0.N) (y : Fin 1024) (j : Fin 4096) (i : Fin 8192) (l : Fin 4096)
    (hi : (i : ℕ) = t.val % 8 * 1024 + y) (hl : (l : ℕ) = j) :
    (iblk m c 0 t : FVec Ideal S1024x4096 .bf16) (ix2 y j) = (inp m c).act i l := by
  refine Eq.trans ?_ (entry_act m c i l)
  blk_ext [iblk, idx t]

/-- The block of the kernel's second operand. -/
theorem blk_dO (t : Fin cfg0.N) (y : Fin 1024) (k : Fin 512) (i : Fin 8192) (l : Fin 1024) (hi : (i : ℕ) = t.val % 8 * 1024 + y)
    (hl : (l : ℕ) = t.val / 8 * 512 + k) :
    (iblk m c 1 t : FVec Ideal S1024x512 .f32) (ix2 y k) = (inp m c).dO i l := by
  show _ = (m ((c : Thread nD τ).loc main_arg0) : FVec Ideal S8192x1024 .f32) (ix2 i l)
  blk_ext [iblk, V, idx t]

/-- At a column's last point the kernel writes out the accumulated block. -/
theorem stored (t : Fin cfg0.N) (h : t.val % 8 = 7) (j : S4096x512.Idx) :
    (outsAt0 m c t.val t.isLt).1 j = (outsAt0 m c t.val t.isLt).2 j := by
  rw [outsAt0_C m c t (by omega) h]; frame_out
  rfl

theorem final : (dats m 0 c).arrAt 2 cfg0.N = (fun i : S4096x1024.Idx => (inp m c).dw2 (i 0) (i 1)) := by
  refine (dats m 0 c).arrAt_eq_of_covers 2 _ (by decide +kernel) fun t hf y => ?_
  blk_simp
  rw [after0_2, stored m c t ((flush0_2 t).mp hf),
    Pipeline.eq_sum_fin_of_reset_step_apply_of_flush (fun n h => (outsAt0 m c n h).2) 8 (fun _ => 0) _
    (fun t h j => by rw [outsAt0_A m c t h (by omega)]; frame_out; rw [hpay, hzero])
    (fun t h j => by
      by_cases h7 : t.val % 8 = 7
      · rw [outsAt0_C m c t h h7]; frame_out; rw [hpay, read_unread_whole]
      · rw [outsAt0_B m c t h h7]; frame_out; rw [hpay, read_unread_whole])
    t ((flush0_2 t).mp hf) _, zero_add]
  show (_ : EReal) = ∑ t : Fin 8192, _
  refine Fin.sum_mul_add_congr fun s k hl => ?_
  have hN := lt_of_lt_of_eq t.isLt N_0
  refine congrArg₂ (fun a b : EReal => a * b) (blk_act m c _ _ _ _ _ ?_ ?_) (blk_dO m c _ _ _ _ _ ?_ ?_)
  · dsimp only; omega
  · blk_simp [idx t]
  · dsimp only; omega
  · blk_simp [idx t]; dsimp only; omega

/-- The kernel leaves the gradient of the second weight. -/
theorem run (g : Dev nD → PrngReg) : θ_run defs (onTc (τ := τ) (main (F := Ideal))) ⟨m, fun _ => 0, g⟩ fun r => ∀ c : Dev nD,
    r.2.mem ((c.tc : Thread nD τ).loc main_v18) = (fun i : S4096x1024.Idx => (inp m c).dw2 (i 0) (i 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun _ h c => ⟨(h c).1.trans (final m c), (h c).2⟩) (Value.run_blocks m g)

end Cert.Kernel3Ideal.Tile

namespace Cert.Reference3Ideal.Tile
open Cert.Reference3Ideal Cert.Reference3Ideal.Gen
variable (m : (ℓ : Loc nD τ sig) → Buf (Elt Ideal) ℓ) (c : Dev nD)

/-- The reference's arguments as plain numbers. -/
def inp : In where
  dO t k := (m ((c : Thread nD τ).loc main_arg0) : FVec Ideal S8192x1024 .f32) (ix2 t k)
  h t k := (m ((c : Thread nD τ).loc main_arg1) : FVec Ideal S8192x1024 .f32) (ix2 t k)
  g k := (m ((c : Thread nD τ).loc main_arg2) : FVec Ideal S1024 .f32) (ix1 k)
  w1 k j := (m ((c : Thread nD τ).loc main_arg3) : FVec Ideal S1024x4096 .f32) (ix2 k j)
  w2 _ _ := 0

/-- The reference leaves the gradient of the second weight. -/
theorem run (g : Dev nD → PrngReg) : θ_run defs (onTc (τ := τ) (main (F := Ideal))) ⟨m, fun _ => 0, g⟩ fun r => ∀ c : Dev nD,
    r.2.mem ((c.tc : Thread nD τ).loc main_v21) = (fun i : S4096x1024.Idx => (inp m c).dw2 (i 0) (i 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  refine (θ_run defs _ _).mono (fun _ h c => ⟨(h c).1.trans ?_, (h c).2⟩) (Value.run (F := Ideal) m g)
  funext i
  idx_vars i
  pointwise
  exact Finset.sum_congr rfl fun t _ => mul_comm _ _

end Cert.Reference3Ideal.Tile
end
-- ==== Proof.MlpUp.lean ====
module
public import proofs.«01_k».proof.Proof.Gen.Kernel4Ideal.Value
public import proofs.«01_k».proof.Proof.Gen.Reference4Ideal.Run
public import proofs.«01_k».proof.Proof.Mlp
public import proofs.«01_k».proof.Proof.Pieces
public import Idealize.ShloMosaic.Lib.Pipeline.ValueKit
public import Idealize.ShloMosaic.Lib.Pipeline.ReadBack
public import Idealize.ShloMosaic.Lib.Pointwise
public import Idealize.ShloMosaic.Lib.Claim
@[expose] public section
set_option maxRecDepth 16384

/-! # The gradient of the first weight -/

noncomputable section
open Idealize.ShloMosaic Idealize.ShloMosaic.TcCoe Idealize.SL.Sem
open Idealize.ShloMosaic.Pipeline (Dat)
open Idealize.ShloMosaic.Tactic
open Cert.Mlp

namespace Cert.Kernel4Ideal.Tile
open Cert.Kernel4Ideal Cert.Kernel4Ideal.Gen
variable (m : (ℓ : Loc nD τ sig) → Buf (Elt Ideal) ℓ) (c : Dev nD)

/-- The arguments as plain numbers. -/
def inp : In where
  dO t k := (m ((c : Thread nD τ).loc main_arg0) : FVec Ideal S8192x1024 .f32) (ix2 t k)
  h t k := (m ((c : Thread nD τ).loc main_arg1) : FVec Ideal S8192x1024 .f32) (ix2 t k)
  g k := (m ((c : Thread nD τ).loc main_arg2) : FVec Ideal S1024 .f32) (ix1 k)
  w1 k j := (m ((c : Thread nD τ).loc main_arg3) : FVec Ideal S1024x4096 .f32) (ix2 k j)
  w2 j k := (m ((c : Thread nD τ).loc main_arg4) : FVec Ideal S4096x1024 .f32) (ix2 j k)

/-- The first array that the host hands the kernel. -/
theorem entry_nrm (t : Fin 8192) (k : Fin 1024) : (V m c main_v22 : FVec Ideal S8192x1024 .bf16) (ix2 t k) = (inp m c).nrm t k := by
  entry_read
  pointwise
  rfl

/-- The second array that the host hands the kernel. -/
theorem entry_dup (t : Fin 8192) (j : Fin 4096) : (V m c main_v21 : FVec Ideal S8192x4096 .bf16) (ix2 t j) = (inp m c).dup t j := by
  entry_read
  pointwise
  rfl

theorem idx : ∀ t : Fin cfg0.N, win0_0.index t = ![t.val % 4, 0] ∧ win0_1.index t = ![t.val % 4, t.val / 4]
    ∧ win0_2.index t = ![t.val / 4, 0, 0] := (by decide +kernel : ∀ t : Fin grid0.N, _)

/-- The block of the kernel's first operand. -/
theorem blk_nrm (t : Fin cfg0.N) (y : Fin 2048) (k : Fin 1024) (i : Fin 8192) (l : Fin 1024) (hi : (i : ℕ) = t.val % 4 * 2048 + y)
    (hl : (l : ℕ) = k) : (iblk m c 0 t : FVec Ideal S2048x1024 .bf16) (ix2 y k) = (inp m c).nrm i l := by
  refine Eq.trans ?_ (entry_nrm m c i l)
  blk_ext [iblk, idx t]

/-- The block of the kernel's second operand. -/
theorem blk_dup (t : Fin cfg0.N) (y : Fin 2048) (j : Fin 2048) (i : Fin 8192) (l : Fin 4096) (hi : (i : ℕ) = t.val % 4 * 2048 + y)
    (hl : (l : ℕ) = t.val / 4 * 2048 + j) : (iblk m c 1 t : FVec Ideal S2048x2048 .bf16) (ix2 y j) = (inp m c).dup i l := by
  refine Eq.trans ?_ (entry_dup m c i l)
  blk_ext [iblk, idx t]

/-- What a point adds to its block: the product of its rows. -/
def added (X : FVec Ideal S2048x1024 .bf16) (Y : FVec Ideal S2048x2048 .bf16) (j : S4x1024x512.Idx) : EReal :=
  ∑ k : Fin 2048, X (ix2 k (j 1)) * Y (ix2 k ⟨(j 0 : ℕ) * 512 + (j 2 : ℕ), by
    have h0 : (j 0 : ℕ) < 4 := (j 0).isLt
    have h2 : (j 2 : ℕ) < 512 := (j 2).isLt
    omega⟩)

/-- One of the four products that a point stores is the part of `added` at its place. -/
theorem part (X : FVec Ideal S2048x1024 .bf16) (Y : FVec Ideal S2048x2048 .bf16) (Q : FVec Ideal S2048x512 .bf16) (j : S4x1024x512.Idx)
    (x : S1x1024x512.Idx) (o : ℕ) (inb) (hQ : Q = View.ld (Val := Elt Ideal) (e' := .bf16) Y (Rect.unit (s := S2048x2048) ![0, o] ![2048, 512] inb))
    (h0 : (j 0 : ℕ) * 512 = o) (h1 : (j 1 : ℕ) = x 1) (h2 : (j 2 : ℕ) = x 2) :
    (∑ k : Fin 2048, X (ix2 k (x 1)) * Q (ix2 k (x 2))) = added X Y j := by
  have e1 : x 1 = j 1 := Fin.ext h1.symm
  subst hQ
  unfold added
  refine Fin.sum_fin_congr fun k => ?_
  rw [e1]
  refine congrArg (fun b : EReal => X (ix2 k (j 1)) * b) ?_
  refine View.ld_unit_apply_of _ _ _ _ _ _ fun a => ?_
  fin_cases a
  · exact (Nat.zero_add _).symm
  · exact congrArg₂ (· + ·) h0 h2

/-- The block starts at zero. -/
theorem fill (j) : k0_pay4 (F := Ideal) j = 0 := by pointwise [k0_pay4]

/-- Writing out only changes the format. -/
theorem pay3 (X : FVec Ideal S4x1024x512 .f32) (j) : k0_pay3 (F := Ideal) X j = X j := rfl

/-- Each of the four stores adds a product to what it reads. -/
theorem pay6 (X : FVec Ideal S2048x1024 .bf16) (A : FVec Ideal S1x1024x512 .f32) (Y : FVec Ideal S2048x512 .bf16) (x : S1x1024x512.Idx) :
    k0_pay6 (F := Ideal) X A Y x = A x + ∑ k : Fin 2048, X (ix2 k (x 1)) * Y (ix2 k (x 2)) := by
  idx_vars x
  obtain rfl : x0 = 0 := Subsingleton.elim _ _
  pointwise [k0_pay6, k0_pay5]

theorem pay7 (X : FVec Ideal S2048x1024 .bf16) (A : FVec Ideal S1x1024x512 .f32) (Y : FVec Ideal S2048x512 .bf16) (x : S1x1024x512.Idx) :
    k0_pay7 (F := Ideal) X A Y x = A x + ∑ k : Fin 2048, X (ix2 k (x 1)) * Y (ix2 k (x 2)) := by
  idx_vars x
  obtain rfl : x0 = 0 := Subsingleton.elim _ _
  pointwise [k0_pay7, k0_pay5]

theorem pay1 (X : FVec Ideal S2048x1024 .bf16) (A : FVec Ideal S1x1024x512 .f32) (Y : FVec Ideal S2048x512 .bf16) (x : S1x1024x512.Idx) :
    k0_pay1 (F := Ideal) (k0_pay5 X) (k0_pay8 A) (k0_pay9 Y) x = A x + ∑ k : Fin 2048, X (ix2 k (x 1)) * Y (ix2 k (x 2)) := by
  idx_vars x
  obtain rfl : x0 = 0 := Subsingleton.elim _ _
  pointwise [k0_pay1, k0_pay5, k0_pay8, k0_pay9]

theorem pay2 (X : FVec Ideal S2048x1024 .bf16) (A : FVec Ideal S1x1024x512 .f32) (Y : FVec Ideal S2048x512 .bf16) (x : S1x1024x512.Idx) :
    k0_pay2 (F := Ideal) (k0_pay5 X) A Y x = A x + ∑ k : Fin 2048, X (ix2 k (x 1)) * Y (ix2 k (x 2)) := by
  idx_vars x
  obtain rfl : x0 = 0 := Subsingleton.elim _ _
  pointwise [k0_pay2, k0_pay5]

/-- A quarter of the block, read at a place in it. -/
theorem quarter (X : FVec Ideal S4x1024x512 .f32) (j : S4x1024x512.Idx) (x : S1x1024x512.Idx) (o : ℕ) (inb) (h0 : (j 0 : ℕ) = o + x 0)
    (h1 : (j 1 : ℕ) = x 1) (h2 : (j 2 : ℕ) = x 2) :
    View.ld (Val := Elt Ideal) (e' := .f32) X (Rect.unit (s := S4x1024x512) ![o, 0, 0] ![1, 1024, 512] inb) x = X j := by
  refine View.ld_unit_apply_of _ _ _ _ _ _ fun a => ?_
  fin_cases a
  · exact h0
  · exact h1.trans (Nat.zero_add _).symm
  · exact h2.trans (Nat.zero_add _).symm

/-- After a column's first point the block is that point's product. -/
theorem first (t : Fin cfg0.N) (h : t.val % 4 = 0) (j : S4x1024x512.Idx) : (outsAt0 m c t.val t.isLt).2 j = 0 + added (iblk m c 0 t) (iblk m c 1 t) j := by
  rw [outsAt0_A m c t h (by omega)]; frame_out
  refine View.canon_append_of_piecesOf (Val := Elt Ideal) (e := .f32) (fun j => 0 + added (iblk m c 0 t) (iblk m c 1 t) j) [_] [_, _, _, _]
    ⟨?_, ?_, ?_, ?_, trivial⟩ j ?_
  rotate_right
  · exact View.cover_of_tiled_head _ _ _ (by rfl) j
  all_goals
    refine Cert.Pieces.unit_piece (S := S4x1024x512) (fun j => 0 + added (iblk m c 0 t) (iblk m c 1 t) j) _ _ (by decide) _ ?_
    intro j x h
    have h0 := h 0; have h1 := h 1; have h2 := h 2
    simp only [Matrix.cons_val_zero, Matrix.cons_val_one, Matrix.cons_val, zero_add] at h0 h1 h2
    have x0_lt : (x 0 : ℕ) < 1 := (x 0).isLt
    dsimp only
    first | rw [pay2] | rw [pay1] | rw [pay7] | rw [pay6]
    refine congrArg₂ (fun a b : EReal => a + b) ?_ (part _ _ _ j x _ _ rfl (by omega) h1 h2)
    repeat rw [View.readCov_skip (h := by decide)]
    rw [View.readCov_fill (h := by decide)]
    exact fill _

/-- A later point adds its product to the block. -/
theorem later (t : Fin cfg0.N) (h : ¬t.val % 4 = 0) (j : S4x1024x512.Idx) :
    (outsAt0 m c t.val t.isLt).2 j = (outsAt0 m c (t.val - 1) (lt_of_le_of_lt (Nat.sub_le _ _) t.isLt)).2 j + added (iblk m c 0 t) (iblk m c 1 t) j := by
  by_cases h3 : t.val % 4 = 3
  · rw [outsAt0_C m c t h h3]; frame_out
    canon_tiles x h
    all_goals
      first | rw [pay2] | rw [pay1] | rw [pay7] | rw [pay6]
      refine congrArg₂ (fun a b : EReal => a + b) ?_ (part _ _ _ j x _ _ rfl (by omega) h1 h2)
      rw [read_unread_whole]
      exact quarter _ j x _ _ (by omega) h1 h2
  · rw [outsAt0_B m c t h h3]; frame_out
    canon_tiles x h
    all_goals
      first | rw [pay2] | rw [pay1] | rw [pay7] | rw [pay6]
      refine congrArg₂ (fun a b : EReal => a + b) ?_ (part _ _ _ j x _ _ rfl (by omega) h1 h2)
      rw [read_unread_whole]
      exact quarter _ j x _ _ (by omega) h1 h2

/-- The whole block read back is what the stores left. -/
theorem whole (L : List (View.Piece (Elt Ideal) S4x1024x512 .f32)) :
    (View.whole cc0_scratch0).readCov L (Rect.unit (s := S4x1024x512) ![0, 0, 0] ![4, 1024, 512] inb_S4x1024x512_S4x1024x512_0_0_0).toLoadRect = View.canon L := by
  rw [View.readCov_eq_canon']
  exact View.ld_unit_lit inb_S4x1024x512_S4x1024x512_0_0_0 (View.canon L) (by decide)

/-- At a column's last point the kernel writes out the accumulated block. -/
theorem stored (t : Fin cfg0.N) (h : t.val % 4 = 3) (j : S4x1024x512.Idx) :
    (outsAt0 m c t.val t.isLt).1 j = (outsAt0 m c t.val t.isLt).2 j := by
  rw [outsAt0_C m c t (by omega) h]; frame_out
  refine (pay3 _ j).trans ?_
  rw [whole]

theorem final : (dats m 0 c).arrAt 2 cfg0.N = (fun i : S8x1024x512.Idx => (inp m c).dw1 (i 1) (col (i 0) (i 2))) := by
  refine (dats m 0 c).arrAt_eq_of_covers 2 _ (by decide +kernel) fun t hf y => ?_
  have hN := lt_of_lt_of_eq t.isLt N_0
  blk_simp
  rw [after0_2, stored m c t ((flush0_2 t).mp hf),
    Pipeline.eq_sum_fin_of_reset_step_apply_of_flush (fun n h => (outsAt0 m c n h).2) 4 (fun _ => 0) _
    (fun t h j => first m c t h j) (fun t h j => later m c t h j) t ((flush0_2 t).mp hf) _, zero_add]
  show (_ : EReal) = ∑ t : Fin 8192, _
  refine Fin.sum_mul_add_congr fun s k hl => ?_
  refine congrArg₂ (fun a b : EReal => a * b) (blk_nrm m c _ _ _ _ _ ?_ ?_) (blk_dup m c _ _ _ _ _ ?_ ?_)
  · dsimp only; omega
  · blk_simp [idx t]
  · dsimp only; omega
  · show ((win0_2.blk t).view.emb y 0 : ℕ) * 512 + ((win0_2.blk t).view.emb y 2 : ℕ) = _
    blk_simp [idx t]; dsimp only; omega

/-- The kernel leaves the gradient of the first weight. -/
theorem run (g : Dev nD → PrngReg) : θ_run defs (onTc (τ := τ) (main (F := Ideal))) ⟨m, fun _ => 0, g⟩ fun r => ∀ c : Dev nD,
    r.2.mem ((c.tc : Thread nD τ).loc main_v23) = (fun i : S8x1024x512.Idx => (inp m c).dw1 (i 1) (col (i 0) (i 2)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun _ h c => ⟨(h c).1.trans (final m c), (h c).2⟩) (Value.run_blocks m g)

end Cert.Kernel4Ideal.Tile

namespace Cert.Reference4Ideal.Tile
open Cert.Reference4Ideal Cert.Reference4Ideal.Gen
variable (m : (ℓ : Loc nD τ sig) → Buf (Elt Ideal) ℓ) (c : Dev nD)

/-- The reference's arguments as plain numbers. -/
def inp : In where
  dO t k := (m ((c : Thread nD τ).loc main_arg0) : FVec Ideal S8192x1024 .f32) (ix2 t k)
  h t k := (m ((c : Thread nD τ).loc main_arg1) : FVec Ideal S8192x1024 .f32) (ix2 t k)
  g k := (m ((c : Thread nD τ).loc main_arg2) : FVec Ideal S1024 .f32) (ix1 k)
  w1 k j := (m ((c : Thread nD τ).loc main_arg3) : FVec Ideal S1024x4096 .f32) (ix2 k j)
  w2 j k := (m ((c : Thread nD τ).loc main_arg4) : FVec Ideal S4096x1024 .f32) (ix2 j k)

/-- The reference leaves the gradient of the first weight. -/
theorem run (g : Dev nD → PrngReg) : θ_run defs (onTc (τ := τ) (main (F := Ideal))) ⟨m, fun _ => 0, g⟩ fun r => ∀ c : Dev nD,
    r.2.mem ((c.tc : Thread nD τ).loc main_v31) = (fun i : S8x1024x512.Idx => (inp m c).dw1 (i 1) (col (i 0) (i 2)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  refine (θ_run defs _ _).mono (fun _ h c => ⟨(h c).1.trans ?_, (h c).2⟩) (Value.run (F := Ideal) m g)
  funext i
  idx_vars i
  pointwise
  exact Fin.sum_fin_congr fun t => (congrArg (fun a : EReal => a * (inp m c).nrm t i1) ((inp m c).dup_select t (col i0 i2))).trans (mul_comm _ _)

end Cert.Reference4Ideal.Tile
end
-- ==== Proof.MlpForwardFirst.lean ====
module

public import proofs.«01_k».proof.Proof.Gen.Kernel5Ideal.Frame.Runs

@[expose] public section

-- membership in a rectangle of production extents (`View.cover_of_tiled`): the elaborator's structural look
-- recurses once per coordinate of the long axes
set_option maxRecDepth 16384

/-! # The first grid point of the perceptron's forward pass

The run of the body where the weights are copied into the scratch. Several copies into parts of one scratch are under way at once. -/

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 taken: points 0), WITH the
    proof that on whole staging memrefs — the inputs' at their contents, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x1024 .bf16) (harg5 : arg5.IsWhole) (arg6 : Memref sig .tc .vmem S256x4096 .bf16) (harg6 : arg6.IsWhole) (arg7 : Memref sig .tc .vmem S256x4096 .bf16) (harg7 : arg7.IsWhole) (arg8 : Memref sig .tc .vmem S256x1024 .f32) (harg8 : arg8.IsWhole) (arg9 : Memref sig .tc .vmem S1024x4096 .bf16) (harg9 : arg9.IsWhole) (arg10 : Memref sig .tc .vmem S4096x1024 .bf16) (harg10 : arg10.IsWhole) (hc0 : cond0_0 i) (hc1 : cond0_1 i)
    (x0 : Vec F S256x1024 .f32) (x1 : Vec F S1x1024 .f32) (fh0 : HbBuf0 (F := F) c hbM0_0) (fh1 : HbBuf0 (F := F) c hbM0_1) :
    Σ' (L2 : List (View.Piece (Elt F) S256x1024 .bf16)), Σ' (L3 : List (View.Piece (Elt F) S256x4096 .bf16)), Σ' (L4 : List (View.Piece (Elt F) S256x4096 .bf16)), Σ' (L5 : List (View.Piece (Elt F) S256x1024 .f32)), Σ' (LS0 : List (View.Piece (Elt F) S1024x4096 .bf16)), { LS1 : List (View.Piece (Elt F) S4096x1024 .bf16) //
      ∀ (W : Waits sig Unit) (K : PUnit → sProp 𝕄),
        iprop(owns (c : Thread nD τ) arg1 fullShare x0 ∗ owns (c : Thread nD τ) arg2 fullShare x1 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_mlp_fwd0 i arg1 harg1 arg2 harg2 (Memref.whole main_v3) (Memref.isWhole_whole _) (Memref.whole main_v5) (Memref.isWhole_whole _) arg5 harg5 arg6 harg6 arg7 harg7 arg8 harg8 arg9 harg9 arg10 harg10 cc0_scratch2 cc0_scratch3) K } := by
  refine ⟨?_, ?_, ?_, ?_, ?_, ?_, fun W K => ?run⟩
  case run =>
    simp only [cc0_mlp_fwd0_eq_skeleton]; unfold cc0_mlp_fwd0_skel
    simp only [k0_part7_eq_skeleton, k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%ds0, %fs0, -, HS0⟩, ⟨%ds1, %fs1, -, HS1⟩, Hq0, Hq1, Hq2, Hq3, Hq4, Hq5, Hq6, Hq7, Hq8, Hq9, Hq10, Hq11, Hq12, Hq13, Hq14, Hq15, Hh0, Hh1, HW, Hk⟩
    obtain rfl := harg1.eq_unread hf0; obtain rfl := harg2.eq_unread hf1
    set_option sl_exec.dmaWindow true in set_option sl_exec.dmaWindowSet true in
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [H5]; · iexists _; iexact H5
    isplitl [HS0]; · iexists _; iexact HS0
    isplitl [HS1]; · iexists _; iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hh0]; · iexact Hh0
    isplitl [Hh1]; · iexact Hh1
    iexists _; iexact HW

end Cert.Kernel5Ideal.Gen

end
-- ==== Proof.MlpForwardLater.lean ====
module

public import proofs.«01_k».proof.Proof.MlpForwardFirst

@[expose] public section

-- membership in a rectangle of production extents (`View.cover_of_tiled`): the elaborator's structural look
-- recurses once per coordinate of the long axes
set_option maxRecDepth 16384

/-! # A later grid point of the perceptron's forward pass

The run of the body where the scratch holds the weights already. -/

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 31: 31 of 32), WITH the
    proof that on whole staging memrefs — the inputs' at their contents, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x1024 .bf16) (harg5 : arg5.IsWhole) (arg6 : Memref sig .tc .vmem S256x4096 .bf16) (harg6 : arg6.IsWhole) (arg7 : Memref sig .tc .vmem S256x4096 .bf16) (harg7 : arg7.IsWhole) (arg8 : Memref sig .tc .vmem S256x1024 .f32) (harg8 : arg8.IsWhole) (arg9 : Memref sig .tc .vmem S1024x4096 .bf16) (harg9 : arg9.IsWhole) (arg10 : Memref sig .tc .vmem S4096x1024 .bf16) (harg10 : arg10.IsWhole) (hc0 : ¬cond0_0 i) (hc1 : ¬cond0_1 i)
    (x0 : Vec F S256x1024 .f32) (x1 : Vec F S1x1024 .f32) (xs0 : Vec F S1024x4096 .bf16) (xs1 : Vec F S4096x1024 .bf16) (fh0 : HbBuf0 (F := F) c hbM0_0) (fh1 : HbBuf0 (F := F) c hbM0_1) :
    Σ' (L2 : List (View.Piece (Elt F) S256x1024 .bf16)), Σ' (L3 : List (View.Piece (Elt F) S256x4096 .bf16)), Σ' (L4 : List (View.Piece (Elt F) S256x4096 .bf16)), Σ' (L5 : List (View.Piece (Elt F) S256x1024 .f32)), Σ' (LS0 : List (View.Piece (Elt F) S1024x4096 .bf16)), { LS1 : List (View.Piece (Elt F) S4096x1024 .bf16) //
      ∀ (W : Waits sig Unit) (K : PUnit → sProp 𝕄),
        iprop(owns (c : Thread nD τ) arg1 fullShare x0 ∗ owns (c : Thread nD τ) arg2 fullShare x1 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ owns (c : Thread nD τ) arg9 fullShare xs0 ∗ owns (c : Thread nD τ) arg10 fullShare xs1 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_mlp_fwd0 i arg1 harg1 arg2 harg2 (Memref.whole main_v3) (Memref.isWhole_whole _) (Memref.whole main_v5) (Memref.isWhole_whole _) arg5 harg5 arg6 harg6 arg7 harg7 arg8 harg8 arg9 harg9 arg10 harg10 cc0_scratch2 cc0_scratch3) K } := by
  refine ⟨?_, ?_, ?_, ?_, [], [], fun W K => ?run⟩
  case run =>
    simp only [cc0_mlp_fwd0_eq_skeleton]; unfold cc0_mlp_fwd0_skel
    simp only [k0_part7_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%fs0, %hfs0, HS0⟩, ⟨%fs1, %hfs1, HS1⟩, Hq0, Hq1, Hq2, Hq3, Hq4, Hq5, Hq6, Hq7, Hq8, Hq9, Hq10, Hq11, Hq12, Hq13, Hq14, Hq15, Hh0, Hh1, HW, Hk⟩
    obtain rfl := harg1.eq_unread hf0; obtain rfl := harg2.eq_unread hf1; obtain rfl := harg9.eq_unread hfs0; obtain rfl := harg10.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [H5]; · iexists _; iexact H5
    isplitl [HS0]
    · iexists _; isplitr; · ipureintro; exact harg9.read_unread _
      iexact HS0
    isplitl [HS1]
    · iexists _; isplitr; · ipureintro; exact harg10.read_unread _
      iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hh0]; · iexact Hh0
    isplitl [Hh1]; · iexact Hh1
    iexists _; iexact HW

end Cert.Kernel5Ideal.Gen

end
-- ==== Proof.MlpForwardFrame.lean ====
module

public import proofs.«01_k».proof.Proof.MlpForwardLater
public import Idealize.ShloMosaic.Lib.Claim

@[expose] public section

-- membership in a rectangle of production extents (`View.cover_of_tiled`): the elaborator's structural look
-- recurses once per coordinate of the long axes
set_option maxRecDepth 16384

/-! # The run of the perceptron's forward pass

What the outputs and the scratch hold after each grid point, and that the program leaves its arguments. -/

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- Case A's pieces for output 2 tile its block (1 store of `S256x1024`, checked by the kernel's evaluation: Lib/Ring.lean `Piece.tiledL`, linear in the pieces, through a loop's `@[irreducible]` trip theorem too), so they cover it. -/
theorem cover0_A_2 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x1024 .bf16) (harg5 : arg5.IsWhole) (arg6 : Memref sig .tc .vmem S256x4096 .bf16) (harg6 : arg6.IsWhole) (arg7 : Memref sig .tc .vmem S256x4096 .bf16) (harg7 : arg7.IsWhole) (arg8 : Memref sig .tc .vmem S256x1024 .f32) (harg8 : arg8.IsWhole) (arg9 : Memref sig .tc .vmem S1024x4096 .bf16) (harg9 : arg9.IsWhole) (arg10 : Memref sig .tc .vmem S4096x1024 .bf16) (harg10 : arg10.IsWhole) (hc0 : cond0_0 i) (hc1 : cond0_1 i)
    (x0 : Vec F S256x1024 .f32) (x1 : Vec F S1x1024 .f32) (fh0 : HbBuf0 (F := F) c hbM0_0) (fh1 : HbBuf0 (F := F) c hbM0_1) (y : S256x1024.Idx) :
    ∃ pc ∈ (kernelRun0_A c i arg1 harg1 arg2 harg2 arg5 harg5 arg6 harg6 arg7 harg7 arg8 harg8 arg9 harg9 arg10 harg10 hc0 hc1 x0 x1 fh0 fh1).1, y ∈ pc.1.set :=
  View.cover_of_tiledL (kernelRun0_A c i arg1 harg1 arg2 harg2 arg5 harg5 arg6 harg6 arg7 harg7 arg8 harg8 arg9 harg9 arg10 harg10 hc0 hc1 x0 x1 fh0 fh1).1 S256x1024.size (by sl_kernel_rfl) y

/-- What case A leaves in output 2's staging buffer: its pieces read back over junk. -/
def out0_A_2 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x1024 .bf16) (harg5 : arg5.IsWhole) (arg6 : Memref sig .tc .vmem S256x4096 .bf16) (harg6 : arg6.IsWhole) (arg7 : Memref sig .tc .vmem S256x4096 .bf16) (harg7 : arg7.IsWhole) (arg8 : Memref sig .tc .vmem S256x1024 .f32) (harg8 : arg8.IsWhole) (arg9 : Memref sig .tc .vmem S1024x4096 .bf16) (harg9 : arg9.IsWhole) (arg10 : Memref sig .tc .vmem S4096x1024 .bf16) (harg10 : arg10.IsWhole) (hc0 : cond0_0 i) (hc1 : cond0_1 i)
    (x0 : Vec F S256x1024 .f32) (x1 : Vec F S1x1024 .f32) (fh0 : HbBuf0 (F := F) c hbM0_0) (fh1 : HbBuf0 (F := F) c hbM0_1) : Vec F S256x1024 .bf16 :=
  VO0_2.read (Elt F) (VO0_2.writes (Elt F) VO0_2.junk (kernelRun0_A c i arg1 harg1 arg2 harg2 arg5 harg5 arg6 harg6 arg7 harg7 arg8 harg8 arg9 harg9 arg10 harg10 hc0 hc1 x0 x1 fh0 fh1).1)

/-- Case A's pieces for output 3 tile its block (1 store of `S256x4096`, checked by the kernel's evaluation: Lib/Ring.lean `Piece.tiledL`, linear in the pieces, through a loop's `@[irreducible]` trip theorem too), so they cover it. -/
theorem cover0_A_3 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x1024 .bf16) (harg5 : arg5.IsWhole) (arg6 : Memref sig .tc .vmem S256x4096 .bf16) (harg6 : arg6.IsWhole) (arg7 : Memref sig .tc .vmem S256x4096 .bf16) (harg7 : arg7.IsWhole) (arg8 : Memref sig .tc .vmem S256x1024 .f32) (harg8 : arg8.IsWhole) (arg9 : Memref sig .tc .vmem S1024x4096 .bf16) (harg9 : arg9.IsWhole) (arg10 : Memref sig .tc .vmem S4096x1024 .bf16) (harg10 : arg10.IsWhole) (hc0 : cond0_0 i) (hc1 : cond0_1 i)
    (x0 : Vec F S256x1024 .f32) (x1 : Vec F S1x1024 .f32) (fh0 : HbBuf0 (F := F) c hbM0_0) (fh1 : HbBuf0 (F := F) c hbM0_1) (y : S256x4096.Idx) :
    ∃ pc ∈ (kernelRun0_A c i arg1 harg1 arg2 harg2 arg5 harg5 arg6 harg6 arg7 harg7 arg8 harg8 arg9 harg9 arg10 harg10 hc0 hc1 x0 x1 fh0 fh1).2.1, y ∈ pc.1.set :=
  View.cover_of_tiledL (kernelRun0_A c i arg1 harg1 arg2 harg2 arg5 harg5 arg6 harg6 arg7 harg7 arg8 harg8 arg9 harg9 arg10 harg10 hc0 hc1 x0 x1 fh0 fh1).2.1 S256x4096.size (by sl_kernel_rfl) y

/-- What case A leaves in output 3's staging buffer: its pieces read back over junk. -/
def out0_A_3 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x1024 .bf16) (harg5 : arg5.IsWhole) (arg6 : Memref sig .tc .vmem S256x4096 .bf16) (harg6 : arg6.IsWhole) (arg7 : Memref sig .tc .vmem S256x4096 .bf16) (harg7 : arg7.IsWhole) (arg8 : Memref sig .tc .vmem S256x1024 .f32) (harg8 : arg8.IsWhole) (arg9 : Memref sig .tc .vmem S1024x4096 .bf16) (harg9 : arg9.IsWhole) (arg10 : Memref sig .tc .vmem S4096x1024 .bf16) (harg10 : arg10.IsWhole) (hc0 : cond0_0 i) (hc1 : cond0_1 i)
    (x0 : Vec F S256x1024 .f32) (x1 : Vec F S1x1024 .f32) (fh0 : HbBuf0 (F := F) c hbM0_0) (fh1 : HbBuf0 (F := F) c hbM0_1) : Vec F S256x4096 .bf16 :=
  VO0_3.read (Elt F) (VO0_3.writes (Elt F) VO0_3.junk (kernelRun0_A c i arg1 harg1 arg2 harg2 arg5 harg5 arg6 harg6 arg7 harg7 arg8 harg8 arg9 harg9 arg10 harg10 hc0 hc1 x0 x1 fh0 fh1).2.1)

/-- Case A's pieces for output 4 tile its block (1 store of `S256x4096`, checked by the kernel's evaluation: Lib/Ring.lean `Piece.tiledL`, linear in the pieces, through a loop's `@[irreducible]` trip theorem too), so they cover it. -/
theorem cover0_A_4 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x1024 .bf16) (harg5 : arg5.IsWhole) (arg6 : Memref sig .tc .vmem S256x4096 .bf16) (harg6 : arg6.IsWhole) (arg7 : Memref sig .tc .vmem S256x4096 .bf16) (harg7 : arg7.IsWhole) (arg8 : Memref sig .tc .vmem S256x1024 .f32) (harg8 : arg8.IsWhole) (arg9 : Memref sig .tc .vmem S1024x4096 .bf16) (harg9 : arg9.IsWhole) (arg10 : Memref sig .tc .vmem S4096x1024 .bf16) (harg10 : arg10.IsWhole) (hc0 : cond0_0 i) (hc1 : cond0_1 i)
    (x0 : Vec F S256x1024 .f32) (x1 : Vec F S1x1024 .f32) (fh0 : HbBuf0 (F := F) c hbM0_0) (fh1 : HbBuf0 (F := F) c hbM0_1) (y : S256x4096.Idx) :
    ∃ pc ∈ (kernelRun0_A c i arg1 harg1 arg2 harg2 arg5 harg5 arg6 harg6 arg7 harg7 arg8 harg8 arg9 harg9 arg10 harg10 hc0 hc1 x0 x1 fh0 fh1).2.2.1, y ∈ pc.1.set :=
  View.cover_of_tiledL (kernelRun0_A c i arg1 harg1 arg2 harg2 arg5 harg5 arg6 harg6 arg7 harg7 arg8 harg8 arg9 harg9 arg10 harg10 hc0 hc1 x0 x1 fh0 fh1).2.2.1 S256x4096.size (by sl_kernel_rfl) y

/-- What case A leaves in output 4's staging buffer: its pieces read back over junk. -/
def out0_A_4 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x1024 .bf16) (harg5 : arg5.IsWhole) (arg6 : Memref sig .tc .vmem S256x4096 .bf16) (harg6 : arg6.IsWhole) (arg7 : Memref sig .tc .vmem S256x4096 .bf16) (harg7 : arg7.IsWhole) (arg8 : Memref sig .tc .vmem S256x1024 .f32) (harg8 : arg8.IsWhole) (arg9 : Memref sig .tc .vmem S1024x4096 .bf16) (harg9 : arg9.IsWhole) (arg10 : Memref sig .tc .vmem S4096x1024 .bf16) (harg10 : arg10.IsWhole) (hc0 : cond0_0 i) (hc1 : cond0_1 i)
    (x0 : Vec F S256x1024 .f32) (x1 : Vec F S1x1024 .f32) (fh0 : HbBuf0 (F := F) c hbM0_0) (fh1 : HbBuf0 (F := F) c hbM0_1) : Vec F S256x4096 .bf16 :=
  VO0_4.read (Elt F) (VO0_4.writes (Elt F) VO0_4.junk (kernelRun0_A c i arg1 harg1 arg2 harg2 arg5 harg5 arg6 harg6 arg7 harg7 arg8 harg8 arg9 harg9 arg10 harg10 hc0 hc1 x0 x1 fh0 fh1).2.2.1)

/-- Case A's pieces for output 5 tile its block (1 store of `S256x1024`, checked by the kernel's evaluation: Lib/Ring.lean `Piece.tiledL`, linear in the pieces, through a loop's `@[irreducible]` trip theorem too), so they cover it. -/
theorem cover0_A_5 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x1024 .bf16) (harg5 : arg5.IsWhole) (arg6 : Memref sig .tc .vmem S256x4096 .bf16) (harg6 : arg6.IsWhole) (arg7 : Memref sig .tc .vmem S256x4096 .bf16) (harg7 : arg7.IsWhole) (arg8 : Memref sig .tc .vmem S256x1024 .f32) (harg8 : arg8.IsWhole) (arg9 : Memref sig .tc .vmem S1024x4096 .bf16) (harg9 : arg9.IsWhole) (arg10 : Memref sig .tc .vmem S4096x1024 .bf16) (harg10 : arg10.IsWhole) (hc0 : cond0_0 i) (hc1 : cond0_1 i)
    (x0 : Vec F S256x1024 .f32) (x1 : Vec F S1x1024 .f32) (fh0 : HbBuf0 (F := F) c hbM0_0) (fh1 : HbBuf0 (F := F) c hbM0_1) (y : S256x1024.Idx) :
    ∃ pc ∈ (kernelRun0_A c i arg1 harg1 arg2 harg2 arg5 harg5 arg6 harg6 arg7 harg7 arg8 harg8 arg9 harg9 arg10 harg10 hc0 hc1 x0 x1 fh0 fh1).2.2.2.1, y ∈ pc.1.set :=
  View.cover_of_tiledL (kernelRun0_A c i arg1 harg1 arg2 harg2 arg5 harg5 arg6 harg6 arg7 harg7 arg8 harg8 arg9 harg9 arg10 harg10 hc0 hc1 x0 x1 fh0 fh1).2.2.2.1 S256x1024.size (by sl_kernel_rfl) y

/-- What case A leaves in output 5's staging buffer: its pieces read back over junk. -/
def out0_A_5 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x1024 .bf16) (harg5 : arg5.IsWhole) (arg6 : Memref sig .tc .vmem S256x4096 .bf16) (harg6 : arg6.IsWhole) (arg7 : Memref sig .tc .vmem S256x4096 .bf16) (harg7 : arg7.IsWhole) (arg8 : Memref sig .tc .vmem S256x1024 .f32) (harg8 : arg8.IsWhole) (arg9 : Memref sig .tc .vmem S1024x4096 .bf16) (harg9 : arg9.IsWhole) (arg10 : Memref sig .tc .vmem S4096x1024 .bf16) (harg10 : arg10.IsWhole) (hc0 : cond0_0 i) (hc1 : cond0_1 i)
    (x0 : Vec F S256x1024 .f32) (x1 : Vec F S1x1024 .f32) (fh0 : HbBuf0 (F := F) c hbM0_0) (fh1 : HbBuf0 (F := F) c hbM0_1) : Vec F S256x1024 .f32 :=
  VO0_5.read (Elt F) (VO0_5.writes (Elt F) VO0_5.junk (kernelRun0_A c i arg1 harg1 arg2 harg2 arg5 harg5 arg6 harg6 arg7 harg7 arg8 harg8 arg9 harg9 arg10 harg10 hc0 hc1 x0 x1 fh0 fh1).2.2.2.1)

/-- Case A's pieces for scratch `arg9`, which the kernel carries between points, cover it: 8 pieces of `S1024x512` tiling it (Lib/Ring.lean `Piece.tiledL`). -/
theorem scover0_A_0 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x1024 .bf16) (harg5 : arg5.IsWhole) (arg6 : Memref sig .tc .vmem S256x4096 .bf16) (harg6 : arg6.IsWhole) (arg7 : Memref sig .tc .vmem S256x4096 .bf16) (harg7 : arg7.IsWhole) (arg8 : Memref sig .tc .vmem S256x1024 .f32) (harg8 : arg8.IsWhole) (arg9 : Memref sig .tc .vmem S1024x4096 .bf16) (harg9 : arg9.IsWhole) (arg10 : Memref sig .tc .vmem S4096x1024 .bf16) (harg10 : arg10.IsWhole) (hc0 : cond0_0 i) (hc1 : cond0_1 i)
    (x0 : Vec F S256x1024 .f32) (x1 : Vec F S1x1024 .f32) (fh0 : HbBuf0 (F := F) c hbM0_0) (fh1 : HbBuf0 (F := F) c hbM0_1) (y : S1024x4096.Idx) :
    ∃ pc ∈ (kernelRun0_A c i arg1 harg1 arg2 harg2 arg5 harg5 arg6 harg6 arg7 harg7 arg8 harg8 arg9 harg9 arg10 harg10 hc0 hc1 x0 x1 fh0 fh1).2.2.2.2.1, y ∈ pc.1.set :=
  View.cover_of_tiledL (kernelRun0_A c i arg1 harg1 arg2 harg2 arg5 harg5 arg6 harg6 arg7 harg7 arg8 harg8 arg9 harg9 arg10 harg10 hc0 hc1 x0 x1 fh0 fh1).2.2.2.2.1 S1024x512.size (by sl_kernel_rfl) y

/-- What case A leaves in scratch `arg9`: its pieces read back over junk. -/
def sout0_A_0 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x1024 .bf16) (harg5 : arg5.IsWhole) (arg6 : Memref sig .tc .vmem S256x4096 .bf16) (harg6 : arg6.IsWhole) (arg7 : Memref sig .tc .vmem S256x4096 .bf16) (harg7 : arg7.IsWhole) (arg8 : Memref sig .tc .vmem S256x1024 .f32) (harg8 : arg8.IsWhole) (arg9 : Memref sig .tc .vmem S1024x4096 .bf16) (harg9 : arg9.IsWhole) (arg10 : Memref sig .tc .vmem S4096x1024 .bf16) (harg10 : arg10.IsWhole) (hc0 : cond0_0 i) (hc1 : cond0_1 i)
    (x0 : Vec F S256x1024 .f32) (x1 : Vec F S1x1024 .f32) (fh0 : HbBuf0 (F := F) c hbM0_0) (fh1 : HbBuf0 (F := F) c hbM0_1) : Vec F S1024x4096 .bf16 :=
  VS0_0.read (Elt F) (VS0_0.writes (Elt F) VS0_0.junk (kernelRun0_A c i arg1 harg1 arg2 harg2 arg5 harg5 arg6 harg6 arg7 harg7 arg8 harg8 arg9 harg9 arg10 harg10 hc0 hc1 x0 x1 fh0 fh1).2.2.2.2.1)

/-- Case A's pieces for scratch `arg10`, which the kernel carries between points, cover it: 8 pieces of `S512x1024` tiling it (Lib/Ring.lean `Piece.tiledL`). -/
theorem scover0_A_1 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x1024 .bf16) (harg5 : arg5.IsWhole) (arg6 : Memref sig .tc .vmem S256x4096 .bf16) (harg6 : arg6.IsWhole) (arg7 : Memref sig .tc .vmem S256x4096 .bf16) (harg7 : arg7.IsWhole) (arg8 : Memref sig .tc .vmem S256x1024 .f32) (harg8 : arg8.IsWhole) (arg9 : Memref sig .tc .vmem S1024x4096 .bf16) (harg9 : arg9.IsWhole) (arg10 : Memref sig .tc .vmem S4096x1024 .bf16) (harg10 : arg10.IsWhole) (hc0 : cond0_0 i) (hc1 : cond0_1 i)
    (x0 : Vec F S256x1024 .f32) (x1 : Vec F S1x1024 .f32) (fh0 : HbBuf0 (F := F) c hbM0_0) (fh1 : HbBuf0 (F := F) c hbM0_1) (y : S4096x1024.Idx) :
    ∃ pc ∈ (kernelRun0_A c i arg1 harg1 arg2 harg2 arg5 harg5 arg6 harg6 arg7 harg7 arg8 harg8 arg9 harg9 arg10 harg10 hc0 hc1 x0 x1 fh0 fh1).2.2.2.2.2.1, y ∈ pc.1.set :=
  View.cover_of_tiledL (kernelRun0_A c i arg1 harg1 arg2 harg2 arg5 harg5 arg6 harg6 arg7 harg7 arg8 harg8 arg9 harg9 arg10 harg10 hc0 hc1 x0 x1 fh0 fh1).2.2.2.2.2.1 S512x1024.size (by sl_kernel_rfl) y

/-- What case A leaves in scratch `arg10`: its pieces read back over junk. -/
def sout0_A_1 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x1024 .bf16) (harg5 : arg5.IsWhole) (arg6 : Memref sig .tc .vmem S256x4096 .bf16) (harg6 : arg6.IsWhole) (arg7 : Memref sig .tc .vmem S256x4096 .bf16) (harg7 : arg7.IsWhole) (arg8 : Memref sig .tc .vmem S256x1024 .f32) (harg8 : arg8.IsWhole) (arg9 : Memref sig .tc .vmem S1024x4096 .bf16) (harg9 : arg9.IsWhole) (arg10 : Memref sig .tc .vmem S4096x1024 .bf16) (harg10 : arg10.IsWhole) (hc0 : cond0_0 i) (hc1 : cond0_1 i)
    (x0 : Vec F S256x1024 .f32) (x1 : Vec F S1x1024 .f32) (fh0 : HbBuf0 (F := F) c hbM0_0) (fh1 : HbBuf0 (F := F) c hbM0_1) : Vec F S4096x1024 .bf16 :=
  VS0_1.read (Elt F) (VS0_1.writes (Elt F) VS0_1.junk (kernelRun0_A c i arg1 harg1 arg2 harg2 arg5 harg5 arg6 harg6 arg7 harg7 arg8 harg8 arg9 harg9 arg10 harg10 hc0 hc1 x0 x1 fh0 fh1).2.2.2.2.2.1)

/-- Case B's pieces for output 2 tile its block (1 store of `S256x1024`, checked by the kernel's evaluation: Lib/Ring.lean `Piece.tiledL`, linear in the pieces, through a loop's `@[irreducible]` trip theorem too), so they cover it. -/
theorem cover0_B_2 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x1024 .bf16) (harg5 : arg5.IsWhole) (arg6 : Memref sig .tc .vmem S256x4096 .bf16) (harg6 : arg6.IsWhole) (arg7 : Memref sig .tc .vmem S256x4096 .bf16) (harg7 : arg7.IsWhole) (arg8 : Memref sig .tc .vmem S256x1024 .f32) (harg8 : arg8.IsWhole) (arg9 : Memref sig .tc .vmem S1024x4096 .bf16) (harg9 : arg9.IsWhole) (arg10 : Memref sig .tc .vmem S4096x1024 .bf16) (harg10 : arg10.IsWhole) (hc0 : ¬cond0_0 i) (hc1 : ¬cond0_1 i)
    (x0 : Vec F S256x1024 .f32) (x1 : Vec F S1x1024 .f32) (xs0 : Vec F S1024x4096 .bf16) (xs1 : Vec F S4096x1024 .bf16) (fh0 : HbBuf0 (F := F) c hbM0_0) (fh1 : HbBuf0 (F := F) c hbM0_1) (y : S256x1024.Idx) :
    ∃ pc ∈ (kernelRun0_B c i arg1 harg1 arg2 harg2 arg5 harg5 arg6 harg6 arg7 harg7 arg8 harg8 arg9 harg9 arg10 harg10 hc0 hc1 x0 x1 xs0 xs1 fh0 fh1).1, y ∈ pc.1.set :=
  View.cover_of_tiledL (kernelRun0_B c i arg1 harg1 arg2 harg2 arg5 harg5 arg6 harg6 arg7 harg7 arg8 harg8 arg9 harg9 arg10 harg10 hc0 hc1 x0 x1 xs0 xs1 fh0 fh1).1 S256x1024.size (by sl_kernel_rfl) y

/-- What case B leaves in output 2's staging buffer: its pieces read back over junk. -/
def out0_B_2 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x1024 .bf16) (harg5 : arg5.IsWhole) (arg6 : Memref sig .tc .vmem S256x4096 .bf16) (harg6 : arg6.IsWhole) (arg7 : Memref sig .tc .vmem S256x4096 .bf16) (harg7 : arg7.IsWhole) (arg8 : Memref sig .tc .vmem S256x1024 .f32) (harg8 : arg8.IsWhole) (arg9 : Memref sig .tc .vmem S1024x4096 .bf16) (harg9 : arg9.IsWhole) (arg10 : Memref sig .tc .vmem S4096x1024 .bf16) (harg10 : arg10.IsWhole) (hc0 : ¬cond0_0 i) (hc1 : ¬cond0_1 i)
    (x0 : Vec F S256x1024 .f32) (x1 : Vec F S1x1024 .f32) (xs0 : Vec F S1024x4096 .bf16) (xs1 : Vec F S4096x1024 .bf16) (fh0 : HbBuf0 (F := F) c hbM0_0) (fh1 : HbBuf0 (F := F) c hbM0_1) : Vec F S256x1024 .bf16 :=
  VO0_2.read (Elt F) (VO0_2.writes (Elt F) VO0_2.junk (kernelRun0_B c i arg1 harg1 arg2 harg2 arg5 harg5 arg6 harg6 arg7 harg7 arg8 harg8 arg9 harg9 arg10 harg10 hc0 hc1 x0 x1 xs0 xs1 fh0 fh1).1)

/-- Case B's pieces for output 3 tile its block (1 store of `S256x4096`, checked by the kernel's evaluation: Lib/Ring.lean `Piece.tiledL`, linear in the pieces, through a loop's `@[irreducible]` trip theorem too), so they cover it. -/
theorem cover0_B_3 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x1024 .bf16) (harg5 : arg5.IsWhole) (arg6 : Memref sig .tc .vmem S256x4096 .bf16) (harg6 : arg6.IsWhole) (arg7 : Memref sig .tc .vmem S256x4096 .bf16) (harg7 : arg7.IsWhole) (arg8 : Memref sig .tc .vmem S256x1024 .f32) (harg8 : arg8.IsWhole) (arg9 : Memref sig .tc .vmem S1024x4096 .bf16) (harg9 : arg9.IsWhole) (arg10 : Memref sig .tc .vmem S4096x1024 .bf16) (harg10 : arg10.IsWhole) (hc0 : ¬cond0_0 i) (hc1 : ¬cond0_1 i)
    (x0 : Vec F S256x1024 .f32) (x1 : Vec F S1x1024 .f32) (xs0 : Vec F S1024x4096 .bf16) (xs1 : Vec F S4096x1024 .bf16) (fh0 : HbBuf0 (F := F) c hbM0_0) (fh1 : HbBuf0 (F := F) c hbM0_1) (y : S256x4096.Idx) :
    ∃ pc ∈ (kernelRun0_B c i arg1 harg1 arg2 harg2 arg5 harg5 arg6 harg6 arg7 harg7 arg8 harg8 arg9 harg9 arg10 harg10 hc0 hc1 x0 x1 xs0 xs1 fh0 fh1).2.1, y ∈ pc.1.set :=
  View.cover_of_tiledL (kernelRun0_B c i arg1 harg1 arg2 harg2 arg5 harg5 arg6 harg6 arg7 harg7 arg8 harg8 arg9 harg9 arg10 harg10 hc0 hc1 x0 x1 xs0 xs1 fh0 fh1).2.1 S256x4096.size (by sl_kernel_rfl) y

/-- What case B leaves in output 3's staging buffer: its pieces read back over junk. -/
def out0_B_3 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x1024 .bf16) (harg5 : arg5.IsWhole) (arg6 : Memref sig .tc .vmem S256x4096 .bf16) (harg6 : arg6.IsWhole) (arg7 : Memref sig .tc .vmem S256x4096 .bf16) (harg7 : arg7.IsWhole) (arg8 : Memref sig .tc .vmem S256x1024 .f32) (harg8 : arg8.IsWhole) (arg9 : Memref sig .tc .vmem S1024x4096 .bf16) (harg9 : arg9.IsWhole) (arg10 : Memref sig .tc .vmem S4096x1024 .bf16) (harg10 : arg10.IsWhole) (hc0 : ¬cond0_0 i) (hc1 : ¬cond0_1 i)
    (x0 : Vec F S256x1024 .f32) (x1 : Vec F S1x1024 .f32) (xs0 : Vec F S1024x4096 .bf16) (xs1 : Vec F S4096x1024 .bf16) (fh0 : HbBuf0 (F := F) c hbM0_0) (fh1 : HbBuf0 (F := F) c hbM0_1) : Vec F S256x4096 .bf16 :=
  VO0_3.read (Elt F) (VO0_3.writes (Elt F) VO0_3.junk (kernelRun0_B c i arg1 harg1 arg2 harg2 arg5 harg5 arg6 harg6 arg7 harg7 arg8 harg8 arg9 harg9 arg10 harg10 hc0 hc1 x0 x1 xs0 xs1 fh0 fh1).2.1)

/-- Case B's pieces for output 4 tile its block (1 store of `S256x4096`, checked by the kernel's evaluation: Lib/Ring.lean `Piece.tiledL`, linear in the pieces, through a loop's `@[irreducible]` trip theorem too), so they cover it. -/
theorem cover0_B_4 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x1024 .bf16) (harg5 : arg5.IsWhole) (arg6 : Memref sig .tc .vmem S256x4096 .bf16) (harg6 : arg6.IsWhole) (arg7 : Memref sig .tc .vmem S256x4096 .bf16) (harg7 : arg7.IsWhole) (arg8 : Memref sig .tc .vmem S256x1024 .f32) (harg8 : arg8.IsWhole) (arg9 : Memref sig .tc .vmem S1024x4096 .bf16) (harg9 : arg9.IsWhole) (arg10 : Memref sig .tc .vmem S4096x1024 .bf16) (harg10 : arg10.IsWhole) (hc0 : ¬cond0_0 i) (hc1 : ¬cond0_1 i)
    (x0 : Vec F S256x1024 .f32) (x1 : Vec F S1x1024 .f32) (xs0 : Vec F S1024x4096 .bf16) (xs1 : Vec F S4096x1024 .bf16) (fh0 : HbBuf0 (F := F) c hbM0_0) (fh1 : HbBuf0 (F := F) c hbM0_1) (y : S256x4096.Idx) :
    ∃ pc ∈ (kernelRun0_B c i arg1 harg1 arg2 harg2 arg5 harg5 arg6 harg6 arg7 harg7 arg8 harg8 arg9 harg9 arg10 harg10 hc0 hc1 x0 x1 xs0 xs1 fh0 fh1).2.2.1, y ∈ pc.1.set :=
  View.cover_of_tiledL (kernelRun0_B c i arg1 harg1 arg2 harg2 arg5 harg5 arg6 harg6 arg7 harg7 arg8 harg8 arg9 harg9 arg10 harg10 hc0 hc1 x0 x1 xs0 xs1 fh0 fh1).2.2.1 S256x4096.size (by sl_kernel_rfl) y

/-- What case B leaves in output 4's staging buffer: its pieces read back over junk. -/
def out0_B_4 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x1024 .bf16) (harg5 : arg5.IsWhole) (arg6 : Memref sig .tc .vmem S256x4096 .bf16) (harg6 : arg6.IsWhole) (arg7 : Memref sig .tc .vmem S256x4096 .bf16) (harg7 : arg7.IsWhole) (arg8 : Memref sig .tc .vmem S256x1024 .f32) (harg8 : arg8.IsWhole) (arg9 : Memref sig .tc .vmem S1024x4096 .bf16) (harg9 : arg9.IsWhole) (arg10 : Memref sig .tc .vmem S4096x1024 .bf16) (harg10 : arg10.IsWhole) (hc0 : ¬cond0_0 i) (hc1 : ¬cond0_1 i)
    (x0 : Vec F S256x1024 .f32) (x1 : Vec F S1x1024 .f32) (xs0 : Vec F S1024x4096 .bf16) (xs1 : Vec F S4096x1024 .bf16) (fh0 : HbBuf0 (F := F) c hbM0_0) (fh1 : HbBuf0 (F := F) c hbM0_1) : Vec F S256x4096 .bf16 :=
  VO0_4.read (Elt F) (VO0_4.writes (Elt F) VO0_4.junk (kernelRun0_B c i arg1 harg1 arg2 harg2 arg5 harg5 arg6 harg6 arg7 harg7 arg8 harg8 arg9 harg9 arg10 harg10 hc0 hc1 x0 x1 xs0 xs1 fh0 fh1).2.2.1)

/-- Case B's pieces for output 5 tile its block (1 store of `S256x1024`, checked by the kernel's evaluation: Lib/Ring.lean `Piece.tiledL`, linear in the pieces, through a loop's `@[irreducible]` trip theorem too), so they cover it. -/
theorem cover0_B_5 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x1024 .bf16) (harg5 : arg5.IsWhole) (arg6 : Memref sig .tc .vmem S256x4096 .bf16) (harg6 : arg6.IsWhole) (arg7 : Memref sig .tc .vmem S256x4096 .bf16) (harg7 : arg7.IsWhole) (arg8 : Memref sig .tc .vmem S256x1024 .f32) (harg8 : arg8.IsWhole) (arg9 : Memref sig .tc .vmem S1024x4096 .bf16) (harg9 : arg9.IsWhole) (arg10 : Memref sig .tc .vmem S4096x1024 .bf16) (harg10 : arg10.IsWhole) (hc0 : ¬cond0_0 i) (hc1 : ¬cond0_1 i)
    (x0 : Vec F S256x1024 .f32) (x1 : Vec F S1x1024 .f32) (xs0 : Vec F S1024x4096 .bf16) (xs1 : Vec F S4096x1024 .bf16) (fh0 : HbBuf0 (F := F) c hbM0_0) (fh1 : HbBuf0 (F := F) c hbM0_1) (y : S256x1024.Idx) :
    ∃ pc ∈ (kernelRun0_B c i arg1 harg1 arg2 harg2 arg5 harg5 arg6 harg6 arg7 harg7 arg8 harg8 arg9 harg9 arg10 harg10 hc0 hc1 x0 x1 xs0 xs1 fh0 fh1).2.2.2.1, y ∈ pc.1.set :=
  View.cover_of_tiledL (kernelRun0_B c i arg1 harg1 arg2 harg2 arg5 harg5 arg6 harg6 arg7 harg7 arg8 harg8 arg9 harg9 arg10 harg10 hc0 hc1 x0 x1 xs0 xs1 fh0 fh1).2.2.2.1 S256x1024.size (by sl_kernel_rfl) y

/-- What case B leaves in output 5's staging buffer: its pieces read back over junk. -/
def out0_B_5 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x1024 .bf16) (harg5 : arg5.IsWhole) (arg6 : Memref sig .tc .vmem S256x4096 .bf16) (harg6 : arg6.IsWhole) (arg7 : Memref sig .tc .vmem S256x4096 .bf16) (harg7 : arg7.IsWhole) (arg8 : Memref sig .tc .vmem S256x1024 .f32) (harg8 : arg8.IsWhole) (arg9 : Memref sig .tc .vmem S1024x4096 .bf16) (harg9 : arg9.IsWhole) (arg10 : Memref sig .tc .vmem S4096x1024 .bf16) (harg10 : arg10.IsWhole) (hc0 : ¬cond0_0 i) (hc1 : ¬cond0_1 i)
    (x0 : Vec F S256x1024 .f32) (x1 : Vec F S1x1024 .f32) (xs0 : Vec F S1024x4096 .bf16) (xs1 : Vec F S4096x1024 .bf16) (fh0 : HbBuf0 (F := F) c hbM0_0) (fh1 : HbBuf0 (F := F) c hbM0_1) : Vec F S256x1024 .f32 :=
  VO0_5.read (Elt F) (VO0_5.writes (Elt F) VO0_5.junk (kernelRun0_B c i arg1 harg1 arg2 harg2 arg5 harg5 arg6 harg6 arg7 harg7 arg8 harg8 arg9 harg9 arg10 harg10 hc0 hc1 x0 x1 xs0 xs1 fh0 fh1).2.2.2.1)

/-- Case B stores nothing into scratch `arg9`: it holds what the point before left. -/
def sout0_B_0 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x1024 .bf16) (harg5 : arg5.IsWhole) (arg6 : Memref sig .tc .vmem S256x4096 .bf16) (harg6 : arg6.IsWhole) (arg7 : Memref sig .tc .vmem S256x4096 .bf16) (harg7 : arg7.IsWhole) (arg8 : Memref sig .tc .vmem S256x1024 .f32) (harg8 : arg8.IsWhole) (arg9 : Memref sig .tc .vmem S1024x4096 .bf16) (harg9 : arg9.IsWhole) (arg10 : Memref sig .tc .vmem S4096x1024 .bf16) (harg10 : arg10.IsWhole) (hc0 : ¬cond0_0 i) (hc1 : ¬cond0_1 i)
    (x0 : Vec F S256x1024 .f32) (x1 : Vec F S1x1024 .f32) (xs0 : Vec F S1024x4096 .bf16) (xs1 : Vec F S4096x1024 .bf16) (fh0 : HbBuf0 (F := F) c hbM0_0) (fh1 : HbBuf0 (F := F) c hbM0_1) : Vec F S1024x4096 .bf16 := xs0

/-- Case B stores nothing into scratch `arg10`: it holds what the point before left. -/
def sout0_B_1 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x1024 .bf16) (harg5 : arg5.IsWhole) (arg6 : Memref sig .tc .vmem S256x4096 .bf16) (harg6 : arg6.IsWhole) (arg7 : Memref sig .tc .vmem S256x4096 .bf16) (harg7 : arg7.IsWhole) (arg8 : Memref sig .tc .vmem S256x1024 .f32) (harg8 : arg8.IsWhole) (arg9 : Memref sig .tc .vmem S1024x4096 .bf16) (harg9 : arg9.IsWhole) (arg10 : Memref sig .tc .vmem S4096x1024 .bf16) (harg10 : arg10.IsWhole) (hc0 : ¬cond0_0 i) (hc1 : ¬cond0_1 i)
    (x0 : Vec F S256x1024 .f32) (x1 : Vec F S1x1024 .f32) (xs0 : Vec F S1024x4096 .bf16) (xs1 : Vec F S4096x1024 .bf16) (fh0 : HbBuf0 (F := F) c hbM0_0) (fh1 : HbBuf0 (F := F) c hbM0_1) : Vec F S4096x1024 .bf16 := xs1

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x1024 .bf16 × Vec F S256x4096 .bf16 × Vec F S256x4096 .bf16 × Vec F S256x1024 .f32 × Vec F S1024x4096 .bf16 × Vec F S4096x1024 .bf16
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (V m c main_v3) (V m c main_v5), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (V m c main_v3) (V m c main_v5), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (V m c main_v3) (V m c main_v5), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (V m c main_v3) (V m c main_v5), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (V m c main_v3) (V m c main_v5), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (V m c main_v3) (V m c main_v5))
  | n + 1, hn =>
    if h0 : (n + 1) % 32 = 0 then
      if h1 : (n + 1) % 32 = 0 then
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) ((hcond0_1 ⟨n + 1, hn⟩).mpr h1) (iblk m c 0 ⟨n + 1, hn⟩) (iblk m c 1 ⟨n + 1, hn⟩) (V m c main_v3) (V m c main_v5), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) ((hcond0_1 ⟨n + 1, hn⟩).mpr h1) (iblk m c 0 ⟨n + 1, hn⟩) (iblk m c 1 ⟨n + 1, hn⟩) (V m c main_v3) (V m c main_v5), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) ((hcond0_1 ⟨n + 1, hn⟩).mpr h1) (iblk m c 0 ⟨n + 1, hn⟩) (iblk m c 1 ⟨n + 1, hn⟩) (V m c main_v3) (V m c main_v5), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) ((hcond0_1 ⟨n + 1, hn⟩).mpr h1) (iblk m c 0 ⟨n + 1, hn⟩) (iblk m c 1 ⟨n + 1, hn⟩) (V m c main_v3) (V m c main_v5), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) ((hcond0_1 ⟨n + 1, hn⟩).mpr h1) (iblk m c 0 ⟨n + 1, hn⟩) (iblk m c 1 ⟨n + 1, hn⟩) (V m c main_v3) (V m c main_v5), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) ((hcond0_1 ⟨n + 1, hn⟩).mpr h1) (iblk m c 0 ⟨n + 1, hn⟩) (iblk m c 1 ⟨n + 1, hn⟩) (V m c main_v3) (V m c main_v5))
      else
        False.elim (by have hN : n + 1 < 32 := lt_of_lt_of_eq hn (show cfg0.N = 32 from N_0); omega)
    else
      if h1 : (n + 1) % 32 = 0 then
        False.elim (by have hN : n + 1 < 32 := lt_of_lt_of_eq hn (show cfg0.N = 32 from N_0); omega)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.2.2.2.1 (outsAt0 c n (Nat.lt_of_succ_lt hn)).2.2.2.2.2 (V m c main_v3) (V m c main_v5), out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.2.2.2.1 (outsAt0 c n (Nat.lt_of_succ_lt hn)).2.2.2.2.2 (V m c main_v3) (V m c main_v5), out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.2.2.2.1 (outsAt0 c n (Nat.lt_of_succ_lt hn)).2.2.2.2.2 (V m c main_v3) (V m c main_v5), out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.2.2.2.1 (outsAt0 c n (Nat.lt_of_succ_lt hn)).2.2.2.2.2 (V m c main_v3) (V m c main_v5), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.2.2.2.1 (outsAt0 c n (Nat.lt_of_succ_lt hn)).2.2.2.2.2 (V m c main_v3) (V m c main_v5), sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.2.2.2.1 (outsAt0 c n (Nat.lt_of_succ_lt hn)).2.2.2.2.2 (V m c main_v3) (V m c main_v5))

/-- `outsAt0` at a point of case A: that case's contents. -/
theorem outsAt0_A (c : Dev nD) (t : Fin cfg0.N) (h0 : t.val % 32 = 0) (h1 : t.val % 32 = 0) :
    outsAt0 m c t.val t.isLt = (out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) ((hcond0_1 t).mpr h1) (iblk m c 0 t) (iblk m c 1 t) (V m c main_v3) (V m c main_v5), out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) ((hcond0_1 t).mpr h1) (iblk m c 0 t) (iblk m c 1 t) (V m c main_v3) (V m c main_v5), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) ((hcond0_1 t).mpr h1) (iblk m c 0 t) (iblk m c 1 t) (V m c main_v3) (V m c main_v5), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) ((hcond0_1 t).mpr h1) (iblk m c 0 t) (iblk m c 1 t) (V m c main_v3) (V m c main_v5), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) ((hcond0_1 t).mpr h1) (iblk m c 0 t) (iblk m c 1 t) (V m c main_v3) (V m c main_v5), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) ((hcond0_1 t).mpr h1) (iblk m c 0 t) (iblk m c 1 t) (V m c main_v3) (V m c main_v5)) := by
  obtain ⟨n, hn⟩ := t
  cases n with
  | zero => exact rfl
  | succ n => exact (dif_pos h0).trans ((dif_pos h1).trans rfl)

/-- `outsAt0` at a point of case B: that case's contents, over what the point before left. -/
theorem outsAt0_B (c : Dev nD) (t : Fin cfg0.N) (h0 : ¬t.val % 32 = 0) (h1 : ¬t.val % 32 = 0) :
    outsAt0 m c t.val t.isLt = (out0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v3) (V m c main_v5), out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v3) (V m c main_v5), out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v3) (V m c main_v5), out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v3) (V m c main_v5), sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v3) (V m c main_v5), sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v3) (V m c main_v5)) := by
  obtain ⟨n, hn⟩ := t
  cases n with
  | zero => exact (by exfalso; (try dsimp only at h0); exact absurd (Nat.zero_mod _) h0)
  | succ n => exact (dif_neg h0).trans ((dif_neg h1).trans rfl)

/-- The region invariant before position `n` with a scratch the kernel CARRIES between points: before the first point the
    launch's invariant (Lib/Pipeline/Frame.lean `ΦD`: every scratch at anything, the own cells at zero, the HBM operands, the generator register); afterwards the same with each carried
    scratch at what the point before left in it (`outsAt0`'s scratch components), the others at anything. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.2.2.1) ∗ owns (c : Thread nD τ) scM0_1 fullShare ((outsAt0 m c n hn).2.2.2.2.2)) ∗ (∃ r, prngReg c r) ∗ iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0) ∗ iprop(hbPt0 c hbM0_0 (V m c main_v3) ∗ hbPt0 c hbM0_1 (V m c main_v5)))

theorem PhiS_zero (c : Dev nD) (n : ℕ) (h : n ≤ cfg0.N) (hz : n = 0) : PhiS m c n h = Pipeline.ΦD osem0 spec0 H0 (V m) c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.1) ∗ owns (c : Thread nD τ) scM0_1 fullShare ((outsAt0 m c n hn).2.2.2.2.2)) ∗ (∃ r, prngReg c r) ∗ iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0) ∗ iprop(hbPt0 c hbM0_0 (V m c main_v3) ∗ hbPt0 c hbM0_1 (V m c main_v5))) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.1) ∗ owns (c : Thread nD τ) scM0_1 fullShare ((outsAt0 m c (n - 1) (by omega)).2.2.2.2.2)) ∗ (∃ r, prngReg c r) ∗ iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0) ∗ iprop(hbPt0 c hbM0_0 (V m c main_v3) ∗ hbPt0 c hbM0_1 (V m c main_v5))) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2.1
    | ⟨5, _⟩ => (outsAt0 m c t.val t.isLt).2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2.1 := by dsimp only [dats]
theorem after0_5 (c : Dev nD) (t : Fin cfg0.N) : (dats m 0 c).after 5 t = (outsAt0 m c t.val t.isLt).2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`, the rest of `ΦD` opened by `PhiD0_eq`), the other scratch at anything, the register, its DMA cells at zero and the HBM operands, and takes the carried scratch back at this point's contents (`PhiS_succ`, by `scoverK_κ_N`), the cells and operands as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = PhiS m c (t.val + 1) t.isLt from rfl, PhiS_succ,
    after0_0, after0_1, after0_2, after0_3, after0_4, after0_5]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  by_cases h0 : t.val % 32 = 0
  · by_cases h1 : t.val % 32 = 0
    · by_cases hz : t.val = 0
      · rw [PhiS_castSucc m c t, PhiS_zero m c _ _ hz, PhiD0_eq]
        rw [outsAt0_A m c t h0 h1]
        unfold out0_A_2 out0_A_3 out0_A_4 out0_A_5 sout0_A_0 sout0_A_1; (try dsimp only)
        iintro ⟨⟨⟨HS0, HS1⟩, Hg, ⟨Hq0, Hq1, Hq2, Hq3, Hq4, Hq5, Hq6, Hq7, Hq8, Hq9, Hq10, Hq11, Hq12, Hq13, Hq14, Hq15⟩, ⟨Hh0, Hh1⟩⟩, ⟨%W, -, HW⟩, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) ((hcond0_1 t).mpr h1) (iblk m c 0 t) (iblk m c 1 t) (V m c main_v3) (V m c main_v5)).2.2.2.2.2.2 W _)
        isplitl [H0]; · iexact H0
        isplitl [H1]; · iexact H1
        isplitl [H2]; · iexists _; iexact H2
        isplitl [H3]; · iexists _; iexact H3
        isplitl [H4]; · iexists _; iexact H4
        isplitl [H5]; · iexists _; iexact H5
        isplitl [HS0]; · iexact HS0
        isplitl [HS1]; · iexact HS1
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        isplitl [Hq11]; · iexact Hq11
        isplitl [Hq12]; · iexact Hq12
        isplitl [Hq13]; · iexact Hq13
        isplitl [Hq14]; · iexact Hq14
        isplitl [Hq15]; · iexact Hq15
        isplitl [Hh0]; · iexact Hh0
        isplitl [Hh1]; · iexact Hh1
        isplitl [HW]; · iexact HW
        iintro ⟨H0, H1, ⟨%e2, H2⟩, ⟨%e3, H3⟩, ⟨%e4, H4⟩, ⟨%e5, H5⟩, ⟨%es0, HS0⟩, ⟨%es1, HS1⟩, Hq0, Hq1, Hq2, Hq3, Hq4, Hq5, Hq6, Hq7, Hq8, Hq9, Hq10, Hq11, Hq12, Hq13, Hq14, Hq15, Hh0, Hh1, ⟨%W', HW'⟩⟩
        isplitl [HS0 HS1 Hg Hq0 Hq1 Hq2 Hq3 Hq4 Hq5 Hq6 Hq7 Hq8 Hq9 Hq10 Hq11 Hq12 Hq13 Hq14 Hq15 Hh0 Hh1]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _)
          isplitl [Hg]
          · iexact Hg
          isplitl [Hq0 Hq1 Hq2 Hq3 Hq4 Hq5 Hq6 Hq7 Hq8 Hq9 Hq10 Hq11 Hq12 Hq13 Hq14 Hq15]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            isplitl [Hq8]; · iexact Hq8
            isplitl [Hq9]; · iexact Hq9
            isplitl [Hq10]; · iexact Hq10
            isplitl [Hq11]; · iexact Hq11
            isplitl [Hq12]; · iexact Hq12
            isplitl [Hq13]; · iexact Hq13
            isplitl [Hq14]; · iexact Hq14
            iexact Hq15
          isplitl [Hh0]; · iexact Hh0
          iexact Hh1
        isplitl [HW']
        · iexists W'; isplitr; · ipureintro; exact fun _ _ => Or.inl trivial
          iexact HW'
        isplitl [H0]; · iexact H0
        isplitl [H1]; · iexact H1
        isplitl [H2]
        · unfold owns; iexists _; isplitr
          swap; · iexact H2
          ipureintro; exact View.read_writes_of_cover _ _ _ _ _ (cover0_A_2 c _ _ _ _ _ _ _ _ _ _ _ _ _ _ _ _ _ _ _ _ _ _ _)
        isplitl [H3]
        · unfold owns; iexists _; isplitr
          swap; · iexact H3
          ipureintro; exact View.read_writes_of_cover _ _ _ _ _ (cover0_A_3 c _ _ _ _ _ _ _ _ _ _ _ _ _ _ _ _ _ _ _ _ _ _ _)
        isplitl [H4]
        · unfold owns; iexists _; isplitr
          swap; · iexact H4
          ipureintro; exact View.read_writes_of_cover _ _ _ _ _ (cover0_A_4 c _ _ _ _ _ _ _ _ _ _ _ _ _ _ _ _ _ _ _ _ _ _ _)
        unfold owns; iexists _; isplitr
        swap; · iexact H5
        ipureintro; exact View.read_writes_of_cover _ _ _ _ _ (cover0_A_5 c _ _ _ _ _ _ _ _ _ _ _ _ _ _ _ _ _ _ _ _ _ _ _)
      · exfalso; have hN : t.val < 32 := lt_of_lt_of_eq t.isLt (show cfg0.N = 32 from N_0); omega
    · exfalso; omega
  · by_cases h1 : t.val % 32 = 0
    · exfalso; omega
    · by_cases hz : t.val = 0
      · exfalso; have hN : t.val < 32 := lt_of_lt_of_eq t.isLt (show cfg0.N = 32 from N_0); omega
      · rw [PhiS_castSucc m c t, PhiS_pos m c _ _ hz]
        rw [outsAt0_B m c t h0 h1]
        unfold out0_B_2 out0_B_3 out0_B_4 out0_B_5 sout0_B_0 sout0_B_1; (try dsimp only)
        iintro ⟨⟨⟨HS0, HS1⟩, Hg, ⟨Hq0, Hq1, Hq2, Hq3, Hq4, Hq5, Hq6, Hq7, Hq8, Hq9, Hq10, Hq11, Hq12, Hq13, Hq14, Hq15⟩, ⟨Hh0, Hh1⟩⟩, ⟨%W, -, HW⟩, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) _ _ (V m c main_v3) (V m c main_v5)).2.2.2.2.2.2 W _)
        isplitl [H0]; · iexact H0
        isplitl [H1]; · iexact H1
        isplitl [H2]; · iexists _; iexact H2
        isplitl [H3]; · iexists _; iexact H3
        isplitl [H4]; · iexists _; iexact H4
        isplitl [H5]; · iexists _; iexact H5
        isplitl [HS0]; · iexact HS0
        isplitl [HS1]; · iexact HS1
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        isplitl [Hq11]; · iexact Hq11
        isplitl [Hq12]; · iexact Hq12
        isplitl [Hq13]; · iexact Hq13
        isplitl [Hq14]; · iexact Hq14
        isplitl [Hq15]; · iexact Hq15
        isplitl [Hh0]; · iexact Hh0
        isplitl [Hh1]; · iexact Hh1
        isplitl [HW]; · iexact HW
        iintro ⟨H0, H1, ⟨%e2, H2⟩, ⟨%e3, H3⟩, ⟨%e4, H4⟩, ⟨%e5, H5⟩, HS0, HS1, Hq0, Hq1, Hq2, Hq3, Hq4, Hq5, Hq6, Hq7, Hq8, Hq9, Hq10, Hq11, Hq12, Hq13, Hq14, Hq15, Hh0, Hh1, ⟨%W', HW'⟩⟩
        isplitl [HS0 HS1 Hg Hq0 Hq1 Hq2 Hq3 Hq4 Hq5 Hq6 Hq7 Hq8 Hq9 Hq10 Hq11 Hq12 Hq13 Hq14 Hq15 Hh0 Hh1]
        · isplitl [HS0 HS1]
          · isplitl [HS0]; · iexact HS0
            iexact HS1
          isplitl [Hg]
          · iexact Hg
          isplitl [Hq0 Hq1 Hq2 Hq3 Hq4 Hq5 Hq6 Hq7 Hq8 Hq9 Hq10 Hq11 Hq12 Hq13 Hq14 Hq15]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            isplitl [Hq8]; · iexact Hq8
            isplitl [Hq9]; · iexact Hq9
            isplitl [Hq10]; · iexact Hq10
            isplitl [Hq11]; · iexact Hq11
            isplitl [Hq12]; · iexact Hq12
            isplitl [Hq13]; · iexact Hq13
            isplitl [Hq14]; · iexact Hq14
            iexact Hq15
          isplitl [Hh0]; · iexact Hh0
          iexact Hh1
        isplitl [HW']
        · iexists W'; isplitr; · ipureintro; exact fun _ _ => Or.inl trivial
          iexact HW'
        isplitl [H0]; · iexact H0
        isplitl [H1]; · iexact H1
        isplitl [H2]
        · unfold owns; iexists _; isplitr
          swap; · iexact H2
          ipureintro; exact View.read_writes_of_cover _ _ _ _ _ (cover0_B_2 c _ _ _ _ _ _ _ _ _ _ _ _ _ _ _ _ _ _ _ _ _ _ _ _ _)
        isplitl [H3]
        · unfold owns; iexists _; isplitr
          swap; · iexact H3
          ipureintro; exact View.read_writes_of_cover _ _ _ _ _ (cover0_B_3 c _ _ _ _ _ _ _ _ _ _ _ _ _ _ _ _ _ _ _ _ _ _ _ _ _)
        isplitl [H4]
        · unfold owns; iexists _; isplitr
          swap; · iexact H4
          ipureintro; exact View.read_writes_of_cover _ _ _ _ _ (cover0_B_4 c _ _ _ _ _ _ _ _ _ _ _ _ _ _ _ _ _ _ _ _ _ _ _ _ _)
        unfold owns; iexists _; isplitr
        swap; · iexact H5
        ipureintro; exact View.read_writes_of_cover _ _ _ _ _ (cover0_B_5 c _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`) is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦD` back: the carried scratch's named contents are forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1⟩, Hg, ⟨Hq0, Hq1, Hq2, Hq3, Hq4, Hq5, Hq6, Hq7, Hq8, Hq9, Hq10, Hq11, Hq12, Hq13, Hq14, Hq15⟩, ⟨Hh0, Hh1⟩⟩
  isplitl [HS0 HS1]
  · isplitl [HS0]
    · iexists _; iexact HS0
    iexists _; iexact HS1
  isplitl [Hg]; · iexact Hg
  isplitl [Hq0 Hq1 Hq2 Hq3 Hq4 Hq5 Hq6 Hq7 Hq8 Hq9 Hq10 Hq11 Hq12 Hq13 Hq14 Hq15]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    iexact Hq15
  isplitl [Hh0]; · iexact Hh0
  iexact Hh1

/-- The same after the last point. -/
theorem hout (c : Dev nD) : (dats m 0 c).Φ (Fin.last cfg0.N) ⊢ Pipeline.ΦD osem0 spec0 H0 (V m) c :=
  Phi_out m c _ (by rw [Fin.val_last]; have : cfg0.N = 32 := N_0; omega)

/-! ## The run and the frame -/

-- `θ_run_frame_dma`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_Kernel5Ideal`'s statement (Defs.lean) at any `F` — Proof.lean cites it at `Bits`:
    `theorem Cert.Proof.claim : Cert.Claim := ⟨Cert.Kernel5Ideal.Gen.facts, fun m ρ _ => Cert.Kernel5Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel5Ideal.Gen

end
-- ==== Proof.MlpForwardBlocks.lean ====
module

public import proofs.«01_k».proof.Proof.MlpForwardFrame
public import Idealize.ShloMosaic.Lib.Pipeline.Value

@[expose] public section

/-! # The blocks of the perceptron's forward pass

What each grid point writes back to the outputs. -/

noncomputable section

namespace Cert.Kernel5Ideal.Value

open Cert.Kernel5Ideal Cert.Kernel5Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 2's array: the run's contents for that window after the body (`Gen.outsAt0`: its component 0), read through the window's block. -/
theorem flushed2 (c : Dev nD) (t : Fin cfg0.N) :
    (dats m 0 c).flushed 2 t = (cfg0.win 2).cut (grid0.coords t) ((outsAt0 m c t.val t.isLt).1) := by
  show (cfg0.win 2).cut (grid0.coords t) ((dats m 0 c).after 2 t) = _
  rw [after0_2]

/-- … so at a point where case A runs, what its write-back would write is that case's NAMED TERM for the window (`Gen.out0_A_2`: the pieces
    its run found, read back) at the point's memrefs and input blocks, and for an output the case reads back what the point before left (`Gen.outsAt0` at `t - 1`) — by the frame's rewriting lemma for the case. -/
theorem flushed2_A (c : Dev nD) (t : Fin cfg0.N) (h0 : t.val % 32 = 0) (h1 : t.val % 32 = 0) :
    (dats m 0 c).flushed 2 t = (cfg0.win 2).cut (grid0.coords t) (out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) ((hcond0_1 t).mpr h1) (iblk m c 0 t) (iblk m c 1 t) (V m c main_v3) (V m c main_v5)) := by
  simp only [flushed2, outsAt0_A m c t h0 h1]

/-- … so at a point where case B runs, what its write-back would write is that case's NAMED TERM for the window (`Gen.out0_B_2`: the pieces
    its run found, read back) at the point's memrefs and input blocks, and for an output the case reads back what the point before left (`Gen.outsAt0` at `t - 1`) — by the frame's rewriting lemma for the case. -/
theorem flushed2_B (c : Dev nD) (t : Fin cfg0.N) (h0 : ¬t.val % 32 = 0) (h1 : ¬t.val % 32 = 0) :
    (dats m 0 c).flushed 2 t = (cfg0.win 2).cut (grid0.coords t) (out0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v3) (V m c main_v5)) := by
  simp only [flushed2, outsAt0_B m c t h0 h1]

/-- The index map sends distinct grid points to distinct block indices (decided over the 32 points). -/
theorem idx_inj2 : ∀ t t' : Fin cfg0.N, win0_2.index t = win0_2.index t' → t = t' :=
  (by decide +kernel : ∀ t t' : Fin grid0.N, win0_2.index t = win0_2.index t' → t = t')

/-- So two flushing points' blocks share no array index (Lib/Pipeline/Cells.lean `Window.disjoint_blk`). -/
theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (idx_inj2 t t' h)

/-- BLOCK `t` OF THE FINAL ARRAY, read back through the window, is what point `t` wrote back (`flushed2`), for every
    point that writes back: no other point's block meets it. -/
theorem blocks2 (c : Dev nD) (t : Fin cfg0.N) (hf : (cfg0.win 2).flush t = true) :
    ((cfg0.win 2).blk t).view.read (Elt F) ((dats m 0 c).arrAt 2 cfg0.N) = (dats m 0 c).flushed 2 t :=
  (dats m 0 c).read_blk_arrAt_eq_flushed 2 disjoint2 cfg0.N t t.isLt hf

/-- An index that no flushing point's block covers keeps output window 2's array contents at region entry. -/
theorem entry2 (c : Dev nD) (i : S8192x1024.Idx) (h : ∀ t : Fin cfg0.N, (cfg0.win 2).flush t = true → i ∉ ((cfg0.win 2).blk t).view.set) :
    (dats m 0 c).arrAt 2 cfg0.N i = V m c (Pipeline.arrRef spec0 2) i := by
  rw [(dats m 0 c).arrAt_apply_of_forall_not_mem 2 cfg0.N i (fun t _ hf => h t hf), A_eq]

/-- WHAT POINT `t` WRITES BACK to output window 3's array: the run's contents for that window after the body (`Gen.outsAt0`: its component 1), read through the window's block. -/
theorem flushed3 (c : Dev nD) (t : Fin cfg0.N) :
    (dats m 0 c).flushed 3 t = (cfg0.win 3).cut (grid0.coords t) ((outsAt0 m c t.val t.isLt).2.1) := by
  show (cfg0.win 3).cut (grid0.coords t) ((dats m 0 c).after 3 t) = _
  rw [after0_3]

/-- … so at a point where case A runs, what its write-back would write is that case's NAMED TERM for the window (`Gen.out0_A_3`: the pieces
    its run found, read back) at the point's memrefs and input blocks, and for an output the case reads back what the point before left (`Gen.outsAt0` at `t - 1`) — by the frame's rewriting lemma for the case. -/
theorem flushed3_A (c : Dev nD) (t : Fin cfg0.N) (h0 : t.val % 32 = 0) (h1 : t.val % 32 = 0) :
    (dats m 0 c).flushed 3 t = (cfg0.win 3).cut (grid0.coords t) (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) ((hcond0_1 t).mpr h1) (iblk m c 0 t) (iblk m c 1 t) (V m c main_v3) (V m c main_v5)) := by
  simp only [flushed3, outsAt0_A m c t h0 h1]

/-- … so at a point where case B runs, what its write-back would write is that case's NAMED TERM for the window (`Gen.out0_B_3`: the pieces
    its run found, read back) at the point's memrefs and input blocks, and for an output the case reads back what the point before left (`Gen.outsAt0` at `t - 1`) — by the frame's rewriting lemma for the case. -/
theorem flushed3_B (c : Dev nD) (t : Fin cfg0.N) (h0 : ¬t.val % 32 = 0) (h1 : ¬t.val % 32 = 0) :
    (dats m 0 c).flushed 3 t = (cfg0.win 3).cut (grid0.coords t) (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v3) (V m c main_v5)) := by
  simp only [flushed3, outsAt0_B m c t h0 h1]

/-- The index map sends distinct grid points to distinct block indices (decided over the 32 points). -/
theorem idx_inj3 : ∀ t t' : Fin cfg0.N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- An index that no flushing point's block covers keeps output window 3's array contents at region entry. -/
theorem entry3 (c : Dev nD) (i : S8192x4096.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- WHAT POINT `t` WRITES BACK to output window 4's array: the run's contents for that window after the body (`Gen.outsAt0`: its component 2), read through the window's block. -/
theorem flushed4 (c : Dev nD) (t : Fin cfg0.N) :
    (dats m 0 c).flushed 4 t = (cfg0.win 4).cut (grid0.coords t) ((outsAt0 m c t.val t.isLt).2.2.1) := by
  show (cfg0.win 4).cut (grid0.coords t) ((dats m 0 c).after 4 t) = _
  rw [after0_4]

/-- … so at a point where case A runs, what its write-back would write is that case's NAMED TERM for the window (`Gen.out0_A_4`: the pieces
    its run found, read back) at the point's memrefs and input blocks, and for an output the case reads back what the point before left (`Gen.outsAt0` at `t - 1`) — by the frame's rewriting lemma for the case. -/
theorem flushed4_A (c : Dev nD) (t : Fin cfg0.N) (h0 : t.val % 32 = 0) (h1 : t.val % 32 = 0) :
    (dats m 0 c).flushed 4 t = (cfg0.win 4).cut (grid0.coords t) (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) ((hcond0_1 t).mpr h1) (iblk m c 0 t) (iblk m c 1 t) (V m c main_v3) (V m c main_v5)) := by
  simp only [flushed4, outsAt0_A m c t h0 h1]

/-- … so at a point where case B runs, what its write-back would write is that case's NAMED TERM for the window (`Gen.out0_B_4`: the pieces
    its run found, read back) at the point's memrefs and input blocks, and for an output the case reads back what the point before left (`Gen.outsAt0` at `t - 1`) — by the frame's rewriting lemma for the case. -/
theorem flushed4_B (c : Dev nD) (t : Fin cfg0.N) (h0 : ¬t.val % 32 = 0) (h1 : ¬t.val % 32 = 0) :
    (dats m 0 c).flushed 4 t = (cfg0.win 4).cut (grid0.coords t) (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v3) (V m c main_v5)) := by
  simp only [flushed4, outsAt0_B m c t h0 h1]

/-- The index map sends distinct grid points to distinct block indices (decided over the 32 points). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S8192x4096.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- WHAT POINT `t` WRITES BACK to output window 5's array: the run's contents for that window after the body (`Gen.outsAt0`: its component 3), read through the window's block. -/
theorem flushed5 (c : Dev nD) (t : Fin cfg0.N) :
    (dats m 0 c).flushed 5 t = (cfg0.win 5).cut (grid0.coords t) ((outsAt0 m c t.val t.isLt).2.2.2.1) := by
  show (cfg0.win 5).cut (grid0.coords t) ((dats m 0 c).after 5 t) = _
  rw [after0_5]

/-- … so at a point where case A runs, what its write-back would write is that case's NAMED TERM for the window (`Gen.out0_A_5`: the pieces
    its run found, read back) at the point's memrefs and input blocks, and for an output the case reads back what the point before left (`Gen.outsAt0` at `t - 1`) — by the frame's rewriting lemma for the case. -/
theorem flushed5_A (c : Dev nD) (t : Fin cfg0.N) (h0 : t.val % 32 = 0) (h1 : t.val % 32 = 0) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) ((hcond0_1 t).mpr h1) (iblk m c 0 t) (iblk m c 1 t) (V m c main_v3) (V m c main_v5)) := by
  simp only [flushed5, outsAt0_A m c t h0 h1]

/-- … so at a point where case B runs, what its write-back would write is that case's NAMED TERM for the window (`Gen.out0_B_5`: the pieces
    its run found, read back) at the point's memrefs and input blocks, and for an output the case reads back what the point before left (`Gen.outsAt0` at `t - 1`) — by the frame's rewriting lemma for the case. -/
theorem flushed5_B (c : Dev nD) (t : Fin cfg0.N) (h0 : ¬t.val % 32 = 0) (h1 : ¬t.val % 32 = 0) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v3) (V m c main_v5)) := by
  simp only [flushed5, outsAt0_B m c t h0 h1]

/-- The index map sends distinct grid points to distinct block indices (decided over the 32 points). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S8192x1024.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- After the frame run, output window 2's array is `(dats m 0 c).arrAt 2 N`. -/
theorem post2 (r : PUnit × MemSt nD τ sig (Elt F)) (h : Pipeline.FramePost cfgs (dats m) 0 (V m) r) (c : Dev nD) :
    r.2.mem ((c : Thread nD τ).loc main_v6_0) = (dats m 0 c).arrAt 2 cfg0.N :=
  (h c).1 2

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v6_1) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v6_2) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v6_3) = (dats m 0 c).arrAt 5 cfg0.N :=
  (h c).1 5

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v6_0) = (dats m 0 c).arrAt 2 cfg0.N
      ∧ r.2.mem ((c : Thread nD τ).loc main_v6_1) = (dats m 0 c).arrAt 3 cfg0.N
      ∧ r.2.mem ((c : Thread nD τ).loc main_v6_2) = (dats m 0 c).arrAt 4 cfg0.N
      ∧ r.2.mem ((c : Thread nD τ).loc main_v6_3) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post2 m r h c,
      post3 m r h c,
      post4 m r h c,
      post5 m r h c,
      kept_main_arg0 m r h c,
      kept_main_arg1 m r h c,
      kept_main_arg2 m r h c,
      kept_main_arg3 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S1024x4096 .bf16) : Vec F S1024x4096 .bf16 :=
  if h0 : n % 32 = 0 then
    if h1 : n % 32 = 0 then
      sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) ((hcond0_0 (⟨n, hb⟩ : Fin cfg0.N)).mpr h0) ((hcond0_1 (⟨n, hb⟩ : Fin cfg0.N)).mpr h1) (iblk m c 0 (⟨n, hb⟩ : Fin cfg0.N)) (iblk m c 1 (⟨n, hb⟩ : Fin cfg0.N)) (V m c main_v3) (V m c main_v5)
    else
      acc
  else
    if h1 : n % 32 = 0 then
      acc
    else
      sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.2.2.2 (V m c main_v3) (V m c main_v5)

/-- WHAT CARRIED SCRATCH 0 HOLDS after point `t`: the fold of its run up to `t`, from the reset at the run's first point
    `32·(t / 32)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2.2.2.1 = Pipeline.accAt (fun n h => scAt0_0 m c n h (VS0_0.read (Elt F) VS0_0.junk)) (scAt0_0 m c) (32 * (t.val / 32)) (t.val % 32)
      (by have h1 := t.isLt; have h2 := Nat.div_add_mod t.val 32; omega) :=
  Pipeline.eq_accAt_of_mod (fun n h => (outsAt0 m c n h).2.2.2.2.1) 32 (fun n h => scAt0_0 m c n h (VS0_0.read (Elt F) VS0_0.junk)) (scAt0_0 m c)
    (fun n h hn => by
      have hN := lt_of_lt_of_eq h (show cfg0.N = 32 from N_0)
      by_cases h0 : n % 32 = 0 <;> by_cases h1 : n % 32 = 0
      all_goals first | (exfalso; omega) | (rw [outsAt0_A m c ⟨n, h⟩ h0 h1]; dsimp only; unfold scAt0_0; rw [dif_pos h0, dif_pos h1] <;> try rfl) | (rw [outsAt0_B m c ⟨n, h⟩ h0 h1]; dsimp only; unfold scAt0_0; rw [dif_neg h0, dif_neg h1] <;> try rfl))
    (fun n h hn => by
      have hN := lt_of_lt_of_eq h (show cfg0.N = 32 from N_0)
      by_cases h0 : (n + 1) % 32 = 0 <;> by_cases h1 : (n + 1) % 32 = 0
      all_goals first | (exfalso; omega) | (rw [outsAt0_A m c ⟨n + 1, h⟩ h0 h1]; dsimp only; unfold scAt0_0; rw [dif_pos h0, dif_pos h1] <;> try rfl) | (rw [outsAt0_B m c ⟨n + 1, h⟩ h0 h1]; dsimp only; unfold scAt0_0; rw [dif_neg h0, dif_neg h1] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2.2.2.2.1 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 32 from N_0)
  have hd : n / 32 = 0 := Nat.div_eq_of_lt hN
  have hm : n % 32 = n := Nat.mod_eq_of_lt hN
  simpa only [hd, hm, Nat.mul_zero] using e

/-! ## Carried scratch 1: what each point leaves in it, and its fold -/

/-- What point `n` leaves in carried scratch 1, over what the point before left in it (`acc`): the case the conditions'
    closed forms select at `n`, the frame's own term for it (`Gen.sout0_κ_1`; anything else the case takes of the point
    before, another carried scratch or an output it reads back, stays `Gen.outsAt0`'s at `n - 1`); a case at the first point
    stores the scratch whole without reading what it held, and `acc` does not enter there (nor where no point meets the
    conditions: `acc`, never read). -/
def scAt0_1 (c : Dev nD) (n : ℕ) (hb : n < cfg0.N) (acc : Vec F S4096x1024 .bf16) : Vec F S4096x1024 .bf16 :=
  if h0 : n % 32 = 0 then
    if h1 : n % 32 = 0 then
      sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) ((hcond0_0 (⟨n, hb⟩ : Fin cfg0.N)).mpr h0) ((hcond0_1 (⟨n, hb⟩ : Fin cfg0.N)).mpr h1) (iblk m c 0 (⟨n, hb⟩ : Fin cfg0.N)) (iblk m c 1 (⟨n, hb⟩ : Fin cfg0.N)) (V m c main_v3) (V m c main_v5)
    else
      acc
  else
    if h1 : n % 32 = 0 then
      acc
    else
      sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (outsAt0 m c ((⟨n, hb⟩ : Fin cfg0.N).val - 1) (Nat.lt_of_le_of_lt (Nat.sub_le _ _) (⟨n, hb⟩ : Fin cfg0.N).isLt)).2.2.2.2.1 acc (V m c main_v3) (V m c main_v5)

/-- WHAT CARRIED SCRATCH 1 HOLDS after point `t`: the fold of its run up to `t`, from the reset at the run's first point
    `32·(t / 32)` (Lib/Pipeline/Value.lean `Pipeline.eq_accAt_of_mod`, by the frame's `outsAt0_κ`; without enumerating the points). -/
theorem soutsAt0_1_eq (c : Dev nD) (t : Fin cfg0.N) :
    (outsAt0 m c t.val t.isLt).2.2.2.2.2 = Pipeline.accAt (fun n h => scAt0_1 m c n h (VS0_1.read (Elt F) VS0_1.junk)) (scAt0_1 m c) (32 * (t.val / 32)) (t.val % 32)
      (by have h1 := t.isLt; have h2 := Nat.div_add_mod t.val 32; omega) :=
  Pipeline.eq_accAt_of_mod (fun n h => (outsAt0 m c n h).2.2.2.2.2) 32 (fun n h => scAt0_1 m c n h (VS0_1.read (Elt F) VS0_1.junk)) (scAt0_1 m c)
    (fun n h hn => by
      have hN := lt_of_lt_of_eq h (show cfg0.N = 32 from N_0)
      by_cases h0 : n % 32 = 0 <;> by_cases h1 : n % 32 = 0
      all_goals first | (exfalso; omega) | (rw [outsAt0_A m c ⟨n, h⟩ h0 h1]; dsimp only; unfold scAt0_1; rw [dif_pos h0, dif_pos h1] <;> try rfl) | (rw [outsAt0_B m c ⟨n, h⟩ h0 h1]; dsimp only; unfold scAt0_1; rw [dif_neg h0, dif_neg h1] <;> try rfl))
    (fun n h hn => by
      have hN := lt_of_lt_of_eq h (show cfg0.N = 32 from N_0)
      by_cases h0 : (n + 1) % 32 = 0 <;> by_cases h1 : (n + 1) % 32 = 0
      all_goals first | (exfalso; omega) | (rw [outsAt0_A m c ⟨n + 1, h⟩ h0 h1]; dsimp only; unfold scAt0_1; rw [dif_pos h0, dif_pos h1] <;> try rfl) | (rw [outsAt0_B m c ⟨n + 1, h⟩ h0 h1]; dsimp only; unfold scAt0_1; rw [dif_neg h0, dif_neg h1] <;> try rfl))
    (by decide) t.val t.isLt _

/-- One run spans the grid (the only reset is at point 0): after point `n` the scratch is the fold from 0 to `n`. -/
theorem soutsAt0_1_sweep (c : Dev nD) (n : ℕ) (hn : n < cfg0.N) :
    (outsAt0 m c n hn).2.2.2.2.2 = Pipeline.accAt (fun n h => scAt0_1 m c n h (VS0_1.read (Elt F) VS0_1.junk)) (scAt0_1 m c) 0 n (by omega) := by
  have e := soutsAt0_1_eq m c ⟨n, hn⟩
  have hN := lt_of_lt_of_eq hn (show cfg0.N = 32 from N_0)
  have hd : n / 32 = 0 := Nat.div_eq_of_lt hN
  have hm : n % 32 = n := Nat.mod_eq_of_lt hN
  simpa only [hd, hm, Nat.mul_zero] using e

end Cert.Kernel5Ideal.Value

end
-- ==== Proof.MlpForward.lean ====
module
public import proofs.«01_k».proof.Proof.MlpForwardBlocks
public import proofs.«01_k».proof.Proof.Gen.Reference5Ideal.Run
public import proofs.«01_k».proof.Proof.Mlp
public import proofs.«01_k».proof.Proof.Pieces
public import Idealize.ShloMosaic.Lib.Pipeline.ValueKit
public import Idealize.ShloMosaic.Lib.Pipeline.ReadBack
public import Idealize.ShloMosaic.Lib.Pointwise
public import Idealize.ShloMosaic.Lib.ValueLayout
public import Idealize.ShloMosaic.Lib.Claim
@[expose] public section
set_option maxRecDepth 16384

/-! # The forward pass of the perceptron -/

noncomputable section
open Idealize.ShloMosaic Idealize.ShloMosaic.TcCoe Idealize.SL.Sem
open Idealize.ShloMosaic.Pipeline (Dat)
open Idealize.ShloMosaic.Tactic
open Cert.Mlp

namespace Cert.Kernel5Ideal.Tile
open Cert.Kernel5Ideal Cert.Kernel5Ideal.Gen
variable (m : (ℓ : Loc nD τ sig) → Buf (Elt Ideal) ℓ) (c : Dev nD)

/-- The arguments as plain numbers; no gradient comes in. -/
def inp : In where
  dO _ _ := 0
  h t k := (m ((c : Thread nD τ).loc main_arg0) : FVec Ideal S8192x1024 .f32) (ix2 t k)
  g k := (m ((c : Thread nD τ).loc main_arg1) : FVec Ideal S1024 .f32) (ix1 k)
  w1 k j := (m ((c : Thread nD τ).loc main_arg2) : FVec Ideal S1024x4096 .f32) (ix2 k j)
  w2 j k := (m ((c : Thread nD τ).loc main_arg3) : FVec Ideal S4096x1024 .f32) (ix2 j k)

/-- Blocks of the arguments and whole weights, as plain numbers. -/
structure Holds (I : In) (s : Fin 32) (X0 : FVec Ideal S256x1024 .f32) (X1 : FVec Ideal S1x1024 .f32)
    (W1 : FVec Ideal S1024x4096 .bf16) (W2 : FVec Ideal S4096x1024 .bf16) : Prop where
  h : ∀ y k, X0 (ix2 y k) = I.h (row s y) k
  g : ∀ k, X1 (ix2 0 k) = I.g k
  w1 : ∀ k j, W1 (ix2 k j) = I.w1 k j
  w2 : ∀ j k, W2 (ix2 j k) = I.w2 j k

section payloads
variable {I : In} {s : Fin 32} {X0 : FVec Ideal S256x1024 .f32} {X1 : FVec Ideal S1x1024 .f32}
  {W1 : FVec Ideal S1024x4096 .bf16} {W2 : FVec Ideal S4096x1024 .bf16}

/-- The normalised rows of a block. -/
theorem pay_nrm (H : Holds I s X0 X1 W1 W2) (y : Fin 256) (k : Fin 1024) : k0_pay2 (F := Ideal) X0 X1 (ix2 y k) = I.nrm (row s y) k := by
  pointwise [k0_pay2]
  simp only [H.h, H.g]
  rfl

/-- The first product. -/
theorem pay_up (H : Holds I s X0 X1 W1 W2) (y : Fin 256) (j : Fin 4096) : k0_pay3 (F := Ideal) X0 X1 W1 (ix2 y j) = I.up (row s y) j := by
  pointwise [k0_pay3]
  simp only [pay_nrm H, H.w1]
  rfl

/-- The first product as it is stored. -/
theorem pay_f (H : Holds I s X0 X1 W1 W2) (y : Fin 256) (j : Fin 4096) : k0_pay4 (F := Ideal) X0 X1 W1 (ix2 y j) = I.up (row s y) j := by
  pointwise [k0_pay4]
  exact pay_up H y j

/-- The square of its positive part. -/
theorem pay_act (H : Holds I s X0 X1 W1 W2) (y : Fin 256) (j : Fin 4096) : k0_pay5 (F := Ideal) X0 X1 W1 (ix2 y j) = I.act (row s y) j := by
  pointwise [k0_pay5]
  rw [pay_up H]
  rfl

/-- The result. -/
theorem pay_out (H : Holds I s X0 X1 W1 W2) (y : Fin 256) (k : Fin 1024) :
    k0_pay1 (F := Ideal) X0 (k0_pay5 X0 X1 W1) W2 (ix2 y k) = I.out (row s y) k := by
  pointwise [k0_pay1]
  simp only [pay_act H, H.h, H.w2]
  rfl

end payloads

/-- The eight copies that put the first weight together. -/
def loads1 (W : FVec Ideal S8x1024x512 .bf16) : List (View.Piece (Elt Ideal) S1024x4096 .bf16) :=
  [⟨Rect.unit ![0, 3584] ![1024, 512] (by decide), ReadAs.same.apply (View.read (Elt Ideal) (((View.whole main_v3).slice (Rect.unit ![7, 0, 0] ![1, 1024, 512] (by decide))).reshape S1024x512 (by decide)) W)⟩,
   ⟨Rect.unit ![0, 3072] ![1024, 512] (by decide), ReadAs.same.apply (View.read (Elt Ideal) (((View.whole main_v3).slice (Rect.unit ![6, 0, 0] ![1, 1024, 512] (by decide))).reshape S1024x512 (by decide)) W)⟩,
   ⟨Rect.unit ![0, 2560] ![1024, 512] (by decide), ReadAs.same.apply (View.read (Elt Ideal) (((View.whole main_v3).slice (Rect.unit ![5, 0, 0] ![1, 1024, 512] (by decide))).reshape S1024x512 (by decide)) W)⟩,
   ⟨Rect.unit ![0, 2048] ![1024, 512] (by decide), ReadAs.same.apply (View.read (Elt Ideal) (((View.whole main_v3).slice (Rect.unit ![4, 0, 0] ![1, 1024, 512] (by decide))).reshape S1024x512 (by decide)) W)⟩,
   ⟨Rect.unit ![0, 1536] ![1024, 512] (by decide), ReadAs.same.apply (View.read (Elt Ideal) (((View.whole main_v3).slice (Rect.unit ![3, 0, 0] ![1, 1024, 512] (by decide))).reshape S1024x512 (by decide)) W)⟩,
   ⟨Rect.unit ![0, 1024] ![1024, 512] (by decide), ReadAs.same.apply (View.read (Elt Ideal) (((View.whole main_v3).slice (Rect.unit ![2, 0, 0] ![1, 1024, 512] (by decide))).reshape S1024x512 (by decide)) W)⟩,
   ⟨Rect.unit ![0, 512] ![1024, 512] (by decide), ReadAs.same.apply (View.read (Elt Ideal) (((View.whole main_v3).slice (Rect.unit ![1, 0, 0] ![1, 1024, 512] (by decide))).reshape S1024x512 (by decide)) W)⟩,
   ⟨Rect.unit ![0, 0] ![1024, 512] (by decide), ReadAs.same.apply (View.read (Elt Ideal) (((View.whole main_v3).slice (Rect.unit ![0, 0, 0] ![1, 1024, 512] (by decide))).reshape S1024x512 (by decide)) W)⟩]

/-- The eight copies that put the second weight together. -/
def loads2 (W : FVec Ideal S8x512x1024 .bf16) : List (View.Piece (Elt Ideal) S4096x1024 .bf16) :=
  [⟨Rect.unit ![3584, 0] ![512, 1024] (by decide), ReadAs.same.apply (View.read (Elt Ideal) (((View.whole main_v5).slice (Rect.unit ![7, 0, 0] ![1, 512, 1024] (by decide))).reshape S512x1024 (by decide)) W)⟩,
   ⟨Rect.unit ![3072, 0] ![512, 1024] (by decide), ReadAs.same.apply (View.read (Elt Ideal) (((View.whole main_v5).slice (Rect.unit ![6, 0, 0] ![1, 512, 1024] (by decide))).reshape S512x1024 (by decide)) W)⟩,
   ⟨Rect.unit ![2560, 0] ![512, 1024] (by decide), ReadAs.same.apply (View.read (Elt Ideal) (((View.whole main_v5).slice (Rect.unit ![5, 0, 0] ![1, 512, 1024] (by decide))).reshape S512x1024 (by decide)) W)⟩,
   ⟨Rect.unit ![2048, 0] ![512, 1024] (by decide), ReadAs.same.apply (View.read (Elt Ideal) (((View.whole main_v5).slice (Rect.unit ![4, 0, 0] ![1, 512, 1024] (by decide))).reshape S512x1024 (by decide)) W)⟩,
   ⟨Rect.unit ![1536, 0] ![512, 1024] (by decide), ReadAs.same.apply (View.read (Elt Ideal) (((View.whole main_v5).slice (Rect.unit ![3, 0, 0] ![1, 512, 1024] (by decide))).reshape S512x1024 (by decide)) W)⟩,
   ⟨Rect.unit ![1024, 0] ![512, 1024] (by decide), ReadAs.same.apply (View.read (Elt Ideal) (((View.whole main_v5).slice (Rect.unit ![2, 0, 0] ![1, 512, 1024] (by decide))).reshape S512x1024 (by decide)) W)⟩,
   ⟨Rect.unit ![512, 0] ![512, 1024] (by decide), ReadAs.same.apply (View.read (Elt Ideal) (((View.whole main_v5).slice (Rect.unit ![1, 0, 0] ![1, 512, 1024] (by decide))).reshape S512x1024 (by decide)) W)⟩,
   ⟨Rect.unit ![0, 0] ![512, 1024] (by decide), ReadAs.same.apply (View.read (Elt Ideal) (((View.whole main_v5).slice (Rect.unit ![0, 0, 0] ![1, 512, 1024] (by decide))).reshape S512x1024 (by decide)) W)⟩]

/-- A slab of the first weight's blocks, read as a matrix. -/
theorem slab1 (W : FVec Ideal S8x1024x512 .bf16) (o : ℕ) (d : Fin 8) (ho : (d : ℕ) = o) (inb) (hn) (x : S1024x512.Idx) :
    View.read (Elt Ideal) (((View.whole main_v3).slice (Rect.unit (s := S8x1024x512) ![o, 0, 0] ![1, 1024, 512] inb)).reshape S1024x512 hn) W x
      = W (ix3 d (x 0) (x 1)) := by
  subst ho
  idx_vars x
  refine congrArg W ?_
  show (Rect.unit (s := S8x1024x512) ![(d : ℕ), 0, 0] ![1, 1024, 512] inb).emb (Shape.reshapeEquiv hn (ix2 x0 x1)) = _
  refine (congrArg _ (Idealize.ShloMosaic.ValueIdx.reshapeEquiv_ix2_1ab hn x0 x1)).trans ?_
  funext a
  fin_cases a <;> exact Fin.ext (by rw [Rect.emb_apply]; simp)

/-- A slab of the second weight's blocks, read as a matrix. -/
theorem slab2 (W : FVec Ideal S8x512x1024 .bf16) (o : ℕ) (d : Fin 8) (ho : (d : ℕ) = o) (inb) (hn) (x : S512x1024.Idx) :
    View.read (Elt Ideal) (((View.whole main_v5).slice (Rect.unit (s := S8x512x1024) ![o, 0, 0] ![1, 512, 1024] inb)).reshape S512x1024 hn) W x
      = W (ix3 d (x 0) (x 1)) := by
  subst ho
  idx_vars x
  refine congrArg W ?_
  show (Rect.unit (s := S8x512x1024) ![(d : ℕ), 0, 0] ![1, 512, 1024] inb).emb (Shape.reshapeEquiv hn (ix2 x0 x1)) = _
  refine (congrArg _ (Idealize.ShloMosaic.ValueIdx.reshapeEquiv_ix2_1ab hn x0 x1)).trans ?_
  funext a
  fin_cases a <;> exact Fin.ext (by rw [Rect.emb_apply]; simp)

/-- The first weight as the copies leave it in the scratch. -/
theorem canon1 (W : FVec Ideal S8x1024x512 .bf16) (j : S1024x4096.Idx) : View.canon (loads1 W) j
    = W (ix3 ⟨(j 1 : ℕ) / 512, by have h : (j 1 : ℕ) < 4096 := (j 1).isLt; omega⟩ (j 0) ⟨(j 1 : ℕ) % 512, by omega⟩) := by
  unfold loads1
  canon_tiles x h
  all_goals
    refine (slab1 W _ ⟨(j 1 : ℕ) / 512, by have h : (j 1 : ℕ) < 4096 := (j 1).isLt; omega⟩ (by dsimp only; omega) _ _ x).trans ?_
    refine congrArg W (congrArg₂ (fun a b => ix3 _ a b) (Fin.ext (by omega)) (Fin.ext (by dsimp only; omega)))

/-- The second weight as the copies leave it in the scratch. -/
theorem canon2 (W : FVec Ideal S8x512x1024 .bf16) (j : S4096x1024.Idx) : View.canon (loads2 W) j
    = W (ix3 ⟨(j 0 : ℕ) / 512, by have h : (j 0 : ℕ) < 4096 := (j 0).isLt; omega⟩ ⟨(j 0 : ℕ) % 512, by omega⟩ (j 1)) := by
  unfold loads2
  canon_tiles x h
  all_goals
    refine (slab2 W _ ⟨(j 0 : ℕ) / 512, by have h : (j 0 : ℕ) < 4096 := (j 0).isLt; omega⟩ (by dsimp only; omega) _ _ x).trans ?_
    refine congrArg W (congrArg₂ (fun a b => ix3 _ a b) (Fin.ext (by dsimp only; omega)) (Fin.ext (by omega)))

/-- The whole first scratch read back. -/
theorem whole1 (L : List (View.Piece (Elt Ideal) S1024x4096 .bf16)) :
    (View.whole cc0_scratch0).readCov L (Rect.unit (s := S1024x4096) ![0, 0] ![1024, 4096] inb_S1024x4096_S1024x4096_0_0).toLoadRect = View.canon L := by
  rw [View.readCov_eq_canon']
  exact View.ld_unit_lit inb_S1024x4096_S1024x4096_0_0 (View.canon L) (by decide)

/-- The whole second scratch read back. -/
theorem whole2 (L : List (View.Piece (Elt Ideal) S4096x1024 .bf16)) :
    (View.whole cc0_scratch1).readCov L (Rect.unit (s := S4096x1024) ![0, 0] ![4096, 1024] inb_S4096x1024_S4096x1024_0_0).toLoadRect = View.canon L := by
  rw [View.readCov_eq_canon']
  exact View.ld_unit_lit inb_S4096x1024_S4096x1024_0_0 (View.canon L) (by decide)

/-- The gains as the host hands them over. -/
theorem entry_g (k : Fin 1024) : (V m c main_v0 : FVec Ideal S1x1024 .f32) (ix2 0 k) = (inp m c).g k := by
  entry_read
  pointwise
  rfl

/-- The first weight, in blocks of columns. -/
theorem entry_w1 (d : Fin 8) (k : Fin 1024) (q : Fin 512) : (V m c main_v3 : FVec Ideal S8x1024x512 .bf16) (ix3 d k q) = (inp m c).w1 k (col d q) := by
  entry_read
  pointwise
  rfl

/-- The second weight, in blocks of rows. -/
theorem entry_w2 (d : Fin 8) (q : Fin 512) (k : Fin 1024) : (V m c main_v5 : FVec Ideal S8x512x1024 .bf16) (ix3 d q k) = (inp m c).w2 (col d q) k := by
  entry_read
  pointwise
  rfl

/-- The first weight in the scratch. -/
theorem load1 (k : Fin 1024) (j : Fin 4096) : View.canon (loads1 (V m c main_v3)) (ix2 k j) = (inp m c).w1 k j := by
  rw [canon1]
  refine (entry_w1 m c _ _ _).trans (congrArg ((inp m c).w1 k) (Fin.ext ?_))
  exact Nat.div_add_mod' (j : ℕ) 512

/-- The second weight in the scratch. -/
theorem load2 (j : Fin 4096) (k : Fin 1024) : View.canon (loads2 (V m c main_v5)) (ix2 j k) = (inp m c).w2 j k := by
  rw [canon2]
  refine (entry_w2 m c _ _ _).trans (congrArg (fun x => (inp m c).w2 x k) (Fin.ext ?_))
  exact Nat.div_add_mod' (j : ℕ) 512

/-- The blocks that each grid point works on. -/
theorem idx : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] :=
  (by decide +kernel : ∀ t : Fin grid0.N, _)

/-- The number of a grid point. -/
def num (t : Fin cfg0.N) : Fin 32 := ⟨t.val, lt_of_lt_of_eq t.isLt N_0⟩

/-- At the first point the scratch is loaded. -/
theorem scratch_first (t : Fin cfg0.N) (h : t.val % 32 = 0) :
    (outsAt0 m c t.val t.isLt).2.2.2.2.1 = View.canon (loads1 (V m c main_v3)) ∧ (outsAt0 m c t.val t.isLt).2.2.2.2.2 = View.canon (loads2 (V m c main_v5)) := by
  constructor
  · rw [outsAt0_A m c t h h]
    dsimp only
    unfold sout0_A_0
    frame_out
    rfl
  · rw [outsAt0_A m c t h h]
    dsimp only
    unfold sout0_A_1
    frame_out
    rfl

/-- A later point keeps the scratch. -/
theorem scratch_later (t : Fin cfg0.N) (h : ¬t.val % 32 = 0) :
    (outsAt0 m c t.val t.isLt).2.2.2.2.1 = (outsAt0 m c (t.val - 1) (lt_of_le_of_lt (Nat.sub_le _ _) t.isLt)).2.2.2.2.1
    ∧ (outsAt0 m c t.val t.isLt).2.2.2.2.2 = (outsAt0 m c (t.val - 1) (lt_of_le_of_lt (Nat.sub_le _ _) t.isLt)).2.2.2.2.2 := by
  constructor
  · rw [outsAt0_B m c t h h]
    unfold sout0_B_0
    rfl
  · rw [outsAt0_B m c t h h]
    unfold sout0_B_1
    rfl

/-- After every point the scratch holds the weights. -/
theorem scratch (n : ℕ) (hn : n < cfg0.N) : (outsAt0 m c n hn).2.2.2.2.1 = View.canon (loads1 (V m c main_v3))
    ∧ (outsAt0 m c n hn).2.2.2.2.2 = View.canon (loads2 (V m c main_v5)) := by
  have hN := lt_of_lt_of_eq hn N_0
  induction n with
  | zero => exact scratch_first m c ⟨0, hn⟩ rfl
  | succ n ih =>
    have s := scratch_later m c ⟨n + 1, hn⟩ (by show ¬(n + 1) % 32 = 0; omega)
    have i := ih (Nat.lt_of_succ_lt hn) (by omega)
    exact ⟨s.1.trans i.1, s.2.trans i.2⟩

/-- A point's blocks hold the arguments' rows, and the scratch holds the weights. -/
theorem held (t : Fin cfg0.N) : Holds (inp m c) (num t) (iblk m c 0 t) (iblk m c 1 t)
    (View.canon (loads1 (V m c main_v3))) (View.canon (loads2 (V m c main_v5))) := by
  refine ⟨fun y k => ?_, fun k => ?_, load1 m c, load2 m c⟩
  · refine Eq.trans ?_ (congrFun (V_main_arg0 m c) (ix2 (row (num t) y) k))
    blk_ext [iblk, idx t]
    rfl
  · refine Eq.trans ?_ (entry_g m c k)
    blk_ext [iblk, idx t]

/-- What a point leaves for the normalised rows. -/
theorem out_nrm (t : Fin cfg0.N) (j : S256x1024.Idx) : (outsAt0 m c t.val t.isLt).1 j = (inp m c).nrm (row (num t) (j 0)) (j 1) := by
  idx_vars j
  by_cases h : t.val % 32 = 0
  · rw [outsAt0_A m c t h h]; frame_out
    exact pay_nrm (held m c t) j0 j1
  · rw [outsAt0_B m c t h h]; frame_out
    exact pay_nrm (held m c t) j0 j1

/-- All points' rows of it, put together. -/
theorem final_nrm : (dats m 0 c).arrAt 2 cfg0.N = (fun i : S8192x1024.Idx => (inp m c).nrm (i 0) (i 1)) := by
  refine (dats m 0 c).arrAt_eq_of_covers 2 _ (by decide +kernel) fun t hf y => ?_
  blk_simp
  rw [after0_2]
  refine (out_nrm m c t y).trans ?_
  refine congrArg₂ (inp m c).nrm (Fin.ext ?_) (Fin.ext ?_)
  · show (t : ℕ) * 256 + (y 0 : ℕ) = _
    blk_simp [idx t]
  · blk_simp [idx t]

/-- What a point leaves for the first product. -/
theorem out_f (t : Fin cfg0.N) (j : S256x4096.Idx) : (outsAt0 m c t.val t.isLt).2.1 j = (inp m c).up (row (num t) (j 0)) (j 1) := by
  idx_vars j
  by_cases h : t.val % 32 = 0
  · rw [outsAt0_A m c t h h]; frame_out
    rw [whole1]
    exact pay_f (held m c t) j0 j1
  · rw [outsAt0_B m c t h h]; frame_out
    rw [read_unread_whole, (scratch m c _ _).1]
    exact pay_f (held m c t) j0 j1

/-- All points' rows of it, put together. -/
theorem final_f : (dats m 0 c).arrAt 3 cfg0.N = (fun i : S8192x4096.Idx => (inp m c).up (i 0) (i 1)) := by
  refine (dats m 0 c).arrAt_eq_of_covers 3 _ (by decide +kernel) fun t hf y => ?_
  blk_simp
  rw [after0_3]
  refine (out_f m c t y).trans ?_
  refine congrArg₂ (inp m c).up (Fin.ext ?_) (Fin.ext ?_)
  · show (t : ℕ) * 256 + (y 0 : ℕ) = _
    blk_simp [idx t]
  · blk_simp [idx t]

/-- What a point leaves for the square. -/
theorem out_act (t : Fin cfg0.N) (j : S256x4096.Idx) : (outsAt0 m c t.val t.isLt).2.2.1 j = (inp m c).act (row (num t) (j 0)) (j 1) := by
  idx_vars j
  by_cases h : t.val % 32 = 0
  · rw [outsAt0_A m c t h h]; frame_out
    rw [whole1]
    exact pay_act (held m c t) j0 j1
  · rw [outsAt0_B m c t h h]; frame_out
    rw [read_unread_whole, (scratch m c _ _).1]
    exact pay_act (held m c t) j0 j1

/-- All points' rows of it, put together. -/
theorem final_act : (dats m 0 c).arrAt 4 cfg0.N = (fun i : S8192x4096.Idx => (inp m c).act (i 0) (i 1)) := by
  refine (dats m 0 c).arrAt_eq_of_covers 4 _ (by decide +kernel) fun t hf y => ?_
  blk_simp
  rw [after0_4]
  refine (out_act m c t y).trans ?_
  refine congrArg₂ (inp m c).act (Fin.ext ?_) (Fin.ext ?_)
  · show (t : ℕ) * 256 + (y 0 : ℕ) = _
    blk_simp [idx t]
  · blk_simp [idx t]

/-- What a point leaves for the result. -/
theorem out_out (t : Fin cfg0.N) (j : S256x1024.Idx) : (outsAt0 m c t.val t.isLt).2.2.2.1 j = (inp m c).out (row (num t) (j 0)) (j 1) := by
  idx_vars j
  by_cases h : t.val % 32 = 0
  · rw [outsAt0_A m c t h h]; frame_out
    rw [whole1, whole2]
    exact pay_out (held m c t) j0 j1
  · rw [outsAt0_B m c t h h]; frame_out
    rw [read_unread_whole, read_unread_whole, (scratch m c _ _).1, (scratch m c _ _).2]
    exact pay_out (held m c t) j0 j1

/-- All points' rows of it, put together. -/
theorem final_out : (dats m 0 c).arrAt 5 cfg0.N = (fun i : S8192x1024.Idx => (inp m c).out (i 0) (i 1)) := by
  refine (dats m 0 c).arrAt_eq_of_covers 5 _ (by decide +kernel) fun t hf y => ?_
  blk_simp
  rw [after0_5]
  refine (out_out m c t y).trans ?_
  refine congrArg₂ (inp m c).out (Fin.ext ?_) (Fin.ext ?_)
  · show (t : ℕ) * 256 + (y 0 : ℕ) = _
    blk_simp [idx t]
  · blk_simp [idx t]

/-- The kernel leaves the normalised rows, the two products' parts and the result, and its arguments as they were. -/
theorem run (g : Dev nD → PrngReg) : θ_run defs (onTc (τ := τ) (main (F := Ideal))) ⟨m, fun _ => 0, g⟩ fun r => ∀ c : Dev nD,
    r.2.mem ((c.tc : Thread nD τ).loc main_v6_0) = (fun i : S8192x1024.Idx => (inp m c).nrm (i 0) (i 1))
    ∧ r.2.mem ((c.tc : Thread nD τ).loc main_v6_1) = (fun i : S8192x4096.Idx => (inp m c).up (i 0) (i 1))
    ∧ r.2.mem ((c.tc : Thread nD τ).loc main_v6_2) = (fun i : S8192x4096.Idx => (inp m c).act (i 0) (i 1))
    ∧ r.2.mem ((c.tc : Thread nD τ).loc main_v6_3) = (fun i : S8192x1024.Idx => (inp m c).out (i 0) (i 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun _ h c => ⟨(h c).1.trans (final_nrm m c), (h c).2.1.trans (final_f m c), (h c).2.2.1.trans (final_act m c),
    (h c).2.2.2.1.trans (final_out m c), (h c).2.2.2.2⟩) (Value.run_blocks m g)

end Cert.Kernel5Ideal.Tile

namespace Cert.Reference5Ideal.Tile
open Cert.Reference5Ideal Cert.Reference5Ideal.Gen
variable (m : (ℓ : Loc nD τ sig) → Buf (Elt Ideal) ℓ) (c : Dev nD)

/-- The reference's arguments as plain numbers; no gradient comes in. -/
def inp : In where
  dO _ _ := 0
  h t k := (m ((c : Thread nD τ).loc main_arg0) : FVec Ideal S8192x1024 .f32) (ix2 t k)
  g k := (m ((c : Thread nD τ).loc main_arg1) : FVec Ideal S1024 .f32) (ix1 k)
  w1 k j := (m ((c : Thread nD τ).loc main_arg2) : FVec Ideal S1024x4096 .f32) (ix2 k j)
  w2 j k := (m ((c : Thread nD τ).loc main_arg3) : FVec Ideal S4096x1024 .f32) (ix2 j k)

/-- The reference leaves the same. -/
theorem run (g : Dev nD → PrngReg) : θ_run defs (onTc (τ := τ) (main (F := Ideal))) ⟨m, fun _ => 0, g⟩ fun r => ∀ c : Dev nD,
    r.2.mem ((c.tc : Thread nD τ).loc main_v16) = (fun i : S8192x1024.Idx => (inp m c).nrm (i 0) (i 1))
    ∧ r.2.mem ((c.tc : Thread nD τ).loc main_v17) = (fun i : S8192x4096.Idx => (inp m c).up (i 0) (i 1))
    ∧ r.2.mem ((c.tc : Thread nD τ).loc main_v18) = (fun i : S8192x4096.Idx => (inp m c).act (i 0) (i 1))
    ∧ r.2.mem ((c.tc : Thread nD τ).loc main_v20) = (fun i : S8192x1024.Idx => (inp m c).out (i 0) (i 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  refine (θ_run defs _ _).mono (fun _ h c => ⟨(h c).1.trans ?_, (h c).2.1.trans ?_, (h c).2.2.1.trans ?_, (h c).2.2.2.1.trans ?_, (h c).2.2.2.2⟩)
    (Value.run (F := Ideal) m g)
  all_goals
    funext i
    idx_vars i
    pointwise
    rfl

end Cert.Reference5Ideal.Tile
end
-- ==== Proof.Products.lean ====
module
public import proofs.«01_k».proof.Proof.Mlp
@[expose] public section

/-! # The gradient of a product in its weight -/

noncomputable section
namespace Cert.Products

/-- The gradient of `x @ w` in `w`: the rows of the operand against the rows of the incoming gradient. -/
def dw {n : ℕ} (x : Fin 8192 → Fin 1024 → EReal) (dy : Fin 8192 → Fin n → EReal) (k : Fin 1024) (j : Fin n) : EReal :=
  ∑ t, x t k * dy t j

end Cert.Products
end
-- ==== Proof.GradQkv.lean ====
module
public import proofs.«01_k».proof.Proof.Gen.Kernel6Ideal.Value
public import proofs.«01_k».proof.Proof.Gen.Reference6Ideal.Run
public import proofs.«01_k».proof.Proof.Products
public import Idealize.ShloMosaic.Lib.Pipeline.ValueKit
public import Idealize.ShloMosaic.Lib.Pipeline.ReadBack
public import Idealize.ShloMosaic.Lib.Pointwise
public import Idealize.ShloMosaic.Lib.Claim
@[expose] public section
set_option maxRecDepth 16384

/-! # The gradient of the recurrence layer's wide input weight -/

noncomputable section
open Idealize.ShloMosaic Idealize.ShloMosaic.TcCoe Idealize.SL.Sem
open Idealize.ShloMosaic.Pipeline (Dat)
open Idealize.ShloMosaic.Tactic
open Cert.Mlp

namespace Cert.Kernel6Ideal.Tile
open Cert.Kernel6Ideal Cert.Kernel6Ideal.Gen
variable (m : (ℓ : Loc nD τ sig) → Buf (Elt Ideal) ℓ) (c : Dev nD)

/-- The incoming gradient as plain numbers. -/
def dy (t : Fin 8192) (k : Fin 3072) : EReal := (m ((c : Thread nD τ).loc main_arg0) : FVec Ideal S8192x3072 .f32) (ix2 t k)

/-- The layer's input and its norm's weight as plain numbers; nothing else enters. -/
def inp : In where
  dO _ _ := 0
  h t k := (m ((c : Thread nD τ).loc main_arg1) : FVec Ideal S8192x1024 .f32) (ix2 t k)
  g k := (m ((c : Thread nD τ).loc main_arg2) : FVec Ideal S1024 .f32) (ix1 k)
  w1 _ _ := 0
  w2 _ _ := 0

/-- What the host hands the kernel: the normalized rows. -/
theorem entry_x (t : Fin 8192) (j : Fin 1024) :
    (V m c main_v13 : FVec Ideal S8192x1024 .bf16) (ix2 t j) = (inp m c).nrm t j := by
  entry_read
  pointwise
  rfl

/-- The accumulator starts from zero. -/
theorem hzero (j) : k0_pay1 (F := Ideal) j = 0 := by pointwise [k0_pay1]

/-- One grid point adds the product of its blocks. -/
theorem hpay (acc : FVec Ideal S1024x1536 .f32) (x : FVec Ideal S2048x1024 .bf16) (y : FVec Ideal S2048x1536 .f32) (j : S1024x1536.Idx) :
    k0_pay2 (F := Ideal) acc x y j = acc j + ∑ k : Fin 2048, x (ix2 k (j 0)) * y (ix2 k (j 1)) := by
  pointwise [k0_pay2]

/-- Where each window lies. -/
theorem idx : ∀ t : Fin cfg0.N, win0_0.index t = ![t.val % 4, 0] ∧ win0_1.index t = ![t.val % 4, t.val / 4]
    ∧ win0_2.index t = ![0, t.val / 4] := (by decide +kernel : ∀ t : Fin grid0.N, _)

/-- The block of the kernel's first operand. -/
theorem blk_x (t : Fin cfg0.N) (y : Fin 2048) (j : Fin 1024) (i : Fin 8192) (l : Fin 1024)
    (hi : (i : ℕ) = t.val % 4 * 2048 + y) (hl : (l : ℕ) = j) :
    (iblk m c 0 t : FVec Ideal S2048x1024 .bf16) (ix2 y j) = (inp m c).nrm i l := by
  refine Eq.trans ?_ (entry_x m c i l)
  blk_ext [iblk, idx t]

/-- The block of the kernel's second operand. -/
theorem blk_dy (t : Fin cfg0.N) (y : Fin 2048) (k : Fin 1536) (i : Fin 8192) (l : Fin 3072) (hi : (i : ℕ) = t.val % 4 * 2048 + y)
    (hl : (l : ℕ) = t.val / 4 * 1536 + k) :
    (iblk m c 1 t : FVec Ideal S2048x1536 .f32) (ix2 y k) = dy m c i l := by
  show _ = (m ((c : Thread nD τ).loc main_arg0) : FVec Ideal S8192x3072 .f32) (ix2 i l)
  blk_ext [iblk, V, idx t]

/-- The array after all grid points. -/
theorem final : (dats m 0 c).arrAt 2 cfg0.N = (fun i : S1024x3072.Idx => Products.dw ((inp m c).nrm) (dy m c) (i 0) (i 1)) := by
  refine (dats m 0 c).arrAt_eq_of_covers 2 _ (by decide +kernel) fun t hf y => ?_
  blk_simp
  rw [after0_2,
    Pipeline.eq_sum_fin_of_reset_step_apply_of_flush (fun n h => outsAt0 m c n h) 4 (fun _ => 0) _
    (fun t h j => by rw [outsAt0_A m c t h]; frame_out; rw [hpay, hzero])
    (fun t h j => by rw [outsAt0_B m c t h]; frame_out; rw [hpay])
    t ((flush0_2 t).mp hf) _, zero_add]
  show (_ : EReal) = ∑ t : Fin 8192, _
  refine Fin.sum_mul_add_congr fun s k hl => ?_
  have hN := lt_of_lt_of_eq t.isLt N_0
  refine congrArg₂ (fun a b : EReal => a * b) (blk_x m c _ _ _ _ _ ?_ ?_) (blk_dy m c _ _ _ _ _ ?_ ?_)
  · dsimp only; omega
  · blk_simp [idx t]
  · dsimp only; omega
  · blk_simp [idx t]; dsimp only; omega

/-- The kernel leaves the weight's gradient. -/
theorem run (g : Dev nD → PrngReg) : θ_run defs (onTc (τ := τ) (main (F := Ideal))) ⟨m, fun _ => 0, g⟩ fun r => ∀ c : Dev nD,
    r.2.mem ((c.tc : Thread nD τ).loc main_v14) = (fun i : S1024x3072.Idx => Products.dw ((inp m c).nrm) (dy m c) (i 0) (i 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun _ h c => ⟨(h c).1.trans (final m c), (h c).2⟩) (Value.run_blocks m g)

end Cert.Kernel6Ideal.Tile

namespace Cert.Reference6Ideal.Tile
open Cert.Reference6Ideal Cert.Reference6Ideal.Gen
variable (m : (ℓ : Loc nD τ sig) → Buf (Elt Ideal) ℓ) (c : Dev nD)

/-- The incoming gradient as plain numbers. -/
def dy (t : Fin 8192) (k : Fin 3072) : EReal := (m ((c : Thread nD τ).loc main_arg0) : FVec Ideal S8192x3072 .f32) (ix2 t k)

/-- The layer's input and its norm's weight as plain numbers; nothing else enters. -/
def inp : In where
  dO _ _ := 0
  h t k := (m ((c : Thread nD τ).loc main_arg1) : FVec Ideal S8192x1024 .f32) (ix2 t k)
  g k := (m ((c : Thread nD τ).loc main_arg2) : FVec Ideal S1024 .f32) (ix1 k)
  w1 _ _ := 0
  w2 _ _ := 0

/-- The reference leaves the weight's gradient. -/
theorem run (g : Dev nD → PrngReg) : θ_run defs (onTc (τ := τ) (main (F := Ideal))) ⟨m, fun _ => 0, g⟩ fun r => ∀ c : Dev nD,
    r.2.mem ((c.tc : Thread nD τ).loc main_v16) = (fun i : S1024x3072.Idx => Products.dw ((inp m c).nrm) (dy m c) (i 0) (i 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run defs _ _).mono (fun _ h c => ⟨(h c).1.trans ?_, (h c).2⟩) (Value.run (F := Ideal) m g)
  funext i
  idx_vars i
  pointwise
  exact Finset.sum_congr rfl fun t _ => mul_comm _ _

end Cert.Reference6Ideal.Tile
end
-- ==== Proof.GradSquare.lean ====
module
public import proofs.«01_k».proof.Proof.Gen.Kernel7Ideal.Value
public import proofs.«01_k».proof.Proof.Gen.Reference7Ideal.Run
public import proofs.«01_k».proof.Proof.Products
public import Idealize.ShloMosaic.Lib.Pipeline.ValueKit
public import Idealize.ShloMosaic.Lib.Pipeline.ReadBack
public import Idealize.ShloMosaic.Lib.Pointwise
public import Idealize.ShloMosaic.Lib.Claim
@[expose] public section
set_option maxRecDepth 16384

/-! # The gradient of a square weight -/

noncomputable section
open Idealize.ShloMosaic Idealize.ShloMosaic.TcCoe Idealize.SL.Sem
open Idealize.ShloMosaic.Pipeline (Dat)
open Idealize.ShloMosaic.Tactic
open Cert.Mlp

namespace Cert.Kernel7Ideal.Tile
open Cert.Kernel7Ideal Cert.Kernel7Ideal.Gen
variable (m : (ℓ : Loc nD τ sig) → Buf (Elt Ideal) ℓ) (c : Dev nD)

/-- The incoming gradient as plain numbers. -/
def dy (t : Fin 8192) (k : Fin 1024) : EReal := (m ((c : Thread nD τ).loc main_arg0) : FVec Ideal S8192x1024 .f32) (ix2 t k)

/-- The operand as plain numbers. -/
def x (t : Fin 8192) (k : Fin 1024) : EReal := (m ((c : Thread nD τ).loc main_arg1) : FVec Ideal S8192x1024 .bf16) (ix2 t k)

/-- The accumulator starts from zero. -/
theorem hzero (j) : k0_pay1 (F := Ideal) j = 0 := by pointwise [k0_pay1]

/-- One grid point adds the product of its blocks. -/
theorem hpay (acc : FVec Ideal S1024x1024 .f32) (x : FVec Ideal S2048x1024 .bf16) (y : FVec Ideal S2048x1024 .f32) (j : S1024x1024.Idx) :
    k0_pay2 (F := Ideal) acc x y j = acc j + ∑ k : Fin 2048, x (ix2 k (j 0)) * y (ix2 k (j 1)) := by
  pointwise [k0_pay2]

/-- Where each window lies. -/
theorem idx : ∀ t : Fin cfg0.N, win0_0.index t = ![t.val % 4, 0] ∧ win0_1.index t = ![t.val % 4, t.val / 4]
    ∧ win0_2.index t = ![0, t.val / 4] := (by decide +kernel : ∀ t : Fin grid0.N, _)

/-- The block of the kernel's first operand. -/
theorem blk_x (t : Fin cfg0.N) (y : Fin 2048) (j : Fin 1024) (i : Fin 8192) (l : Fin 1024)
    (hi : (i : ℕ) = t.val % 4 * 2048 + y) (hl : (l : ℕ) = j) :
    (iblk m c 0 t : FVec Ideal S2048x1024 .bf16) (ix2 y j) = x m c i l := by
  show _ = (m ((c : Thread nD τ).loc main_arg1) : FVec Ideal S8192x1024 .bf16) (ix2 i l)
  blk_ext [iblk, V, idx t]

/-- The block of the kernel's second operand. -/
theorem blk_dy (t : Fin cfg0.N) (y : Fin 2048) (k : Fin 1024) (i : Fin 8192) (l : Fin 1024) (hi : (i : ℕ) = t.val % 4 * 2048 + y)
    (hl : (l : ℕ) = t.val / 4 * 1024 + k) :
    (iblk m c 1 t : FVec Ideal S2048x1024 .f32) (ix2 y k) = dy m c i l := by
  show _ = (m ((c : Thread nD τ).loc main_arg0) : FVec Ideal S8192x1024 .f32) (ix2 i l)
  blk_ext [iblk, V, idx t]

/-- At the last point the kernel writes out the accumulated block. -/
theorem stored (t : Fin cfg0.N) (h : t.val % 4 = 3) (j : S1024x1024.Idx) :
    (outsAt0 m c t.val t.isLt).1 j = (outsAt0 m c t.val t.isLt).2 j := by
  rw [outsAt0_C m c t (by omega) h]; frame_out
  rfl

/-- The array after all grid points. -/
theorem final : (dats m 0 c).arrAt 2 cfg0.N = (fun i : S1024x1024.Idx => Products.dw (x m c) (dy m c) (i 0) (i 1)) := by
  refine (dats m 0 c).arrAt_eq_of_covers 2 _ (by decide +kernel) fun t hf y => ?_
  blk_simp
  rw [after0_2, stored m c t ((flush0_2 t).mp hf),
    Pipeline.eq_sum_fin_of_reset_step_apply_of_flush (fun n h => (outsAt0 m c n h).2) 4 (fun _ => 0) _
    (fun t h j => by rw [outsAt0_A m c t h (by omega)]; frame_out; rw [hpay, hzero])
    (fun t h j => by
      by_cases h3 : t.val % 4 = 3
      · rw [outsAt0_C m c t h h3]; frame_out; rw [hpay, read_unread_whole]
      · rw [outsAt0_B m c t h h3]; frame_out; rw [hpay, read_unread_whole])
    t ((flush0_2 t).mp hf) _, zero_add]
  show (_ : EReal) = ∑ t : Fin 8192, _
  refine Fin.sum_mul_add_congr fun s k hl => ?_
  have hN := lt_of_lt_of_eq t.isLt N_0
  refine congrArg₂ (fun a b : EReal => a * b) (blk_x m c _ _ _ _ _ ?_ ?_) (blk_dy m c _ _ _ _ _ ?_ ?_)
  · dsimp only; omega
  · blk_simp [idx t]
  · dsimp only; omega
  · blk_simp [idx t]; dsimp only; omega

/-- The kernel leaves the weight's gradient. -/
theorem run (g : Dev nD → PrngReg) : θ_run defs (onTc (τ := τ) (main (F := Ideal))) ⟨m, fun _ => 0, g⟩ fun r => ∀ c : Dev nD,
    r.2.mem ((c.tc : Thread nD τ).loc main_v0) = (fun i : S1024x1024.Idx => Products.dw (x m c) (dy m c) (i 0) (i 1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨(h c).1.trans (final m c), (h c).2⟩) (Value.run_blocks m g)

end Cert.Kernel7Ideal.Tile

namespace Cert.Reference7Ideal.Tile
open Cert.Reference7Ideal Cert.Reference7Ideal.Gen
variable (m : (ℓ : Loc nD τ sig) → Buf (Elt Ideal) ℓ) (c : Dev nD)

/-- The incoming gradient as plain numbers. -/
def dy (t : Fin 8192) (k : Fin 1024) : EReal := (m ((c : Thread nD τ).loc main_arg0) : FVec Ideal S8192x1024 .f32) (ix2 t k)

/-- The operand as plain numbers. -/
def x (t : Fin 8192) (k : Fin 1024) : EReal := (m ((c : Thread nD τ).loc main_arg1) : FVec Ideal S8192x1024 .bf16) (ix2 t k)

/-- The reference leaves the weight's gradient. -/
theorem run (g : Dev nD → PrngReg) : θ_run defs (onTc (τ := τ) (main (F := Ideal))) ⟨m, fun _ => 0, g⟩ fun r => ∀ c : Dev nD,
    r.2.mem ((c.tc : Thread nD τ).loc main_v5) = (fun i : S1024x1024.Idx => Products.dw (x m c) (dy m c) (i 0) (i 1))
    ∧ r.2.mem ((c.tc : Thread nD τ).loc main_arg0) = m ((c.tc : Thread nD τ).loc main_arg0)
    ∧ r.2.mem ((c.tc : Thread nD τ).loc main_arg1) = m ((c.tc : Thread nD τ).loc main_arg1) := by
  refine (θ_run defs _ _).mono (fun _ h c => ⟨(h c).1.trans ?_, (h c).2⟩) (Value.run (F := Ideal) m g)
  funext i
  idx_vars i
  pointwise
  exact Finset.sum_congr rfl fun t _ => mul_comm _ _

end Cert.Reference7Ideal.Tile
end
-- ==== Proof.GradGate.lean ====
module
public import proofs.«01_k».proof.Proof.Gen.Kernel8Ideal.Value
public import proofs.«01_k».proof.Proof.Gen.Reference8Ideal.Run
public import proofs.«01_k».proof.Proof.Products
public import Idealize.ShloMosaic.Lib.Pipeline.ValueKit
public import Idealize.ShloMosaic.Lib.Pipeline.ReadBack
public import Idealize.ShloMosaic.Lib.Pointwise
public import Idealize.ShloMosaic.Lib.Claim
@[expose] public section
set_option maxRecDepth 16384

/-! # The gradient of the recurrence layer's gate weight -/

noncomputable section
open Idealize.ShloMosaic Idealize.ShloMosaic.TcCoe Idealize.SL.Sem
open Idealize.ShloMosaic.Pipeline (Dat)
open Idealize.ShloMosaic.Tactic
open Cert.Mlp

namespace Cert.Kernel8Ideal.Tile
open Cert.Kernel8Ideal Cert.Kernel8Ideal.Gen
variable (m : (ℓ : Loc nD τ sig) → Buf (Elt Ideal) ℓ) (c : Dev nD)

/-- The incoming gradient as plain numbers. -/
def dy (t : Fin 8192) (k : Fin 1024) : EReal := (m ((c : Thread nD τ).loc main_arg0) : FVec Ideal S8192x1024 .f32) (ix2 t k)

/-- The layer's input and its norm's weight as plain numbers; nothing else enters. -/
def inp : In where
  dO _ _ := 0
  h t k := (m ((c : Thread nD τ).loc main_arg1) : FVec Ideal S8192x1024 .f32) (ix2 t k)
  g k := (m ((c : Thread nD τ).loc main_arg2) : FVec Ideal S1024 .f32) (ix1 k)
  w1 _ _ := 0
  w2 _ _ := 0

/-- What the host hands the kernel: the normalized rows. -/
theorem entry_x (t : Fin 8192) (j : Fin 1024) :
    (V m c main_v13 : FVec Ideal S8192x1024 .bf16) (ix2 t j) = (inp m c).nrm t j := by
  entry_read
  pointwise
  rfl

/-- The accumulator starts from zero. -/
theorem hzero (j) : k0_pay1 (F := Ideal) j = 0 := by pointwise [k0_pay1]

/-- One grid point adds the product of its blocks. -/
theorem hpay (acc : FVec Ideal S1024x1024 .f32) (x : FVec Ideal S2048x1024 .bf16) (y : FVec Ideal S2048x1024 .f32) (j : S1024x1024.Idx) :
    k0_pay2 (F := Ideal) acc x y j = acc j + ∑ k : Fin 2048, x (ix2 k (j 0)) * y (ix2 k (j 1)) := by
  pointwise [k0_pay2]

/-- Where each window lies. -/
theorem idx : ∀ t : Fin cfg0.N, win0_0.index t = ![t.val % 4, 0] ∧ win0_1.index t = ![t.val % 4, t.val / 4]
    ∧ win0_2.index t = ![0, t.val / 4] := (by decide +kernel : ∀ t : Fin grid0.N, _)

/-- The block of the kernel's first operand. -/
theorem blk_x (t : Fin cfg0.N) (y : Fin 2048) (j : Fin 1024) (i : Fin 8192) (l : Fin 1024)
    (hi : (i : ℕ) = t.val % 4 * 2048 + y) (hl : (l : ℕ) = j) :
    (iblk m c 0 t : FVec Ideal S2048x1024 .bf16) (ix2 y j) = (inp m c).nrm i l := by
  refine Eq.trans ?_ (entry_x m c i l)
  blk_ext [iblk, idx t]

/-- The block of the kernel's second operand. -/
theorem blk_dy (t : Fin cfg0.N) (y : Fin 2048) (k : Fin 1024) (i : Fin 8192) (l : Fin 1024) (hi : (i : ℕ) = t.val % 4 * 2048 + y)
    (hl : (l : ℕ) = t.val / 4 * 1024 + k) :
    (iblk m c 1 t : FVec Ideal S2048x1024 .f32) (ix2 y k) = dy m c i l := by
  show _ = (m ((c : Thread nD τ).loc main_arg0) : FVec Ideal S8192x1024 .f32) (ix2 i l)
  blk_ext [iblk, V, idx t]

/-- The array after all grid points. -/
theorem final : (dats m 0 c).arrAt 2 cfg0.N = (fun i : S1024x1024.Idx => Products.dw ((inp m c).nrm) (dy m c) (i 0) (i 1)) := by
  refine (dats m 0 c).arrAt_eq_of_covers 2 _ (by decide +kernel) fun t hf y => ?_
  blk_simp
  rw [after0_2,
    Pipeline.eq_sum_fin_of_reset_step_apply_of_flush (fun n h => outsAt0 m c n h) 4 (fun _ => 0) _
    (fun t h j => by rw [outsAt0_A m c t h]; frame_out; rw [hpay, hzero])
    (fun t h j => by rw [outsAt0_B m c t h]; frame_out; rw [hpay])
    t ((flush0_2 t).mp hf) _, zero_add]
  show (_ : EReal) = ∑ t : Fin 8192, _
  refine Fin.sum_mul_add_congr fun s k hl => ?_
  have hN := lt_of_lt_of_eq t.isLt N_0
  refine congrArg₂ (fun a b : EReal => a * b) (blk_x m c _ _ _ _ _ ?_ ?_) (blk_dy m c _ _ _ _ _ ?_ ?_)
  · dsimp only; omega
  · blk_simp [idx t]
  · dsimp only; omega
  · blk_simp [idx t]; dsimp only; omega

/-- The kernel leaves the weight's gradient. -/
theorem run (g : Dev nD → PrngReg) : θ_run defs (onTc (τ := τ) (main (F := Ideal))) ⟨m, fun _ => 0, g⟩ fun r => ∀ c : Dev nD,
    r.2.mem ((c.tc : Thread nD τ).loc main_v14) = (fun i : S1024x1024.Idx => Products.dw ((inp m c).nrm) (dy m c) (i 0) (i 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun _ h c => ⟨(h c).1.trans (final m c), (h c).2⟩) (Value.run_blocks m g)

end Cert.Kernel8Ideal.Tile

namespace Cert.Reference8Ideal.Tile
open Cert.Reference8Ideal Cert.Reference8Ideal.Gen
variable (m : (ℓ : Loc nD τ sig) → Buf (Elt Ideal) ℓ) (c : Dev nD)

/-- The incoming gradient as plain numbers. -/
def dy (t : Fin 8192) (k : Fin 1024) : EReal := (m ((c : Thread nD τ).loc main_arg0) : FVec Ideal S8192x1024 .f32) (ix2 t k)

/-- The layer's input and its norm's weight as plain numbers; nothing else enters. -/
def inp : In where
  dO _ _ := 0
  h t k := (m ((c : Thread nD τ).loc main_arg1) : FVec Ideal S8192x1024 .f32) (ix2 t k)
  g k := (m ((c : Thread nD τ).loc main_arg2) : FVec Ideal S1024 .f32) (ix1 k)
  w1 _ _ := 0
  w2 _ _ := 0

/-- The reference leaves the weight's gradient. -/
theorem run (g : Dev nD → PrngReg) : θ_run defs (onTc (τ := τ) (main (F := Ideal))) ⟨m, fun _ => 0, g⟩ fun r => ∀ c : Dev nD,
    r.2.mem ((c.tc : Thread nD τ).loc main_v16) = (fun i : S1024x1024.Idx => Products.dw ((inp m c).nrm) (dy m c) (i 0) (i 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run defs _ _).mono (fun _ h c => ⟨(h c).1.trans ?_, (h c).2⟩) (Value.run (F := Ideal) m g)
  funext i
  idx_vars i
  pointwise
  exact Finset.sum_congr rfl fun t _ => mul_comm _ _

end Cert.Reference8Ideal.Tile
end
-- ==== Proof.MlpBackReal.lean ====
module
public import proofs.«01_k».proof.Proof.Mlp
public import Mathlib.Tactic.Ring
public import Mathlib.Tactic.NormNum
public import Mathlib.Tactic.Positivity
@[expose] public section

/-! # The gradient of a norm's input, written two ways

The derivative of one over the root of a mean square, as the chain rule writes it, is the kernel's formula: where the mean
square is a real number it is positive, and the square of one over its root times it is one; where it is infinite both
formulas hand on the incoming gradient alone. -/

noncomputable section
open Idealize.ShloMosaic
namespace Cert.Mlp
namespace In
variable (I : In)

/-- A row's mean square, with the small number that keeps it from zero. -/
def msq (t : Fin 8192) : EReal :=
  Ideal.div (∑ x, I.h t x * I.h t x) (Ideal.ofBits .f32 0x44800000#32) + Ideal.ofBits .f32 0x358637BD#32

/-- What the chain rule hands every entry of a row through the mean square. -/
def back (t : Fin 8192) : EReal :=
  Ideal.div ((∑ x, I.h t x * (I.dn t x * I.g x)) * (Ideal.ofBits .f32 0xBF000000#32 * Ideal.div (I.rstd t) (I.msq t)))
    (Ideal.ofBits .f32 0x44800000#32)

/-- The number of columns. -/
theorem c1024 : (Ideal.ofBits .f32 0x44800000#32 : EReal) = ((1024 : ℝ) : EReal) := by
  simp [Ideal.ofBits, Ideal.ieee, -EReal.coe_mul] <;> norm_num
/-- Minus one half. -/
theorem cHalf : (Ideal.ofBits .f32 0xBF000000#32 : EReal) = ((-(1/2) : ℝ) : EReal) := by
  simp [Ideal.ofBits, Ideal.ieee, -EReal.coe_mul] <;> norm_num
/-- The small number is positive. -/
theorem cEps : ∃ e : ℝ, 0 < e ∧ (Ideal.ofBits .f32 0x358637BD#32 : EReal) = (e : EReal) := by
  refine ⟨8796093 * 2 ^ (-43 : ℤ), by positivity, ?_⟩
  simp [Ideal.ofBits, Ideal.ieee, -EReal.coe_mul] <;> norm_num

/-- The mean square is positive. -/
theorem msq_pos (t : Fin 8192) : 0 < I.msq t := by
  obtain ⟨e, he, hE⟩ := cEps
  rw [msq, c1024, Ideal.div_coe (by norm_num), hE]
  refine lt_of_lt_of_le (EReal.coe_pos.mpr he) ?_
  refine le_add_of_nonneg_left (mul_nonneg (Finset.sum_nonneg fun x _ => ?_) (EReal.coe_nonneg.mpr (by norm_num)))
  rcases le_total 0 (I.h t x) with h | h
  · exact mul_nonneg h h
  · rw [← neg_mul_neg]
    exact mul_nonneg (EReal.neg_nonneg.mpr h) (EReal.neg_nonneg.mpr h)

/-- A factor that is real and not negative goes into a sum. -/
theorem mul_sum_real {n : ℕ} (r : ℝ) (hr : 0 ≤ r) (f : Fin n → EReal) : ∑ x, (r : EReal) * f x = (r : EReal) * ∑ x, f x := by
  classical
  refine Finset.induction_on (Finset.univ : Finset (Fin n)) (by simp) fun a s ha ih => ?_
  rw [Finset.sum_insert ha, Finset.sum_insert ha, ih,
    EReal.left_distrib_of_nonneg_of_ne_top (EReal.coe_nonneg.mpr hr) (EReal.coe_ne_top r)]

/-- The chain rule's gradient of the input is the kernel's. -/
theorem dh_chain (t : Fin 8192) (k : Fin 1024) :
    I.dO t k + I.dn t k * I.g k * I.rstd t + I.h t k * I.back t + I.back t * I.h t k = I.dh t k := by
  have hp := I.msq_pos t
  have e : I.rstd t = Ideal.rsqrt (I.msq t) := rfl
  unfold dh back
  generalize hq : I.msq t = q at *
  induction q with
  | bot => exact absurd hp not_lt_bot
  | top =>
    rw [Ideal.rsqrt_top] at e
    have d0 : Ideal.div 0 ⊤ = 0 := by simp [Ideal.div]
    rw [e, d0, c1024, Ideal.div_coe (by norm_num)]
    simp only [mul_zero, zero_mul, add_zero]
  | coe q =>
    have hq0 : 0 < q := EReal.coe_pos.mp hp
    rw [Ideal.rsqrt_coe, if_neg hq0.not_gt, if_neg hq0.ne'] at e
    have hr : (0 : ℝ) ≤ (Real.sqrt q)⁻¹ := inv_nonneg.mpr (Real.sqrt_nonneg q)
    have h1 : (Real.sqrt q)⁻¹ * (Real.sqrt q)⁻¹ * q = 1 := by
      rw [← mul_inv, Real.mul_self_sqrt hq0.le, inv_mul_cancel₀ hq0.ne']
    generalize (Real.sqrt q)⁻¹ = r at *
    have hu : (∑ x, I.dn t x * I.g x * I.xh t x) = (r : EReal) * ∑ x, I.h t x * (I.dn t x * I.g x) := by
      rw [← mul_sum_real r hr]
      refine Finset.sum_congr rfl fun x _ => ?_
      rw [xh, e]
      ac_rfl
    rw [hu, xh, e, c1024, cHalf, Ideal.div_coe hq0.ne', Ideal.div_coe (by norm_num : (1024 : ℝ) ≠ 0), Ideal.div_coe (by norm_num : (1024 : ℝ) ≠ 0)]
    generalize (∑ x, I.h t x * (I.dn t x * I.g x)) = S
    generalize I.h t k = b
    generalize I.dn t k * I.g k = a
    generalize I.dO t k = d
    have l1 : b * (S * (((-(1/2) : ℝ) : EReal) * ((r : EReal) * ((1 / q : ℝ) : EReal))) * ((1 / 1024 : ℝ) : EReal))
        = b * S * ((-(1/2) * (r * (1 / q)) * (1 / 1024) : ℝ) : EReal) := by
      simp only [EReal.coe_mul]; ac_rfl
    have l2 : (S * (((-(1/2) : ℝ) : EReal) * ((r : EReal) * ((1 / q : ℝ) : EReal))) * ((1 / 1024 : ℝ) : EReal)) * b
        = b * S * ((-(1/2) * (r * (1 / q)) * (1 / 1024) : ℝ) : EReal) := by
      rw [mul_comm]; exact l1
    have l3 : b * (r : EReal) * ((r : EReal) * S * ((1 / 1024 : ℝ) : EReal)) = b * S * ((r * r * (1 / 1024) : ℝ) : EReal) := by
      simp only [EReal.coe_mul]; ac_rfl
    have l4 : (r : EReal) * -(b * S * ((r * r * (1 / 1024) : ℝ) : EReal)) = b * S * ((-(r * r * r * (1 / 1024)) : ℝ) : EReal) := by
      rw [EReal.coe_neg, mul_neg, mul_neg]
      refine congrArg _ ?_
      simp only [EReal.coe_mul]; ac_rfl
    have l5 : ∀ X : EReal, ∀ y : ℝ, X * (y : EReal) + X * (y : EReal) = X * ((2 * y : ℝ) : EReal) := fun X y => by
      have h2 : ((2 : ℝ) : EReal) = ((1 : ℝ) : EReal) + ((1 : ℝ) : EReal) := by rw [← EReal.coe_add]; norm_num
      have h3 : ((2 : ℝ) : EReal) * (X * (y : EReal)) = X * (y : EReal) + X * (y : EReal) := by
        rw [h2, EReal.right_distrib_of_nonneg (EReal.coe_nonneg.mpr zero_le_one) (EReal.coe_nonneg.mpr zero_le_one), EReal.coe_one, one_mul]
      rw [EReal.coe_mul, ← h3]
      ac_rfl
    rw [l1, l2, l3, add_assoc, l5, sub_eq_add_neg, EReal.left_distrib_of_nonneg_of_ne_top (EReal.coe_nonneg.mpr hr) (EReal.coe_ne_top r), l4,
      mul_comm a, add_assoc]
    have h2 : r * (1 / q) = r * r * r := by
      have : 1 / q = r * r := by rw [div_eq_iff hq0.ne']; linarith
      rw [this]; ring
    have h3 : 2 * (-(1/2) * (r * (1 / q)) * (1 / 1024)) = -(r * r * r * (1 / 1024)) := by rw [h2]; ring
    rw [h3]

/-- The same, with the gradient of the first product in any form. -/
theorem dh_form (u : Fin 8192 → Fin 4096 → EReal) (hu : ∀ t j, u t j = I.dup t j) (t : Fin 8192) (k : Fin 1024) :
    I.dO t k + (∑ j, u t j * I.w1 k j) * I.g k * I.rstd t
      + I.h t k * (∑ _x : Fin 1, Ideal.div ((∑ x, I.h t x * ((∑ j, u t j * I.w1 x j) * I.g x)) *
          (Ideal.ofBits .f32 0xBF000000#32 * Ideal.div (I.rstd t) (I.msq t))) (Ideal.ofBits .f32 0x44800000#32))
      + (∑ _x : Fin 1, Ideal.div ((∑ x, I.h t x * ((∑ j, u t j * I.w1 x j) * I.g x)) *
          (Ideal.ofBits .f32 0xBF000000#32 * Ideal.div (I.rstd t) (I.msq t))) (Ideal.ofBits .f32 0x44800000#32)) * I.h t k = I.dh t k := by
  obtain rfl : u = I.dup := funext fun t => funext (hu t)
  rw [Fin.sum_univ_one]
  exact I.dh_chain t k

end In
end Cert.Mlp
end
-- ==== Proof.NormBack.lean ====
module
public import proofs.«01_k».proof.Proof.MlpBackReal
public import Mathlib.Tactic.Ring
public import Mathlib.Tactic.NormNum
public import Mathlib.Tactic.Positivity
@[expose] public section

/-! # The gradient of a norm's input, written two ways

The derivative of one over the root of a mean square, as the chain rule writes it, is the kernel's formula: where the mean
square is a real number it is positive, and the square of one over its root times it is one; where it is infinite both
formulas hand on the incoming gradient alone. -/

noncomputable section
open Idealize.ShloMosaic
namespace Cert.NormBack

/-- A norm's input, its gains, the gradient of its result and what is added to the gradient of its input. -/
@[ext] structure In where
  dO : Fin 8192 → Fin 1024 → EReal
  h : Fin 8192 → Fin 1024 → EReal
  g : Fin 1024 → EReal
  dn : Fin 8192 → Fin 1024 → EReal

/-- A row of a block of 512 rows. -/
def row (s : Fin 16) (y : Fin 512) : Fin 8192 := ⟨(s : ℕ) * 512 + y, by omega⟩

namespace In
variable (I : In)

/-- One over the root of a row's mean square. -/
def rstd (t : Fin 8192) : EReal :=
  Ideal.rsqrt (Ideal.div (∑ x, I.h t x * I.h t x) (Ideal.ofBits .f32 0x44800000#32) + Ideal.ofBits .f32 0x358637BD#32)

/-- The row divided by its root mean square. -/
def xh (t : Fin 8192) (k : Fin 1024) : EReal := I.h t k * I.rstd t

/-- The gradient of the input, as the kernel computes it. -/
def dh (t : Fin 8192) (k : Fin 1024) : EReal :=
  I.dO t k + I.rstd t * (I.dn t k * I.g k - I.xh t k * Ideal.div (∑ x, I.dn t x * I.g x * I.xh t x) (Ideal.ofBits .f32 0x44800000#32))

/-- The gradient of the gains. -/
def dg (k : Fin 1024) : EReal := ∑ t, I.dn t k * I.xh t k

/-- A row's mean square, with the small number that keeps it from zero. -/
def msq (t : Fin 8192) : EReal :=
  Ideal.div (∑ x, I.h t x * I.h t x) (Ideal.ofBits .f32 0x44800000#32) + Ideal.ofBits .f32 0x358637BD#32

/-- What the chain rule hands every entry of a row through the mean square. -/
def back (t : Fin 8192) : EReal :=
  Ideal.div ((∑ x, I.h t x * (I.dn t x * I.g x)) * (Ideal.ofBits .f32 0xBF000000#32 * Ideal.div (I.rstd t) (I.msq t)))
    (Ideal.ofBits .f32 0x44800000#32)

/-- The mean square is positive. -/
theorem msq_pos (t : Fin 8192) : 0 < I.msq t := by
  obtain ⟨e, he, hE⟩ := Cert.Mlp.In.cEps
  rw [msq, Cert.Mlp.In.c1024, Ideal.div_coe (by norm_num), hE]
  refine lt_of_lt_of_le (EReal.coe_pos.mpr he) ?_
  refine le_add_of_nonneg_left (mul_nonneg (Finset.sum_nonneg fun x _ => ?_) (EReal.coe_nonneg.mpr (by norm_num)))
  rcases le_total 0 (I.h t x) with h | h
  · exact mul_nonneg h h
  · rw [← neg_mul_neg]
    exact mul_nonneg (EReal.neg_nonneg.mpr h) (EReal.neg_nonneg.mpr h)

/-- The chain rule's gradient of the input is the kernel's. -/
theorem dh_chain (t : Fin 8192) (k : Fin 1024) :
    I.dO t k + I.dn t k * I.g k * I.rstd t + I.h t k * I.back t + I.back t * I.h t k = I.dh t k := by
  have hp := I.msq_pos t
  have e : I.rstd t = Ideal.rsqrt (I.msq t) := rfl
  unfold dh back
  generalize hq : I.msq t = q at *
  induction q with
  | bot => exact absurd hp not_lt_bot
  | top =>
    rw [Ideal.rsqrt_top] at e
    have d0 : Ideal.div 0 ⊤ = 0 := by simp [Ideal.div]
    rw [e, d0, Cert.Mlp.In.c1024, Ideal.div_coe (by norm_num)]
    simp only [mul_zero, zero_mul, add_zero]
  | coe q =>
    have hq0 : 0 < q := EReal.coe_pos.mp hp
    rw [Ideal.rsqrt_coe, if_neg hq0.not_gt, if_neg hq0.ne'] at e
    have hr : (0 : ℝ) ≤ (Real.sqrt q)⁻¹ := inv_nonneg.mpr (Real.sqrt_nonneg q)
    have h1 : (Real.sqrt q)⁻¹ * (Real.sqrt q)⁻¹ * q = 1 := by
      rw [← mul_inv, Real.mul_self_sqrt hq0.le, inv_mul_cancel₀ hq0.ne']
    generalize (Real.sqrt q)⁻¹ = r at *
    have hu : (∑ x, I.dn t x * I.g x * I.xh t x) = (r : EReal) * ∑ x, I.h t x * (I.dn t x * I.g x) := by
      rw [← Cert.Mlp.In.mul_sum_real r hr]
      refine Finset.sum_congr rfl fun x _ => ?_
      rw [xh, e]
      ac_rfl
    rw [hu, xh, e, Cert.Mlp.In.c1024, Cert.Mlp.In.cHalf, Ideal.div_coe hq0.ne', Ideal.div_coe (by norm_num : (1024 : ℝ) ≠ 0), Ideal.div_coe (by norm_num : (1024 : ℝ) ≠ 0)]
    generalize (∑ x, I.h t x * (I.dn t x * I.g x)) = S
    generalize I.h t k = b
    generalize I.dn t k * I.g k = a
    generalize I.dO t k = d
    have l1 : b * (S * (((-(1/2) : ℝ) : EReal) * ((r : EReal) * ((1 / q : ℝ) : EReal))) * ((1 / 1024 : ℝ) : EReal))
        = b * S * ((-(1/2) * (r * (1 / q)) * (1 / 1024) : ℝ) : EReal) := by
      simp only [EReal.coe_mul]; ac_rfl
    have l2 : (S * (((-(1/2) : ℝ) : EReal) * ((r : EReal) * ((1 / q : ℝ) : EReal))) * ((1 / 1024 : ℝ) : EReal)) * b
        = b * S * ((-(1/2) * (r * (1 / q)) * (1 / 1024) : ℝ) : EReal) := by
      rw [mul_comm]; exact l1
    have l3 : b * (r : EReal) * ((r : EReal) * S * ((1 / 1024 : ℝ) : EReal)) = b * S * ((r * r * (1 / 1024) : ℝ) : EReal) := by
      simp only [EReal.coe_mul]; ac_rfl
    have l4 : (r : EReal) * -(b * S * ((r * r * (1 / 1024) : ℝ) : EReal)) = b * S * ((-(r * r * r * (1 / 1024)) : ℝ) : EReal) := by
      rw [EReal.coe_neg, mul_neg, mul_neg]
      refine congrArg _ ?_
      simp only [EReal.coe_mul]; ac_rfl
    have l5 : ∀ X : EReal, ∀ y : ℝ, X * (y : EReal) + X * (y : EReal) = X * ((2 * y : ℝ) : EReal) := fun X y => by
      have h2 : ((2 : ℝ) : EReal) = ((1 : ℝ) : EReal) + ((1 : ℝ) : EReal) := by rw [← EReal.coe_add]; norm_num
      have h3 : ((2 : ℝ) : EReal) * (X * (y : EReal)) = X * (y : EReal) + X * (y : EReal) := by
        rw [h2, EReal.right_distrib_of_nonneg (EReal.coe_nonneg.mpr zero_le_one) (EReal.coe_nonneg.mpr zero_le_one), EReal.coe_one, one_mul]
      rw [EReal.coe_mul, ← h3]
      ac_rfl
    rw [l1, l2, l3, add_assoc, l5, sub_eq_add_neg, EReal.left_distrib_of_nonneg_of_ne_top (EReal.coe_nonneg.mpr hr) (EReal.coe_ne_top r), l4,
      mul_comm a, add_assoc]
    have h2 : r * (1 / q) = r * r * r := by
      have : 1 / q = r * r := by rw [div_eq_iff hq0.ne']; linarith
      rw [this]; ring
    have h3 : 2 * (-(1/2) * (r * (1 / q)) * (1 / 1024)) = -(r * r * r * (1 / 1024)) := by rw [h2]; ring
    rw [h3]

/-- The same, as the chain rule writes it. -/
theorem dh_form (t : Fin 8192) (k : Fin 1024) :
    I.dO t k + I.dn t k * I.g k * I.rstd t
      + I.h t k * (∑ _x : Fin 1, Ideal.div ((∑ x, I.h t x * (I.dn t x * I.g x)) *
          (Ideal.ofBits .f32 0xBF000000#32 * Ideal.div (I.rstd t) (I.msq t))) (Ideal.ofBits .f32 0x44800000#32))
      + (∑ _x : Fin 1, Ideal.div ((∑ x, I.h t x * (I.dn t x * I.g x)) *
          (Ideal.ofBits .f32 0xBF000000#32 * Ideal.div (I.rstd t) (I.msq t))) (Ideal.ofBits .f32 0x44800000#32)) * I.h t k = I.dh t k := by
  rw [Fin.sum_univ_one]
  exact I.dh_chain t k

end In
/-- The gradient of the normalised rows: that of three products, with three ranges of a weight's columns. -/
def dn (dq : Fin 8192 → Fin 3072 → EReal) (dz : Fin 8192 → Fin 1024 → EReal) (da : Fin 8192 → Fin 16 → EReal)
    (w : Fin 1024 → Fin 4112 → EReal) (t : Fin 8192) (k : Fin 1024) : EReal :=
  (∑ j : Fin 16, da t j * w k ⟨4096 + j, by omega⟩) + (∑ j : Fin 1024, dz t j * w k ⟨3072 + j, by omega⟩)
    + ∑ j : Fin 3072, dq t j * w k ⟨j, by omega⟩

/-- A sum over 128 lanes of which all but the first sixteen are zero. -/
theorem sum_lanes (f : Fin 128 → EReal) (h : ∀ j : Fin 128, 16 ≤ (j : ℕ) → f j = 0) :
    ∑ j, f j = ∑ j : Fin 16, f ⟨j, by omega⟩ := by
  have e : (∑ j : Fin (16 + 112), f j) = _ := Fin.sum_univ_add (fun j : Fin (16 + 112) => f j)
  refine e.trans ?_
  have z : (∑ i : Fin 112, f (Fin.natAdd 16 i)) = 0 :=
    Finset.sum_eq_zero fun i _ => h _ (by show 16 ≤ 16 + (i : ℕ); omega)
  exact (congrArg (fun a : EReal => _ + a) z).trans (add_zero _)

end Cert.NormBack
end
-- ==== Proof.NormBackProjection.lean ====
module
public import proofs.«01_k».proof.Proof.Gen.Kernel9Ideal.Value
public import proofs.«01_k».proof.Proof.Gen.Reference9Ideal.Run
public import proofs.«01_k».proof.Proof.NormBack
public import proofs.«01_k».proof.Proof.Pieces
public import Idealize.ShloMosaic.Lib.Pipeline.ValueKit
public import Idealize.ShloMosaic.Lib.Pipeline.ReadBack
public import Idealize.ShloMosaic.Lib.ValueLayout
public import Idealize.ShloMosaic.Lib.Pointwise
public import Idealize.ShloMosaic.Lib.Claim
@[expose] public section
set_option maxRecDepth 16384

/-! # The gradient of the recurrence layer's input: through its products and its norm -/

noncomputable section
open Idealize.ShloMosaic Idealize.ShloMosaic.TcCoe Idealize.SL.Sem
open Idealize.ShloMosaic.Pipeline (Dat)
open Idealize.ShloMosaic.Tactic
open Cert.NormBack

namespace Cert.Kernel9Ideal.Tile
open Cert.Kernel9Ideal Cert.Kernel9Ideal.Gen
variable (m : (ℓ : Loc nD τ sig) → Buf (Elt Ideal) ℓ) (c : Dev nD)

/-- The gradient of the first product's result as plain numbers. -/
def dq (t : Fin 8192) (k : Fin 3072) : EReal := (m ((c : Thread nD τ).loc main_arg0) : FVec Ideal S8192x3072 .f32) (ix2 t k)
/-- The gradient of the second product's result as plain numbers. -/
def dz (t : Fin 8192) (k : Fin 1024) : EReal := (m ((c : Thread nD τ).loc main_arg1) : FVec Ideal S8192x1024 .f32) (ix2 t k)
/-- The gradient of the third product's result: sixteen lanes of 128. -/
def da (t : Fin 8192) (k : Fin 16) : EReal := (m ((c : Thread nD τ).loc main_arg2) : FVec Ideal S8192x128 .f32) (ix2 t ⟨k, by omega⟩)
/-- The weight as plain numbers. -/
def w (k : Fin 1024) (j : Fin 4112) : EReal := (m ((c : Thread nD τ).loc main_arg6) : FVec Ideal S1024x4112 .f32) (ix2 k j)

/-- The norm's input, its gains, the gradient of its result and the residual's gradient. -/
def inp : In where
  dO t k := (m ((c : Thread nD τ).loc main_arg3) : FVec Ideal S8192x1024 .f32) (ix2 t k)
  h t k := (m ((c : Thread nD τ).loc main_arg4) : FVec Ideal S8192x1024 .f32) (ix2 t k)
  g k := (m ((c : Thread nD τ).loc main_arg5) : FVec Ideal S1024 .f32) (ix1 k)
  dn := dn (dq m c) (dz m c) (da m c) (w m c)

/-- A point's blocks as plain numbers. -/
structure Holds (I : In) (s : Fin 16) (Q : FVec Ideal S512x3072 .f32) (W1 : FVec Ideal S1024x3072 .bf16) (Z : FVec Ideal S512x1024 .f32)
  (W2 : FVec Ideal S1024x1024 .bf16) (A : FVec Ideal S512x128 .f32) (W3 : FVec Ideal S1024x128 .bf16) (H : FVec Ideal S512x1024 .f32)
  (G : FVec Ideal S1x1024 .f32) (R : FVec Ideal S512x1024 .f32) : Prop where
  dn : ∀ y k, (∑ j : Fin 3072, Q (ix2 y j) * W1 (ix2 k j)) + (∑ j : Fin 1024, Z (ix2 y j) * W2 (ix2 k j))
    + (∑ j : Fin 128, A (ix2 y j) * W3 (ix2 k j)) = I.dn (row s y) k
  h : ∀ y k, H (ix2 y k) = I.h (row s y) k
  g : ∀ k, G (ix2 0 k) = I.g k
  dO : ∀ y k, R (ix2 y k) = I.dO (row s y) k

section payloads
variable {I : In} {s : Fin 16} {Q : FVec Ideal S512x3072 .f32} {W1 : FVec Ideal S1024x3072 .bf16} {Z : FVec Ideal S512x1024 .f32}
  {W2 : FVec Ideal S1024x1024 .bf16} {A : FVec Ideal S512x128 .f32} {W3 : FVec Ideal S1024x128 .bf16} {H : FVec Ideal S512x1024 .f32}
  {G : FVec Ideal S1x1024 .f32} {R : FVec Ideal S512x1024 .f32}

/-- The gradient of the normalised rows. -/
theorem pay_dn (X : Holds I s Q W1 Z W2 A W3 H G R) (y : Fin 512) (k : Fin 1024) : k0_pay3 (F := Ideal) Q W1 Z W2 A W3 (ix2 y k) = I.dn (row s y) k := by
  refine Eq.trans ?_ (X.dn y k)
  pointwise [k0_pay3]

/-- One over the rows' root mean square. -/
theorem pay_rstd (X : Holds I s Q W1 Z W2 A W3 H G R) (y : Fin 512) : k0_pay6 (F := Ideal) H (ix2 y 0) = I.rstd (row s y) := by
  pointwise [k0_pay6]
  simp only [X.h]
  rfl

/-- The rows divided by it. -/
theorem pay_xh (X : Holds I s Q W1 Z W2 A W3 H G R) (y : Fin 512) (k : Fin 1024) : k0_pay7 (F := Ideal) H (ix2 y k) = I.xh (row s y) k := by
  pointwise [k0_pay7]
  rw [pay_rstd X, X.h]
  rfl

/-- What a block adds to the gains' gradient. -/
theorem pay_dg (X : Holds I s Q W1 Z W2 A W3 H G R) (B : FVec Ideal S1x1024 .f32) (k : Fin 1024) :
    k0_pay1 (F := Ideal) (k0_pay8 Q W1 Z W2 A W3 H) B (ix2 0 k) = B (ix2 0 k) + ∑ y, I.dn (row s y) k * I.xh (row s y) k := by
  pointwise [k0_pay1, k0_pay8]
  simp only [pay_dn X, pay_xh X]

/-- The gradient of the input, of a block of rows. -/
theorem pay_dh (X : Holds I s Q W1 Z W2 A W3 H G R) (y : Fin 512) (k : Fin 1024) :
    k0_pay2 (F := Ideal) (k0_pay3 Q W1 Z W2 A W3) (k0_pay5 G) (k0_pay6 H) (k0_pay7 H) R (ix2 y k) = I.dh (row s y) k := by
  pointwise [k0_pay2, k0_pay5]
  simp only [pay_dn X, pay_xh X, pay_rstd X, X.g, X.dO]
  rfl

end payloads

/-- The gains as the kernel is handed them. -/
theorem entry_g (k : Fin 1024) : (V m c main_v3 : FVec Ideal S1x1024 .f32) (ix2 0 k) = (inp m c).g k := by
  simp only [V, hostOps0, hostOps0_1, hostOps0_2, List.flatten_cons, List.flatten_nil, List.append_nil, List.cons_append, List.nil_append,
    StableHlo.TRef.nullary, StableHlo.TRef.unary, StableHlo.TRef.binary, StableHlo.TRef.toBuf, StableHlo.TRef.ofBuf, cast_eq]
  after_results_simp
  pointwise
  rfl

/-- The weight as the kernel is handed it. -/
theorem entry_w (k : Fin 1024) (j : Fin 4112) : (V m c main_v0 : FVec Ideal S1024x4112 .bf16) (ix2 k j) = w m c k j := by
  entry_read
  pointwise
  rfl

/-- The weight's last columns, with zeros behind them. -/
theorem entry_ab (k : Fin 1024) (j : Fin 128) : (V m c main_v2 : FVec Ideal S1024x128 .bf16) (ix2 k j)
    = if h : (j : ℕ) < 16 then w m c k ⟨4096 + j, by omega⟩ else 0 := by
  simp only [V, hostOps0, hostOps0_1, hostOps0_2, List.flatten_cons, List.flatten_nil, List.append_nil, List.cons_append, List.nil_append,
    StableHlo.TRef.nullary, StableHlo.TRef.unary, StableHlo.TRef.binary, StableHlo.TRef.toBuf, StableHlo.TRef.ofBuf, cast_eq]
  after_results_simp
  pointwise
  by_cases h : (j : ℕ) < 16
  · rw [dif_pos h, dif_pos h]
    rfl
  · rw [dif_neg h, dif_neg h]
    show (((0#32 : BitVec 32).toInt : ℝ) : EReal) = 0
    simp

/-- Where each window lies. -/
theorem idx : ∀ t : Fin cfg0.N, win0_0.index t = ![t.val, 0] ∧ win0_1.index t = ![0, 0] ∧ win0_2.index t = ![t.val, 0] ∧ win0_3.index t = ![0, 3]
    ∧ win0_4.index t = ![t.val, 0] ∧ win0_5.index t = ![0, 0] ∧ win0_6.index t = ![t.val, 0] ∧ win0_7.index t = ![0, 0]
    ∧ win0_8.index t = ![t.val, 0] ∧ win0_9.index t = ![t.val, 0] ∧ win0_10.index t = ![0, 0] :=
  (by decide +kernel : ∀ t : Fin grid0.N, _)

/-- The number of a grid point. -/
def num (t : Fin cfg0.N) : Fin 16 := ⟨t.val, lt_of_lt_of_eq t.isLt N_0⟩

/-- The block of the weight that makes q, k and v. -/
theorem blk_w1 (t : Fin cfg0.N) (k : Fin 1024) (j : Fin 3072) : (X0_1 m c t : FVec Ideal S1024x3072 .bf16) (ix2 k j) = w m c k ⟨j, by omega⟩ := by
  refine Eq.trans ?_ (entry_w m c k ⟨j, by omega⟩)
  unfold X0_1 Pipeline.Window.fill
  rw [dif_pos (moved0_1 t _)]
  blk_ext [iblk, idx t]

/-- The block of the weight that makes z. -/
theorem blk_w2 (t : Fin cfg0.N) (k : Fin 1024) (j : Fin 1024) : (X0_3 m c t : FVec Ideal S1024x1024 .bf16) (ix2 k j) = w m c k ⟨3072 + j, by omega⟩ := by
  refine Eq.trans ?_ (entry_w m c k ⟨3072 + j, by omega⟩)
  unfold X0_3 Pipeline.Window.fill
  rw [dif_pos (moved0_3 t _)]
  blk_ext [iblk, idx t]

/-- A point's blocks hold the arguments' rows. -/
theorem held (t : Fin cfg0.N) : Holds (inp m c) (num t) (iblk m c 0 t) (X0_1 m c t) (iblk m c 2 t) (X0_3 m c t) (iblk m c 4 t) (iblk m c 5 t)
    (iblk m c 6 t) (iblk m c 7 t) (iblk m c 8 t) := by
  refine ⟨fun y k => ?_, fun y k => ?_, fun k => ?_, fun y k => ?_⟩
  · have hq : ∀ j : Fin 3072, (iblk m c 0 t : FVec Ideal S512x3072 .f32) (ix2 y j) = dq m c (row (num t) y) j := fun j => by
      refine Eq.trans ?_ (congrFun (V_main_arg0 m c) (ix2 (row (num t) y) j))
      blk_ext [iblk, idx t]
      rfl
    have hz : ∀ j : Fin 1024, (iblk m c 2 t : FVec Ideal S512x1024 .f32) (ix2 y j) = dz m c (row (num t) y) j := fun j => by
      refine Eq.trans ?_ (congrFun (V_main_arg1 m c) (ix2 (row (num t) y) j))
      blk_ext [iblk, idx t]
      rfl
    have ha : ∀ j : Fin 128, (iblk m c 4 t : FVec Ideal S512x128 .f32) (ix2 y j)
        = (m ((c : Thread nD τ).loc main_arg2) : FVec Ideal S8192x128 .f32) (ix2 (row (num t) y) j) := fun j => by
      refine Eq.trans ?_ (congrFun (V_main_arg2 m c) (ix2 (row (num t) y) j))
      blk_ext [iblk, idx t]
      rfl
    have hw : ∀ j : Fin 128, (iblk m c 5 t : FVec Ideal S1024x128 .bf16) (ix2 k j) = if h : (j : ℕ) < 16 then w m c k ⟨4096 + j, by omega⟩ else 0 := fun j => by
      refine Eq.trans ?_ (entry_ab m c k j)
      blk_ext [iblk, idx t]
    have e3 : ∀ a b : Fin 128 → EReal, (∀ j, a j = (m ((c : Thread nD τ).loc main_arg2) : FVec Ideal S8192x128 .f32) (ix2 (row (num t) y) j)) →
        (∀ j, b j = if h : (j : ℕ) < 16 then w m c k ⟨4096 + j, by omega⟩ else 0) →
        ∑ j, a j * b j = ∑ j : Fin 16, da m c (row (num t) y) j * w m c k ⟨4096 + j, by omega⟩ := fun a b ea eb => by
      refine (sum_lanes _ fun j hj => ?_).trans (Finset.sum_congr rfl fun j _ => ?_)
      · rw [eb, dif_neg (by omega), mul_zero]
      · rw [eb, ea, dif_pos (show ((⟨j, by omega⟩ : Fin 128) : ℕ) < 16 from j.isLt)]
        rfl
    refine (congrArg (fun x : EReal => _ + x) (e3 _ _ ha hw)).trans ?_
    show _ = dn _ _ _ _ _ _
    unfold dn
    have turn : ∀ p q r : EReal, p + q + r = r + q + p := fun p q r => by rw [add_comm, add_comm p q, ← add_assoc]
    refine (turn _ _ _).trans (congrArg₂ (fun a b : EReal => a + b) (congrArg₂ (fun a b : EReal => a + b) rfl (Finset.sum_congr rfl fun j _ => ?_)) (Finset.sum_congr rfl fun j _ => ?_))
    · rw [hz, blk_w2]
    · rw [hq, blk_w1]
  · refine Eq.trans ?_ (congrFun (V_main_arg4 m c) (ix2 (row (num t) y) k))
    blk_ext [iblk, idx t]
    rfl
  · refine Eq.trans ?_ (entry_g m c k)
    blk_ext [iblk, idx t]
  · refine Eq.trans ?_ (congrFun (V_main_arg3 m c) (ix2 (row (num t) y) k))
    blk_ext [iblk, idx t]
    rfl

/-- What a point leaves for the gradient of the input. -/
theorem out_dh (t : Fin cfg0.N) (j : S512x1024.Idx) : (outsAt0 m c t.val t.isLt).1 j = (inp m c).dh (row (num t) (j 0)) (j 1) := by
  idx_vars j
  by_cases h : t.val % 16 = 0
  · rw [outsAt0_A m c t h]; frame_out
    exact pay_dh (held m c t) j0 j1
  · rw [outsAt0_B m c t h]; frame_out
    exact pay_dh (held m c t) j0 j1

/-- What a point adds to an array of which only the first row is used. -/
def add (G : Fin 8192 → Fin 1024 → EReal) (s : Fin 16) (j : S8x1024.Idx) : EReal := if (j 0 : ℕ) = 0 then ∑ y, G (row s y) (j 1) else 0

/-- The first point starts the gains' gradient from zero. -/
theorem fill (j) : k0_pay4 (F := Ideal) j = 0 := by pointwise [k0_pay4]

/-- The gains' gradient after the first point. -/
theorem first (t : Fin cfg0.N) (h : t.val % 16 = 0) (j : S8x1024.Idx) :
    (outsAt0 m c t.val t.isLt).2 j = 0 + add (fun t k => (inp m c).dn t k * (inp m c).xh t k) (num t) j := by
  rw [outsAt0_A m c t h]; frame_out
  rw [Cert.Pieces.row_canon _ _ _ (ms0_10 t).view]
  unfold add
  split
  · refine (pay_dg (held m c t) _ (j 1)).trans ?_
    refine congrArg (fun a : EReal => a + _) ?_
    rw [View.readCov_fill (h := by decide)]
    exact fill _
  · rw [add_zero]
    refine Eq.trans ?_ (fill j)
    exact congrFun (View.canon_cons_unit_lit (Val := Elt Ideal) inb_S8x1024_S8x1024_0_0 _ [] (by decide)) j

/-- A later point adds to it. -/
theorem later (t : Fin cfg0.N) (h : ¬t.val % 16 = 0) (j : S8x1024.Idx) : (outsAt0 m c t.val t.isLt).2 j
    = (outsAt0 m c (t.val - 1) (lt_of_le_of_lt (Nat.sub_le _ _) t.isLt)).2 j + add (fun t k => (inp m c).dn t k * (inp m c).xh t k) (num t) j := by
  rw [outsAt0_B m c t h]; frame_out
  rw [Cert.Pieces.row_over]
  unfold add
  split
  · rename_i h0
    refine (pay_dg (held m c t) _ (j 1)).trans ?_
    refine congrArg (fun a : EReal => a + _) ?_
    refine View.ld_unit_apply_of _ _ _ _ _ _ fun a => ?_
    fin_cases a
    · exact h0
    · exact (Nat.zero_add _).symm
  · rw [add_zero, View.writes_nil, Memref.IsWhole.read_unread]

/-- The gradient of the input, put together. -/
theorem final_dh : (dats m 0 c).arrAt 9 cfg0.N = (fun i : S8192x1024.Idx => (inp m c).dh (i 0) (i 1)) := by
  refine (dats m 0 c).arrAt_eq_of_covers 9 _ (by decide +kernel) fun t hf y => ?_
  blk_simp
  rw [after0_9]
  refine (out_dh m c t y).trans ?_
  refine congrArg₂ (inp m c).dh (Fin.ext ?_) (Fin.ext ?_)
  · show (t : ℕ) * 512 + (y 0 : ℕ) = _
    blk_simp [idx t]
  · blk_simp [idx t]

/-- The contributions of all points, in the first row, are the sum over all rows. -/
theorem all_rows (G : Fin 8192 → Fin 1024 → EReal) (j : S8x1024.Idx) :
    (∑ s : Fin 16, add G s j) = if (j 0 : ℕ) = 0 then ∑ t, G t (j 1) else 0 := by
  unfold add
  split
  · show (_ : EReal) = ∑ t : Fin 8192, _
    exact Fin.sum_mul_add_congr fun s k hl => congrArg (fun x => G x (j 1)) (Fin.ext rfl)
  · exact Finset.sum_const_zero

/-- The gradient of the gains, put together. -/
theorem final_dg : (dats m 0 c).arrAt 10 cfg0.N = (fun i : S8x1024.Idx => if (i 0 : ℕ) = 0 then (inp m c).dg (i 1) else 0) := by
  refine (dats m 0 c).arrAt_eq_of_covers 10 _ (by decide +kernel) fun t hf y => ?_
  have hN := lt_of_lt_of_eq t.isLt N_0
  have e : (win0_10.blk t).view.emb y = y := by
    funext a
    fin_cases a <;> exact Fin.ext (by blk_simp [idx t])
  rw [e]
  blk_simp
  have h15 : t.val % 16 = 15 := (flush0_10 t).mp hf
  rw [after0_10]
  rw [Pipeline.eq_sum_fin_of_reset_step_apply_of_flush (fun n h => (outsAt0 m c n h).2) 16 (fun _ => 0) (fun n j => add (fun t k => (inp m c).dn t k * (inp m c).xh t k) (num n) j)
    (fun t h j => first m c t h j) (fun t h j => later m c t h j) t h15 _, zero_add]
  exact (Fin.sum_fin_congr fun s => congrArg (fun x => add (fun t k => (inp m c).dn t k * (inp m c).xh t k) x y) (Fin.ext (by dsimp only [num]; omega))).trans (all_rows (fun t k => (inp m c).dn t k * (inp m c).xh t k) y)

/-- The kernel leaves the two gradients in its results and its arguments as they were. -/
theorem run (g : Dev nD → PrngReg) : θ_run defs (onTc (τ := τ) (main (F := Ideal))) ⟨m, fun _ => 0, g⟩ fun r => ∀ c : Dev nD,
    r.2.mem ((c.tc : Thread nD τ).loc main_v4_0) = (fun i : S8192x1024.Idx => (inp m c).dh (i 0) (i 1))
    ∧ r.2.mem ((c.tc : Thread nD τ).loc main_v4_1) = (fun i : S8x1024.Idx => if (i 0 : ℕ) = 0 then (inp m c).dg (i 1) else 0)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  (θ_run defs _ _).mono (fun _ h c => ⟨(h c).1.trans (final_dh m c), (h c).2.1.trans (final_dg m c), (h c).2.2⟩) (Value.run_blocks m g)

end Cert.Kernel9Ideal.Tile

namespace Cert.Reference9Ideal.Tile
open Cert.Reference9Ideal Cert.Reference9Ideal.Gen
variable (m : (ℓ : Loc nD τ sig) → Buf (Elt Ideal) ℓ) (c : Dev nD)

/-- The gradient of the first product's result as plain numbers. -/
def dq (t : Fin 8192) (k : Fin 3072) : EReal := (m ((c : Thread nD τ).loc main_arg0) : FVec Ideal S8192x3072 .f32) (ix2 t k)
/-- The gradient of the second product's result as plain numbers. -/
def dz (t : Fin 8192) (k : Fin 1024) : EReal := (m ((c : Thread nD τ).loc main_arg1) : FVec Ideal S8192x1024 .f32) (ix2 t k)
/-- The gradient of the third product's result: sixteen lanes of 128. -/
def da (t : Fin 8192) (k : Fin 16) : EReal := (m ((c : Thread nD τ).loc main_arg2) : FVec Ideal S8192x128 .f32) (ix2 t ⟨k, by omega⟩)
/-- The weight as plain numbers. -/
def w (k : Fin 1024) (j : Fin 4112) : EReal := (m ((c : Thread nD τ).loc main_arg6) : FVec Ideal S1024x4112 .f32) (ix2 k j)

/-- The norm's input, its gains, the gradient of its result and the residual's gradient. -/
def inp : In where
  dO t k := (m ((c : Thread nD τ).loc main_arg3) : FVec Ideal S8192x1024 .f32) (ix2 t k)
  h t k := (m ((c : Thread nD τ).loc main_arg4) : FVec Ideal S8192x1024 .f32) (ix2 t k)
  g k := (m ((c : Thread nD τ).loc main_arg5) : FVec Ideal S1024 .f32) (ix1 k)
  dn := dn (dq m c) (dz m c) (da m c) (w m c)

/-- The gradient of the input. -/
theorem reads_dh : Value.res_main_v48 m c = (fun i : S8192x1024.Idx => (inp m c).dh (i 0) (i 1)) := by
  unfold Value.res_main_v48
  funext i
  idx_vars i
  pointwise
  exact (inp m c).dh_form i0 i1

/-- The reference leaves the two gradients in its results and its arguments as they were. -/
theorem run (g : Dev nD → PrngReg) : θ_run defs (onTc (τ := τ) (main (F := Ideal))) ⟨m, fun _ => 0, g⟩ fun r => ∀ c : Dev nD,
    r.2.mem ((c.tc : Thread nD τ).loc main_v48) = (fun i : S8192x1024.Idx => (inp m c).dh (i 0) (i 1))
    ∧ r.2.mem ((c.tc : Thread nD τ).loc main_v50) = (fun i : S8x1024.Idx => if (i 0 : ℕ) = 0 then (inp m c).dg (i 1) else 0)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
by
  refine (θ_run defs _ _).mono (fun _ h c => ⟨(h c).1.trans (reads_dh m c), (h c).2.1.trans ?_, (h c).2.2⟩) (Value.run (F := Ideal) m g)
  funext i
  idx_vars i
  pointwise
  refine if_congr Nat.lt_one_iff ?_ ?_
  · rw [Fin.sum_univ_one]
    exact Fin.sum_fin_congr fun t => mul_comm _ _
  · show (((0#32 : BitVec 32).toInt : ℝ) : EReal) = 0
    simp

end Cert.Reference9Ideal.Tile
end
-- ==== Proof.MlpBackReference.lean ====
module
public import proofs.«01_k».proof.Proof.Gen.Reference2Ideal.Run
public import proofs.«01_k».proof.Proof.MlpBackReal
public import Idealize.ShloMosaic.Lib.Pipeline.ValueKit
public import Idealize.ShloMosaic.Lib.Pointwise
public import Idealize.ShloMosaic.Lib.Claim
@[expose] public section
set_option maxRecDepth 16384
/-! # The reference's gradients of a perceptron's input, gains and first product -/

noncomputable section
open Idealize.ShloMosaic Idealize.ShloMosaic.TcCoe Idealize.SL.Sem
open Idealize.ShloMosaic.Tactic
open Cert.Mlp
namespace Cert.Reference2Ideal.Tile
open Cert.Reference2Ideal Cert.Reference2Ideal.Gen
variable (m : (ℓ : Loc nD τ sig) → Buf (Elt Ideal) ℓ) (c : Dev nD)

/-- The reference's arguments as plain numbers. -/
def inp : In where
  dO t k := (m ((c : Thread nD τ).loc main_arg0) : FVec Ideal S8192x1024 .f32) (ix2 t k)
  h t k := (m ((c : Thread nD τ).loc main_arg1) : FVec Ideal S8192x1024 .f32) (ix2 t k)
  g k := (m ((c : Thread nD τ).loc main_arg2) : FVec Ideal S1024 .f32) (ix1 k)
  w1 k j := (m ((c : Thread nD τ).loc main_arg3) : FVec Ideal S1024x4096 .f32) (ix2 k j)
  w2 j k := (m ((c : Thread nD τ).loc main_arg4) : FVec Ideal S4096x1024 .f32) (ix2 j k)

/-- The gradient of the input. -/
theorem reads_dh : Value.res_main_v59 m c = (fun i : S8192x1024.Idx => (inp m c).dh (i 0) (i 1)) := by
  unfold Value.res_main_v59
  funext i
  idx_vars i
  pointwise
  exact (inp m c).dh_form _ (fun t j => (inp m c).dup_select t j) i0 i1
/-- The gradient of the gains. -/
theorem reads_dg : Value.res_main_v65 m c = (fun i : S8x1024.Idx => if (i 0 : ℕ) = 0 then (inp m c).dg (i 1) else 0) := by
  unfold Value.res_main_v65
  funext i
  idx_vars i
  pointwise
  refine if_congr Nat.lt_one_iff ?_ ?_
  · rw [Fin.sum_univ_one]
    exact Fin.sum_fin_congr fun t => (mul_comm _ _).trans (congrArg (fun a : EReal => a * (inp m c).xh t i1) (Fin.sum_fin_congr fun j => congrArg (fun a : EReal => a * (inp m c).w1 i1 j) ((inp m c).dup_select t j)))
  · show (((0#32 : BitVec 32).toInt : ℝ) : EReal) = 0
    simp
/-- The gradient of what every row gets. -/
theorem reads_cs : Value.res_main_v67 m c = (fun i : S8x1024.Idx => if (i 0 : ℕ) = 0 then (inp m c).cs (i 1) else 0) := by
  unfold Value.res_main_v67
  funext i
  idx_vars i
  pointwise
  refine if_congr Nat.lt_one_iff ?_ ?_
  · rw [Fin.sum_univ_one]
    exact Fin.sum_fin_congr fun t => (inp m c).dh_form _ (fun t j => (inp m c).dup_select t j) t i1
  · show (((0#32 : BitVec 32).toInt : ℝ) : EReal) = 0
    simp
/-- The reference leaves the four gradients in its results and its arguments as they were. -/
theorem run (g : Dev nD → PrngReg) : θ_run defs (onTc (τ := τ) (main (F := Ideal))) ⟨m, fun _ => 0, g⟩ fun r => ∀ c : Dev nD,
    r.2.mem ((c.tc : Thread nD τ).loc main_v63) = (fun i : S8192x4096.Idx => (inp m c).dup (i 0) (i 1))
    ∧ r.2.mem ((c.tc : Thread nD τ).loc main_v59) = (fun i : S8192x1024.Idx => (inp m c).dh (i 0) (i 1))
    ∧ r.2.mem ((c.tc : Thread nD τ).loc main_v65) = (fun i : S8x1024.Idx => if (i 0 : ℕ) = 0 then (inp m c).dg (i 1) else 0)
    ∧ r.2.mem ((c.tc : Thread nD τ).loc main_v67) = (fun i : S8x1024.Idx => if (i 0 : ℕ) = 0 then (inp m c).cs (i 1) else 0)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  refine (θ_run defs _ _).mono (fun _ h c => ⟨(h c).1.trans ?_, (h c).2.1.trans (reads_dh m c), (h c).2.2.1.trans (reads_dg m c),
    (h c).2.2.2.1.trans (reads_cs m c), (h c).2.2.2.2⟩) (Value.run (F := Ideal) m g)
  funext i
  idx_vars i
  pointwise
  exact (inp m c).dup_select i0 i1

end Cert.Reference2Ideal.Tile
end
-- ==== Proof.Finite.lean ====
module
public import Idealize.ShloMosaic.Lib.StableHlo
public import Idealize.ShloMosaic.PureOps.Ideal
@[expose] public section

/-! # What a finiteness precondition gives

An array whose entries are all smaller than infinity in absolute value is an array of real numbers. -/

noncomputable section
open Idealize.ShloMosaic
namespace Cert.Finite

/-- The pattern of infinity, in the wide format. -/
theorem inf32 : (Ideal.ofBits FTy.f32 0x7F800000#32 : EReal) = ⊤ := by simp [Ideal.ofBits, Ideal.ieee]
/-- The pattern of infinity, in the narrow format. -/
theorem inf16 : (Ideal.ofBits FTy.bf16 0x7F80#16 : EReal) = ⊤ := by simp [Ideal.ofBits, Ideal.ieee]

/-- One number: its absolute value below infinity makes it real. -/
theorem real_of_lt (x : EReal) (h : Ideal.cmp .olt (max x (-x) : EReal) (⊤ : EReal) = 1#1) : x = ((x.toReal : ℝ) : EReal) := by
  have hlt : max x (-x) < (⊤ : EReal) := by
    by_contra hn
    simp [Ideal.cmp, hn] at h
  rw [max_lt_iff] at hlt
  refine (EReal.coe_toReal hlt.1.ne ?_).symm
  intro hb
  rw [hb] at hlt
  exact absurd hlt.2 (by simp)

/-- An array: the precondition's comparison being all ones makes it an array of reals. -/
theorem real_of_finite {S T : Shape} {φ : FTy} (x : FVec Ideal S φ) (b : BitVec φ.bits) (hb : (Ideal.ofBits φ b : EReal) = ⊤)
    {d : Fin T.rank → Fin S.rank} (hd : T.BroadcastsInDim S d)
    (h : cmpf .olt (Host.absf x) (broadcastInDim S d hd (constant T φ b)) = fun _ => 1#1) (i : S.Idx) :
    (x i : EReal) = ((EReal.toReal (x i) : ℝ) : EReal) := by
  have e := congrFun h i
  have e' : Ideal.cmp .olt (max (x i : EReal) (-(x i : EReal)) : EReal) (Ideal.ofBits φ b : EReal) = 1#1 := e
  rw [hb] at e'
  exact real_of_lt _ e'

end Cert.Finite
end
-- ==== Proof.Model.lean ====
module
public import Idealize.ShloMosaic.Lib.Pointwise
@[expose] public section

/-! # One chunk of the backward scan, over the real numbers

The quantities of one chunk of one head: `dO`, `q`, `k`, `vn`, `w` have 256 rows of 128 lanes, `S` is the state the
chunk starts from, `dS` the gradient of the state it leaves, `g` and `gr` the running sums of the gates (as a column
and as a row). Both programs are shown to compute these functions. -/

noncomputable section
namespace Cert.Scan

/-- What one chunk of one head reads. -/
structure Tile where
  (dO q k vn w : Fin 256 → Fin 128 → ℝ)
  (S dS : Fin 128 → Fin 128 → ℝ)
  (g gr : Fin 256 → ℝ)

namespace Tile
variable (T : Tile)

/-- The gate of the chunk's last row. -/
def gl : ℝ := T.g 255
/-- How much of row `j` is left at row `i`; nothing for a later row. -/
def decay (i j : Fin 256) : ℝ := if j ≤ i then Real.exp (T.g i - T.gr j) else 0
/-- How much of row `c` is left at the chunk's end. -/
def kds (c : Fin 256) : ℝ := Real.exp (T.gl - T.g c)
/-- The scores. -/
def qk (i j : Fin 256) : ℝ := ∑ d, T.q i d * T.k j d
/-- The gradient of the decayed scores, times the decay. -/
def dpd (i j : Fin 256) : ℝ := (∑ e, T.dO i e * T.vn j e) * T.decay i j
/-- The gradient of `u` (of the corrected values). -/
def du (c : Fin 256) (e : Fin 128) : ℝ :=
  (∑ i, T.qk i c * T.decay i c * T.dO i e) + ∑ d, T.k c d * T.kds c * T.dS d e
/-- The gradient of `w`. -/
def dw (c : Fin 256) (d : Fin 128) : ℝ := -∑ e, T.du c e * T.S d e
/-- The gradient of the decayed queries. -/
def dqg (i : Fin 256) (d : Fin 128) : ℝ := ∑ e, T.dO i e * T.S d e
/-- The gradient of the decayed keys. -/
def dkd (j : Fin 256) (d : Fin 128) : ℝ := ∑ e, T.vn j e * T.dS d e
/-- The gradient of the queries. -/
def dq (i : Fin 256) (d : Fin 128) : ℝ := T.dqg i d * Real.exp (T.g i) + ∑ j, T.dpd i j * T.k j d
/-- The gradient of the keys. -/
def dk (j : Fin 256) (d : Fin 128) : ℝ := (∑ i, T.dpd i j * T.q i d) + T.dkd j d * T.kds j
/-- The gradient of the gates' row. -/
def drow (j : Fin 256) : ℝ := -∑ i, T.dpd i j * T.qk i j
/-- The part of the gates' gradient that comes through the decayed keys. -/
def kdrow (j : Fin 256) : ℝ := ∑ d, T.dkd j d * (T.k j d * T.kds j)
/-- What the last row's gate receives besides. -/
def extra : ℝ := (∑ j, T.kdrow j) + Real.exp T.gl * ∑ d, ∑ e, T.S d e * T.dS d e
/-- The gradient of the gates' column. -/
def dcol (i : Fin 256) : ℝ :=
  (∑ d, T.dqg i d * (T.q i d * Real.exp (T.g i))) + (∑ j, T.dpd i j * T.qk i j) - T.kdrow i
    + if i = 255 then T.extra else 0
/-- The gradient of the state the chunk starts from. -/
def dS' (d e : Fin 128) : ℝ :=
  Real.exp T.gl * T.dS d e + (∑ c, T.q c d * Real.exp (T.g c) * T.dO c e) - ∑ c, T.w c d * T.du c e

end Tile

/-- The argument arrays, as real numbers. -/
structure Args where
  (dO : Fin 8192 → Fin 1024 → ℝ)
  (qkv : Fin 8192 → Fin 3072 → ℝ)
  (u w : Fin 16 → Fin 4096 → Fin 128 → ℝ)
  (cols : Fin 8192 → Fin 128 → ℝ)
  (grow : Fin 16 → Fin 16 → Fin 256 → ℝ)
  (ss : Fin 16 → Fin 2048 → Fin 128 → ℝ)

namespace Args
variable (A : Args)

/-- The row of a token array that holds row `c` of chunk `n` of sequence `b`. -/
def row (b : Fin 2) (n : Fin 16) (c : Fin 256) : Fin 8192 := ⟨b.val * 4096 + n.val * 256 + c.val, by omega⟩
/-- A head's lane in a row of 1024. -/
def lane (h : Fin 8) (d : Fin 128) : Fin 1024 := ⟨h.val * 128 + d.val, by omega⟩
/-- The number of a head of a sequence among the sixteen. -/
def bh (b : Fin 2) (h : Fin 8) : Fin 16 := ⟨b.val * 8 + h.val, by omega⟩
/-- Row `c` of chunk `n`. -/
def pos (n : Fin 16) (c : Fin 256) : Fin 4096 := ⟨n.val * 256 + c.val, by omega⟩
/-- Row `d` of the state that chunk `n` starts from. -/
def spos (n : Fin 16) (d : Fin 128) : Fin 2048 := ⟨n.val * 128 + d.val, by omega⟩

/-- Chunk `n` of head `h` of sequence `b`, with `dS` the gradient of the state it leaves. -/
def tile (b : Fin 2) (h : Fin 8) (n : Fin 16) (dS : Fin 128 → Fin 128 → ℝ) : Tile where
  dO c e := A.dO (row b n c) (lane h e)
  q c d := A.qkv (row b n c) ⟨(lane h d).val, by have := (lane h d).isLt; omega⟩
  k c d := A.qkv (row b n c) ⟨1024 + (lane h d).val, by have := (lane h d).isLt; omega⟩
  vn c e := A.u (bh b h) (pos n c) e - ∑ d, A.w (bh b h) (pos n c) d * A.ss (bh b h) (spos n d) e
  w c d := A.w (bh b h) (pos n c) d
  S d e := A.ss (bh b h) (spos n d) e
  dS := dS
  g c := A.cols (row b n c) ⟨h.val, by omega⟩
  gr c := A.grow (bh b h) n c

/-- The gradient of the state after `k` chunks have been gone through, from the last one backwards. -/
def dSrec (b : Fin 2) (h : Fin 8) : ℕ → Fin 128 → Fin 128 → ℝ
  | 0 => fun _ _ => 0
  | k + 1 => (A.tile b h ⟨15 - k, by omega⟩ (dSrec b h k)).dS'

/-- Chunk `n` of head `h` of sequence `b`, as the backward scan meets it. -/
def chunk (b : Fin 2) (h : Fin 8) (n : Fin 16) : Tile := A.tile b h n (A.dSrec b h (15 - n.val))

/-- A result with rows of 128, at an index of its array: `f` of the chunk that the index lies in. -/
def at3 (f : Tile → Fin 256 → Fin 128 → ℝ) (i : Fin 16) (j : Fin 4096) (l : Fin 128) : ℝ :=
  f (A.chunk ⟨i.val / 8, by omega⟩ ⟨i.val % 8, by omega⟩ ⟨j.val / 256, by omega⟩) ⟨j.val % 256, by omega⟩ l
/-- A result with one number per row. -/
def at2 (f : Tile → Fin 256 → ℝ) (i : Fin 16) (j : Fin 4096) : ℝ :=
  f (A.chunk ⟨i.val / 8, by omega⟩ ⟨i.val % 8, by omega⟩ ⟨j.val / 256, by omega⟩) ⟨j.val % 256, by omega⟩
/-- A result with one number per row, a chunk to a row of the array. -/
def atRow (f : Tile → Fin 256 → ℝ) (i : Fin 16) (n : Fin 16) (l : Fin 256) : ℝ :=
  f (A.chunk ⟨i.val / 8, by omega⟩ ⟨i.val % 8, by omega⟩ n) l

/-- `at3` where the chunk and the row are known. -/
theorem at3_eq (f : Tile → Fin 256 → Fin 128 → ℝ) (b : Fin 2) (h : Fin 8) (n : Fin 16) (c : Fin 256) (l : Fin 128) (i : Fin 16) (j : Fin 4096) (l' : Fin 128)
    (hi : i.val = b.val * 8 + h.val) (hj : j.val = n.val * 256 + c.val) (hl : l'.val = l.val) : A.at3 f i j l' = f (A.chunk b h n) c l := by
  have eb : ∀ p, (⟨i.val / 8, p⟩ : Fin 2) = b := fun p => Fin.ext (by show i.val / 8 = _; omega)
  have eh : ∀ p, (⟨i.val % 8, p⟩ : Fin 8) = h := fun p => Fin.ext (by show i.val % 8 = _; omega)
  have en : ∀ p, (⟨j.val / 256, p⟩ : Fin 16) = n := fun p => Fin.ext (by show j.val / 256 = _; omega)
  have ec : ∀ p, (⟨j.val % 256, p⟩ : Fin 256) = c := fun p => Fin.ext (by show j.val % 256 = _; omega)
  unfold at3; rw [eb, eh, en, ec, Fin.ext hl]

/-- `at2` where the chunk and the row are known. -/
theorem at2_eq (f : Tile → Fin 256 → ℝ) (b : Fin 2) (h : Fin 8) (n : Fin 16) (c : Fin 256) (i : Fin 16) (j : Fin 4096)
    (hi : i.val = b.val * 8 + h.val) (hj : j.val = n.val * 256 + c.val) : A.at2 f i j = f (A.chunk b h n) c :=
  A.at3_eq (fun T c _ => f T c) b h n c 0 i j 0 hi hj rfl

/-- `atRow` where the chunk and the row are known. -/
theorem atRow_eq (f : Tile → Fin 256 → ℝ) (b : Fin 2) (h : Fin 8) (n : Fin 16) (c : Fin 256) (i n' : Fin 16) (l : Fin 256)
    (hi : i.val = b.val * 8 + h.val) (hn : n'.val = n.val) (hl : l.val = c.val) : A.atRow f i n' l = f (A.chunk b h n) c := by
  have eb : ∀ p, (⟨i.val / 8, p⟩ : Fin 2) = b := fun p => Fin.ext (by show i.val / 8 = _; omega)
  have eh : ∀ p, (⟨i.val % 8, p⟩ : Fin 8) = h := fun p => Fin.ext (by show i.val % 8 = _; omega)
  unfold atRow; rw [eb, eh, Fin.ext hn, Fin.ext hl]

end Args

/-- A finite sum of real numbers is the same sum in the extended reals. -/
theorem coe_sum {n : ℕ} (f : Fin n → ℝ) : ∑ k, ((f k : ℝ) : EReal) = ((∑ k, f k : ℝ) : EReal) :=
  (map_sum (⟨⟨fun x : ℝ => (x : EReal), rfl⟩, fun x y => EReal.coe_add x y⟩ : ℝ →+ EReal) f Finset.univ).symm

end Cert.Scan
end
-- ==== Proof.KernelTile.lean ====
module
public import proofs.«01_k».proof.Proof.Gen.KernelIdeal.Value
public import proofs.«01_k».proof.Proof.Model
public import Idealize.ShloMosaic.Lib.Pipeline.ValueKit
public import Idealize.ShloMosaic.Lib.Pointwise
@[expose] public section
set_option maxRecDepth 16384

/-! # One chunk of the kernel, read at an index

The vector terms the kernel's body builds for one head, as functions of the loaded vectors, and what each holds at an
index when the loaded vectors hold real numbers: the function of `Cert.Scan.Tile` of the same name. -/

noncomputable section
open Idealize.ShloMosaic Idealize.ShloMosaic.TcCoe Idealize.SL.Sem
namespace Cert.KernelIdeal.Tile
open Cert.KernelIdeal Cert.KernelIdeal.Gen
open Cert.Scan

variable (dO q k : FVec Ideal S256x128 .f32) (w vn : FVec Ideal S1x256x128 .bf16) (g : FVec Ideal S256x1 .f32)
  (gr : FVec Ideal S1x1x1x256 .f32) (S : FVec Ideal S1x128x128 .bf16) (dS : FVec Ideal S1x128x128 .f32)

/-- The decay between rows, zero above the diagonal. -/
def vDecay : FVec Ideal S256x256 .f32 :=
  exp (select (cmpi CmpIPredicate.sge (iota Kind.tc S256x256 32 [0] iota_S256x256_d0_w32) (iota Kind.tc S256x256 32 [1] iota_S256x256_d1_w32))
    (subf (broadcastTo S256x256 g broadcasts_S256x1_S256x256)
      (broadcastTo S256x256 (shapeCast S1x256 gr shapeCasts_S1x1x1x256_S1x256) broadcasts_S1x256_S256x256))
    (broadcast S256x256 (Named.named κ "mask" 4048155338#32)))
/-- The scores. -/
def vQK : FVec Ideal S256x256 .f32 :=
  matmul dot_S256x128_S256x128_S256x256_1_1_0_0_n_n none (truncf FTy.bf16 q bitsLt_bf16_f32) (truncf FTy.bf16 k bitsLt_bf16_f32) (constant S256x256 FTy.f32 0#32)
/-- The gradient of the decayed scores, times the decay. -/
def vDPD : FVec Ideal S256x256 .f32 :=
  mulf (matmul dot_S256x128_S256x128_S256x256_1_1_0_0_n_n none (truncf FTy.bf16 dO bitsLt_bf16_f32)
    (shapeCast S256x128 vn shapeCasts_S1x256x128_S256x128) (constant S256x256 FTy.f32 0#32)) (vDecay g gr)
/-- The last row's gate. -/
def vGL : FVec Ideal S1x1 .f32 := extractStridedSlice S1x1 ![255, 0] g slices_S256x1_o255_0_S1x1
/-- The decay from each row to the chunk's end. -/
def vKds : FVec Ideal S256x1 .f32 := exp (subf (broadcastTo S256x1 (vGL g) broadcasts_S1x1_S256x1) g)
/-- The decayed keys. -/
def vKdec : FVec Ideal S256x128 .f32 := mulf k (broadcastTo S256x128 (vKds g) broadcasts_S256x1_S256x128)
/-- The decayed queries. -/
def vQg : FVec Ideal S256x128 .f32 := mulf q (broadcastTo S256x128 (exp g) broadcasts_S256x1_S256x128)
/-- The gradient of `u`. -/
def vDU : FVec Ideal S256x128 .f32 :=
  addf (matmul dot_S256x256_S256x128_S256x128_0_0_1_1_n_n none (truncf FTy.bf16 (mulf (vQK q k) (vDecay g gr)) bitsLt_bf16_f32)
      (truncf FTy.bf16 dO bitsLt_bf16_f32) (constant S256x128 FTy.f32 0#32))
    (matmul dot_S256x128_S128x128_S256x128_1_0_0_1_n_n none (truncf FTy.bf16 (vKdec k g) bitsLt_bf16_f32)
      (truncf FTy.bf16 (shapeCast S128x128 dS shapeCasts_S1x128x128_S128x128) bitsLt_bf16_f32) (constant S256x128 FTy.f32 0#32))
/-- The gradient of `w`. -/
def vDW : FVec Ideal S256x128 .f32 :=
  subf (broadcast S256x128 (FloatOps.ofBits FTy.f32 0#32))
    (matmul dot_S256x128_S128x128_S256x128_1_1_0_0_n_n none (truncf FTy.bf16 (vDU dO q k g gr dS) bitsLt_bf16_f32)
      (shapeCast S128x128 S shapeCasts_S1x128x128_S128x128) (constant S256x128 FTy.f32 0#32))
/-- The gradient of the decayed queries. -/
def vDQG : FVec Ideal S256x128 .f32 :=
  matmul dot_S256x128_S128x128_S256x128_1_1_0_0_n_n none (truncf FTy.bf16 dO bitsLt_bf16_f32)
    (shapeCast S128x128 S shapeCasts_S1x128x128_S128x128) (constant S256x128 FTy.f32 0#32)
/-- The gradient of the decayed keys. -/
def vDKD : FVec Ideal S256x128 .f32 :=
  matmul dot_S256x128_S128x128_S256x128_1_1_0_0_n_n none (shapeCast S256x128 vn shapeCasts_S1x256x128_S256x128)
    (truncf FTy.bf16 (shapeCast S128x128 dS shapeCasts_S1x128x128_S128x128) bitsLt_bf16_f32) (constant S256x128 FTy.f32 0#32)
/-- The gradient of the queries. -/
def vDQ : FVec Ideal S256x128 .f32 :=
  addf (mulf (vDQG dO S) (broadcastTo S256x128 (exp g) broadcasts_S256x1_S256x128))
    (matmul dot_S256x256_S256x128_S256x128_1_0_0_1_n_n none (truncf FTy.bf16 (vDPD dO vn g gr) bitsLt_bf16_f32)
      (truncf FTy.bf16 k bitsLt_bf16_f32) (constant S256x128 FTy.f32 0#32))
/-- The gradient of the keys. -/
def vDK : FVec Ideal S256x128 .f32 :=
  addf (matmul dot_S256x256_S256x128_S256x128_0_0_1_1_n_n none (truncf FTy.bf16 (vDPD dO vn g gr) bitsLt_bf16_f32)
      (truncf FTy.bf16 q bitsLt_bf16_f32) (constant S256x128 FTy.f32 0#32))
    (mulf (vDKD vn dS) (broadcastTo S256x128 (vKds g) broadcasts_S256x1_S256x128))
/-- The decayed scores' gradient times the scores. -/
def vEP : FVec Ideal S256x256 .f32 := mulf (vDPD dO vn g gr) (vQK q k)
/-- The gradient of the gates' row. -/
def vDRow : FVec Ideal S1x256 .f32 :=
  subf (broadcast S1x256 (FloatOps.ofBits FTy.f32 0#32))
    (shapeCast S1x256 (multiReduction FKind.add [0] S256 (vEP dO q k vn g gr) 0x00000000#32 reduces_S256x256_S256 (.inl rfl) rfl) shapeCasts_S256_S1x256)
/-- The rows' sums of the decayed keys times their gradient. -/
def vKdRow : FVec Ideal S256x1 .f32 :=
  shapeCast S256x1 (multiReduction FKind.add [1] S256 (mulf (vDKD vn dS) (vKdec k g)) 0x00000000#32 reduces_S256x128_S256 (.inl rfl) rfl) shapeCasts_S256_S256x1
/-- What the last row's gate receives besides. -/
def vExtra : FVec Ideal S1x1 .f32 :=
  addf (broadcast S1x1 (extractAt ![0, 0, 0] (shapeCast S1x1x1
      (multiReduction FKind.add [1, 2] S1 (shapeCast S1x256x1 (vKdRow k vn g dS) shapeCasts_S256x1_S1x256x1) 0x00000000#32 reduces_S1x256x1_S1 (.inl rfl) rfl)
      shapeCasts_S1_S1x1x1) inpos_S1x1x1_p0_0_0))
    (mulf (exp (vGL g)) (broadcast S1x1 (extractAt ![0, 0, 0] (shapeCast S1x1x1
      (multiReduction FKind.add [1, 2] S1 (shapeCast S1x128x128
        (mulf (extf FTy.f32 (shapeCast S128x128 S shapeCasts_S1x128x128_S128x128) bitsLt_bf16_f32) (shapeCast S128x128 dS shapeCasts_S1x128x128_S128x128))
        shapeCasts_S128x128_S1x128x128) 0x00000000#32 reduces_S1x128x128_S1 (.inl rfl) rfl)
      shapeCasts_S1_S1x1x1) inpos_S1x1x1_p0_0_0)))
/-- The gradient of the gates' column. -/
def vDCol : FVec Ideal S256x1 .f32 :=
  addf (subf (addf
      (shapeCast S256x1 (multiReduction FKind.add [1] S256 (mulf (vDQG dO S) (vQg q g)) 0x00000000#32 reduces_S256x128_S256 (.inl rfl) rfl) shapeCasts_S256_S256x1)
      (shapeCast S256x1 (multiReduction FKind.add [1] S256 (vEP dO q k vn g gr) 0x00000000#32 reduces_S256x256_S256_2 (.inl rfl) rfl) shapeCasts_S256_S256x1))
      (vKdRow k vn g dS))
    (select (cmpi CmpIPredicate.eq (iota Kind.tc S256x1 32 [0] iota_S256x1_d0_w32) (broadcast S256x1 255#32))
      (broadcastTo S256x1 (shapeCast S1x1 (vExtra k vn g S dS) shapeCasts_S1x1_S1x1) broadcasts_S1x1_S256x1)
      (broadcast S256x1 (FloatOps.ofBits FTy.f32 0#32)))
/-- The gradient of the state the chunk starts from. -/
def vDS : FVec Ideal S128x128 .f32 :=
  subf (addf (mulf (broadcastTo S128x128 (exp (vGL g)) broadcasts_S1x1_S128x128) (shapeCast S128x128 dS shapeCasts_S1x128x128_S128x128))
      (matmul dot_S256x128_S256x128_S128x128_0_0_1_1_n_n none (truncf FTy.bf16 (vQg q g) bitsLt_bf16_f32) (truncf FTy.bf16 dO bitsLt_bf16_f32) (constant S128x128 FTy.f32 0#32)))
    (matmul dot_S256x128_S256x128_S128x128_0_0_1_1_n_n none (shapeCast S256x128 w shapeCasts_S1x256x128_S256x128)
      (truncf FTy.bf16 (vDU dO q k g gr dS) bitsLt_bf16_f32) (constant S128x128 FTy.f32 0#32))

variable (T : Tile)

/-- The mask: the exponential of minus infinity is zero. -/
theorem exp_mask (i j : Fin 256) (a : ℝ) :
    Ideal.exp (Scalar.select (IntOp.cmpi CmpIPredicate.sge (BitVec.ofNat 32 ↑i) (BitVec.ofNat 32 ↑j)) (a : EReal) (Named.named (F := Ideal) κ "mask" (φ := .f32) 4048155338#32))
      = ((if j ≤ i then Real.exp a else 0 : ℝ) : EReal) := by
  have hm : (Named.named (F := Ideal) κ "mask" (φ := .f32) 4048155338#32 : EReal) = ⊥ := rfl
  rw [hm]
  have hi := i.isLt
  have hj := j.isLt
  word_cmp
  by_cases h : j ≤ i
  · rw [if_pos h, if_pos (by first | exact h | omega)]; rfl
  · rw [if_neg h, if_neg (by first | exact h | omega)]; rfl

variable (hdO : ∀ (i : Fin 256)
  (e : Fin 128), dO (ix2 i e) = (T.dO i e : EReal))
  (hq : ∀ (i : Fin 256)
  (e : Fin 128), q (ix2 i e) = (T.q i e : EReal))
  (hk : ∀ (i : Fin 256)
  (e : Fin 128), k (ix2 i e) = (T.k i e : EReal))
  (hw : ∀ (i : Fin 256)
  (e : Fin 128), w (ix3 (0 : Fin 1) i e) = (T.w i e : EReal))
  (hvn : ∀ (i : Fin 256)
  (e : Fin 128), vn (ix3 (0 : Fin 1) i e) = (T.vn i e : EReal))
  (hg : ∀ (i : Fin 256), g (ix2 i (0 : Fin 1)) = (T.g i : EReal))
  (hgr : ∀ (i : Fin 256), gr (ix4 (0 : Fin 1)
  (0 : Fin 1)
  (0 : Fin 1) i) = (T.gr i : EReal))
  (hS : ∀ (d e : Fin 128), S (ix3 (0 : Fin 1) d e) = (T.S d e : EReal))
  (hdS : ∀ (d e : Fin 128), dS (ix3 (0 : Fin 1) d e) = (T.dS d e : EReal))

include hg hgr in
theorem vDecay_at (i j : Fin 256) : vDecay g gr (ix2 i j) = (T.decay i j : EReal) := by
  pointwise [vDecay, hg, hgr]
  simp only [← EReal.coe_sub, ← EReal.coe_mul, ← EReal.coe_add, ← EReal.coe_neg, zero_sub, zero_add, Ideal.exp_coe, coe_sum, exp_mask] <;> rfl

include hq hk in
theorem vQK_at (i j : Fin 256) : vQK q k (ix2 i j) = (T.qk i j : EReal) := by
  pointwise [vQK, hq, hk]
  simp only [← EReal.coe_sub, ← EReal.coe_mul, ← EReal.coe_add, ← EReal.coe_neg, zero_sub, zero_add, Ideal.exp_coe, coe_sum, exp_mask] <;> rfl

include hdO hvn hg hgr in
theorem vDPD_at (i j : Fin 256) : vDPD dO vn g gr (ix2 i j) = (T.dpd i j : EReal) := by
  pointwise [vDPD, hdO, hvn, vDecay_at g gr T hg hgr]
  simp only [← EReal.coe_sub, ← EReal.coe_mul, ← EReal.coe_add, ← EReal.coe_neg, zero_sub, zero_add, Ideal.exp_coe, coe_sum, exp_mask] <;> rfl

include hg in
theorem vGL_at  : vGL g (ix2 (0 : Fin 1) (0 : Fin 1)) = (T.gl : EReal) := by
  pointwise [vGL, hg] <;> rfl

include hg in
theorem vKds_at (i : Fin 256) : vKds g (ix2 i (0 : Fin 1)) = (T.kds i : EReal) := by
  pointwise [vKds, hg, vGL_at g T hg]
  simp only [← EReal.coe_sub, ← EReal.coe_mul, ← EReal.coe_add, ← EReal.coe_neg, zero_sub, zero_add, Ideal.exp_coe, coe_sum, exp_mask] <;> rfl

include hk hg in
theorem vKdec_at (i : Fin 256) (d : Fin 128) : vKdec k g (ix2 i d) = ((T.k i d * T.kds i : ℝ) : EReal) := by
  pointwise [vKdec, hk, vKds_at g T hg]
  simp only [← EReal.coe_sub, ← EReal.coe_mul, ← EReal.coe_add, ← EReal.coe_neg, zero_sub, zero_add, Ideal.exp_coe, coe_sum, exp_mask] <;> rfl

include hq hg in
theorem vQg_at (i : Fin 256) (d : Fin 128) : vQg q g (ix2 i d) = ((T.q i d * Real.exp (T.g i) : ℝ) : EReal) := by
  pointwise [vQg, hq, hg]
  simp only [← EReal.coe_sub, ← EReal.coe_mul, ← EReal.coe_add, ← EReal.coe_neg, zero_sub, zero_add, Ideal.exp_coe, coe_sum, exp_mask] <;> rfl

include hdO hq hk hg hgr hdS in
theorem vDU_at (i : Fin 256) (d : Fin 128) : vDU dO q k g gr dS (ix2 i d) = (T.du i d : EReal) := by
  pointwise [vDU, hdO, hdS, vQK_at q k T hq hk, vDecay_at g gr T hg hgr, vKdec_at k g T hk hg]
  simp only [← EReal.coe_sub, ← EReal.coe_mul, ← EReal.coe_add, ← EReal.coe_neg, zero_sub, zero_add, Ideal.exp_coe, coe_sum, exp_mask] <;> rfl

include hdO hq hk hg hgr hS hdS in
theorem vDW_at (i : Fin 256) (d : Fin 128) : vDW dO q k g gr S dS (ix2 i d) = (T.dw i d : EReal) := by
  pointwise [vDW, hS, vDU_at dO q k g gr dS T hdO hq hk hg hgr hdS]
  simp only [← EReal.coe_sub, ← EReal.coe_mul, ← EReal.coe_add, ← EReal.coe_neg, zero_sub, zero_add, Ideal.exp_coe, coe_sum, exp_mask] <;> rfl

include hdO hS in
theorem vDQG_at (i : Fin 256) (d : Fin 128) : vDQG dO S (ix2 i d) = (T.dqg i d : EReal) := by
  pointwise [vDQG, hdO, hS]
  simp only [← EReal.coe_sub, ← EReal.coe_mul, ← EReal.coe_add, ← EReal.coe_neg, zero_sub, zero_add, Ideal.exp_coe, coe_sum, exp_mask] <;> rfl

include hvn hdS in
theorem vDKD_at (i : Fin 256) (d : Fin 128) : vDKD vn dS (ix2 i d) = (T.dkd i d : EReal) := by
  pointwise [vDKD, hvn, hdS]
  simp only [← EReal.coe_sub, ← EReal.coe_mul, ← EReal.coe_add, ← EReal.coe_neg, zero_sub, zero_add, Ideal.exp_coe, coe_sum, exp_mask] <;> rfl

include hdO hk hvn hg hgr hS in
theorem vDQ_at (i : Fin 256) (d : Fin 128) : vDQ dO k vn g gr S (ix2 i d) = (T.dq i d : EReal) := by
  pointwise [vDQ, hk, hg, vDQG_at dO S T hdO hS, vDPD_at dO vn g gr T hdO hvn hg hgr]
  simp only [← EReal.coe_sub, ← EReal.coe_mul, ← EReal.coe_add, ← EReal.coe_neg, zero_sub, zero_add, Ideal.exp_coe, coe_sum, exp_mask] <;> rfl

include hdO hq hvn hg hgr hdS in
theorem vDK_at (i : Fin 256) (d : Fin 128) : vDK dO q vn g gr dS (ix2 i d) = (T.dk i d : EReal) := by
  pointwise [vDK, hq, vDKD_at vn dS T hvn hdS, vKds_at g T hg, vDPD_at dO vn g gr T hdO hvn hg hgr]
  simp only [← EReal.coe_sub, ← EReal.coe_mul, ← EReal.coe_add, ← EReal.coe_neg, zero_sub, zero_add, Ideal.exp_coe, coe_sum, exp_mask] <;> rfl

include hdO hq hk hvn hg hgr in
theorem vEP_at (i j : Fin 256) : vEP dO q k vn g gr (ix2 i j) = ((T.dpd i j * T.qk i j : ℝ) : EReal) := by
  pointwise [vEP, vQK_at q k T hq hk, vDPD_at dO vn g gr T hdO hvn hg hgr]
  simp only [← EReal.coe_sub, ← EReal.coe_mul, ← EReal.coe_add, ← EReal.coe_neg, zero_sub, zero_add, Ideal.exp_coe, coe_sum, exp_mask] <;> rfl

include hdO hq hk hvn hg hgr in
theorem vDRow_at (i : Fin 256) : vDRow dO q k vn g gr (ix2 (0 : Fin 1) i) = (T.drow i : EReal) := by
  pointwise [vDRow, vEP_at dO q k vn g gr T hdO hq hk hvn hg hgr]
  simp only [← EReal.coe_sub, ← EReal.coe_mul, ← EReal.coe_add, ← EReal.coe_neg, zero_sub, zero_add, Ideal.exp_coe, coe_sum, exp_mask] <;> rfl

include hk hvn hg hdS in
theorem vKdRow_at (i : Fin 256) : vKdRow k vn g dS (ix2 i (0 : Fin 1)) = (T.kdrow i : EReal) := by
  pointwise [vKdRow, vDKD_at vn dS T hvn hdS, vKdec_at k g T hk hg]
  simp only [← EReal.coe_sub, ← EReal.coe_mul, ← EReal.coe_add, ← EReal.coe_neg, zero_sub, zero_add, Ideal.exp_coe, coe_sum, exp_mask] <;> rfl

include hk hvn hg hS hdS in
theorem vExtra_at  : vExtra k vn g S dS (ix2 (0 : Fin 1) (0 : Fin 1)) = (T.extra : EReal) := by
  pointwise [vExtra, vKdRow_at k vn g dS T hk hvn hg hdS, vGL_at g T hg, hS, hdS]
  simp only [← EReal.coe_sub, ← EReal.coe_mul, ← EReal.coe_add, ← EReal.coe_neg, zero_sub, zero_add, Ideal.exp_coe, coe_sum, exp_mask, Fintype.sum_unique] <;> rfl

/-- The comparison with the last row's number. -/
theorem last_row (i : Fin 256) (a b : EReal) :
    Scalar.select (IntOp.cmpi CmpIPredicate.eq (BitVec.ofNat 32 ↑i) 255#32) a b = if i = 255 then a else b := by
  have hi := i.isLt
  word_cmp
  by_cases h : i = 255
  · subst h; rfl
  · rw [if_neg h, if_neg (by intro h'; exact h (Fin.ext h'))]

include hdO hq hk hvn hg hgr hS hdS in
theorem vDCol_at (i : Fin 256) : vDCol dO q k vn g gr S dS (ix2 i (0 : Fin 1)) = (T.dcol i : EReal) := by
  pointwise [vDCol, vKdRow_at k vn g dS T hk hvn hg hdS, vDQG_at dO S T hdO hS, vQg_at q g T hq hg, vEP_at dO q k vn g gr T hdO hq hk hvn hg hgr, vExtra_at k vn g S dS T hk hvn hg hS hdS]
  rw [last_row, show (if i = 255 then (T.extra : EReal) else 0) = ((if i = 255 then T.extra else 0 : ℝ) : EReal) by split <;> rfl]
  simp only [← EReal.coe_sub, ← EReal.coe_mul, ← EReal.coe_add, coe_sum]
  rfl

include hdO hq hk hw hg hgr hdS in
theorem vDS_at (d e : Fin 128) : vDS dO q k w g gr dS (ix2 d e) = (T.dS' d e : EReal) := by
  pointwise [vDS, hdO, hdS, hw, vGL_at g T hg, vQg_at q g T hq hg, vDU_at dO q k g gr dS T hdO hq hk hg hgr hdS]
  simp only [← EReal.coe_sub, ← EReal.coe_mul, ← EReal.coe_add, ← EReal.coe_neg, zero_sub, zero_add, Ideal.exp_coe, coe_sum, exp_mask] <;> rfl

end Cert.KernelIdeal.Tile
end
-- ==== Proof.KernelReads.lean ====
module
public import proofs.«01_k».proof.Proof.Gen.KernelIdeal.Value
public import proofs.«01_k».proof.Proof.KernelTile
public import Idealize.ShloMosaic.Lib.Claim
@[expose] public section
set_option maxRecDepth 16384

/-! # The blocks the kernel reads, as real numbers

At every grid point each staged block holds the part of the argument arrays that belongs to the point's chunk. -/

noncomputable section
open Idealize.ShloMosaic Idealize.ShloMosaic.TcCoe Idealize.SL.Sem
open Idealize.ShloMosaic.Pipeline (Dat)
namespace Cert.KernelIdeal.Tile
open Cert.KernelIdeal Cert.KernelIdeal.Gen
open Cert.Scan

variable (m : (ℓ : Loc nD τ sig) → Buf (Elt Ideal) ℓ) (c : Dev nD) (A : Args)

/-- The argument arrays hold the real numbers `A`. -/
structure Reads : Prop where
  dO : ∀ (i : Fin 8192) (j : Fin 1024), (m ((c : Thread nD τ).loc main_arg0) : FVec Ideal S8192x1024 .f32) (ix2 i j) = (A.dO i j : EReal)
  qkv : ∀ (i : Fin 8192) (j : Fin 3072), (m ((c : Thread nD τ).loc main_arg1) : FVec Ideal S8192x3072 .f32) (ix2 i j) = (A.qkv i j : EReal)
  u : ∀ (i : Fin 16) (j : Fin 4096) (l : Fin 128), (m ((c : Thread nD τ).loc main_arg2) : FVec Ideal S16x4096x128 .f32) (ix3 i j l) = (A.u i j l : EReal)
  w : ∀ (i : Fin 16) (j : Fin 4096) (l : Fin 128), (m ((c : Thread nD τ).loc main_arg3) : FVec Ideal S16x4096x128 .bf16) (ix3 i j l) = (A.w i j l : EReal)
  cols : ∀ (i : Fin 8192) (j : Fin 128), (m ((c : Thread nD τ).loc main_arg4) : FVec Ideal S8192x128 .f32) (ix2 i j) = (A.cols i j : EReal)
  grow : ∀ (i j : Fin 16) (l : Fin 256), (m ((c : Thread nD τ).loc main_arg5) : FVec Ideal S16x16x1x256 .f32) (ix4 i j (0 : Fin 1) l) = (A.grow i j l : EReal)
  ss : ∀ (i : Fin 16) (j : Fin 2048) (l : Fin 128), (m ((c : Thread nD τ).loc main_arg6) : FVec Ideal S16x2048x128 .bf16) (ix3 i j l) = (A.ss i j l : EReal)

/-- Every window's block index at every grid point. -/
theorem idx : ∀ t : Fin cfg0.N, win0_0.index t = ![t.val / 16 * 16 + (15 - t.val % 16), 0] ∧ win0_1.index t = ![t.val / 16 * 16 + (15 - t.val % 16), 0]
    ∧ win0_2.index t = ![t.val / 16 * 16 + (15 - t.val % 16), 1] ∧ win0_3.index t = ![t.val / 16, 15 - t.val % 16, 0]
    ∧ win0_4.index t = ![t.val / 16, 15 - t.val % 16, 0] ∧ win0_5.index t = ![t.val / 16 * 16 + (15 - t.val % 16), 0]
    ∧ win0_6.index t = ![t.val / 16, 15 - t.val % 16, 0, 0] ∧ win0_7.index t = ![t.val / 16, 15 - t.val % 16, 0]
    ∧ win0_8.index t = ![t.val / 16, 15 - t.val % 16, 0] ∧ win0_9.index t = ![t.val / 16, 15 - t.val % 16, 0]
    ∧ win0_10.index t = ![t.val / 16, 15 - t.val % 16, 0] ∧ win0_11.index t = ![t.val / 16, 15 - t.val % 16, 0]
    ∧ win0_12.index t = ![t.val / 16, 15 - t.val % 16, 0] ∧ win0_13.index t = ![t.val / 16, 15 - t.val % 16, 0, 0] :=
  (by decide +kernel : ∀ t : Fin grid0.N, _)

/-- The sequence of a grid point. -/
def bt (t : Fin cfg0.N) : Fin 2 := ⟨t.val / 16, by have := lt_of_lt_of_eq t.isLt N_0; omega⟩
/-- The chunk of a grid point: the last one first. -/
def nt (t : Fin cfg0.N) : Fin 16 := ⟨15 - t.val % 16, by omega⟩
/-- The chunk a grid point works on, for one head. -/
def pt (t : Fin cfg0.N) (h : Fin 8) : Tile := A.tile (bt t) h (nt t) (A.dSrec (bt t) h (t.val % 16))

variable {m c A} (R : Reads m c A) (t : Fin cfg0.N)
include R

theorem blk_dO (h : Fin 8) (i : Fin 256) (e : Fin 128) (j : Fin 1024) (hj : (j : ℕ) = h * 128 + e) :
    (iblk m c 0 t : FVec Ideal S256x1024 .f32) (ix2 i j) = ((pt A t h).dO i e : EReal) := by
  refine Eq.trans ?_ (R.dO (Args.row (bt t) (nt t) i) (Args.lane h e))
  obtain rfl : j = Args.lane h e := Fin.ext hj
  blk_ext [iblk, V, idx t, Args.row, bt, nt]

theorem blk_q (h : Fin 8) (i : Fin 256) (e : Fin 128) (j : Fin 1024) (hj : (j : ℕ) = h * 128 + e) :
    (iblk m c 1 t : FVec Ideal S256x1024 .f32) (ix2 i j) = ((pt A t h).q i e : EReal) := by
  refine Eq.trans ?_ (R.qkv (Args.row (bt t) (nt t) i) ⟨(Args.lane h e).val, by have := (Args.lane h e).isLt; omega⟩)
  obtain rfl : j = Args.lane h e := Fin.ext hj
  blk_ext [iblk, V, idx t, Args.row, bt, nt]

theorem blk_k (h : Fin 8) (i : Fin 256) (e : Fin 128) (j : Fin 1024) (hj : (j : ℕ) = h * 128 + e) :
    (iblk m c 2 t : FVec Ideal S256x1024 .f32) (ix2 i j) = ((pt A t h).k i e : EReal) := by
  refine Eq.trans ?_ (R.qkv (Args.row (bt t) (nt t) i) ⟨1024 + (Args.lane h e).val, by have := (Args.lane h e).isLt; omega⟩)
  obtain rfl : j = Args.lane h e := Fin.ext hj
  blk_ext [iblk, V, idx t, Args.row, bt, nt]

theorem blk_w (h h' : Fin 8) (i : Fin 256) (e : Fin 128) (hh : (h' : ℕ) = h) :
    (iblk m c 3 t : FVec Ideal S8x256x128 .bf16) (ix3 h' i e) = ((pt A t h).w i e : EReal) := by
  refine Eq.trans ?_ (R.w (Args.bh (bt t) h) (Args.pos (nt t) i) e)
  obtain rfl : h' = h := Fin.ext hh
  blk_ext [iblk, V, idx t, Args.bh, Args.pos, bt, nt]

/-- What the host made of `u`, `w` and the saved states before the call. -/
theorem entry_vn (b : Fin 2) (h : Fin 8) (n : Fin 16) (i : Fin 256) (e : Fin 128) (dS : Fin 128 → Fin 128 → ℝ) :
    (V m c main_v8 : FVec Ideal S16x4096x128 .bf16) (ix3 (Args.bh b h) (Args.pos n i) e) = ((A.tile b h n dS).vn i e : EReal) := by
  entry_read
  pointwise
  have hb : ((Args.bh b h).val * 16 + (Args.pos n i).val / 256) / 16 = (Args.bh b h).val := by simp only [Args.pos]; omega
  have hp : ((Args.bh b h).val * 16 + (Args.pos n i).val / 256) % 16 * 256 + (Args.pos n i).val % 256 = (Args.pos n i).val := by simp only [Args.pos]; omega
  have hs : ∀ x : Fin 128, ((Args.bh b h).val * 16 + (Args.pos n i).val / 256) % 16 * 128 + x.val = (Args.spos n x).val := by
    intro x; simp only [Args.pos, Args.spos]; omega
  simp only [hb, hp, hs, Fin.eta]
  refine (congrArg₂ (fun a b : EReal => a - b) (R.u _ _ _) (Finset.sum_congr rfl fun x _ => congrArg₂ (fun a b : EReal => a * b) (R.w _ _ _) (R.ss _ _ _))).trans ?_
  simp only [← EReal.coe_mul, coe_sum, ← EReal.coe_sub]
  rfl

theorem blk_vn (h h' : Fin 8) (i : Fin 256) (e : Fin 128) (hh : (h' : ℕ) = h) :
    (iblk m c 4 t : FVec Ideal S8x256x128 .bf16) (ix3 h' i e) = ((pt A t h).vn i e : EReal) := by
  refine Eq.trans ?_ (entry_vn R (bt t) h (nt t) i e _)
  obtain rfl : h' = h := Fin.ext hh
  blk_ext [iblk, idx t, Args.bh, Args.pos, bt, nt]

theorem blk_g (h : Fin 8) (i : Fin 256) (j : Fin 128) (hj : (j : ℕ) = h) :
    (iblk m c 5 t : FVec Ideal S256x128 .f32) (ix2 i j) = ((pt A t h).g i : EReal) := by
  refine Eq.trans ?_ (R.cols (Args.row (bt t) (nt t) i) ⟨h.val, lt_trans h.isLt (by decide)⟩)
  obtain rfl : j = ⟨h.val, lt_trans h.isLt (by decide)⟩ := Fin.ext hj
  blk_ext [iblk, V, idx t, Args.row, bt, nt]

theorem blk_gr (h h' : Fin 8) (i : Fin 256) (hh : (h' : ℕ) = h) :
    (iblk m c 6 t : FVec Ideal S8x1x1x256 .f32) (ix4 h' (0 : Fin 1) (0 : Fin 1) i) = ((pt A t h).gr i : EReal) := by
  refine Eq.trans ?_ (R.grow (Args.bh (bt t) h) (nt t) i)
  obtain rfl : h' = h := Fin.ext hh
  blk_ext [iblk, V, idx t, Args.bh, bt, nt]

theorem blk_S (h h' : Fin 8) (i e : Fin 128) (hh : (h' : ℕ) = h) :
    (iblk m c 7 t : FVec Ideal S8x128x128 .bf16) (ix3 h' i e) = ((pt A t h).S i e : EReal) := by
  refine Eq.trans ?_ (R.ss (Args.bh (bt t) h) (Args.spos (nt t) i) e)
  obtain rfl : h' = h := Fin.ext hh
  blk_ext [iblk, V, idx t, Args.bh, Args.spos, bt, nt]

end Cert.KernelIdeal.Tile
end
-- ==== Proof.KernelPoint.lean ====
module
public import proofs.«01_k».proof.Proof.KernelReads
public import proofs.«01_k».proof.Proof.Pieces
public import Idealize.ShloMosaic.Lib.Pipeline.ReadBack
@[expose] public section
set_option maxRecDepth 16384

/-! # What the kernel computes at a grid point

Every store of the body, read at an index, is the chunk's function of the same name, when the state's gradient carried
in the scratch is the chunk's; by induction on the grid points it is. -/

noncomputable section
open Idealize.ShloMosaic Idealize.ShloMosaic.TcCoe Idealize.SL.Sem
open Idealize.ShloMosaic.Pipeline (Dat)
namespace Cert.KernelIdeal.Tile
open Cert.KernelIdeal Cert.KernelIdeal.Gen
open Cert.Scan

/-! ## The stored vectors -/

theorem du_store (T : Tile) {dO : FVec Ideal S256x128 .f32} {q : FVec Ideal S256x128 .f32} {k : FVec Ideal S256x128 .f32} {g : FVec Ideal S256x1 .f32} {gr : FVec Ideal S1x1x1x256 .f32} {dS : FVec Ideal S1x128x128 .f32}
    (hdO : ∀ (i : Fin 256) (e : Fin 128), dO (ix2 i e) = (T.dO i e : EReal))
    (hq : ∀ (i : Fin 256) (e : Fin 128), q (ix2 i e) = (T.q i e : EReal))
    (hk : ∀ (i : Fin 256) (e : Fin 128), k (ix2 i e) = (T.k i e : EReal))
    (hg : ∀ i : Fin 256, g (ix2 i (0 : Fin 1)) = (T.g i : EReal))
    (hgr : ∀ i : Fin 256, gr (ix4 (0 : Fin 1) (0 : Fin 1) (0 : Fin 1) i) = (T.gr i : EReal))
    (hdS : ∀ d e : Fin 128, dS (ix3 (0 : Fin 1) d e) = (T.dS d e : EReal))
    (h : S256x128.ShapeCasts S1x256x128) (x : S1x256x128.Idx) : shapeCast S1x256x128 (vDU dO q k g gr dS) h x = ((T.du (x 1) (x 2) : ℝ) : EReal) := by
  idx_vars x
  pointwise [vDU_at dO q k g gr dS T hdO hq hk hg hgr hdS]

theorem dw_store (T : Tile) {dO : FVec Ideal S256x128 .f32} {q : FVec Ideal S256x128 .f32} {k : FVec Ideal S256x128 .f32} {g : FVec Ideal S256x1 .f32} {gr : FVec Ideal S1x1x1x256 .f32} {S : FVec Ideal S1x128x128 .bf16} {dS : FVec Ideal S1x128x128 .f32}
    (hdO : ∀ (i : Fin 256) (e : Fin 128), dO (ix2 i e) = (T.dO i e : EReal))
    (hq : ∀ (i : Fin 256) (e : Fin 128), q (ix2 i e) = (T.q i e : EReal))
    (hk : ∀ (i : Fin 256) (e : Fin 128), k (ix2 i e) = (T.k i e : EReal))
    (hg : ∀ i : Fin 256, g (ix2 i (0 : Fin 1)) = (T.g i : EReal))
    (hgr : ∀ i : Fin 256, gr (ix4 (0 : Fin 1) (0 : Fin 1) (0 : Fin 1) i) = (T.gr i : EReal))
    (hS : ∀ d e : Fin 128, S (ix3 (0 : Fin 1) d e) = (T.S d e : EReal))
    (hdS : ∀ d e : Fin 128, dS (ix3 (0 : Fin 1) d e) = (T.dS d e : EReal))
    (h : S256x128.ShapeCasts S1x256x128) (x : S1x256x128.Idx) : shapeCast S1x256x128 (vDW dO q k g gr S dS) h x = ((T.dw (x 1) (x 2) : ℝ) : EReal) := by
  idx_vars x
  pointwise [vDW_at dO q k g gr S dS T hdO hq hk hg hgr hS hdS]

theorem dq_store (T : Tile) {dO : FVec Ideal S256x128 .f32} {k : FVec Ideal S256x128 .f32} {vn : FVec Ideal S1x256x128 .bf16} {g : FVec Ideal S256x1 .f32} {gr : FVec Ideal S1x1x1x256 .f32} {S : FVec Ideal S1x128x128 .bf16}
    (hdO : ∀ (i : Fin 256) (e : Fin 128), dO (ix2 i e) = (T.dO i e : EReal))
    (hk : ∀ (i : Fin 256) (e : Fin 128), k (ix2 i e) = (T.k i e : EReal))
    (hvn : ∀ (i : Fin 256) (e : Fin 128), vn (ix3 (0 : Fin 1) i e) = (T.vn i e : EReal))
    (hg : ∀ i : Fin 256, g (ix2 i (0 : Fin 1)) = (T.g i : EReal))
    (hgr : ∀ i : Fin 256, gr (ix4 (0 : Fin 1) (0 : Fin 1) (0 : Fin 1) i) = (T.gr i : EReal))
    (hS : ∀ d e : Fin 128, S (ix3 (0 : Fin 1) d e) = (T.S d e : EReal))
    (h : S256x128.ShapeCasts S1x256x128) (x : S1x256x128.Idx) : shapeCast S1x256x128 (vDQ dO k vn g gr S) h x = ((T.dq (x 1) (x 2) : ℝ) : EReal) := by
  idx_vars x
  pointwise [vDQ_at dO k vn g gr S T hdO hk hvn hg hgr hS]

theorem dk_store (T : Tile) {dO : FVec Ideal S256x128 .f32} {q : FVec Ideal S256x128 .f32} {vn : FVec Ideal S1x256x128 .bf16} {g : FVec Ideal S256x1 .f32} {gr : FVec Ideal S1x1x1x256 .f32} {dS : FVec Ideal S1x128x128 .f32}
    (hdO : ∀ (i : Fin 256) (e : Fin 128), dO (ix2 i e) = (T.dO i e : EReal))
    (hq : ∀ (i : Fin 256) (e : Fin 128), q (ix2 i e) = (T.q i e : EReal))
    (hvn : ∀ (i : Fin 256) (e : Fin 128), vn (ix3 (0 : Fin 1) i e) = (T.vn i e : EReal))
    (hg : ∀ i : Fin 256, g (ix2 i (0 : Fin 1)) = (T.g i : EReal))
    (hgr : ∀ i : Fin 256, gr (ix4 (0 : Fin 1) (0 : Fin 1) (0 : Fin 1) i) = (T.gr i : EReal))
    (hdS : ∀ d e : Fin 128, dS (ix3 (0 : Fin 1) d e) = (T.dS d e : EReal))
    (h : S256x128.ShapeCasts S1x256x128) (x : S1x256x128.Idx) : shapeCast S1x256x128 (vDK dO q vn g gr dS) h x = ((T.dk (x 1) (x 2) : ℝ) : EReal) := by
  idx_vars x
  pointwise [vDK_at dO q vn g gr dS T hdO hq hvn hg hgr hdS]

theorem dcol_store (T : Tile) {dO : FVec Ideal S256x128 .f32} {q : FVec Ideal S256x128 .f32} {k : FVec Ideal S256x128 .f32} {vn : FVec Ideal S1x256x128 .bf16} {g : FVec Ideal S256x1 .f32} {gr : FVec Ideal S1x1x1x256 .f32} {S : FVec Ideal S1x128x128 .bf16} {dS : FVec Ideal S1x128x128 .f32}
    (hdO : ∀ (i : Fin 256) (e : Fin 128), dO (ix2 i e) = (T.dO i e : EReal))
    (hq : ∀ (i : Fin 256) (e : Fin 128), q (ix2 i e) = (T.q i e : EReal))
    (hk : ∀ (i : Fin 256) (e : Fin 128), k (ix2 i e) = (T.k i e : EReal))
    (hvn : ∀ (i : Fin 256) (e : Fin 128), vn (ix3 (0 : Fin 1) i e) = (T.vn i e : EReal))
    (hg : ∀ i : Fin 256, g (ix2 i (0 : Fin 1)) = (T.g i : EReal))
    (hgr : ∀ i : Fin 256, gr (ix4 (0 : Fin 1) (0 : Fin 1) (0 : Fin 1) i) = (T.gr i : EReal))
    (hS : ∀ d e : Fin 128, S (ix3 (0 : Fin 1) d e) = (T.S d e : EReal))
    (hdS : ∀ d e : Fin 128, dS (ix3 (0 : Fin 1) d e) = (T.dS d e : EReal))
    (h : S256x1.ShapeCasts S1x256x1) (x : S1x256x1.Idx) : shapeCast S1x256x1 (vDCol dO q k vn g gr S dS) h x = ((T.dcol (x 1) : ℝ) : EReal) := by
  idx_vars x
  pointwise [vDCol_at dO q k vn g gr S dS T hdO hq hk hvn hg hgr hS hdS]

theorem drow_store (T : Tile) {dO : FVec Ideal S256x128 .f32} {q : FVec Ideal S256x128 .f32} {k : FVec Ideal S256x128 .f32} {vn : FVec Ideal S1x256x128 .bf16} {g : FVec Ideal S256x1 .f32} {gr : FVec Ideal S1x1x1x256 .f32}
    (hdO : ∀ (i : Fin 256) (e : Fin 128), dO (ix2 i e) = (T.dO i e : EReal))
    (hq : ∀ (i : Fin 256) (e : Fin 128), q (ix2 i e) = (T.q i e : EReal))
    (hk : ∀ (i : Fin 256) (e : Fin 128), k (ix2 i e) = (T.k i e : EReal))
    (hvn : ∀ (i : Fin 256) (e : Fin 128), vn (ix3 (0 : Fin 1) i e) = (T.vn i e : EReal))
    (hg : ∀ i : Fin 256, g (ix2 i (0 : Fin 1)) = (T.g i : EReal))
    (hgr : ∀ i : Fin 256, gr (ix4 (0 : Fin 1) (0 : Fin 1) (0 : Fin 1) i) = (T.gr i : EReal))
    (h : S1x256.ShapeCasts S1x1x1x256) (x : S1x1x1x256.Idx) : shapeCast S1x1x1x256 (vDRow dO q k vn g gr) h x = ((T.drow (x 3) : ℝ) : EReal) := by
  idx_vars x
  pointwise [vDRow_at dO q k vn g gr T hdO hq hk hvn hg hgr]

theorem ds_store (T : Tile) {dO : FVec Ideal S256x128 .f32} {q : FVec Ideal S256x128 .f32} {k : FVec Ideal S256x128 .f32} {w : FVec Ideal S1x256x128 .bf16} {g : FVec Ideal S256x1 .f32} {gr : FVec Ideal S1x1x1x256 .f32} {dS : FVec Ideal S1x128x128 .f32}
    (hdO : ∀ (i : Fin 256) (e : Fin 128), dO (ix2 i e) = (T.dO i e : EReal))
    (hq : ∀ (i : Fin 256) (e : Fin 128), q (ix2 i e) = (T.q i e : EReal))
    (hk : ∀ (i : Fin 256) (e : Fin 128), k (ix2 i e) = (T.k i e : EReal))
    (hw : ∀ (i : Fin 256) (e : Fin 128), w (ix3 (0 : Fin 1) i e) = (T.w i e : EReal))
    (hg : ∀ i : Fin 256, g (ix2 i (0 : Fin 1)) = (T.g i : EReal))
    (hgr : ∀ i : Fin 256, gr (ix4 (0 : Fin 1) (0 : Fin 1) (0 : Fin 1) i) = (T.gr i : EReal))
    (hdS : ∀ d e : Fin 128, dS (ix3 (0 : Fin 1) d e) = (T.dS d e : EReal))
    (h : S128x128.ShapeCasts S1x128x128) (x : S1x128x128.Idx) : shapeCast S1x128x128 (vDS dO q k w g gr dS) h x = ((T.dS' (x 1) (x 2) : ℝ) : EReal) := by
  idx_vars x
  pointwise [vDS_at dO q k w g gr dS T hdO hq hk hw hg hgr hdS]

/-- The first point of a sequence starts from no gradient. -/
theorem dS_first (A : Args) (t : Fin cfg0.N) (hr : t.val % 16 = 0) (h : Fin 8) (d e : Fin 128) : (((pt A t h).dS d e : ℝ) : EReal) = 0 := by
  show ((A.dSrec (bt t) h (t.val % 16) d e : ℝ) : EReal) = 0
  rw [hr]; rfl

/-! ## The stores of a grid point -/

variable {m : (ℓ : Loc nD τ sig) → Buf (Elt Ideal) ℓ} {c : Dev nD} {A : Args} (R : Reads m c A) (t : Fin cfg0.N)
include R

theorem du_A (hr : t.val % 16 = 0) (y : S8x256x128.Idx) :
    (outsAt0 m c t.val t.isLt).1 y = (((pt A t (y 0)).du (y 1) (y 2) : ℝ) : EReal) := by
  rw [outsAt0_A m c t hr]; frame_out
  canon_tiles x h
  all_goals
    open_payloads
    have e1 : y 1 = x 1 := Fin.ext h1; have e2 : y 2 = x 2 := Fin.ext h2
    rw [e1, e2]
    exact du_store (pt A t (y 0))
      (by intro i e; pointwise; exact blk_dO R t (y 0) _ _ _ (by first | omega | (dsimp only; omega) | (simp only []; omega)))
      (by intro i e; pointwise; exact blk_q R t (y 0) _ _ _ (by first | omega | (dsimp only; omega) | (simp only []; omega)))
      (by intro i e; pointwise; exact blk_k R t (y 0) _ _ _ (by first | omega | (dsimp only; omega) | (simp only []; omega)))
      (by intro i; pointwise; exact blk_g R t (y 0) _ _ (by first | omega | (dsimp only; omega) | (simp only []; omega)))
      (by intro i; pointwise; exact blk_gr R t (y 0) _ _ (by first | omega | (dsimp only; omega) | (simp only []; omega)))
      (by intro d e; rw [View.readCov_fill (h := by decide)]; pointwise [dS_first A t hr]) _ x

theorem du_B (hr : ¬t.val % 16 = 0)
    (hp : ∀ (h h' : Fin 8) (d e : Fin 128), (h' : ℕ) = h →
      ((outsAt0 m c (t.val - 1) (lt_of_le_of_lt (Nat.sub_le _ _) t.isLt)).2.2.2.2.2.2 : FVec Ideal S8x128x128 .f32) (ix3 h' d e) = (((pt A t h).dS d e : ℝ) : EReal)) (y : S8x256x128.Idx) :
    (outsAt0 m c t.val t.isLt).1 y = (((pt A t (y 0)).du (y 1) (y 2) : ℝ) : EReal) := by
  rw [outsAt0_B m c t hr]; frame_out
  canon_tiles x h
  all_goals
    open_payloads
    have e1 : y 1 = x 1 := Fin.ext h1; have e2 : y 2 = x 2 := Fin.ext h2
    rw [e1, e2]
    exact du_store (pt A t (y 0))
      (by intro i e; pointwise; exact blk_dO R t (y 0) _ _ _ (by first | omega | (dsimp only; omega) | (simp only []; omega)))
      (by intro i e; pointwise; exact blk_q R t (y 0) _ _ _ (by first | omega | (dsimp only; omega) | (simp only []; omega)))
      (by intro i e; pointwise; exact blk_k R t (y 0) _ _ _ (by first | omega | (dsimp only; omega) | (simp only []; omega)))
      (by intro i; pointwise; exact blk_g R t (y 0) _ _ (by first | omega | (dsimp only; omega) | (simp only []; omega)))
      (by intro i; pointwise; exact blk_gr R t (y 0) _ _ (by first | omega | (dsimp only; omega) | (simp only []; omega)))
      (by intro d e; rw [read_unread_whole]; pointwise; exact hp _ _ _ _ (by first | omega | (dsimp only; omega) | (simp only []; omega))) _ x

theorem dw_A (hr : t.val % 16 = 0) (y : S8x256x128.Idx) :
    (outsAt0 m c t.val t.isLt).2.1 y = (((pt A t (y 0)).dw (y 1) (y 2) : ℝ) : EReal) := by
  rw [outsAt0_A m c t hr]; frame_out
  canon_tiles x h
  all_goals
    open_payloads
    have e1 : y 1 = x 1 := Fin.ext h1; have e2 : y 2 = x 2 := Fin.ext h2
    rw [e1, e2]
    exact dw_store (pt A t (y 0))
      (by intro i e; pointwise; exact blk_dO R t (y 0) _ _ _ (by first | omega | (dsimp only; omega) | (simp only []; omega)))
      (by intro i e; pointwise; exact blk_q R t (y 0) _ _ _ (by first | omega | (dsimp only; omega) | (simp only []; omega)))
      (by intro i e; pointwise; exact blk_k R t (y 0) _ _ _ (by first | omega | (dsimp only; omega) | (simp only []; omega)))
      (by intro i; pointwise; exact blk_g R t (y 0) _ _ (by first | omega | (dsimp only; omega) | (simp only []; omega)))
      (by intro i; pointwise; exact blk_gr R t (y 0) _ _ (by first | omega | (dsimp only; omega) | (simp only []; omega)))
      (by intro d e; pointwise; exact blk_S R t (y 0) _ _ _ (by first | omega | (dsimp only; omega) | (simp only []; omega)))
      (by intro d e; rw [View.readCov_fill (h := by decide)]; pointwise [dS_first A t hr]) _ x

theorem dw_B (hr : ¬t.val % 16 = 0)
    (hp : ∀ (h h' : Fin 8) (d e : Fin 128), (h' : ℕ) = h →
      ((outsAt0 m c (t.val - 1) (lt_of_le_of_lt (Nat.sub_le _ _) t.isLt)).2.2.2.2.2.2 : FVec Ideal S8x128x128 .f32) (ix3 h' d e) = (((pt A t h).dS d e : ℝ) : EReal)) (y : S8x256x128.Idx) :
    (outsAt0 m c t.val t.isLt).2.1 y = (((pt A t (y 0)).dw (y 1) (y 2) : ℝ) : EReal) := by
  rw [outsAt0_B m c t hr]; frame_out
  canon_tiles x h
  all_goals
    open_payloads
    have e1 : y 1 = x 1 := Fin.ext h1; have e2 : y 2 = x 2 := Fin.ext h2
    rw [e1, e2]
    exact dw_store (pt A t (y 0))
      (by intro i e; pointwise; exact blk_dO R t (y 0) _ _ _ (by first | omega | (dsimp only; omega) | (simp only []; omega)))
      (by intro i e; pointwise; exact blk_q R t (y 0) _ _ _ (by first | omega | (dsimp only; omega) | (simp only []; omega)))
      (by intro i e; pointwise; exact blk_k R t (y 0) _ _ _ (by first | omega | (dsimp only; omega) | (simp only []; omega)))
      (by intro i; pointwise; exact blk_g R t (y 0) _ _ (by first | omega | (dsimp only; omega) | (simp only []; omega)))
      (by intro i; pointwise; exact blk_gr R t (y 0) _ _ (by first | omega | (dsimp only; omega) | (simp only []; omega)))
      (by intro d e; pointwise; exact blk_S R t (y 0) _ _ _ (by first | omega | (dsimp only; omega) | (simp only []; omega)))
      (by intro d e; rw [read_unread_whole]; pointwise; exact hp _ _ _ _ (by first | omega | (dsimp only; omega) | (simp only []; omega))) _ x

theorem dq_A (hr : t.val % 16 = 0) (y : S8x256x128.Idx) :
    (outsAt0 m c t.val t.isLt).2.2.1 y = (((pt A t (y 0)).dq (y 1) (y 2) : ℝ) : EReal) := by
  rw [outsAt0_A m c t hr]; frame_out
  canon_tiles x h
  all_goals
    open_payloads
    have e1 : y 1 = x 1 := Fin.ext h1; have e2 : y 2 = x 2 := Fin.ext h2
    rw [e1, e2]
    exact dq_store (pt A t (y 0))
      (by intro i e; pointwise; exact blk_dO R t (y 0) _ _ _ (by first | omega | (dsimp only; omega) | (simp only []; omega)))
      (by intro i e; pointwise; exact blk_k R t (y 0) _ _ _ (by first | omega | (dsimp only; omega) | (simp only []; omega)))
      (by intro i e; pointwise; exact blk_vn R t (y 0) _ _ _ (by first | omega | (dsimp only; omega) | (simp only []; omega)))
      (by intro i; pointwise; exact blk_g R t (y 0) _ _ (by first | omega | (dsimp only; omega) | (simp only []; omega)))
      (by intro i; pointwise; exact blk_gr R t (y 0) _ _ (by first | omega | (dsimp only; omega) | (simp only []; omega)))
      (by intro d e; pointwise; exact blk_S R t (y 0) _ _ _ (by first | omega | (dsimp only; omega) | (simp only []; omega))) _ x

theorem dq_B (hr : ¬t.val % 16 = 0)
    (hp : ∀ (h h' : Fin 8) (d e : Fin 128), (h' : ℕ) = h →
      ((outsAt0 m c (t.val - 1) (lt_of_le_of_lt (Nat.sub_le _ _) t.isLt)).2.2.2.2.2.2 : FVec Ideal S8x128x128 .f32) (ix3 h' d e) = (((pt A t h).dS d e : ℝ) : EReal)) (y : S8x256x128.Idx) :
    (outsAt0 m c t.val t.isLt).2.2.1 y = (((pt A t (y 0)).dq (y 1) (y 2) : ℝ) : EReal) := by
  rw [outsAt0_B m c t hr]; frame_out
  canon_tiles x h
  all_goals
    open_payloads
    have e1 : y 1 = x 1 := Fin.ext h1; have e2 : y 2 = x 2 := Fin.ext h2
    rw [e1, e2]
    exact dq_store (pt A t (y 0))
      (by intro i e; pointwise; exact blk_dO R t (y 0) _ _ _ (by first | omega | (dsimp only; omega) | (simp only []; omega)))
      (by intro i e; pointwise; exact blk_k R t (y 0) _ _ _ (by first | omega | (dsimp only; omega) | (simp only []; omega)))
      (by intro i e; pointwise; exact blk_vn R t (y 0) _ _ _ (by first | omega | (dsimp only; omega) | (simp only []; omega)))
      (by intro i; pointwise; exact blk_g R t (y 0) _ _ (by first | omega | (dsimp only; omega) | (simp only []; omega)))
      (by intro i; pointwise; exact blk_gr R t (y 0) _ _ (by first | omega | (dsimp only; omega) | (simp only []; omega)))
      (by intro d e; pointwise; exact blk_S R t (y 0) _ _ _ (by first | omega | (dsimp only; omega) | (simp only []; omega))) _ x

theorem dk_A (hr : t.val % 16 = 0) (y : S8x256x128.Idx) :
    (outsAt0 m c t.val t.isLt).2.2.2.1 y = (((pt A t (y 0)).dk (y 1) (y 2) : ℝ) : EReal) := by
  rw [outsAt0_A m c t hr]; frame_out
  canon_tiles x h
  all_goals
    open_payloads
    have e1 : y 1 = x 1 := Fin.ext h1; have e2 : y 2 = x 2 := Fin.ext h2
    rw [e1, e2]
    exact dk_store (pt A t (y 0))
      (by intro i e; pointwise; exact blk_dO R t (y 0) _ _ _ (by first | omega | (dsimp only; omega) | (simp only []; omega)))
      (by intro i e; pointwise; exact blk_q R t (y 0) _ _ _ (by first | omega | (dsimp only; omega) | (simp only []; omega)))
      (by intro i e; pointwise; exact blk_vn R t (y 0) _ _ _ (by first | omega | (dsimp only; omega) | (simp only []; omega)))
      (by intro i; pointwise; exact blk_g R t (y 0) _ _ (by first | omega | (dsimp only; omega) | (simp only []; omega)))
      (by intro i; pointwise; exact blk_gr R t (y 0) _ _ (by first | omega | (dsimp only; omega) | (simp only []; omega)))
      (by intro d e; rw [View.readCov_fill (h := by decide)]; pointwise [dS_first A t hr]) _ x

theorem dk_B (hr : ¬t.val % 16 = 0)
    (hp : ∀ (h h' : Fin 8) (d e : Fin 128), (h' : ℕ) = h →
      ((outsAt0 m c (t.val - 1) (lt_of_le_of_lt (Nat.sub_le _ _) t.isLt)).2.2.2.2.2.2 : FVec Ideal S8x128x128 .f32) (ix3 h' d e) = (((pt A t h).dS d e : ℝ) : EReal)) (y : S8x256x128.Idx) :
    (outsAt0 m c t.val t.isLt).2.2.2.1 y = (((pt A t (y 0)).dk (y 1) (y 2) : ℝ) : EReal) := by
  rw [outsAt0_B m c t hr]; frame_out
  canon_tiles x h
  all_goals
    open_payloads
    have e1 : y 1 = x 1 := Fin.ext h1; have e2 : y 2 = x 2 := Fin.ext h2
    rw [e1, e2]
    exact dk_store (pt A t (y 0))
      (by intro i e; pointwise; exact blk_dO R t (y 0) _ _ _ (by first | omega | (dsimp only; omega) | (simp only []; omega)))
      (by intro i e; pointwise; exact blk_q R t (y 0) _ _ _ (by first | omega | (dsimp only; omega) | (simp only []; omega)))
      (by intro i e; pointwise; exact blk_vn R t (y 0) _ _ _ (by first | omega | (dsimp only; omega) | (simp only []; omega)))
      (by intro i; pointwise; exact blk_g R t (y 0) _ _ (by first | omega | (dsimp only; omega) | (simp only []; omega)))
      (by intro i; pointwise; exact blk_gr R t (y 0) _ _ (by first | omega | (dsimp only; omega) | (simp only []; omega)))
      (by intro d e; rw [read_unread_whole]; pointwise; exact hp _ _ _ _ (by first | omega | (dsimp only; omega) | (simp only []; omega))) _ x

theorem dcol_A (hr : t.val % 16 = 0) (y : S8x256x1.Idx) :
    (outsAt0 m c t.val t.isLt).2.2.2.2.1 y = (((pt A t (y 0)).dcol (y 1) : ℝ) : EReal) := by
  rw [outsAt0_A m c t hr]; frame_out
  canon_tiles x h
  all_goals
    open_payloads
    have e1 : y 1 = x 1 := Fin.ext h1
    rw [e1]
    exact dcol_store (pt A t (y 0))
      (by intro i e; pointwise; exact blk_dO R t (y 0) _ _ _ (by first | omega | (dsimp only; omega) | (simp only []; omega)))
      (by intro i e; pointwise; exact blk_q R t (y 0) _ _ _ (by first | omega | (dsimp only; omega) | (simp only []; omega)))
      (by intro i e; pointwise; exact blk_k R t (y 0) _ _ _ (by first | omega | (dsimp only; omega) | (simp only []; omega)))
      (by intro i e; pointwise; exact blk_vn R t (y 0) _ _ _ (by first | omega | (dsimp only; omega) | (simp only []; omega)))
      (by intro i; pointwise; exact blk_g R t (y 0) _ _ (by first | omega | (dsimp only; omega) | (simp only []; omega)))
      (by intro i; pointwise; exact blk_gr R t (y 0) _ _ (by first | omega | (dsimp only; omega) | (simp only []; omega)))
      (by intro d e; pointwise; exact blk_S R t (y 0) _ _ _ (by first | omega | (dsimp only; omega) | (simp only []; omega)))
      (by intro d e; rw [View.readCov_fill (h := by decide)]; pointwise [dS_first A t hr]) _ x

theorem dcol_B (hr : ¬t.val % 16 = 0)
    (hp : ∀ (h h' : Fin 8) (d e : Fin 128), (h' : ℕ) = h →
      ((outsAt0 m c (t.val - 1) (lt_of_le_of_lt (Nat.sub_le _ _) t.isLt)).2.2.2.2.2.2 : FVec Ideal S8x128x128 .f32) (ix3 h' d e) = (((pt A t h).dS d e : ℝ) : EReal)) (y : S8x256x1.Idx) :
    (outsAt0 m c t.val t.isLt).2.2.2.2.1 y = (((pt A t (y 0)).dcol (y 1) : ℝ) : EReal) := by
  rw [outsAt0_B m c t hr]; frame_out
  canon_tiles x h
  all_goals
    open_payloads
    have e1 : y 1 = x 1 := Fin.ext h1
    rw [e1]
    exact dcol_store (pt A t (y 0))
      (by intro i e; pointwise; exact blk_dO R t (y 0) _ _ _ (by first | omega | (dsimp only; omega) | (simp only []; omega)))
      (by intro i e; pointwise; exact blk_q R t (y 0) _ _ _ (by first | omega | (dsimp only; omega) | (simp only []; omega)))
      (by intro i e; pointwise; exact blk_k R t (y 0) _ _ _ (by first | omega | (dsimp only; omega) | (simp only []; omega)))
      (by intro i e; pointwise; exact blk_vn R t (y 0) _ _ _ (by first | omega | (dsimp only; omega) | (simp only []; omega)))
      (by intro i; pointwise; exact blk_g R t (y 0) _ _ (by first | omega | (dsimp only; omega) | (simp only []; omega)))
      (by intro i; pointwise; exact blk_gr R t (y 0) _ _ (by first | omega | (dsimp only; omega) | (simp only []; omega)))
      (by intro d e; pointwise; exact blk_S R t (y 0) _ _ _ (by first | omega | (dsimp only; omega) | (simp only []; omega)))
      (by intro d e; rw [read_unread_whole]; pointwise; exact hp _ _ _ _ (by first | omega | (dsimp only; omega) | (simp only []; omega))) _ x

theorem drow_A (hr : t.val % 16 = 0) (y : S8x1x1x256.Idx) :
    (outsAt0 m c t.val t.isLt).2.2.2.2.2.1 y = (((pt A t (y 0)).drow (y 3) : ℝ) : EReal) := by
  rw [outsAt0_A m c t hr]; frame_out
  canon_tiles x h
  all_goals
    open_payloads
    have e3 : y 3 = x 3 := Fin.ext h3
    rw [e3]
    exact drow_store (pt A t (y 0))
      (by intro i e; pointwise; exact blk_dO R t (y 0) _ _ _ (by first | omega | (dsimp only; omega) | (simp only []; omega)))
      (by intro i e; pointwise; exact blk_q R t (y 0) _ _ _ (by first | omega | (dsimp only; omega) | (simp only []; omega)))
      (by intro i e; pointwise; exact blk_k R t (y 0) _ _ _ (by first | omega | (dsimp only; omega) | (simp only []; omega)))
      (by intro i e; pointwise; exact blk_vn R t (y 0) _ _ _ (by first | omega | (dsimp only; omega) | (simp only []; omega)))
      (by intro i; pointwise; exact blk_g R t (y 0) _ _ (by first | omega | (dsimp only; omega) | (simp only []; omega)))
      (by intro i; pointwise; exact blk_gr R t (y 0) _ _ (by first | omega | (dsimp only; omega) | (simp only []; omega))) _ x

theorem drow_B (hr : ¬t.val % 16 = 0)
    (hp : ∀ (h h' : Fin 8) (d e : Fin 128), (h' : ℕ) = h →
      ((outsAt0 m c (t.val - 1) (lt_of_le_of_lt (Nat.sub_le _ _) t.isLt)).2.2.2.2.2.2 : FVec Ideal S8x128x128 .f32) (ix3 h' d e) = (((pt A t h).dS d e : ℝ) : EReal)) (y : S8x1x1x256.Idx) :
    (outsAt0 m c t.val t.isLt).2.2.2.2.2.1 y = (((pt A t (y 0)).drow (y 3) : ℝ) : EReal) := by
  rw [outsAt0_B m c t hr]; frame_out
  canon_tiles x h
  all_goals
    open_payloads
    have e3 : y 3 = x 3 := Fin.ext h3
    rw [e3]
    exact drow_store (pt A t (y 0))
      (by intro i e; pointwise; exact blk_dO R t (y 0) _ _ _ (by first | omega | (dsimp only; omega) | (simp only []; omega)))
      (by intro i e; pointwise; exact blk_q R t (y 0) _ _ _ (by first | omega | (dsimp only; omega) | (simp only []; omega)))
      (by intro i e; pointwise; exact blk_k R t (y 0) _ _ _ (by first | omega | (dsimp only; omega) | (simp only []; omega)))
      (by intro i e; pointwise; exact blk_vn R t (y 0) _ _ _ (by first | omega | (dsimp only; omega) | (simp only []; omega)))
      (by intro i; pointwise; exact blk_g R t (y 0) _ _ (by first | omega | (dsimp only; omega) | (simp only []; omega)))
      (by intro i; pointwise; exact blk_gr R t (y 0) _ _ (by first | omega | (dsimp only; omega) | (simp only []; omega))) _ x

theorem ds_A (hr : t.val % 16 = 0) (y : S8x128x128.Idx) :
    (outsAt0 m c t.val t.isLt).2.2.2.2.2.2 y = (((pt A t (y 0)).dS' (y 1) (y 2) : ℝ) : EReal) := by
  rw [outsAt0_A m c t hr]; frame_out
  refine View.canon_append_of_piecesOf (Val := Elt Ideal) (e := .f32) (fun y : S8x128x128.Idx => (((pt A t (y 0)).dS' (y 1) (y 2) : ℝ) : EReal)) [_] [_, _, _, _, _, _, _, _]
    ⟨?_, ?_, ?_, ?_, ?_, ?_, ?_, ?_, trivial⟩ y ?_
  rotate_right
  · exact View.cover_of_tiled_head _ _ _ (by rfl) y
  all_goals
    refine Cert.Pieces.unit_piece (S := S8x128x128) (fun y : S8x128x128.Idx => (((pt A t (y 0)).dS' (y 1) (y 2) : ℝ) : EReal)) _ _ (by decide) _ ?_
    intro y x h
    have h0 := h 0; have h1 := h 1; have h2 := h 2
    simp only [Matrix.cons_val_zero, Matrix.cons_val_one, Matrix.cons_val, zero_add] at h0 h1 h2
    have x0_lt : (x 0 : ℕ) < 1 := (x 0).isLt
    open_payloads
    have e1 : y 1 = x 1 := Fin.ext h1; have e2 : y 2 = x 2 := Fin.ext h2
    rw [e1, e2]
    exact ds_store (pt A t (y 0))
      (by intro i e; pointwise; exact blk_dO R t (y 0) _ _ _ (by first | omega | (dsimp only; omega) | (simp only []; omega)))
      (by intro i e; pointwise; exact blk_q R t (y 0) _ _ _ (by first | omega | (dsimp only; omega) | (simp only []; omega)))
      (by intro i e; pointwise; exact blk_k R t (y 0) _ _ _ (by first | omega | (dsimp only; omega) | (simp only []; omega)))
      (by intro i e; pointwise; exact blk_w R t (y 0) _ _ _ (by first | omega | (dsimp only; omega) | (simp only []; omega)))
      (by intro i; pointwise; exact blk_g R t (y 0) _ _ (by first | omega | (dsimp only; omega) | (simp only []; omega)))
      (by intro i; pointwise; exact blk_gr R t (y 0) _ _ (by first | omega | (dsimp only; omega) | (simp only []; omega)))
      (by intro d e; rw [View.readCov_fill (h := by decide)]; pointwise [dS_first A t hr]) _ x

theorem ds_B (hr : ¬t.val % 16 = 0)
    (hp : ∀ (h h' : Fin 8) (d e : Fin 128), (h' : ℕ) = h →
      ((outsAt0 m c (t.val - 1) (lt_of_le_of_lt (Nat.sub_le _ _) t.isLt)).2.2.2.2.2.2 : FVec Ideal S8x128x128 .f32) (ix3 h' d e) = (((pt A t h).dS d e : ℝ) : EReal)) (y : S8x128x128.Idx) :
    (outsAt0 m c t.val t.isLt).2.2.2.2.2.2 y = (((pt A t (y 0)).dS' (y 1) (y 2) : ℝ) : EReal) := by
  rw [outsAt0_B m c t hr]; frame_out
  canon_tiles x h
  all_goals
    open_payloads
    have e1 : y 1 = x 1 := Fin.ext h1; have e2 : y 2 = x 2 := Fin.ext h2
    rw [e1, e2]
    exact ds_store (pt A t (y 0))
      (by intro i e; pointwise; exact blk_dO R t (y 0) _ _ _ (by first | omega | (dsimp only; omega) | (simp only []; omega)))
      (by intro i e; pointwise; exact blk_q R t (y 0) _ _ _ (by first | omega | (dsimp only; omega) | (simp only []; omega)))
      (by intro i e; pointwise; exact blk_k R t (y 0) _ _ _ (by first | omega | (dsimp only; omega) | (simp only []; omega)))
      (by intro i e; pointwise; exact blk_w R t (y 0) _ _ _ (by first | omega | (dsimp only; omega) | (simp only []; omega)))
      (by intro i; pointwise; exact blk_g R t (y 0) _ _ (by first | omega | (dsimp only; omega) | (simp only []; omega)))
      (by intro i; pointwise; exact blk_gr R t (y 0) _ _ (by first | omega | (dsimp only; omega) | (simp only []; omega)))
      (by intro d e; rw [read_unread_whole]; pointwise; exact hp _ _ _ _ (by first | omega | (dsimp only; omega) | (simp only []; omega))) _ x

end Cert.KernelIdeal.Tile
end
-- ==== Proof.KernelValue.lean ====
module
public import proofs.«01_k».proof.Proof.KernelPoint
@[expose] public section
set_option maxRecDepth 16384

/-! # The kernel's result arrays -/

noncomputable section
open Idealize.ShloMosaic Idealize.ShloMosaic.TcCoe Idealize.SL.Sem
open Idealize.ShloMosaic.Pipeline (Dat)
namespace Cert.KernelIdeal.Tile
open Cert.KernelIdeal Cert.KernelIdeal.Gen
open Cert.Scan

/-- The point before. -/
def prev (t : Fin cfg0.N) : Fin cfg0.N := ⟨t.val - 1, lt_of_le_of_lt (Nat.sub_le _ _) t.isLt⟩

/-- Within a sequence a point starts from the gradient that the point before left. -/
theorem dS_next (A : Args) (t : Fin cfg0.N) (hr : ¬t.val % 16 = 0) (h : Fin 8) : (pt A t h).dS = (pt A (prev t) h).dS' := by
  have e1 : t.val % 16 = (t.val - 1) % 16 + 1 := by omega
  have e2 : bt t = bt (prev t) := Fin.ext (by simp only [bt, prev]; omega)
  show A.dSrec (bt t) h (t.val % 16) = _
  rw [e1, e2]; rfl

/-- The chunk of a point is the chunk that the backward scan meets there. -/
theorem pt_chunk (A : Args) (t : Fin cfg0.N) (h : Fin 8) : pt A t h = A.chunk (bt t) h (nt t) := by
  have e : 15 - (nt t).val = t.val % 16 := by simp only [nt]; omega
  unfold pt Args.chunk; rw [e]

variable {m : (ℓ : Loc nD τ sig) → Buf (Elt Ideal) ℓ} {c : Dev nD} {A : Args} (R : Reads m c A)
include R

/-- The scratch after every point. -/
theorem scratch : ∀ (n : ℕ) (hn : n < cfg0.N) (y : S8x128x128.Idx),
    (outsAt0 m c n hn).2.2.2.2.2.2 y = (((pt A ⟨n, hn⟩ (y 0)).dS' (y 1) (y 2) : ℝ) : EReal) := by
  intro n
  induction n with
  | zero => intro hn y; exact ds_A R ⟨0, hn⟩ rfl y
  | succ n ih =>
    intro hn y
    by_cases hr : (n + 1) % 16 = 0
    · exact ds_A R ⟨n + 1, hn⟩ hr y
    · refine ds_B R ⟨n + 1, hn⟩ hr (fun h h' d e hh => ?_) y
      obtain rfl : h' = h := Fin.ext hh
      rw [dS_next A ⟨n + 1, hn⟩ hr h']
      exact ih _ _

/-- What a point that is not the first of its sequence finds in the scratch. -/
theorem carried (t : Fin cfg0.N) (hr : ¬t.val % 16 = 0) (h h' : Fin 8) (d e : Fin 128) (hh : (h' : ℕ) = h) :
    ((outsAt0 m c (t.val - 1) (lt_of_le_of_lt (Nat.sub_le _ _) t.isLt)).2.2.2.2.2.2 : FVec Ideal S8x128x128 .f32) (ix3 h' d e) = (((pt A t h).dS d e : ℝ) : EReal) := by
  obtain rfl : h' = h := Fin.ext hh
  rw [dS_next A t hr h']
  exact scratch R _ _ _

theorem du_at (t : Fin cfg0.N) (y : S8x256x128.Idx) : (outsAt0 m c t.val t.isLt).1 y = (((A.chunk (bt t) (y 0) (nt t)).du (y 1) (y 2) : ℝ) : EReal) := by
  refine Eq.trans ?_ (congrArg (fun T : Tile => ((T.du (y 1) (y 2) : ℝ) : EReal)) (pt_chunk A t (y 0)))
  by_cases hr : t.val % 16 = 0
  · exact du_A R t hr y
  · exact du_B R t hr (carried R t hr) y

/-- The array of `du`. -/
theorem du_array : (dats m 0 c).arrAt 8 cfg0.N = fun i : S16x4096x128.Idx => ((A.at3 Tile.du (i 0) (i 1) (i 2) : ℝ) : EReal) := by
  refine (dats m 0 c).arrAt_eq_of_covers 8 _ (by decide +kernel) fun t hf y => ?_
  blk_simp
  rw [after0_8]
  refine (du_at R t y).trans (congrArg _ (Args.at3_eq A _ _ _ _ _ _ _ _ _ ?_ ?_ ?_).symm)
  all_goals (blk_simp [idx t, bt, nt] <;> try omega)

theorem dw_at (t : Fin cfg0.N) (y : S8x256x128.Idx) : (outsAt0 m c t.val t.isLt).2.1 y = (((A.chunk (bt t) (y 0) (nt t)).dw (y 1) (y 2) : ℝ) : EReal) := by
  refine Eq.trans ?_ (congrArg (fun T : Tile => ((T.dw (y 1) (y 2) : ℝ) : EReal)) (pt_chunk A t (y 0)))
  by_cases hr : t.val % 16 = 0
  · exact dw_A R t hr y
  · exact dw_B R t hr (carried R t hr) y

/-- The array of `dw`. -/
theorem dw_array : (dats m 0 c).arrAt 9 cfg0.N = fun i : S16x4096x128.Idx => ((A.at3 Tile.dw (i 0) (i 1) (i 2) : ℝ) : EReal) := by
  refine (dats m 0 c).arrAt_eq_of_covers 9 _ (by decide +kernel) fun t hf y => ?_
  blk_simp
  rw [after0_9]
  refine (dw_at R t y).trans (congrArg _ (Args.at3_eq A _ _ _ _ _ _ _ _ _ ?_ ?_ ?_).symm)
  all_goals (blk_simp [idx t, bt, nt] <;> try omega)

theorem dq_at (t : Fin cfg0.N) (y : S8x256x128.Idx) : (outsAt0 m c t.val t.isLt).2.2.1 y = (((A.chunk (bt t) (y 0) (nt t)).dq (y 1) (y 2) : ℝ) : EReal) := by
  refine Eq.trans ?_ (congrArg (fun T : Tile => ((T.dq (y 1) (y 2) : ℝ) : EReal)) (pt_chunk A t (y 0)))
  by_cases hr : t.val % 16 = 0
  · exact dq_A R t hr y
  · exact dq_B R t hr (carried R t hr) y

/-- The array of `dq`. -/
theorem dq_array : (dats m 0 c).arrAt 10 cfg0.N = fun i : S16x4096x128.Idx => ((A.at3 Tile.dq (i 0) (i 1) (i 2) : ℝ) : EReal) := by
  refine (dats m 0 c).arrAt_eq_of_covers 10 _ (by decide +kernel) fun t hf y => ?_
  blk_simp
  rw [after0_10]
  refine (dq_at R t y).trans (congrArg _ (Args.at3_eq A _ _ _ _ _ _ _ _ _ ?_ ?_ ?_).symm)
  all_goals (blk_simp [idx t, bt, nt] <;> try omega)

theorem dk_at (t : Fin cfg0.N) (y : S8x256x128.Idx) : (outsAt0 m c t.val t.isLt).2.2.2.1 y = (((A.chunk (bt t) (y 0) (nt t)).dk (y 1) (y 2) : ℝ) : EReal) := by
  refine Eq.trans ?_ (congrArg (fun T : Tile => ((T.dk (y 1) (y 2) : ℝ) : EReal)) (pt_chunk A t (y 0)))
  by_cases hr : t.val % 16 = 0
  · exact dk_A R t hr y
  · exact dk_B R t hr (carried R t hr) y

/-- The array of `dk`. -/
theorem dk_array : (dats m 0 c).arrAt 11 cfg0.N = fun i : S16x4096x128.Idx => ((A.at3 Tile.dk (i 0) (i 1) (i 2) : ℝ) : EReal) := by
  refine (dats m 0 c).arrAt_eq_of_covers 11 _ (by decide +kernel) fun t hf y => ?_
  blk_simp
  rw [after0_11]
  refine (dk_at R t y).trans (congrArg _ (Args.at3_eq A _ _ _ _ _ _ _ _ _ ?_ ?_ ?_).symm)
  all_goals (blk_simp [idx t, bt, nt] <;> try omega)

theorem dcol_at (t : Fin cfg0.N) (y : S8x256x1.Idx) : (outsAt0 m c t.val t.isLt).2.2.2.2.1 y = (((A.chunk (bt t) (y 0) (nt t)).dcol (y 1) : ℝ) : EReal) := by
  refine Eq.trans ?_ (congrArg (fun T : Tile => ((T.dcol (y 1) : ℝ) : EReal)) (pt_chunk A t (y 0)))
  by_cases hr : t.val % 16 = 0
  · exact dcol_A R t hr y
  · exact dcol_B R t hr (carried R t hr) y

/-- The array of `dcol`. -/
theorem dcol_array : (dats m 0 c).arrAt 12 cfg0.N = fun i : S16x4096x1.Idx => ((A.at2 Tile.dcol (i 0) (i 1) : ℝ) : EReal) := by
  refine (dats m 0 c).arrAt_eq_of_covers 12 _ (by decide +kernel) fun t hf y => ?_
  blk_simp
  rw [after0_12]
  refine (dcol_at R t y).trans (congrArg _ (Args.at2_eq A _ _ _ _ _ _ _ ?_ ?_).symm)
  all_goals (blk_simp [idx t, bt, nt] <;> try omega)

theorem drow_at (t : Fin cfg0.N) (y : S8x1x1x256.Idx) : (outsAt0 m c t.val t.isLt).2.2.2.2.2.1 y = (((A.chunk (bt t) (y 0) (nt t)).drow (y 3) : ℝ) : EReal) := by
  refine Eq.trans ?_ (congrArg (fun T : Tile => ((T.drow (y 3) : ℝ) : EReal)) (pt_chunk A t (y 0)))
  by_cases hr : t.val % 16 = 0
  · exact drow_A R t hr y
  · exact drow_B R t hr (carried R t hr) y

/-- The array of `drow`. -/
theorem drow_array : (dats m 0 c).arrAt 13 cfg0.N = fun i : S16x16x1x256.Idx => ((A.atRow Tile.drow (i 0) (i 1) (i 3) : ℝ) : EReal) := by
  refine (dats m 0 c).arrAt_eq_of_covers 13 _ (by decide +kernel) fun t hf y => ?_
  blk_simp
  rw [after0_13]
  refine (drow_at R t y).trans (congrArg _ (Args.atRow_eq A _ _ _ _ _ _ _ _ ?_ ?_ ?_).symm)
  all_goals (blk_simp [idx t, bt, nt] <;> try omega)

end Cert.KernelIdeal.Tile
end
-- ==== Proof.ReferenceEntry.lean ====
module
public import proofs.«01_k».proof.Proof.Gen.ReferenceIdeal.Run
public import proofs.«01_k».proof.Proof.Model
public import Idealize.ShloMosaic.Lib.Pipeline.ValueKit
public import Idealize.ShloMosaic.Lib.Pointwise
public import Idealize.ShloMosaic.Lib.Claim
@[expose] public section
set_option maxRecDepth 16384

/-! # What the reference's loop starts from

The arrays that the reverse scan goes through, and the arrays it fills, at the loop's entry. -/

noncomputable section
open Idealize.ShloMosaic Idealize.ShloMosaic.TcCoe Idealize.SL.Sem
namespace Cert.ReferenceIdeal.Scan
open Cert.ReferenceIdeal Cert.ReferenceIdeal.Gen Cert.ReferenceIdeal.Value
open Idealize.ShloMosaic.StableHlo Idealize.ShloMosaic.Tactic
open Cert.Scan

/-- The argument arrays hold the real numbers `A`. -/
structure Reads (m : (ℓ : Loc nD τ sig) → Buf (Elt Ideal) ℓ) (c : Dev nD) (A : Args) : Prop where
  dO : ∀ (i : Fin 8192) (j : Fin 1024), (m ((c : Thread nD τ).loc main_arg0) : FVec Ideal S8192x1024 .f32) (ix2 i j) = (A.dO i j : EReal)
  qkv : ∀ (i : Fin 8192) (j : Fin 3072), (m ((c : Thread nD τ).loc main_arg1) : FVec Ideal S8192x3072 .f32) (ix2 i j) = (A.qkv i j : EReal)
  u : ∀ (i : Fin 16) (j : Fin 4096) (l : Fin 128), (m ((c : Thread nD τ).loc main_arg2) : FVec Ideal S16x4096x128 .f32) (ix3 i j l) = (A.u i j l : EReal)
  w : ∀ (i : Fin 16) (j : Fin 4096) (l : Fin 128), (m ((c : Thread nD τ).loc main_arg3) : FVec Ideal S16x4096x128 .bf16) (ix3 i j l) = (A.w i j l : EReal)
  cols : ∀ (i : Fin 8192) (j : Fin 128), (m ((c : Thread nD τ).loc main_arg4) : FVec Ideal S8192x128 .f32) (ix2 i j) = (A.cols i j : EReal)
  grow : ∀ (i j : Fin 16) (l : Fin 256), (m ((c : Thread nD τ).loc main_arg5) : FVec Ideal S16x16x1x256 .f32) (ix4 i j (0 : Fin 1) l) = (A.grow i j l : EReal)
  ss : ∀ (i : Fin 16) (j : Fin 2048) (l : Fin 128), (m ((c : Thread nD τ).loc main_arg6) : FVec Ideal S16x2048x128 .bf16) (ix3 i j l) = (A.ss i j l : EReal)

/-- The state of the loop before trip `k`, its carried arrays as real numbers; what the result arrays hold of the chunks not yet gone through is left open. -/
structure At (A : Args) (k : ℕ) (V : Valuation τ sig (Elt Ideal)) : Prop where
  ctr : (V (Proc.devRef .tc main_v28_8) : Vec Ideal S_ .i32) = fun _ => BitVec.ofNat 32 k
  dO : ∀ (n : Fin 16) (b : Fin 2) (h : Fin 8) (c : Fin 256) (d : Fin 128), (V (Proc.devRef .tc main_v28_0) : FVec Ideal S16x2x8x256x128 .f32) (ix5 n b h c d) = ((A.chunk b h n).dO c d : EReal)
  S : ∀ (n : Fin 16) (b : Fin 2) (h : Fin 8) (c d : Fin 128), (V (Proc.devRef .tc main_v28_1) : FVec Ideal S16x2x8x128x128 .f32) (ix5 n b h c d) = ((A.chunk b h n).S c d : EReal)
  q : ∀ (n : Fin 16) (b : Fin 2) (h : Fin 8) (c : Fin 256) (d : Fin 128), (V (Proc.devRef .tc main_v28_2) : FVec Ideal S16x2x8x256x128 .f32) (ix5 n b h c d) = ((A.chunk b h n).q c d : EReal)
  ke : ∀ (n : Fin 16) (b : Fin 2) (h : Fin 8) (c : Fin 256) (d : Fin 128), (V (Proc.devRef .tc main_v28_3) : FVec Ideal S16x2x8x256x128 .f32) (ix5 n b h c d) = ((A.chunk b h n).k c d : EReal)
  u : ∀ (n : Fin 16) (b : Fin 2) (h : Fin 8) (c : Fin 256) (d : Fin 128), (V (Proc.devRef .tc main_v28_4) : FVec Ideal S16x2x8x256x128 .f32) (ix5 n b h c d) = (A.u (Args.bh b h) (Args.pos n c) d : EReal)
  w : ∀ (n : Fin 16) (b : Fin 2) (h : Fin 8) (c : Fin 256) (d : Fin 128), (V (Proc.devRef .tc main_v28_5) : FVec Ideal S16x2x8x256x128 .f32) (ix5 n b h c d) = ((A.chunk b h n).w c d : EReal)
  g : ∀ (n : Fin 16) (b : Fin 2) (h : Fin 8) (c : Fin 256), (V (Proc.devRef .tc main_v28_6) : FVec Ideal S16x2x8x256 .f32) (ix4 n b h c) = ((A.chunk b h n).g c : EReal)
  gr : ∀ (n : Fin 16) (b : Fin 2) (h : Fin 8) (c : Fin 256), (V (Proc.devRef .tc main_v28_7) : FVec Ideal S16x2x8x256 .f32) (ix4 n b h c) = ((A.chunk b h n).gr c : EReal)
  dS : ∀ (b : Fin 2) (h : Fin 8) (d e : Fin 128), (V (Proc.devRef .tc main_v28_9) : FVec Ideal S2x8x128x128 .f32) (ix4 b h d e) = (A.dSrec b h k d e : EReal)
  dq : ∀ (n : Fin 16) (b : Fin 2) (h : Fin 8) (c : Fin 256) (d : Fin 128), 16 ≤ n.val + k → (V (Proc.devRef .tc main_v28_10) : FVec Ideal S16x2x8x256x128 .f32) (ix5 n b h c d) = ((A.chunk b h n).dq c d : EReal)
  dk : ∀ (n : Fin 16) (b : Fin 2) (h : Fin 8) (c : Fin 256) (d : Fin 128), 16 ≤ n.val + k → (V (Proc.devRef .tc main_v28_11) : FVec Ideal S16x2x8x256x128 .f32) (ix5 n b h c d) = ((A.chunk b h n).dk c d : EReal)
  du : ∀ (n : Fin 16) (b : Fin 2) (h : Fin 8) (c : Fin 256) (d : Fin 128), 16 ≤ n.val + k → (V (Proc.devRef .tc main_v28_12) : FVec Ideal S16x2x8x256x128 .f32) (ix5 n b h c d) = ((A.chunk b h n).du c d : EReal)
  dw : ∀ (n : Fin 16) (b : Fin 2) (h : Fin 8) (c : Fin 256) (d : Fin 128), 16 ≤ n.val + k → (V (Proc.devRef .tc main_v28_13) : FVec Ideal S16x2x8x256x128 .f32) (ix5 n b h c d) = ((A.chunk b h n).dw c d : EReal)
  dcol : ∀ (n : Fin 16) (b : Fin 2) (h : Fin 8) (c : Fin 256), 16 ≤ n.val + k → (V (Proc.devRef .tc main_v28_14) : FVec Ideal S16x2x8x256 .f32) (ix4 n b h c) = ((A.chunk b h n).dcol c : EReal)
  drow : ∀ (n : Fin 16) (b : Fin 2) (h : Fin 8) (c : Fin 256), 16 ≤ n.val + k → (V (Proc.devRef .tc main_v28_15) : FVec Ideal S16x2x8x256 .f32) (ix4 n b h c) = ((A.chunk b h n).drow c : EReal)

variable {m : (ℓ : Loc nD τ sig) → Buf (Elt Ideal) ℓ} {c : Dev nD} {A : Args}

/-- The loop's entry. -/
theorem entry (R : Reads m c A) : At A 0 (entryContents preI m c) := by
  constructor
  · exact ctr_entry m c
  all_goals
    intros
    first
    | (exfalso; omega)
    | simp only [entryContents, afterL_cons, afterL_nil]
      after_reads_simp
      simp only [id_eq]
      pointwise
  · exact R.dO _ _
  · exact R.ss _ _ _
  · exact R.qkv _ _
  · exact R.qkv _ _
  · exact R.u _ _ _
  · exact R.w _ _ _
  · exact R.cols _ _
  · exact R.grow _ _ _
  · exact rfl

end Cert.ReferenceIdeal.Scan
end
-- ==== Proof.ReferenceSlices.lean ====
module
public import proofs.«01_k».proof.Proof.ReferenceEntry
public import Idealize.ShloMosaic.Lib.WordCmp
@[expose] public section
set_option maxRecDepth 16384

/-! # The loop's slices

Trip `k` reads block `15 - k` of the arrays it goes through, and writes that block of the arrays it fills. -/

noncomputable section
open Idealize.ShloMosaic Idealize.ShloMosaic.TcCoe Idealize.SL.Sem
namespace Cert.ReferenceIdeal.Scan
open Cert.ReferenceIdeal Cert.ReferenceIdeal.Gen Cert.ReferenceIdeal.Value
open Cert.Scan

/-- The chunk that trip `k` works on. -/
def nk (k : ℕ) : Fin 16 := ⟨15 - k, by omega⟩

/-- The starts of the slices of an array of rank 5. -/
def st5 (k : ℕ) (j : Fin 5) : ℤ :=
  (((![fun _ => BitVec.ofNat 32 (15 - k), constantI S_ 32 0#32, constantI S_ 32 0#32, constantI S_ 32 0#32, constantI S_ 32 0#32] : Fin 5 → (⟨S_, .i32⟩ : BufTy).Contents (Elt Ideal))) j (Shape.Idx.first h_S_)).toInt
/-- The starts of the slices of an array of rank 4. -/
def st4 (k : ℕ) (j : Fin 4) : ℤ :=
  (((![fun _ => BitVec.ofNat 32 (15 - k), constantI S_ 32 0#32, constantI S_ 32 0#32, constantI S_ 32 0#32] : Fin 4 → (⟨S_, .i32⟩ : BufTy).Contents (Elt Ideal))) j (Shape.Idx.first h_S_)).toInt

theorem word_toInt (k : ℕ) : (BitVec.ofNat 32 (15 - k)).toInt = ((15 - k : ℕ) : ℤ) := by
  have h : ∀ n : Fin 16, (BitVec.ofNat 32 n.val).toInt = (n.val : ℤ) := by decide
  exact h ⟨15 - k, by omega⟩

theorem st5_eq (k : ℕ) : ∀ j, st5 k j = ((![15 - k, 0, 0, 0, 0] : Fin 5 → ℕ) j : ℤ) := by
  intro j; fin_cases j
  · exact word_toInt k
  all_goals rfl
theorem st4_eq (k : ℕ) : ∀ j, st4 k j = ((![15 - k, 0, 0, 0] : Fin 4 → ℕ) j : ℤ) := by
  intro j; fin_cases j
  · exact word_toInt k
  all_goals rfl

variable (k : ℕ)

theorem rows_fits : S16x2x8x256x128.Slices ![15 - k, 0, 0, 0, 0] S1x2x8x256x128 :=
  ⟨rfl, fun a => by fin_cases a <;> simp [Shape.size] <;> omega⟩

/-- Block `15 - k`, read. -/
theorem rows_read (x : FVec Ideal S16x2x8x256x128 .f32) (b : Fin 2) (h : Fin 8) (i : Fin 256) (d : Fin 128) :
    shapeCast S2x8x256x128 (Host.dynamicSlice S1x2x8x256x128 x (st5 k) sliceFits_S16x2x8x256x128_S1x2x8x256x128) shapeCasts_S1x2x8x256x128_S2x8x256x128 (ix4 b h i d) = x (ix5 (nk k) b h i d) := by
  rw [Idealize.ShloMosaic.WordCmp.dynamicSlice_eq_extract _ _ _ _ _ (rows_fits k) (st5_eq k)]
  pointwise
  blk_ext [nk]

/-- Block `15 - k`, written. -/
theorem rows_write (x : FVec Ideal S16x2x8x256x128 .f32) (y : FVec Ideal S2x8x256x128 .f32) (n : Fin 16) (b : Fin 2) (h : Fin 8) (i : Fin 256) (d : Fin 128) :
    Host.dynamicUpdateSlice x (broadcastInDim S1x2x8x256x128 ![1, 2, 3, 4] bcast_S2x8x256x128_S1x2x8x256x128_1_2_3_4 y) (st5 k) updateFits_S16x2x8x256x128_S1x2x8x256x128 (ix5 n b h i d)
      = if n = nk k then y (ix4 b h i d) else x (ix5 n b h i d) := by
  rw [Idealize.ShloMosaic.WordCmp.dynamicUpdateSlice_eq_update _ _ _ _ _ (rows_fits k) (st5_eq k)]
  pointwise
  by_cases hn : n = nk k
  · subst hn
    rw [dif_pos (by simp only [nk]; omega), if_pos rfl]
  · rw [dif_neg fun hc => hn (Fin.ext (by simp only [nk]; omega)), if_neg hn]

theorem state_fits : S16x2x8x128x128.Slices ![15 - k, 0, 0, 0, 0] S1x2x8x128x128 :=
  ⟨rfl, fun a => by fin_cases a <;> simp [Shape.size] <;> omega⟩

/-- Block `15 - k`, read. -/
theorem state_read (x : FVec Ideal S16x2x8x128x128 .f32) (b : Fin 2) (h : Fin 8) (i d : Fin 128) :
    shapeCast S2x8x128x128 (Host.dynamicSlice S1x2x8x128x128 x (st5 k) sliceFits_S16x2x8x128x128_S1x2x8x128x128) shapeCasts_S1x2x8x128x128_S2x8x128x128 (ix4 b h i d) = x (ix5 (nk k) b h i d) := by
  rw [Idealize.ShloMosaic.WordCmp.dynamicSlice_eq_extract _ _ _ _ _ (state_fits k) (st5_eq k)]
  pointwise
  blk_ext [nk]

theorem gate_fits : S16x2x8x256.Slices ![15 - k, 0, 0, 0] S1x2x8x256 :=
  ⟨rfl, fun a => by fin_cases a <;> simp [Shape.size] <;> omega⟩

/-- Block `15 - k`, read. -/
theorem gate_read (x : FVec Ideal S16x2x8x256 .f32) (b : Fin 2) (h : Fin 8) (i : Fin 256) :
    shapeCast S2x8x256 (Host.dynamicSlice S1x2x8x256 x (st4 k) sliceFits_S16x2x8x256_S1x2x8x256) shapeCasts_S1x2x8x256_S2x8x256 (ix3 b h i) = x (ix4 (nk k) b h i) := by
  rw [Idealize.ShloMosaic.WordCmp.dynamicSlice_eq_extract _ _ _ _ _ (gate_fits k) (st4_eq k)]
  pointwise
  blk_ext [nk]

/-- Block `15 - k`, written. -/
theorem gate_write (x : FVec Ideal S16x2x8x256 .f32) (y : FVec Ideal S2x8x256 .f32) (n : Fin 16) (b : Fin 2) (h : Fin 8) (i : Fin 256) :
    Host.dynamicUpdateSlice x (broadcastInDim S1x2x8x256 ![1, 2, 3] bcast_S2x8x256_S1x2x8x256_1_2_3 y) (st4 k) updateFits_S16x2x8x256_S1x2x8x256 (ix4 n b h i)
      = if n = nk k then y (ix3 b h i) else x (ix4 n b h i) := by
  rw [Idealize.ShloMosaic.WordCmp.dynamicUpdateSlice_eq_update _ _ _ _ _ (gate_fits k) (st4_eq k)]
  pointwise
  by_cases hn : n = nk k
  · subst hn
    rw [dif_pos (by simp only [nk]; omega), if_pos rfl]
  · rw [dif_neg fun hc => hn (Fin.ext (by simp only [nk]; omega)), if_neg hn]

end Cert.ReferenceIdeal.Scan
end
-- ==== Proof.ReferenceTrip.lean ====
module
public import proofs.«01_k».proof.Proof.ReferenceSlices
@[expose] public section
set_option maxRecDepth 16384

/-! # One trip of the reference's loop

What every array of a trip holds: the lines of the chunk, then the lines of its transpose, as real numbers. -/

noncomputable section
open Idealize.ShloMosaic Idealize.ShloMosaic.TcCoe Idealize.SL.Sem
namespace Cert.ReferenceIdeal.Scan
open Cert.ReferenceIdeal Cert.ReferenceIdeal.Gen Cert.ReferenceIdeal.Value
open Cert.Scan

/-- The chunk that trip `k` works on, for one head. -/
def tl (A : Args) (k : ℕ) (b : Fin 2) (h : Fin 8) : Tile := A.chunk b h (nk k)

/-- The gradient that trip `k` starts from is its chunk's. -/
theorem tl_dS (A : Args) {k : ℕ} (hk : k < 16) (b : Fin 2) (h : Fin 8) : (tl A k b h).dS = A.dSrec b h k := by
  show A.dSrec b h (15 - (15 - k)) = _
  rw [show 15 - (15 - k) = k by omega]

/-- The mask: the exponential of minus infinity is zero. -/
theorem exp_mask (i j : Fin 256) (a : ℝ) :
    Ideal.exp (Scalar.select (IntOp.cmpi CmpIPredicate.sge (BitVec.ofNat 32 ↑i) (BitVec.ofNat 32 ↑j)) (a : EReal) (Ideal.ofBits FTy.f32 4286578688#32))
      = ((if j ≤ i then Real.exp a else 0 : ℝ) : EReal) := by
  have hm : (Ideal.ofBits FTy.f32 4286578688#32 : EReal) = ⊥ := by first | rfl | decide | simp [Ideal.ofBits]
  rw [hm]
  have hi := i.isLt
  have hj := j.isLt
  word_cmp
  by_cases h : j ≤ i
  · rw [if_pos h, if_pos (by first | exact h | omega)]; rfl
  · rw [if_neg h, if_neg (by first | exact h | omega)]; rfl

variable {A : Args} {k : ℕ} {V : Valuation τ sig (Elt Ideal)} (H : At A k V) (hk : k < 16)
include H hk

theorem v42_eq : (res_main_while0b_v42 V : Vec Ideal S_ .i32) = fun _ => BitVec.ofNat 32 (15 - k) := by
  unfold res_main_while0b_v42
  rw [H.ctr]
  funext i
  show 16#32 - BitVec.ofNat 32 k - 1#32 = _
  interval_cases k <;> rfl

/-! ## The chunk's arrays -/

theorem dO_at (b : Fin 2) (h : Fin 8) (i : Fin 256) (d : Fin 128) : (res_main_while0b_v43 V : FVec Ideal S2x8x256x128 .f32) (ix4 b h i d) = (((tl A k b h).dO i d : ℝ) : EReal) := by
  unfold res_main_while0b_v43
  rw [v42_eq H hk]
  exact (rows_read k _ b h i d).trans (H.dO (nk k) b h i d)

theorem S_at (b : Fin 2) (h : Fin 8) (i d : Fin 128) : (res_main_while0b_v44 V : FVec Ideal S2x8x128x128 .f32) (ix4 b h i d) = (((tl A k b h).S i d : ℝ) : EReal) := by
  unfold res_main_while0b_v44
  rw [v42_eq H hk]
  exact (state_read k _ b h i d).trans (H.S (nk k) b h i d)

theorem q_at (b : Fin 2) (h : Fin 8) (i : Fin 256) (d : Fin 128) : (res_main_while0b_v45 V : FVec Ideal S2x8x256x128 .f32) (ix4 b h i d) = (((tl A k b h).q i d : ℝ) : EReal) := by
  unfold res_main_while0b_v45
  rw [v42_eq H hk]
  exact (rows_read k _ b h i d).trans (H.q (nk k) b h i d)

theorem k_at (b : Fin 2) (h : Fin 8) (i : Fin 256) (d : Fin 128) : (res_main_while0b_v46 V : FVec Ideal S2x8x256x128 .f32) (ix4 b h i d) = (((tl A k b h).k i d : ℝ) : EReal) := by
  unfold res_main_while0b_v46
  rw [v42_eq H hk]
  exact (rows_read k _ b h i d).trans (H.ke (nk k) b h i d)

theorem w_at (b : Fin 2) (h : Fin 8) (i : Fin 256) (d : Fin 128) : (res_main_while0b_v48 V : FVec Ideal S2x8x256x128 .f32) (ix4 b h i d) = (((tl A k b h).w i d : ℝ) : EReal) := by
  unfold res_main_while0b_v48
  rw [v42_eq H hk]
  exact (rows_read k _ b h i d).trans (H.w (nk k) b h i d)

theorem g_at (b : Fin 2) (h : Fin 8) (i : Fin 256) : (res_main_while0b_v49 V : FVec Ideal S2x8x256 .f32) (ix3 b h i) = (((tl A k b h).g i : ℝ) : EReal) := by
  unfold res_main_while0b_v49
  rw [v42_eq H hk]
  exact (gate_read k _ b h i).trans (H.g (nk k) b h i)

/-! ## The lines of the chunk -/

theorem gr_at (b : Fin 2) (h : Fin 8) (i : Fin 256) : (shapeCast S2x8x256 (Host.dynamicSlice S1x2x8x256 (V (Proc.devRef .tc main_v28_7) : FVec Ideal S16x2x8x256 .f32) (st4 k) sliceFits_S16x2x8x256_S1x2x8x256) shapeCasts_S1x2x8x256_S2x8x256) (ix3 b h i) = (((tl A k b h).gr i : ℝ) : EReal) :=
  (gate_read k _ b h i).trans (H.gr (nk k) b h i)

theorem decay_core (gr : FVec Ideal S2x8x256 .f32) (hgr : ∀ (b : Fin 2) (h : Fin 8) (i : Fin 256), gr (ix3 b h i) = (((tl A k b h).gr i : ℝ) : EReal))
    (b : Fin 2) (h : Fin 8) (i j : Fin 256) :
    (Host.exp (select (res_main_while0b_v62_1 V) (subf (broadcastInDim S2x8x256x256 ![0, 1, 2, 3] bcast_S2x8x256x1_S2x8x256x256_0_1_2_3 (broadcastInDim S2x8x256x1 ![0, 1, 2] bcast_S2x8x256_S2x8x256x1_0_1_2 (res_main_while0b_v49 V)))
        (broadcastInDim S2x8x256x256 ![0, 1, 2, 3] bcast_S2x8x1x256_S2x8x256x256_0_1_2_3 (broadcastInDim S2x8x1x256 ![0, 1, 3] bcast_S2x8x256_S2x8x1x256_0_1_3 gr)))
      (broadcastInDim S2x8x256x256 ![] bcast_S_S2x8x256x256 (constant S_ .f32 0xFF800000#32))) : FVec Ideal S2x8x256x256 .f32) (ix4 b h i j) = (((tl A k b h).decay i j : ℝ) : EReal) := by
  pointwise [res_main_while0b_v62_1, res_main_while0b_v51, g_at H hk, hgr]
  simp only [← EReal.coe_sub, ← EReal.coe_mul, ← EReal.coe_add, ← EReal.coe_neg, zero_sub, zero_add, Ideal.exp_coe, coe_sum, Fintype.sum_unique, exp_mask] <;> rfl

theorem decay_at (b : Fin 2) (h : Fin 8) (i j : Fin 256) : (res_main_while0b_v63 V : FVec Ideal S2x8x256x256 .f32) (ix4 b h i j) = (((tl A k b h).decay i j : ℝ) : EReal) := by
  unfold res_main_while0b_v63
  rw [v42_eq H hk]
  exact decay_core H hk _ (gr_at H hk) b h i j

theorem qk_at (b : Fin 2) (h : Fin 8) (i j : Fin 256) : (res_main_while0b_v64 V : FVec Ideal S2x8x256x256 .f32) (ix4 b h i j) = (((tl A k b h).qk i j : ℝ) : EReal) := by
  pointwise [res_main_while0b_v64, q_at H hk, k_at H hk]
  simp only [← EReal.coe_sub, ← EReal.coe_mul, ← EReal.coe_add, ← EReal.coe_neg, zero_sub, zero_add, Ideal.exp_coe, coe_sum, Fintype.sum_unique, exp_mask] <;> rfl

theorem qkd_at (b : Fin 2) (h : Fin 8) (i j : Fin 256) : (res_main_while0b_v65 V : FVec Ideal S2x8x256x256 .f32) (ix4 b h i j) = (((tl A k b h).qk i j * (tl A k b h).decay i j : ℝ) : EReal) := by
  pointwise [res_main_while0b_v65, qk_at H hk, decay_at H hk]
  simp only [← EReal.coe_sub, ← EReal.coe_mul, ← EReal.coe_add, ← EReal.coe_neg, zero_sub, zero_add, Ideal.exp_coe, coe_sum, Fintype.sum_unique, exp_mask] <;> rfl

theorem vn_core (u : FVec Ideal S2x8x256x128 .f32) (hu : ∀ (b : Fin 2) (h : Fin 8) (i : Fin 256) (d : Fin 128), u (ix4 b h i d) = (A.u (Args.bh b h) (Args.pos (nk k) i) d : EReal))
    (b : Fin 2) (h : Fin 8) (i : Fin 256) (d : Fin 128) :
    (subf u (Host.dotGeneral (φ₁ := .bf16) (φ₂ := .bf16) dot_S2x8x256x128_S2x8x128x128_S2x8x256x128_3_2_2_3_01_01 none (res_main_while0b_v48 V) (res_main_while0b_v44 V)) : FVec Ideal S2x8x256x128 .f32) (ix4 b h i d) = (((tl A k b h).vn i d : ℝ) : EReal) := by
  pointwise [hu, w_at H hk, S_at H hk]
  simp only [← EReal.coe_sub, ← EReal.coe_mul, ← EReal.coe_add, ← EReal.coe_neg, zero_sub, zero_add, Ideal.exp_coe, coe_sum, Fintype.sum_unique, exp_mask] <;> rfl

theorem vn_at (b : Fin 2) (h : Fin 8) (i : Fin 256) (d : Fin 128) : (res_main_while0b_v67 V : FVec Ideal S2x8x256x128 .f32) (ix4 b h i d) = (((tl A k b h).vn i d : ℝ) : EReal) := by
  unfold res_main_while0b_v67
  rw [v42_eq H hk]
  exact vn_core H hk _ (fun b h i d => (rows_read k _ b h i d).trans (H.u (nk k) b h i d)) b h i d

theorem eg_at (b : Fin 2) (h : Fin 8) (i : Fin 256) : (res_main_while0b_v68 V : FVec Ideal S2x8x256 .f32) (ix3 b h i) = ((Real.exp ((tl A k b h).g i) : ℝ) : EReal) := by
  pointwise [res_main_while0b_v68, g_at H hk]
  simp only [← EReal.coe_sub, ← EReal.coe_mul, ← EReal.coe_add, ← EReal.coe_neg, zero_sub, zero_add, Ideal.exp_coe, coe_sum, Fintype.sum_unique, exp_mask] <;> rfl

theorem eg1_at (b : Fin 2) (h : Fin 8) (i : Fin 256) : (res_main_while0b_v69 V : FVec Ideal S2x8x256x1 .f32) (ix4 b h i (0 : Fin 1)) = ((Real.exp ((tl A k b h).g i) : ℝ) : EReal) := by
  pointwise [res_main_while0b_v69, eg_at H hk]

theorem qg_at (b : Fin 2) (h : Fin 8) (i : Fin 256) (d : Fin 128) : (res_main_while0b_v71 V : FVec Ideal S2x8x256x128 .f32) (ix4 b h i d) = (((tl A k b h).q i d * Real.exp ((tl A k b h).g i) : ℝ) : EReal) := by
  pointwise [res_main_while0b_v71, q_at H hk, eg1_at H hk]
  simp only [← EReal.coe_sub, ← EReal.coe_mul, ← EReal.coe_add, ← EReal.coe_neg, zero_sub, zero_add, Ideal.exp_coe, coe_sum, Fintype.sum_unique, exp_mask] <;> rfl

theorem gl_at (b : Fin 2) (h : Fin 8) : (res_main_while0b_v76 V : FVec Ideal S2x8 .f32) (ix2 b h) = (((tl A k b h).gl : ℝ) : EReal) := by
  pointwise [res_main_while0b_v76, g_at H hk]
  rfl

theorem egl_at (b : Fin 2) (h : Fin 8) : (res_main_while0b_v77 V : FVec Ideal S2x8 .f32) (ix2 b h) = ((Real.exp (tl A k b h).gl : ℝ) : EReal) := by
  pointwise [res_main_while0b_v77, gl_at H hk]
  simp only [← EReal.coe_sub, ← EReal.coe_mul, ← EReal.coe_add, ← EReal.coe_neg, zero_sub, zero_add, Ideal.exp_coe, coe_sum, Fintype.sum_unique, exp_mask] <;> rfl

theorem egl1_at (b : Fin 2) (h : Fin 8) : (res_main_while0b_v78 V : FVec Ideal S2x8x1x1 .f32) (ix4 b h (0 : Fin 1) (0 : Fin 1)) = ((Real.exp (tl A k b h).gl : ℝ) : EReal) := by
  pointwise [res_main_while0b_v78, egl_at H hk]

theorem kds_at (b : Fin 2) (h : Fin 8) (i : Fin 256) : (res_main_while0b_v84 V : FVec Ideal S2x8x256 .f32) (ix3 b h i) = (((tl A k b h).kds i : ℝ) : EReal) := by
  pointwise [res_main_while0b_v84, g_at H hk, gl_at H hk]
  simp only [← EReal.coe_sub, ← EReal.coe_mul, ← EReal.coe_add, ← EReal.coe_neg, zero_sub, zero_add, Ideal.exp_coe, coe_sum, Fintype.sum_unique, exp_mask] <;> rfl

theorem kds1_at (b : Fin 2) (h : Fin 8) (i : Fin 256) : (res_main_while0b_v85 V : FVec Ideal S2x8x256x1 .f32) (ix4 b h i (0 : Fin 1)) = (((tl A k b h).kds i : ℝ) : EReal) := by
  pointwise [res_main_while0b_v85, kds_at H hk]

theorem kdec_at (b : Fin 2) (h : Fin 8) (i : Fin 256) (d : Fin 128) : (res_main_while0b_v87 V : FVec Ideal S2x8x256x128 .f32) (ix4 b h i d) = (((tl A k b h).k i d * (tl A k b h).kds i : ℝ) : EReal) := by
  pointwise [res_main_while0b_v87, k_at H hk, kds1_at H hk]
  simp only [← EReal.coe_sub, ← EReal.coe_mul, ← EReal.coe_add, ← EReal.coe_neg, zero_sub, zero_add, Ideal.exp_coe, coe_sum, Fintype.sum_unique, exp_mask] <;> rfl

/-! ## The lines of the transpose -/

theorem dS_at (b : Fin 2) (h : Fin 8) (i d : Fin 128) : (V (Proc.devRef .tc main_v28_9) : FVec Ideal S2x8x128x128 .f32) (ix4 b h i d) = (((tl A k b h).dS i d : ℝ) : EReal) := by
  rw [tl_dS A hk]; exact H.dS b h i d

theorem dkd_at (b : Fin 2) (h : Fin 8) (i : Fin 256) (d : Fin 128) : (res_main_while0b_v93 V : FVec Ideal S2x8x256x128 .f32) (ix4 b h i d) = (((tl A k b h).dkd i d : ℝ) : EReal) := by
  pointwise [res_main_while0b_v93, dS_at H hk, vn_at H hk]
  simp only [← EReal.coe_sub, ← EReal.coe_mul, ← EReal.coe_add, ← EReal.coe_neg, zero_sub, zero_add, Ideal.exp_coe, coe_sum, Fintype.sum_unique, exp_mask]
  refine congrArg (fun r : ℝ => (r : EReal)) ?_
  unfold Tile.dkd; exact Finset.sum_congr rfl fun _ _ => by ring

theorem kdrow_at (b : Fin 2) (h : Fin 8) (i : Fin 256) : (res_main_while0b_v100 V : FVec Ideal S2x8x256 .f32) (ix3 b h i) = (((tl A k b h).kdrow i : ℝ) : EReal) := by
  pointwise [res_main_while0b_v100, k_at H hk, dkd_at H hk, kds_at H hk]
  simp only [← EReal.coe_sub, ← EReal.coe_mul, ← EReal.coe_add, ← EReal.coe_neg, zero_sub, zero_add, Ideal.exp_coe, coe_sum, Fintype.sum_unique, exp_mask]
  refine congrArg (fun r : ℝ => (r : EReal)) ?_
  unfold Tile.kdrow; rw [Finset.sum_mul]; exact Finset.sum_congr rfl fun _ _ => by ring

theorem du_at (b : Fin 2) (h : Fin 8) (i : Fin 256) (d : Fin 128) : (res_main_while0b_v118 V : FVec Ideal S2x8x256x128 .f32) (ix4 b h i d) = (((tl A k b h).du i d : ℝ) : EReal) := by
  pointwise [res_main_while0b_v118, dS_at H hk, kdec_at H hk, dO_at H hk, qkd_at H hk]
  simp only [← EReal.coe_sub, ← EReal.coe_mul, ← EReal.coe_add, ← EReal.coe_neg, zero_sub, zero_add, Ideal.exp_coe, coe_sum, Fintype.sum_unique, exp_mask]
  refine congrArg (fun r : ℝ => (r : EReal)) ?_
  unfold Tile.du; rw [add_comm]; exact congrArg₂ (· + ·) (Finset.sum_congr rfl fun _ _ => by ring) (Finset.sum_congr rfl fun _ _ => by ring)

theorem dov_at (b : Fin 2) (h : Fin 8) (i j : Fin 256) : (res_main_while0b_v119 V : FVec Ideal S2x8x256x256 .f32) (ix4 b h i j) = ((∑ e, (tl A k b h).dO i e * (tl A k b h).vn j e : ℝ) : EReal) := by
  pointwise [res_main_while0b_v119, dO_at H hk, vn_at H hk]
  simp only [← EReal.coe_sub, ← EReal.coe_mul, ← EReal.coe_add, ← EReal.coe_neg, zero_sub, zero_add, Ideal.exp_coe, coe_sum, Fintype.sum_unique, exp_mask] <;> rfl

theorem dqg_at (b : Fin 2) (h : Fin 8) (i : Fin 256) (d : Fin 128) : (res_main_while0b_v123 V : FVec Ideal S2x8x256x128 .f32) (ix4 b h i d) = (((tl A k b h).dqg i d : ℝ) : EReal) := by
  pointwise [res_main_while0b_v123, dO_at H hk, S_at H hk]
  simp only [← EReal.coe_sub, ← EReal.coe_mul, ← EReal.coe_add, ← EReal.coe_neg, zero_sub, zero_add, Ideal.exp_coe, coe_sum, Fintype.sum_unique, exp_mask] <;> rfl

theorem ndu_at (b : Fin 2) (h : Fin 8) (i : Fin 256) (d : Fin 128) : (res_main_while0b_v132 V : FVec Ideal S2x8x256x128 .f32) (ix4 b h i d) = ((-(tl A k b h).du i d : ℝ) : EReal) := by
  pointwise [res_main_while0b_v132, du_at H hk]
  simp only [← EReal.coe_sub, ← EReal.coe_mul, ← EReal.coe_add, ← EReal.coe_neg, zero_sub, zero_add, Ideal.exp_coe, coe_sum, Fintype.sum_unique, exp_mask] <;> rfl

theorem dpd_at (b : Fin 2) (h : Fin 8) (i j : Fin 256) : (res_main_while0b_v138 V : FVec Ideal S2x8x256x256 .f32) (ix4 b h i j) = (((tl A k b h).dpd i j : ℝ) : EReal) := by
  pointwise [res_main_while0b_v138, dov_at H hk, decay_at H hk]
  simp only [← EReal.coe_sub, ← EReal.coe_mul, ← EReal.coe_add, ← EReal.coe_neg, zero_sub, zero_add, Ideal.exp_coe, coe_sum, Fintype.sum_unique, exp_mask] <;> rfl

theorem ep_at (b : Fin 2) (h : Fin 8) (i j : Fin 256) : (res_main_while0b_v144 V : FVec Ideal S2x8x256x256 .f32) (ix4 b h i j) = (((tl A k b h).dpd i j * (tl A k b h).qk i j : ℝ) : EReal) := by
  pointwise [res_main_while0b_v144, res_main_while0b_v62_1, res_main_while0b_v51, qk_at H hk, dov_at H hk, decay_at H hk]
  have hi := i.isLt
  have hj := j.isLt
  word_cmp
  by_cases hc : j ≤ i
  · rw [if_pos (by first | exact hc | omega)]
    simp only [← EReal.coe_mul]
    refine congrArg (fun r : ℝ => (r : EReal)) ?_
    unfold Tile.dpd; ring
  · rw [if_neg (by first | exact hc | omega)]
    have e : (tl A k b h).decay i j = 0 := if_neg hc
    unfold Tile.dpd; rw [e, mul_zero, zero_mul]; rfl

end Cert.ReferenceIdeal.Scan
end
-- ==== Proof.ReferenceStep.lean ====
module
public import proofs.«01_k».proof.Proof.ReferenceTrip
@[expose] public section
set_option maxRecDepth 16384

/-! # The reference's loop and its results

What a trip of the loop writes, the loop by induction on its trips, and the six results it leaves. -/

noncomputable section
open Idealize.ShloMosaic Idealize.ShloMosaic.TcCoe Idealize.SL.Sem
namespace Cert.ReferenceIdeal.Scan
open Cert.ReferenceIdeal Cert.ReferenceIdeal.Gen Cert.ReferenceIdeal.Value
open Cert.Scan

/-! ## What a trip writes -/

/-- The trip's block of `dq`. -/
def dqBlock {F : FTy → Type} [FloatOps F] (V0 : Valuation τ sig (Elt F)) : FVec F S2x8x256x128 .f32 :=
  addf (mulf (res_main_while0b_v123 V0) (broadcastInDim S2x8x256x128 ![0, 1, 2, 3] bcast_S2x8x256x1_S2x8x256x128_0_1_2_3 (res_main_while0b_v69 V0))) (Host.dotGeneral dot_S2x8x256x256_S2x8x256x128_S2x8x256x128_3_2_2_3_01_01 none (res_main_while0b_v138 V0) (res_main_while0b_v46 V0))

/-- The trip's block of `dk`. -/
def dkBlock {F : FTy → Type} [FloatOps F] (V0 : Valuation τ sig (Elt F)) : FVec F S2x8x256x128 .f32 :=
  addf (mulf (res_main_while0b_v93 V0) (broadcastInDim S2x8x256x128 ![0, 1, 2, 3] bcast_S2x8x256x1_S2x8x256x128_0_1_2_3 (res_main_while0b_v85 V0))) (Host.dotGeneral dot_S2x8x256x256_S2x8x256x128_S2x8x256x128_2_2_3_3_01_01 none (res_main_while0b_v138 V0) (res_main_while0b_v45 V0))

/-- The trip's block of `dw`. -/
def dwBlock {F : FTy → Type} [FloatOps F] (V0 : Valuation τ sig (Elt F)) : FVec F S2x8x256x128 .f32 :=
  Host.dotGeneral dot_S2x8x256x128_S2x8x128x128_S2x8x256x128_3_3_2_2_01_01 none (res_main_while0b_v132 V0) (res_main_while0b_v44 V0)

/-- The trip's block of `dcol`. -/
def dcolBlock {F : FTy → Type} [FloatOps F] (V0 : Valuation τ sig (Elt F)) : FVec F S2x8x256 .f32 :=
  addf (addf (addf (Host.negf (res_main_while0b_v100 V0)) (pad S2x8x256 ![0, 0, 255] ![0, 0, 0] ![0, 0, 0] (broadcastInDim S2x8x1 ![0, 1] bcast_S2x8_S2x8x1_0_1 (addf (Host.reduceAdd (shapeCast S2x8x1 (Host.reduceAdd (res_main_while0b_v100 V0) (constant S_ .f32 0x00000000#32) reducesTo_S2x8x256_S2x8_d2 h_S_) shapeCasts_S2x8_S2x8x1) (constant S_ .f32 0x00000000#32) reducesTo_S2x8x1_S2x8_d2 h_S_) (mulf (Host.reduceAdd (shapeCast S2x8x1x1 (Host.reduceAdd (mulf (res_main_while0b_v44 V0) (V0 (Proc.devRef .tc main_v28_9))) (constant S_ .f32 0x00000000#32) reducesTo_S2x8x128x128_S2x8_d2_3 h_S_) shapeCasts_S2x8_S2x8x1x1) (constant S_ .f32 0x00000000#32) reducesTo_S2x8x1x1_S2x8_d2_3 h_S_) (res_main_while0b_v77 V0)))) (constant S_ .f32 0x00000000#32) pads_S2x8x1_S2x8x256_000_000_25500 h_S_)) (mulf (Host.reduceAdd (shapeCast S2x8x256x1 (Host.reduceAdd (mulf (res_main_while0b_v45 V0) (res_main_while0b_v123 V0)) (constant S_ .f32 0x00000000#32) reducesTo_S2x8x256x128_S2x8x256_d3 h_S_) shapeCasts_S2x8x256_S2x8x256x1) (constant S_ .f32 0x00000000#32) reducesTo_S2x8x256x1_S2x8x256_d3 h_S_) (res_main_while0b_v68 V0))) (Host.reduceAdd (shapeCast S2x8x256x1 (Host.reduceAdd (res_main_while0b_v144 V0) (constant S_ .f32 0x00000000#32) reducesTo_S2x8x256x256_S2x8x256_d3 h_S_) shapeCasts_S2x8x256_S2x8x256x1) (constant S_ .f32 0x00000000#32) reducesTo_S2x8x256x1_S2x8x256_d3 h_S_)

/-- The trip's block of `drow`. -/
def drowBlock {F : FTy → Type} [FloatOps F] (V0 : Valuation τ sig (Elt F)) : FVec F S2x8x256 .f32 :=
  Host.reduceAdd (shapeCast S2x8x1x256 (Host.reduceAdd (Host.negf (res_main_while0b_v144 V0)) (constant S_ .f32 0x00000000#32) reducesTo_S2x8x256x256_S2x8x256_d2 h_S_) shapeCasts_S2x8x256_S2x8x1x256) (constant S_ .f32 0x00000000#32) reducesTo_S2x8x1x256_S2x8x256_d2 h_S_

/-- The gradient of the state after the trip. -/
def dSNext {F : FTy → Type} [FloatOps F] (V0 : Valuation τ sig (Elt F)) : FVec F S2x8x128x128 .f32 :=
  addf (addf (mulf (V0 (Proc.devRef .tc main_v28_9)) (broadcastInDim S2x8x128x128 ![0, 1, 2, 3] bcast_S2x8x1x1_S2x8x128x128_0_1_2_3 (res_main_while0b_v78 V0))) (transpose S2x8x128x128 [0, 1, 3, 2] (Host.dotGeneral dot_S2x8x256x128_S2x8x256x128_S2x8x128x128_2_2_3_3_01_01 none (res_main_while0b_v43 V0) (res_main_while0b_v71 V0)) transposes_S2x8x128x128_S2x8x128x128_0_1_3_2)) (transpose S2x8x128x128 [0, 1, 3, 2] (Host.dotGeneral dot_S2x8x256x128_S2x8x256x128_S2x8x128x128_2_2_3_3_01_01 none (res_main_while0b_v132 V0) (res_main_while0b_v48 V0)) transposes_S2x8x128x128_S2x8x128x128_0_1_3_2)

variable {A : Args} {k : ℕ} {V : Valuation τ sig (Elt Ideal)} (H : At A k V) (hk : k < 16)
include H hk

theorem dqBlock_at (b : Fin 2) (h : Fin 8) (i : Fin 256) (d : Fin 128) : dqBlock V (ix4 b h i d) = (((tl A k b h).dq i d : ℝ) : EReal) := by
  pointwise [dqBlock, dqg_at H hk, eg1_at H hk, dpd_at H hk, k_at H hk]
  simp only [← EReal.coe_sub, ← EReal.coe_mul, ← EReal.coe_add, ← EReal.coe_neg, zero_sub, zero_add, add_zero, Ideal.exp_coe, coe_sum, Fintype.sum_unique]
  refine congrArg (fun r : ℝ => (r : EReal)) ?_
  rfl

theorem dkBlock_at (b : Fin 2) (h : Fin 8) (i : Fin 256) (d : Fin 128) : dkBlock V (ix4 b h i d) = (((tl A k b h).dk i d : ℝ) : EReal) := by
  pointwise [dkBlock, dkd_at H hk, kds1_at H hk, dpd_at H hk, q_at H hk]
  simp only [← EReal.coe_sub, ← EReal.coe_mul, ← EReal.coe_add, ← EReal.coe_neg, zero_sub, zero_add, add_zero, Ideal.exp_coe, coe_sum, Fintype.sum_unique]
  refine congrArg (fun r : ℝ => (r : EReal)) ?_
  unfold Tile.dk; rw [add_comm]

theorem dwBlock_at (b : Fin 2) (h : Fin 8) (i : Fin 256) (d : Fin 128) : dwBlock V (ix4 b h i d) = (((tl A k b h).dw i d : ℝ) : EReal) := by
  pointwise [dwBlock, ndu_at H hk, S_at H hk]
  simp only [← EReal.coe_sub, ← EReal.coe_mul, ← EReal.coe_add, ← EReal.coe_neg, zero_sub, zero_add, add_zero, Ideal.exp_coe, coe_sum, Fintype.sum_unique]
  refine congrArg (fun r : ℝ => (r : EReal)) ?_
  unfold Tile.dw; rw [← Finset.sum_neg_distrib]; exact Finset.sum_congr rfl fun _ _ => by ring

theorem drowBlock_at (b : Fin 2) (h : Fin 8) (i : Fin 256) : drowBlock V (ix3 b h i) = (((tl A k b h).drow i : ℝ) : EReal) := by
  pointwise [drowBlock, ep_at H hk]
  simp only [← EReal.coe_sub, ← EReal.coe_mul, ← EReal.coe_add, ← EReal.coe_neg, zero_sub, zero_add, add_zero, Ideal.exp_coe, coe_sum, Fintype.sum_unique]
  refine congrArg (fun r : ℝ => (r : EReal)) ?_
  unfold Tile.drow; rw [← Finset.sum_neg_distrib]

theorem dSNext_at (b : Fin 2) (h : Fin 8) (i d : Fin 128) : dSNext V (ix4 b h i d) = (((tl A k b h).dS' i d : ℝ) : EReal) := by
  pointwise [dSNext, dS_at H hk, egl1_at H hk, q_at H hk, dO_at H hk, qg_at H hk, ndu_at H hk, w_at H hk]
  simp only [← EReal.coe_sub, ← EReal.coe_mul, ← EReal.coe_add, ← EReal.coe_neg, zero_sub, zero_add, add_zero, Ideal.exp_coe, coe_sum, Fintype.sum_unique]
  refine congrArg (fun r : ℝ => (r : EReal)) ?_
  unfold Tile.dS'; rw [sub_eq_add_neg, ← Finset.sum_neg_distrib]; exact congrArg₂ (· + ·) (congrArg₂ (· + ·) (by ring) (Finset.sum_congr rfl fun _ _ => by ring)) (Finset.sum_congr rfl fun _ _ => by ring)

theorem dcolBlock_at (b : Fin 2) (h : Fin 8) (i : Fin 256) : dcolBlock V (ix3 b h i) = (((tl A k b h).dcol i : ℝ) : EReal) := by
  pointwise [dcolBlock, kdrow_at H hk, S_at H hk, dS_at H hk, egl_at H hk, q_at H hk, dqg_at H hk, eg_at H hk, ep_at H hk]
  simp only [← EReal.coe_sub, ← EReal.coe_mul, ← EReal.coe_add, ← EReal.coe_neg, zero_sub, zero_add, add_zero, Ideal.exp_coe, coe_sum, Fintype.sum_unique]
  have e : (if h_1 : 255 ≤ i.val ∧ i.val - 255 < 1 then ((∑ c, (tl A k b h).kdrow c + (∑ d, ∑ e, (tl A k b h).S d e * (tl A k b h).dS d e) * Real.exp (tl A k b h).gl : ℝ) : EReal) else 0)
      = ((if i = (255 : Fin 256) then (tl A k b h).extra else 0 : ℝ) : EReal) := by
    have hi := i.isLt
    by_cases hc : i = (255 : Fin 256)
    · have hv : i.val = 255 := congrArg Fin.val hc
      rw [dif_pos (by omega), if_pos hc]; unfold Tile.extra; rw [mul_comm (Real.exp _)]
    · have hv : i.val ≠ 255 := fun e => hc (Fin.ext e)
      rw [dif_neg (by omega), if_neg hc]; rfl
  refine (congrArg (fun r : EReal => _ + r + _ + _) e).trans ?_
  simp only [← EReal.coe_add]
  refine congrArg (fun r : ℝ => (r : EReal)) ?_
  unfold Tile.dcol
  have e2 : (∑ d, (tl A k b h).q i d * (tl A k b h).dqg i d) * Real.exp ((tl A k b h).g i) = ∑ d, (tl A k b h).dqg i d * ((tl A k b h).q i d * Real.exp ((tl A k b h).g i)) := by
    rw [Finset.sum_mul]; exact Finset.sum_congr rfl fun _ _ => by ring
  rw [e2]; ring

omit H in
/-- The trips done so far, and the present one. -/
theorem trip_cases {n : Fin 16} (hn : 16 ≤ n.val + (k + 1)) : n = nk k ∨ (n ≠ nk k ∧ 16 ≤ n.val + k) := by
  have hv : (nk k).val = 15 - k := rfl
  by_cases h : n = nk k
  · exact .inl h
  · have : n.val ≠ (nk k).val := fun e => h (Fin.ext e)
    exact .inr ⟨h, by omega⟩

/-- One trip of the loop. -/
theorem step : At A (k + 1) (STEP V) := by
  constructor
  · rw [STEP_main_v28_8]
    show addi (V (Proc.devRef .tc main_v28_8)) (constantI S_ 32 1#32) = _
    rw [H.ctr]
    funext i
    show BitVec.ofNat 32 k + 1#32 = _
    interval_cases k <;> rfl
  · rw [STEP_main_v28_0]; exact H.dO
  · rw [STEP_main_v28_1]; exact H.S
  · rw [STEP_main_v28_2]; exact H.q
  · rw [STEP_main_v28_3]; exact H.ke
  · rw [STEP_main_v28_4]; exact H.u
  · rw [STEP_main_v28_5]; exact H.w
  · rw [STEP_main_v28_6]; exact H.g
  · rw [STEP_main_v28_7]; exact H.gr
  · intro b h d e
    rw [STEP_main_v28_9]
    show dSNext V (ix4 b h d e) = _
    rw [dSNext_at H hk b h d e]
    have e0 : tl A k b h = A.tile b h (nk k) (A.dSrec b h k) := by
      show A.tile b h (nk k) (A.dSrec b h (15 - (15 - k))) = _
      rw [show 15 - (15 - k) = k by omega]
    rw [e0]; rfl
  · intro n b h c d hn
    rw [STEP_main_v28_10]
    unfold step_main_v28_10
    rw [v42_eq H hk]
    refine (rows_write k _ (dqBlock V) n b h c d).trans ?_
    rcases trip_cases hk hn with e | ⟨e, hn'⟩
    · rw [if_pos e, e]; exact dqBlock_at H hk b h c d
    · rw [if_neg e]; exact H.dq n b h c d hn'
  · intro n b h c d hn
    rw [STEP_main_v28_11]
    unfold step_main_v28_11
    rw [v42_eq H hk]
    refine (rows_write k _ (dkBlock V) n b h c d).trans ?_
    rcases trip_cases hk hn with e | ⟨e, hn'⟩
    · rw [if_pos e, e]; exact dkBlock_at H hk b h c d
    · rw [if_neg e]; exact H.dk n b h c d hn'
  · intro n b h c d hn
    rw [STEP_main_v28_12]
    unfold step_main_v28_12
    rw [v42_eq H hk]
    refine (rows_write k _ (res_main_while0b_v118 V) n b h c d).trans ?_
    rcases trip_cases hk hn with e | ⟨e, hn'⟩
    · rw [if_pos e, e]; exact du_at H hk b h c d
    · rw [if_neg e]; exact H.du n b h c d hn'
  · intro n b h c d hn
    rw [STEP_main_v28_13]
    unfold step_main_v28_13
    rw [v42_eq H hk]
    refine (rows_write k _ (dwBlock V) n b h c d).trans ?_
    rcases trip_cases hk hn with e | ⟨e, hn'⟩
    · rw [if_pos e, e]; exact dwBlock_at H hk b h c d
    · rw [if_neg e]; exact H.dw n b h c d hn'
  · intro n b h c hn
    rw [STEP_main_v28_14]
    unfold step_main_v28_14
    rw [v42_eq H hk]
    refine (gate_write k _ (dcolBlock V) n b h c).trans ?_
    rcases trip_cases hk hn with e | ⟨e, hn'⟩
    · rw [if_pos e, e]; exact dcolBlock_at H hk b h c
    · rw [if_neg e]; exact H.dcol n b h c hn'
  · intro n b h c hn
    rw [STEP_main_v28_15]
    unfold step_main_v28_15
    rw [v42_eq H hk]
    refine (gate_write k _ (drowBlock V) n b h c).trans ?_
    rcases trip_cases hk hn with e | ⟨e, hn'⟩
    · rw [if_pos e, e]; exact drowBlock_at H hk b h c
    · rw [if_neg e]; exact H.drow n b h c hn'

omit H hk in
/-- Every trip of the loop. -/
theorem loop {V0 : Valuation τ sig (Elt Ideal)} (H0 : At A 0 V0) : ∀ k, k ≤ 16 → At A k (STEP^[k] V0)
  | 0, _ => H0
  | k + 1, h => by
      rw [Function.iterate_succ_apply']
      exact step (loop H0 k (by omega)) (by omega)

/-! ## The results -/

omit H hk in
theorem du_result {V : Valuation τ sig (Elt Ideal)} (H : At A 16 V) : out_main_v30 V = fun i : S16x4096x128.Idx => ((A.at3 Tile.du (i 0) (i 1) (i 2) : ℝ) : EReal) := by
  funext i
  pointwise [out_main_v30]
  exact H.du _ _ _ _ _ (by have h1 := (i 1).isLt; first | omega | (simp only []; omega) | (show 16 ≤ (i 1).val + 16; omega))

omit H hk in
theorem dw_result {V : Valuation τ sig (Elt Ideal)} (H : At A 16 V) : out_main_v32 V = fun i : S16x4096x128.Idx => ((A.at3 Tile.dw (i 0) (i 1) (i 2) : ℝ) : EReal) := by
  funext i
  pointwise [out_main_v32]
  exact H.dw _ _ _ _ _ (by have h1 := (i 1).isLt; first | omega | (simp only []; omega) | (show 16 ≤ (i 1).val + 16; omega))

omit H hk in
theorem dq_result {V : Valuation τ sig (Elt Ideal)} (H : At A 16 V) : out_main_v34 V = fun i : S16x4096x128.Idx => ((A.at3 Tile.dq (i 0) (i 1) (i 2) : ℝ) : EReal) := by
  funext i
  pointwise [out_main_v34]
  exact H.dq _ _ _ _ _ (by have h1 := (i 1).isLt; first | omega | (simp only []; omega) | (show 16 ≤ (i 1).val + 16; omega))

omit H hk in
theorem dk_result {V : Valuation τ sig (Elt Ideal)} (H : At A 16 V) : out_main_v36 V = fun i : S16x4096x128.Idx => ((A.at3 Tile.dk (i 0) (i 1) (i 2) : ℝ) : EReal) := by
  funext i
  pointwise [out_main_v36]
  exact H.dk _ _ _ _ _ (by have h1 := (i 1).isLt; first | omega | (simp only []; omega) | (show 16 ≤ (i 1).val + 16; omega))

omit H hk in
theorem dcol_result {V : Valuation τ sig (Elt Ideal)} (H : At A 16 V) : out_main_v38 V = fun i : S16x4096x1.Idx => ((A.at2 Tile.dcol (i 0) (i 1) : ℝ) : EReal) := by
  funext i
  pointwise [out_main_v38]
  exact H.dcol _ _ _ _ (by have h1 := (i 1).isLt; first | omega | (simp only []; omega) | (show 16 ≤ (i 1).val + 16; omega))

omit H hk in
theorem drow_result {V : Valuation τ sig (Elt Ideal)} (H : At A 16 V) : out_main_v40 V = fun i : S16x16x1x256.Idx => ((A.atRow Tile.drow (i 0) (i 1) (i 3) : ℝ) : EReal) := by
  funext i
  pointwise [out_main_v40]
  exact H.drow _ _ _ _ (by have h1 := (i 1).isLt; first | omega | (simp only []; omega) | (show 16 ≤ (i 1).val + 16; omega))

end Cert.ReferenceIdeal.Scan
end
-- ==== Proof.lean ====
/- The proof of everything claimed of this certificate. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame.Runs
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame.Runs
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.MlpBack
public import proofs.«01_k».proof.Proof.MlpDown
public import proofs.«01_k».proof.Proof.MlpUp
public import proofs.«01_k».proof.Proof.MlpForward
public import proofs.«01_k».proof.Proof.GradQkv
public import proofs.«01_k».proof.Proof.GradSquare
public import proofs.«01_k».proof.Proof.GradGate
public import proofs.«01_k».proof.Proof.NormBackProjection
public import proofs.«01_k».proof.Proof.MlpBackReference
public import proofs.«01_k».proof.Proof.Finite
public import proofs.«01_k».proof.Proof.KernelValue
public import proofs.«01_k».proof.Proof.ReferenceStep
public import Idealize.ShloMosaic.Adequacy
public import Idealize.ShloMosaic.Init

@[expose] public section

noncomputable section

namespace Cert.Proof

open Idealize.ShloMosaic Idealize.SL.Sem Cert.Kernel

/-- The kernel as compiled runs, leaves its arguments and returns every counter to zero. -/
theorem frame_p : Cert.quiescent_Kernel (hKernel := Cert.Kernel.Gen.facts) := fun m ρ _ => Cert.Kernel.Gen.frame m ρ

/-- The same of the kernel with its mask read as minus infinity. -/
theorem frame_pi : Cert.quiescent_KernelIdeal (hKernelIdeal := Cert.KernelIdeal.Gen.facts) := fun m ρ _ => Cert.KernelIdeal.Gen.frame m ρ

/-- The reference runs and leaves its arguments; it has no counters. -/
theorem frame_ri : Cert.quiescent_ReferenceIdeal (hReferenceIdeal := Cert.ReferenceIdeal.Gen.facts) := fun m ρ _ =>
  (θ_run Cert.ReferenceIdeal.defs _ _).mono
    (fun r h => ⟨fun c => (h c).2.2.2.2.2.2, Idealize.ShloMosaic.sem_eq_zero_of_no_sems (by decide) r.2⟩)
    (Cert.ReferenceIdeal.Value.run (F := Ideal) m ρ)

/-- The one rewrite between the two kernels: the mask's name has the value minus infinity. -/
theorem preserves : Cert.preserves_Kernel_KernelIdeal := IdealRules.named_const.statement _ _ _ _ _ rfl

/-- The shapes the precondition's comparisons take. -/
theorem facts_pre : Cert.Pre_finite.Facts := ⟨by decide, by decide, by decide, by decide, by decide, by decide⟩

/-- The arguments as real numbers. -/
def args (m : (ℓ : Loc Cert.KernelIdeal.nD Cert.KernelIdeal.τ Cert.KernelIdeal.sig) → Buf (Elt Ideal) ℓ) (c : Dev Cert.KernelIdeal.nD) : Cert.Scan.Args where
  dO := fun i j => EReal.toReal ((m ((c.tc : Thread Cert.KernelIdeal.nD Cert.KernelIdeal.τ).loc Cert.KernelIdeal.main_arg0) : FVec Ideal Cert.KernelIdeal.S8192x1024 .f32) (ix2 i j))
  qkv := fun i j => EReal.toReal ((m ((c.tc : Thread Cert.KernelIdeal.nD Cert.KernelIdeal.τ).loc Cert.KernelIdeal.main_arg1) : FVec Ideal Cert.KernelIdeal.S8192x3072 .f32) (ix2 i j))
  u := fun i j l => EReal.toReal ((m ((c.tc : Thread Cert.KernelIdeal.nD Cert.KernelIdeal.τ).loc Cert.KernelIdeal.main_arg2) : FVec Ideal Cert.KernelIdeal.S16x4096x128 .f32) (ix3 i j l))
  w := fun i j l => EReal.toReal ((m ((c.tc : Thread Cert.KernelIdeal.nD Cert.KernelIdeal.τ).loc Cert.KernelIdeal.main_arg3) : FVec Ideal Cert.KernelIdeal.S16x4096x128 .bf16) (ix3 i j l))
  cols := fun i j => EReal.toReal ((m ((c.tc : Thread Cert.KernelIdeal.nD Cert.KernelIdeal.τ).loc Cert.KernelIdeal.main_arg4) : FVec Ideal Cert.KernelIdeal.S8192x128 .f32) (ix2 i j))
  grow := fun i j l => EReal.toReal ((m ((c.tc : Thread Cert.KernelIdeal.nD Cert.KernelIdeal.τ).loc Cert.KernelIdeal.main_arg5) : FVec Ideal Cert.KernelIdeal.S16x16x1x256 .f32) (ix4 i j (0 : Fin 1) l))
  ss := fun i j l => EReal.toReal ((m ((c.tc : Thread Cert.KernelIdeal.nD Cert.KernelIdeal.τ).loc Cert.KernelIdeal.main_arg6) : FVec Ideal Cert.KernelIdeal.S16x2048x128 .bf16) (ix3 i j l))

/-- Under the precondition the kernel's arguments are those real numbers. -/
theorem kernel_reads (m : (ℓ : Loc Cert.KernelIdeal.nD Cert.KernelIdeal.τ Cert.KernelIdeal.sig) → Buf (Elt Ideal) ℓ) (h : Cert.Pre_KernelIdeal_finite (hPre_finite := facts_pre) m)
    (c : Dev Cert.KernelIdeal.nD) : Cert.KernelIdeal.Tile.Reads m c (args m c) := by
  have hc := h c
  simp only [Cert.Pre_finite.fn, Cert.Pre_finite.fn_part1] at hc
  obtain ⟨h0, h1, h2, h3, h4, h5, h6⟩ := hc
  exact ⟨fun i j => Cert.Finite.real_of_finite _ _ Cert.Finite.inf32 _ h0 _,
    fun i j => Cert.Finite.real_of_finite _ _ Cert.Finite.inf32 _ h1 _,
    fun i j l => Cert.Finite.real_of_finite _ _ Cert.Finite.inf32 _ h2 _,
    fun i j l => Cert.Finite.real_of_finite _ _ Cert.Finite.inf16 _ h3 _,
    fun i j => Cert.Finite.real_of_finite _ _ Cert.Finite.inf32 _ h4 _,
    fun i j l => Cert.Finite.real_of_finite _ _ Cert.Finite.inf32 _ h5 _,
    fun i j l => Cert.Finite.real_of_finite _ _ Cert.Finite.inf16 _ h6 _⟩

/-- The reference's arguments are the same numbers. -/
theorem reference_reads (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) (A : Cert.Scan.Args)
    (R : Cert.KernelIdeal.Tile.Reads m c A)
    (e : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Scan.Reads m' c A :=
  ⟨fun i j => (congrFun (e.1) _).trans (R.dO i j),
    fun i j => (congrFun (e.2.1) _).trans (R.qkv i j),
    fun i j l => (congrFun (e.2.2.1) _).trans (R.u i j l),
    fun i j l => (congrFun (e.2.2.2.1) _).trans (R.w i j l),
    fun i j => (congrFun (e.2.2.2.2.1) _).trans (R.cols i j),
    fun i j l => (congrFun (e.2.2.2.2.2.1) _).trans (R.grow i j l),
    fun i j l => (congrFun (e.2.2.2.2.2.2) _).trans (R.ss i j l)⟩

/-- The six gradients of the kernel are those of the reference. -/
theorem algebraic : Cert.algebraic_KernelIdeal_ReferenceIdeal_pre_finite (hKernelIdeal := Cert.KernelIdeal.Gen.facts) (hReferenceIdeal := Cert.ReferenceIdeal.Gen.facts) (hPre_finite := facts_pre) := by
  intro m g m' g' hpre hargs
  refine ⟨fun c => fun i : Cert.KernelIdeal.S16x4096x128.Idx => (((args m c).at3 Cert.Scan.Tile.du (i 0) (i 1) (i 2) : ℝ) : EReal),
    fun c => fun i : Cert.KernelIdeal.S16x4096x128.Idx => (((args m c).at3 Cert.Scan.Tile.dw (i 0) (i 1) (i 2) : ℝ) : EReal),
    fun c => fun i : Cert.KernelIdeal.S16x4096x128.Idx => (((args m c).at3 Cert.Scan.Tile.dq (i 0) (i 1) (i 2) : ℝ) : EReal),
    fun c => fun i : Cert.KernelIdeal.S16x4096x128.Idx => (((args m c).at3 Cert.Scan.Tile.dk (i 0) (i 1) (i 2) : ℝ) : EReal),
    fun c => fun i : Cert.KernelIdeal.S16x4096x1.Idx => (((args m c).at2 Cert.Scan.Tile.dcol (i 0) (i 1) : ℝ) : EReal),
    fun c => fun i : Cert.KernelIdeal.S16x16x1x256.Idx => (((args m c).atRow Cert.Scan.Tile.drow (i 0) (i 1) (i 3) : ℝ) : EReal), ?_, ?_⟩
  · refine (θ_run Cert.KernelIdeal.defs _ _).mono (fun r h c => ?_) (Cert.KernelIdeal.Value.run_blocks m g)
    have R := kernel_reads m hpre c
    obtain ⟨h0, h1, h2, h3, h4, h5, hk⟩ := h c
    exact ⟨h0.trans (Cert.KernelIdeal.Tile.du_array R), h1.trans (Cert.KernelIdeal.Tile.dw_array R), h2.trans (Cert.KernelIdeal.Tile.dq_array R), h3.trans (Cert.KernelIdeal.Tile.dk_array R), h4.trans (Cert.KernelIdeal.Tile.dcol_array R), h5.trans (Cert.KernelIdeal.Tile.drow_array R), hk⟩
  · refine (θ_run Cert.ReferenceIdeal.defs _ _).mono (fun r h c => ?_) (Cert.ReferenceIdeal.Value.run (F := Ideal) m' g')
    have H := Cert.ReferenceIdeal.Scan.loop (Cert.ReferenceIdeal.Scan.entry (reference_reads m m' c (args m c) (kernel_reads m hpre c) (hargs c))) 16 le_rfl
    obtain ⟨h0, h1, h2, h3, h4, h5, hk⟩ := h c
    exact ⟨h0.trans (Cert.ReferenceIdeal.Scan.du_result H), h1.trans (Cert.ReferenceIdeal.Scan.dw_result H), h2.trans (Cert.ReferenceIdeal.Scan.dq_result H), h3.trans (Cert.ReferenceIdeal.Scan.dk_result H), h4.trans (Cert.ReferenceIdeal.Scan.dcol_result H), h5.trans (Cert.ReferenceIdeal.Scan.drow_result H), hk⟩

/-! ## Program 2: the backward pass of a perceptron -/

/-- No operation was replaced, so both kernels are one program. -/
theorem same2 : Cert.Kernel2.defs (F := Bits) = Cert.Kernel2Ideal.defs (F := Bits) := by sl_kernel_rfl

/-- The kernel as compiled runs, leaves its arguments and returns every counter to zero. -/
theorem frame_p2 : Cert.quiescent_Kernel2 (hKernel2 := Cert.Kernel2.Gen.facts) := by
  intro m ρ _
  have h := Cert.Kernel2Ideal.Gen.frame (F := Bits) m ρ
  rw [← same2] at h
  exact h

/-- The same over the extended reals. -/
theorem frame_pi2 : Cert.quiescent_Kernel2Ideal (hKernel2Ideal := Cert.Kernel2Ideal.Gen.facts) := fun m ρ _ => Cert.Kernel2Ideal.Gen.frame m ρ

/-- The reference runs and leaves its arguments; it has no counters. -/
theorem frame_ri2 : Cert.quiescent_Reference2Ideal (hReference2Ideal := Cert.Reference2Ideal.Gen.facts) := fun m ρ _ =>
  (θ_run Cert.Reference2Ideal.defs _ _).mono
    (fun r h => ⟨fun c => (h c).2.2.2.2, Idealize.ShloMosaic.sem_eq_zero_of_no_sems (by decide) r.2⟩)
    (Cert.Reference2Ideal.Value.run (F := Ideal) m ρ)

/-- There is no rewrite to justify. -/
theorem preserves2 : Cert.preserves_Kernel2_Kernel2Ideal := trivial

/-- The kernel's four results are the reference's. -/
theorem algebraic2 : Cert.algebraic_Kernel2Ideal_Reference2Ideal (hKernel2Ideal := Cert.Kernel2Ideal.Gen.facts) (hReference2Ideal := Cert.Reference2Ideal.Gen.facts) := by
  intro m g m' g' _ hargs
  have e : ∀ c, Cert.Reference2Ideal.Tile.inp m' c = Cert.Kernel2Ideal.Tile.inp m c := fun c => by
    obtain ⟨h0, h1, h2, h3, h4⟩ := hargs c
    exact Cert.Mlp.In.ext (funext fun t => funext fun k => congrFun h0 (ix2 t k)) (funext fun t => funext fun k => congrFun h1 (ix2 t k))
      (funext fun k => congrFun h2 (ix1 k)) (funext fun k => funext fun j => congrFun h3 (ix2 k j)) (funext fun j => funext fun k => congrFun h4 (ix2 j k))
  refine ⟨_, _, _, _, Cert.Kernel2Ideal.Tile.run m g, (θ_run Cert.Reference2Ideal.defs _ _).mono (fun r h c => ?_)
    (Cert.Reference2Ideal.Tile.run m' g')⟩
  have h' := h c
  rw [e c] at h'
  exact h'

/-! ## Program 3: the second weight's gradient -/

/-- No operation was replaced, so both kernels are one program. -/
theorem same3 : Cert.Kernel3.defs (F := Bits) = Cert.Kernel3Ideal.defs (F := Bits) := by sl_kernel_rfl

/-- The kernel as compiled runs, leaves its arguments and returns every counter to zero. -/
theorem frame_p3 : Cert.quiescent_Kernel3 (hKernel3 := Cert.Kernel3.Gen.facts) := by
  intro m ρ _
  have h := Cert.Kernel3Ideal.Gen.frame (F := Bits) m ρ
  rw [← same3] at h
  exact h

/-- The same over the extended reals. -/
theorem frame_pi3 : Cert.quiescent_Kernel3Ideal (hKernel3Ideal := Cert.Kernel3Ideal.Gen.facts) := fun m ρ _ => Cert.Kernel3Ideal.Gen.frame m ρ

/-- The reference runs and leaves its arguments; it has no counters. -/
theorem frame_ri3 : Cert.quiescent_Reference3Ideal (hReference3Ideal := Cert.Reference3Ideal.Gen.facts) := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- There is no rewrite to justify. -/
theorem preserves3 : Cert.preserves_Kernel3_Kernel3Ideal := trivial

/-- The kernel's result is the reference's. -/
theorem algebraic3 : Cert.algebraic_Kernel3Ideal_Reference3Ideal (hKernel3Ideal := Cert.Kernel3Ideal.Gen.facts) (hReference3Ideal := Cert.Reference3Ideal.Gen.facts) := by
  intro m g m' g' _ hargs
  refine ⟨_, Cert.Kernel3Ideal.Tile.run m g, (θ_run Cert.Reference3Ideal.defs _ _).mono (fun r h c => ⟨(h c).1.trans ?_, (h c).2⟩) (Cert.Reference3Ideal.Tile.run m' g')⟩
  obtain ⟨h0, h1, h2, h3⟩ := hargs c
  have e : Cert.Reference3Ideal.Tile.inp m' c = Cert.Kernel3Ideal.Tile.inp m c :=
    Cert.Mlp.In.ext (funext fun t => funext fun k => congrFun h0 (ix2 t k)) (funext fun t => funext fun k => congrFun h1 (ix2 t k)) (funext fun k => congrFun h2 (ix1 k)) (funext fun k => funext fun j => congrFun h3 (ix2 k j)) (rfl)
  rw [e]

/-! ## Program 4: the first weight's gradient -/

/-- No operation was replaced, so both kernels are one program. -/
theorem same4 : Cert.Kernel4.defs (F := Bits) = Cert.Kernel4Ideal.defs (F := Bits) := by sl_kernel_rfl

/-- The kernel as compiled runs, leaves its arguments and returns every counter to zero. -/
theorem frame_p4 : Cert.quiescent_Kernel4 (hKernel4 := Cert.Kernel4.Gen.facts) := by
  intro m ρ _
  have h := Cert.Kernel4Ideal.Gen.frame (F := Bits) m ρ
  rw [← same4] at h
  exact h

/-- The same over the extended reals. -/
theorem frame_pi4 : Cert.quiescent_Kernel4Ideal (hKernel4Ideal := Cert.Kernel4Ideal.Gen.facts) := fun m ρ _ => Cert.Kernel4Ideal.Gen.frame m ρ

/-- The reference runs and leaves its arguments; it has no counters. -/
theorem frame_ri4 : Cert.quiescent_Reference4Ideal (hReference4Ideal := Cert.Reference4Ideal.Gen.facts) := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- There is no rewrite to justify. -/
theorem preserves4 : Cert.preserves_Kernel4_Kernel4Ideal := trivial

/-- The kernel's result is the reference's. -/
theorem algebraic4 : Cert.algebraic_Kernel4Ideal_Reference4Ideal (hKernel4Ideal := Cert.Kernel4Ideal.Gen.facts) (hReference4Ideal := Cert.Reference4Ideal.Gen.facts) := by
  intro m g m' g' _ hargs
  refine ⟨_, Cert.Kernel4Ideal.Tile.run m g, (θ_run Cert.Reference4Ideal.defs _ _).mono (fun r h c => ⟨(h c).1.trans ?_, (h c).2⟩) (Cert.Reference4Ideal.Tile.run m' g')⟩
  obtain ⟨h0, h1, h2, h3, h4⟩ := hargs c
  have e : Cert.Reference4Ideal.Tile.inp m' c = Cert.Kernel4Ideal.Tile.inp m c :=
    Cert.Mlp.In.ext (funext fun t => funext fun k => congrFun h0 (ix2 t k)) (funext fun t => funext fun k => congrFun h1 (ix2 t k)) (funext fun k => congrFun h2 (ix1 k)) (funext fun k => funext fun j => congrFun h3 (ix2 k j)) (funext fun j => funext fun k => congrFun h4 (ix2 j k))
  rw [e]

/-! ## Program 5: the forward pass of a perceptron -/

/-- No operation was replaced, so both kernels are one program. -/
theorem same5 : Cert.Kernel5.defs (F := Bits) = Cert.Kernel5Ideal.defs (F := Bits) := by sl_kernel_rfl

/-- The kernel as compiled runs, leaves its arguments and returns every counter to zero. -/
theorem frame_p5 : Cert.quiescent_Kernel5 (hKernel5 := Cert.Kernel5.Gen.facts) := by
  intro m ρ _
  have h := Cert.Kernel5Ideal.Gen.frame (F := Bits) m ρ
  rw [← same5] at h
  exact h

/-- The same over the extended reals. -/
theorem frame_pi5 : Cert.quiescent_Kernel5Ideal (hKernel5Ideal := Cert.Kernel5Ideal.Gen.facts) := fun m ρ _ => Cert.Kernel5Ideal.Gen.frame m ρ

/-- The reference runs and leaves its arguments; it has no counters. -/
theorem frame_ri5 : Cert.quiescent_Reference5Ideal (hReference5Ideal := Cert.Reference5Ideal.Gen.facts) := fun m ρ _ =>
  (θ_run Cert.Reference5Ideal.defs _ _).mono
    (fun r h => ⟨fun c => (h c).2.2.2.2, Idealize.ShloMosaic.sem_eq_zero_of_no_sems (by decide) r.2⟩)
    (Cert.Reference5Ideal.Value.run (F := Ideal) m ρ)

/-- There is no rewrite to justify. -/
theorem preserves5 : Cert.preserves_Kernel5_Kernel5Ideal := trivial

/-- The kernel's four results are the reference's. -/
theorem algebraic5 : Cert.algebraic_Kernel5Ideal_Reference5Ideal (hKernel5Ideal := Cert.Kernel5Ideal.Gen.facts) (hReference5Ideal := Cert.Reference5Ideal.Gen.facts) := by
  intro m g m' g' _ hargs
  have e : ∀ c, Cert.Reference5Ideal.Tile.inp m' c = Cert.Kernel5Ideal.Tile.inp m c := fun c => by
    obtain ⟨h0, h1, h2, h3⟩ := hargs c
    exact Cert.Mlp.In.ext rfl (funext fun t => funext fun k => congrFun h0 (ix2 t k))
      (funext fun k => congrFun h1 (ix1 k)) (funext fun k => funext fun j => congrFun h2 (ix2 k j)) (funext fun j => funext fun k => congrFun h3 (ix2 j k))
  refine ⟨_, _, _, _, Cert.Kernel5Ideal.Tile.run m g, (θ_run Cert.Reference5Ideal.defs _ _).mono (fun r h c => ?_) (Cert.Reference5Ideal.Tile.run m' g')⟩
  have h' := h c
  rw [e c] at h'
  exact h'

/-! ## Program 6: the gradient of the recurrence layer's wide input weight -/

/-- No operation was replaced, so both kernels are one program. -/
theorem same6 : Cert.Kernel6.defs (F := Bits) = Cert.Kernel6Ideal.defs (F := Bits) := by sl_kernel_rfl

/-- The kernel as compiled runs, leaves its arguments and returns every counter to zero. -/
theorem frame_p6 : Cert.quiescent_Kernel6 (hKernel6 := Cert.Kernel6.Gen.facts) := by
  intro m ρ _
  have h := Cert.Kernel6Ideal.Gen.frame (F := Bits) m ρ
  rw [← same6] at h
  exact h

/-- The same over the extended reals. -/
theorem frame_pi6 : Cert.quiescent_Kernel6Ideal (hKernel6Ideal := Cert.Kernel6Ideal.Gen.facts) := fun m ρ _ => Cert.Kernel6Ideal.Gen.frame m ρ

/-- The reference runs and leaves its arguments; it has no counters. -/
theorem frame_ri6 : Cert.quiescent_Reference6Ideal (hReference6Ideal := Cert.Reference6Ideal.Gen.facts) := fun m ρ _ =>
  (θ_run Cert.Reference6Ideal.defs _ _).mono
    (fun r h => ⟨fun c => (h c).2, Idealize.ShloMosaic.sem_eq_zero_of_no_sems (by decide) r.2⟩)
    (Cert.Reference6Ideal.Value.run (F := Ideal) m ρ)

/-- There is no rewrite to justify. -/
theorem preserves6 : Cert.preserves_Kernel6_Kernel6Ideal := trivial

/-- The kernel's result is the reference's. -/
theorem algebraic6 : Cert.algebraic_Kernel6Ideal_Reference6Ideal (hKernel6Ideal := Cert.Kernel6Ideal.Gen.facts) (hReference6Ideal := Cert.Reference6Ideal.Gen.facts) := by
  intro m g m' g' _ hargs
  refine ⟨_, Cert.Kernel6Ideal.Tile.run m g, (θ_run Cert.Reference6Ideal.defs _ _).mono (fun r h c => ⟨(h c).1.trans ?_, (h c).2⟩) (Cert.Reference6Ideal.Tile.run m' g')⟩
  obtain ⟨h0, h1, h2⟩ := hargs c
  have ey : Cert.Reference6Ideal.Tile.dy m' c = Cert.Kernel6Ideal.Tile.dy m c := funext fun t => funext fun k => congrFun h0 (ix2 t k)
  have ex : Cert.Reference6Ideal.Tile.inp m' c = Cert.Kernel6Ideal.Tile.inp m c :=
    Cert.Mlp.In.ext rfl (funext fun t => funext fun k => congrFun h1 (ix2 t k)) (funext fun k => congrFun h2 (ix1 k)) rfl rfl
  rw [ey, ex]

/-! ## Program 7: the gradient of a square weight -/

/-- No operation was replaced, so both kernels are one program. -/
theorem same7 : Cert.Kernel7.defs (F := Bits) = Cert.Kernel7Ideal.defs (F := Bits) := by sl_kernel_rfl

/-- The kernel as compiled runs, leaves its arguments and returns every counter to zero. -/
theorem frame_p7 : Cert.quiescent_Kernel7 (hKernel7 := Cert.Kernel7.Gen.facts) := by
  intro m ρ _
  have h := Cert.Kernel7Ideal.Gen.frame (F := Bits) m ρ
  rw [← same7] at h
  exact h

/-- The same over the extended reals. -/
theorem frame_pi7 : Cert.quiescent_Kernel7Ideal (hKernel7Ideal := Cert.Kernel7Ideal.Gen.facts) := fun m ρ _ => Cert.Kernel7Ideal.Gen.frame m ρ

/-- The reference runs and leaves its arguments; it has no counters. -/
theorem frame_ri7 : Cert.quiescent_Reference7Ideal (hReference7Ideal := Cert.Reference7Ideal.Gen.facts) := fun m ρ _ =>
  (θ_run Cert.Reference7Ideal.defs _ _).mono
    (fun r h => ⟨fun c => (h c).2, Idealize.ShloMosaic.sem_eq_zero_of_no_sems (by decide) r.2⟩)
    (Cert.Reference7Ideal.Value.run (F := Ideal) m ρ)

/-- There is no rewrite to justify. -/
theorem preserves7 : Cert.preserves_Kernel7_Kernel7Ideal := trivial

/-- The kernel's result is the reference's. -/
theorem algebraic7 : Cert.algebraic_Kernel7Ideal_Reference7Ideal (hKernel7Ideal := Cert.Kernel7Ideal.Gen.facts) (hReference7Ideal := Cert.Reference7Ideal.Gen.facts) := by
  intro m g m' g' _ hargs
  refine ⟨_, Cert.Kernel7Ideal.Tile.run m g, (θ_run Cert.Reference7Ideal.defs _ _).mono (fun r h c => ⟨(h c).1.trans ?_, (h c).2⟩) (Cert.Reference7Ideal.Tile.run m' g')⟩
  obtain ⟨h0, h1⟩ := hargs c
  have ey : Cert.Reference7Ideal.Tile.dy m' c = Cert.Kernel7Ideal.Tile.dy m c := funext fun t => funext fun k => congrFun h0 (ix2 t k)
  have ex : Cert.Reference7Ideal.Tile.x m' c = Cert.Kernel7Ideal.Tile.x m c := funext fun t => funext fun k => congrFun h1 (ix2 t k)
  rw [ey, ex]

/-! ## Program 8: the gradient of the recurrence layer's gate weight -/

/-- No operation was replaced, so both kernels are one program. -/
theorem same8 : Cert.Kernel8.defs (F := Bits) = Cert.Kernel8Ideal.defs (F := Bits) := by sl_kernel_rfl

/-- The kernel as compiled runs, leaves its arguments and returns every counter to zero. -/
theorem frame_p8 : Cert.quiescent_Kernel8 (hKernel8 := Cert.Kernel8.Gen.facts) := by
  intro m ρ _
  have h := Cert.Kernel8Ideal.Gen.frame (F := Bits) m ρ
  rw [← same8] at h
  exact h

/-- The same over the extended reals. -/
theorem frame_pi8 : Cert.quiescent_Kernel8Ideal (hKernel8Ideal := Cert.Kernel8Ideal.Gen.facts) := fun m ρ _ => Cert.Kernel8Ideal.Gen.frame m ρ

/-- The reference runs and leaves its arguments; it has no counters. -/
theorem frame_ri8 : Cert.quiescent_Reference8Ideal (hReference8Ideal := Cert.Reference8Ideal.Gen.facts) := fun m ρ _ =>
  (θ_run Cert.Reference8Ideal.defs _ _).mono
    (fun r h => ⟨fun c => (h c).2, Idealize.ShloMosaic.sem_eq_zero_of_no_sems (by decide) r.2⟩)
    (Cert.Reference8Ideal.Value.run (F := Ideal) m ρ)

/-- There is no rewrite to justify. -/
theorem preserves8 : Cert.preserves_Kernel8_Kernel8Ideal := trivial

/-- The kernel's result is the reference's. -/
theorem algebraic8 : Cert.algebraic_Kernel8Ideal_Reference8Ideal (hKernel8Ideal := Cert.Kernel8Ideal.Gen.facts) (hReference8Ideal := Cert.Reference8Ideal.Gen.facts) := by
  intro m g m' g' _ hargs
  refine ⟨_, Cert.Kernel8Ideal.Tile.run m g, (θ_run Cert.Reference8Ideal.defs _ _).mono (fun r h c => ⟨(h c).1.trans ?_, (h c).2⟩) (Cert.Reference8Ideal.Tile.run m' g')⟩
  obtain ⟨h0, h1, h2⟩ := hargs c
  have ey : Cert.Reference8Ideal.Tile.dy m' c = Cert.Kernel8Ideal.Tile.dy m c := funext fun t => funext fun k => congrFun h0 (ix2 t k)
  have ex : Cert.Reference8Ideal.Tile.inp m' c = Cert.Kernel8Ideal.Tile.inp m c :=
    Cert.Mlp.In.ext rfl (funext fun t => funext fun k => congrFun h1 (ix2 t k)) (funext fun k => congrFun h2 (ix1 k)) rfl rfl
  rw [ey, ex]

/-! ## Program 9: the gradient of the recurrence layer's input -/

/-- No operation was replaced, so both kernels are one program. -/
theorem same9 : Cert.Kernel9.defs (F := Bits) = Cert.Kernel9Ideal.defs (F := Bits) := by sl_kernel_rfl

/-- The kernel as compiled runs, leaves its arguments and returns every counter to zero. -/
theorem frame_p9 : Cert.quiescent_Kernel9 (hKernel9 := Cert.Kernel9.Gen.facts) := by
  intro m ρ _
  have h := Cert.Kernel9Ideal.Gen.frame (F := Bits) m ρ
  rw [← same9] at h
  exact h

/-- The same over the extended reals. -/
theorem frame_pi9 : Cert.quiescent_Kernel9Ideal (hKernel9Ideal := Cert.Kernel9Ideal.Gen.facts) := fun m ρ _ => Cert.Kernel9Ideal.Gen.frame m ρ

/-- The reference runs and leaves its arguments; it has no counters. -/
theorem frame_ri9 : Cert.quiescent_Reference9Ideal (hReference9Ideal := Cert.Reference9Ideal.Gen.facts) := fun m ρ _ =>
  (θ_run Cert.Reference9Ideal.defs _ _).mono
    (fun r h => ⟨fun c => (h c).2.2, Idealize.ShloMosaic.sem_eq_zero_of_no_sems (by decide) r.2⟩)
    (Cert.Reference9Ideal.Value.run (F := Ideal) m ρ)

/-- There is no rewrite to justify. -/
theorem preserves9 : Cert.preserves_Kernel9_Kernel9Ideal := trivial

/-- The kernel's two results are the reference's. -/
theorem algebraic9 : Cert.algebraic_Kernel9Ideal_Reference9Ideal (hKernel9Ideal := Cert.Kernel9Ideal.Gen.facts) (hReference9Ideal := Cert.Reference9Ideal.Gen.facts) := by
  intro m g m' g' _ hargs
  have e : ∀ c, Cert.Reference9Ideal.Tile.inp m' c = Cert.Kernel9Ideal.Tile.inp m c := fun c => by
    obtain ⟨h0, h1, h2, h3, h4, h5, h6⟩ := hargs c
    refine Cert.NormBack.In.ext (funext fun t => funext fun k => congrFun h3 (ix2 t k)) (funext fun t => funext fun k => congrFun h4 (ix2 t k))
      (funext fun k => congrFun h5 (ix1 k)) (funext fun t => funext fun k => ?_)
    have e0 : Cert.Reference9Ideal.Tile.dq m' c = Cert.Kernel9Ideal.Tile.dq m c := funext fun t => funext fun k => congrFun h0 (ix2 t k)
    have e1 : Cert.Reference9Ideal.Tile.dz m' c = Cert.Kernel9Ideal.Tile.dz m c := funext fun t => funext fun k => congrFun h1 (ix2 t k)
    have e2 : Cert.Reference9Ideal.Tile.da m' c = Cert.Kernel9Ideal.Tile.da m c := funext fun t => funext fun k => congrFun h2 (ix2 t ⟨k, by omega⟩)
    have e3 : Cert.Reference9Ideal.Tile.w m' c = Cert.Kernel9Ideal.Tile.w m c := funext fun t => funext fun k => congrFun h6 (ix2 t k)
    show Cert.NormBack.dn (Cert.Reference9Ideal.Tile.dq m' c) (Cert.Reference9Ideal.Tile.dz m' c) (Cert.Reference9Ideal.Tile.da m' c) (Cert.Reference9Ideal.Tile.w m' c) t k = _
    rw [e0, e1, e2, e3]
    rfl
  refine ⟨_, _, Cert.Kernel9Ideal.Tile.run m g, (θ_run Cert.Reference9Ideal.defs _ _).mono (fun r h c => ?_) (Cert.Reference9Ideal.Tile.run m' g')⟩
  have h' := h c
  rw [e c] at h'
  exact h'

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, facts_pre,
  frame_p, frame_pi, fun m ρ _ => frame_pi m ρ trivial, frame_ri, fun m ρ _ => frame_ri m ρ trivial, frame_p2, frame_pi2, frame_ri2, frame_p3, frame_pi3, frame_ri3, frame_p4, frame_pi4, frame_ri4, frame_p5, frame_pi5, frame_ri5, frame_p6, frame_pi6, frame_ri6, frame_p7, frame_pi7, frame_ri7, frame_p8, frame_pi8, frame_ri8, frame_p9, frame_pi9, frame_ri9, preserves, algebraic, preserves2, algebraic2, preserves3, algebraic3, preserves4, algebraic4, preserves5, algebraic5, preserves6, algebraic6, preserves7, algebraic7, preserves8, algebraic8, preserves9, algebraic9⟩

end Cert.Proof
end
